-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_pages_in_cache : Cert.Pre_pages_in_cache.Facts] (m : (ℓ : Loc Cert.Kernel8.nD Cert.Kernel8.τ Cert.Kernel8.sig) → Buf (Elt Bits) ℓ) : Prop :=
  ∀ c : Dev Cert.Kernel8.nD,
    (Cert.Pre_pages_in_cache.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_pages_in_cache : Cert.Pre_pages_in_cache.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_pages_in_cache.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal [hPre_pages_in_cache : Cert.Pre_pages_in_cache.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_pages_in_cache.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_heads_finite_s [hPre_heads_finite_s : Cert.Pre_heads_finite_s.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_heads_finite_s.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_heads_finite_s [hPre_heads_finite_s : Cert.Pre_heads_finite_s.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_heads_finite_s.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_pages_in_cache : Cert.Pre_pages_in_cache.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_pages_in_cache : Cert.Pre_pages_in_cache.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] [hPre_pages_in_cache : Cert.Pre_pages_in_cache.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_heads_finite_s [hKernel9Ideal : Cert.Kernel9Ideal.Facts] [hPre_heads_finite_s : Cert.Pre_heads_finite_s.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_heads_finite_s m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_heads_finite_s [hReference9Ideal : Cert.Reference9Ideal.Facts] [hPre_heads_finite_s : Cert.Pre_heads_finite_s.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_heads_finite_s m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v114_0)) (v1 : (c : Dev Cert.Kernel5Ideal.nD) → Buf (Elt Ideal) ((c.tc : Thread Cert.Kernel5Ideal.nD Cert.Kernel5Ideal.τ).loc Cert.Kernel5Ideal.main_v114_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v114_0) = v0 c
          ∧ r.2.mem ((c.tc : Thread Cert.Kernel5Ideal.nD Cert.Kernel5Ideal.τ).loc Cert.Kernel5Ideal.main_v114_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v103) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] [hPre_pages_in_cache : Cert.Pre_pages_in_cache.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_heads_finite_s [hKernel9Ideal : Cert.Kernel9Ideal.Facts] [hReference9Ideal : Cert.Reference9Ideal.Facts] [hPre_heads_finite_s : Cert.Pre_heads_finite_s.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_heads_finite_s m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v123_0)) (v1 : (c : Dev Cert.Kernel9Ideal.nD) → Buf (Elt Ideal) ((c.tc : Thread Cert.Kernel9Ideal.nD Cert.Kernel9Ideal.τ).loc Cert.Kernel9Ideal.main_v123_1)) (v2 : (c : Dev Cert.Kernel9Ideal.nD) → Buf (Elt Ideal) ((c.tc : Thread Cert.Kernel9Ideal.nD Cert.Kernel9Ideal.τ).loc Cert.Kernel9Ideal.main_v123_2)) (v3 : (c : Dev Cert.Kernel9Ideal.nD) → Buf (Elt Ideal) ((c.tc : Thread Cert.Kernel9Ideal.nD Cert.Kernel9Ideal.τ).loc Cert.Kernel9Ideal.main_v123_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v123_0) = v0 c
          ∧ r.2.mem ((c.tc : Thread Cert.Kernel9Ideal.nD Cert.Kernel9Ideal.τ).loc Cert.Kernel9Ideal.main_v123_1) = v1 c
          ∧ r.2.mem ((c.tc : Thread Cert.Kernel9Ideal.nD Cert.Kernel9Ideal.τ).loc Cert.Kernel9Ideal.main_v123_2) = v2 c
          ∧ r.2.mem ((c.tc : Thread Cert.Kernel9Ideal.nD Cert.Kernel9Ideal.τ).loc Cert.Kernel9Ideal.main_v123_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v178) = v0 c
          ∧ r.2.mem ((c.tc : Thread Cert.Reference9Ideal.nD Cert.Reference9Ideal.τ).loc Cert.Reference9Ideal.main_v179) = v1 c
          ∧ r.2.mem ((c.tc : Thread Cert.Reference9Ideal.nD Cert.Reference9Ideal.τ).loc Cert.Reference9Ideal.main_v180) = v2 c
          ∧ r.2.mem ((c.tc : Thread Cert.Reference9Ideal.nD Cert.Reference9Ideal.τ).loc Cert.Reference9Ideal.main_v181) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_pages_in_cache : Cert.Pre_pages_in_cache.Facts) (hPre_heads_finite_s : Cert.Pre_heads_finite_s.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_pages_in_cache := hPre_pages_in_cache)
    ∧ quiescent_Kernel8Ideal (hKernel8Ideal := hKernel8Ideal) (hPre_pages_in_cache := hPre_pages_in_cache)
    ∧ quiescent_Reference8Ideal (hReference8Ideal := hReference8Ideal) (hPre_pages_in_cache := hPre_pages_in_cache)
    ∧ quiescent_Kernel9 (hKernel9 := hKernel9)
    ∧ quiescent_Kernel9Ideal (hKernel9Ideal := hKernel9Ideal)
    ∧ quiescent_Kernel9Ideal_pre_heads_finite_s (hKernel9Ideal := hKernel9Ideal) (hPre_heads_finite_s := hPre_heads_finite_s)
    ∧ quiescent_Reference9Ideal (hReference9Ideal := hReference9Ideal)
    ∧ quiescent_Reference9Ideal_pre_heads_finite_s (hReference9Ideal := hReference9Ideal) (hPre_heads_finite_s := hPre_heads_finite_s)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_pages_in_cache := hPre_pages_in_cache)
    ∧ preserves_Kernel9_Kernel9Ideal
    ∧ algebraic_Kernel9Ideal_Reference9Ideal_pre_heads_finite_s (hKernel9Ideal := hKernel9Ideal) (hReference9Ideal := hReference9Ideal) (hPre_heads_finite_s := hPre_heads_finite_s)
-- ==== Pre_heads_finite_s.lean ====
abbrev S1024x3200 : Shape := ⟨2, ![1024, 3200]⟩
abbrev S64 : Shape := ⟨1, ![64]⟩
abbrev S1024x512 : Shape := ⟨2, ![1024, 512]⟩
abbrev S_ : Shape := ⟨0, ![]⟩

class Facts : Prop where
  slices_S1024x3200_S1024x512_0_768 : S1024x3200.Slices ![0, 768] S1024x512
  bcast_S_S1024x512 : S_.BroadcastsInDim S1024x512 (![] : Fin 0 → Fin S1024x512.rank)

variable [Facts]

def fn {F : FTy → Type} [FloatOps F] (main_arg0 : FVec F S1024x3200 .f32) (main_arg1 : FVec F S64 .f32) (main_arg2 : FVec F S64 .f32) : IVec S1024x512 1 :=
  let main_v0 : FVec F S1024x512 .f32 := (extractStridedSlice S1024x512 ![0, 768] · slices_S1024x3200_S1024x512_0_768) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  main_v3
-- ==== Pre_pages_in_cache.lean ====
abbrev S128x16 : Shape := ⟨2, ![128, 16]⟩
abbrev S128x1x8x32 : Shape := ⟨4, ![128, 1, 8, 32]⟩
abbrev S128x1x8 : Shape := ⟨3, ![128, 1, 8]⟩
abbrev S128x1x32 : Shape := ⟨3, ![128, 1, 32]⟩
abbrev S4x2560x128x32 : Shape := ⟨4, ![4, 2560, 128, 32]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x1x8x32 .f32) (main_arg2 : FVec F S128x1x8 .f32) (main_arg3 : FVec F S128x1x32 .f32) (main_arg4 : FVec F S4x2560x128x32 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Kernel.lean ====
abbrev S16384x3200 : Shape := ⟨2, ![16384, 3200]⟩
abbrev S8x1x2048 : Shape := ⟨3, ![8, 1, 2048]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S16x1 : Shape := ⟨2, ![16, 1]⟩
abbrev S_ : Shape := ⟨0, ![]⟩
abbrev S16x64x1 : Shape := ⟨3, ![16, 64, 1]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S1x1024 : Shape := ⟨2, ![1, 1024]⟩
abbrev S1x2048 : Shape := ⟨2, ![1, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x256 : Shape := ⟨2, ![1, 256]⟩
abbrev S16384x256 : Shape := ⟨2, ![16384, 256]⟩
abbrev S512x256 : Shape := ⟨2, ![512, 256]⟩
abbrev S1x1x2048 : Shape := ⟨3, ![1, 1, 2048]⟩
abbrev S512x1024 : Shape := ⟨2, ![512, 1024]⟩
abbrev S512x2048 : Shape := ⟨2, ![512, 2048]⟩
abbrev S1x1x1024 : Shape := ⟨3, ![1, 1, 1024]⟩

abbrev nBuf : Space → Nat
  | .hbm => 128
  | .vmem => 19
  | .smem => 0
  | _ => 0

abbrev bufTy : (tb : Table) → Fin (tcTables nBuf tb) → BufTy
  | .hbm, ⟨0, _⟩ => ⟨S16384x3200, .f32⟩
  | .hbm, ⟨1, _⟩ => ⟨S8x1x2048, .f32⟩
  | .hbm, ⟨2, _⟩ => ⟨S16x64, .f32⟩
  | .hbm, ⟨3, _⟩ => ⟨S16x64, .f32⟩
  | .hbm, ⟨4, _⟩ => ⟨S16, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S16x16, .f32⟩
  | .hbm, ⟨10, _⟩ => ⟨S256x256, .f32⟩
  | .hbm, ⟨11, _⟩ => ⟨S256, .f32⟩
  | .hbm, ⟨12, _⟩ => ⟨S16, .f32⟩
  | .hbm, ⟨13, _⟩ => ⟨S16x1, .f32⟩
  | .hbm, ⟨14, _⟩ => ⟨S_, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64, .f32⟩
  | .hbm, ⟨45, _⟩ => ⟨S16x64x1, .f32⟩
  | .hbm, ⟨46, _⟩ => ⟨S16x64x16, .f32⟩
  | .hbm, ⟨47, _⟩ => ⟨S16x64x16, .f32⟩
  | .hbm, ⟨48, _⟩ => ⟨S16x64x1, .f32⟩
  | .hbm, ⟨49, _⟩ => ⟨S16x64x16, .f32⟩
  | .hbm, ⟨50, _⟩ => ⟨S16x64x16, .f32⟩
  | .hbm, ⟨51, _⟩ => ⟨S16x64x16, .f32⟩
  | .hbm, ⟨52, _⟩ => ⟨S16x64x1, .f32⟩
  | .hbm, ⟨53, _⟩ => ⟨S16x64x16, .f32⟩
  | .hbm, ⟨54, _⟩ => ⟨S16x64x16, .f32⟩
  | .hbm, ⟨55, _⟩ => ⟨S16x64x1, .f32⟩
  | .hbm, ⟨56, _⟩ => ⟨S16x64x16, .f32⟩
  | .hbm, ⟨57, _⟩ => ⟨S16x64x16, .f32⟩
  | .hbm, ⟨58, _⟩ => ⟨S16x64x16, .f32⟩
  | .hbm, ⟨59, _⟩ => ⟨S16x16x64, .f32⟩
  | .hbm, ⟨60, _⟩ => ⟨S16x16, .i32⟩
  | .hbm, ⟨61, _⟩ => ⟨S16x16, .i32⟩
  | .hbm, ⟨62, _⟩ => ⟨S_, .i32⟩
  | .hbm, ⟨63, _⟩ => ⟨S16x16, .i32⟩
  | .hbm, ⟨64, _⟩ => ⟨S16x16, .i32⟩
  | .hbm, ⟨65, _⟩ => ⟨S16x16, .i1⟩
  | .hbm, ⟨66, _⟩ => ⟨S16x16, .f32⟩
  | .hbm, ⟨67, _⟩ => ⟨S16x16x1x64, .f32⟩
  | .hbm, ⟨68, _⟩ => ⟨S16x1x16x1, .f32⟩
  | .hbm, ⟨69, _⟩ => ⟨S16x16x16x64, .f32⟩
  | .hbm, ⟨70, _⟩ => ⟨S16x16x16x64, .f32⟩
  | .hbm, ⟨71, _⟩ => ⟨S16x16x16x64, .f32⟩
  | .hbm, ⟨72, _⟩ => ⟨S256x1024, .f32⟩
  | .hbm, ⟨73, _⟩ => ⟨S16x16x64, .f32⟩
  | .hbm, ⟨74, _⟩ => ⟨S16x16, .i32⟩
  | .hbm, ⟨75, _⟩ => ⟨S16x16, .i32⟩
  | .hbm, ⟨76, _⟩ => ⟨S_, .i32⟩
  | .hbm, ⟨77, _⟩ => ⟨S16x16, .i32⟩
  | .hbm, ⟨78, _⟩ => ⟨S16x16, .i32⟩
  | .hbm, ⟨79, _⟩ => ⟨S16x16, .i1⟩
  | .hbm, ⟨80, _⟩ => ⟨S16x16, .f32⟩
  | .hbm, ⟨81, _⟩ => ⟨S16x16x1x64, .f32⟩
  | .hbm, ⟨82, _⟩ => ⟨S16x1x16x1, .f32⟩
  | .hbm, ⟨83, _⟩ => ⟨S16x16x16x64, .f32⟩
  | .hbm, ⟨84, _⟩ => ⟨S16x16x16x64, .f32⟩
  | .hbm, ⟨85, _⟩ => ⟨S16x16x16x64, .f32⟩
  | .hbm, ⟨86, _⟩ => ⟨S256x1024, .f32⟩
  | .hbm, ⟨87, _⟩ => ⟨S256x2048, .f32⟩
  | .hbm, ⟨88, _⟩ => ⟨S256x2048, .bf16⟩
  | .hbm, ⟨89, _⟩ => ⟨S1x1024, .f32⟩
  | .hbm, ⟨90, _⟩ => ⟨S1x1024, .f32⟩
  | .hbm, ⟨91, _⟩ => ⟨S1x2048, .f32⟩
  | .hbm, ⟨92, _⟩ => ⟨S16x64x16, .f32⟩
  | .hbm, ⟨93, _⟩ => ⟨S16x16, .i32⟩
  | .hbm, ⟨94, _⟩ => ⟨S16x16, .i32⟩
  | .hbm, ⟨95, _⟩ => ⟨S_, .i32⟩
  | .hbm, ⟨96, _⟩ => ⟨S16x16, .i32⟩
  | .hbm, ⟨97, _⟩ => ⟨S16x16, .i32⟩
  | .hbm, ⟨98, _⟩ => ⟨S16x16, .i1⟩
  | .hbm, ⟨99, _⟩ => ⟨S16x16, .f32⟩
  | .hbm, ⟨100, _⟩ => ⟨S16x64x1x16, .f32⟩
  | .hbm, ⟨101, _⟩ => ⟨S16x1x16x1, .f32⟩
  | .hbm, ⟨102, _⟩ => ⟨S16x64x16x16, .f32⟩
  | .hbm, ⟨103, _⟩ => ⟨S16x64x16x16, .f32⟩
  | .hbm, ⟨104, _⟩ => ⟨S16x64x16x16, .f32⟩
  | .hbm, ⟨105, _⟩ => ⟨S1024x256, .f32⟩
  | .hbm, ⟨106, _⟩ => ⟨S16x64x16, .f32⟩
  | .hbm, ⟨107, _⟩ => ⟨S16x16, .i32⟩
  | .hbm, ⟨108, _⟩ => ⟨S16x16, .i32⟩
  | .hbm, ⟨109, _⟩ => ⟨S_, .i32⟩
  | .hbm, ⟨110, _⟩ => ⟨S16x16, .i32⟩
  | .hbm, ⟨111, _⟩ => ⟨S16x16, .i32⟩
  | .hbm, ⟨112, _⟩ => ⟨S16x16, .i1⟩
  | .hbm, ⟨113, _⟩ => ⟨S16x16, .f32⟩
  | .hbm, ⟨114, _⟩ => ⟨S16x64x1x16, .f32⟩
  | .hbm, ⟨115, _⟩ => ⟨S16x1x16x1, .f32⟩
  | .hbm, ⟨116, _⟩ => ⟨S16x64x16x16, .f32⟩
  | .hbm, ⟨117, _⟩ => ⟨S16x64x16x16, .f32⟩
  | .hbm, ⟨118, _⟩ => ⟨S16x64x16x16, .f32⟩
  | .hbm, ⟨119, _⟩ => ⟨S1024x256, .f32⟩
  | .hbm, ⟨120, _⟩ => ⟨S1024x256, .f32⟩
  | .hbm, ⟨121, _⟩ => ⟨S2048x256, .f32⟩
  | .hbm, ⟨122, _⟩ => ⟨S2048x256, .bf16⟩
  | .hbm, ⟨123, _⟩ => ⟨S1x256, .f32⟩
  | .hbm, ⟨124, _⟩ => ⟨S256x256, .bf16⟩
  | .hbm, ⟨125, _⟩ => ⟨S1x256, .f32⟩
  | .hbm, ⟨126, _⟩ => ⟨S16384x256, .f32⟩
  | .hbm, ⟨127, _⟩ => ⟨S8x1x2048, .f32⟩
  | .local _ .vmem, ⟨0, _⟩ => ⟨S512x256, .f32⟩
  | .local _ .vmem, ⟨1, _⟩ => ⟨S512x256, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S256x2048, .bf16⟩
  | .local _ .vmem, ⟨6, _⟩ => ⟨S2048x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_2 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_c_3 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c_4 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107_0 : Ref sig .tc := ⟨.hbm, 126, rfl⟩
abbrev main_v107_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_15 : BitVec 32 := 0#32
  let c512_i32 : BitVec 32 := 512#32
  let v22 : BitVec 32 := Scalar.addi c0_i32_15 c512_i32
  let c1_i32 : BitVec 32 := 1#32
  ⟨c0_i32_15, v22, c1_i32⟩
def k0_off1 (k0_t1 : Fin k0_t1_loop.trips) : Fin 2 → Nat :=
  let c0_i32_15 : BitVec 32 := 0#32
  let c1_i32 : BitVec 32 := 1#32
  let arg17 : BitVec 32 := Scf.iv c0_i32_15 c1_i32 k0_t1
  let v87 : Index := Scalar.indexCast arg17
  let c0_56 : Index := 0#32
  ![v87.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16384x3200 : Shape := ⟨2, ![16384, 3200]⟩
abbrev S8x1x2048 : Shape := ⟨3, ![8, 1, 2048]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S16384x256 : Shape := ⟨2, ![16384, 256]⟩
abbrev S8x2048x16x16 : Shape := ⟨4, ![8, 2048, 16, 16]⟩
abbrev S8x1x1024 : Shape := ⟨3, ![8, 1, 1024]⟩
abbrev S8x1024 : Shape := ⟨2, ![8, 1024]⟩
abbrev S8x16x64 : Shape := ⟨3, ![8, 16, 64]⟩
abbrev S16x1 : Shape := ⟨2, ![16, 1]⟩
abbrev S_ : Shape := ⟨0, ![]⟩
abbrev S16x64x1 : Shape := ⟨3, ![16, 64, 1]⟩
abbrev S16x64x8x2048 : Shape := ⟨4, ![16, 64, 8, 2048]⟩
abbrev S8x2048x16x64 : Shape := ⟨4, ![8, 2048, 16, 64]⟩
abbrev S2048x8x16x64 : Shape := ⟨4, ![2048, 8, 16, 64]⟩
abbrev S1x8x16x64 : Shape := ⟨4, ![1, 8, 16, 64]⟩
abbrev S1x16x64 : Shape := ⟨3, ![1, 16, 64]⟩
abbrev S16x16x2048x8 : Shape := ⟨4, ![16, 16, 2048, 8]⟩
abbrev S1x1x16x16 : Shape := ⟨4, ![1, 1, 16, 16]⟩
abbrev S8x2048x256 : Shape := ⟨3, ![8, 2048, 256]⟩
abbrev S1x1x256 : Shape := ⟨3, ![1, 1, 256]⟩

abbrev nBuf : Space → Nat
  | .hbm => 174
  | .vmem => 0
  | .smem => 0
  | _ => 0

abbrev hbmTy0_0 (i : Nat) : BufTy := match i % 128 with
  | 0 => ⟨S16384x3200, .f32⟩
  | 1 => ⟨S8x1x2048, .f32⟩
  | 2 => ⟨S16x64, .f32⟩
  | 3 => ⟨S16x64, .f32⟩
  | 4 => ⟨S16, .f32⟩
  | 5 => ⟨S16x64x16, .f32⟩
  | 6 => ⟨S16x64x16, .f32⟩
  | 7 => ⟨S16x16x64, .f32⟩
  | 8 => ⟨S16x16x64, .f32⟩
  | 9 => ⟨S16x16, .f32⟩
  | 10 => ⟨S256x256, .f32⟩
  | 11 => ⟨S256, .f32⟩
  | 12 => ⟨S16384x256, .f32⟩
  | 13 => ⟨S8x2048x16x16, .f32⟩
  | 14 => ⟨S8x1x1024, .f32⟩
  | 15 => ⟨S8x1024, .f32⟩
  | 16 => ⟨S8x16x64, .f32⟩
  | 17 => ⟨S8x1x1024, .f32⟩
  | 18 => ⟨S8x1024, .f32⟩
  | 19 => ⟨S8x16x64, .f32⟩
  | 20 => ⟨S16, .f32⟩
  | 21 => ⟨S16x1, .f32⟩
  | 22 => ⟨S_, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S_, .f32⟩
  | 40 => ⟨S16x64, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S_, .f32⟩
  | 48 => ⟨S16x64, .f32⟩
  | 49 => ⟨S16x64, .f32⟩
  | 50 => ⟨S16x64, .f32⟩
  | 51 => ⟨S16x64, .f32⟩
  | 52 => ⟨S16x64, .f32⟩
  | 53 => ⟨S16x64x1, .f32⟩
  | 54 => ⟨S16x64x16, .f32⟩
  | 55 => ⟨S16x64x16, .f32⟩
  | 56 => ⟨S16x64x1, .f32⟩
  | 57 => ⟨S16x64x16, .f32⟩
  | 58 => ⟨S16x64x16, .f32⟩
  | 59 => ⟨S16x64x16, .f32⟩
  | 60 => ⟨S16x64x1, .f32⟩
  | 61 => ⟨S16x64x16, .f32⟩
  | 62 => ⟨S16x64x16, .f32⟩
  | 63 => ⟨S16x64x1, .f32⟩
  | 64 => ⟨S16x64x16, .f32⟩
  | 65 => ⟨S16x64x16, .f32⟩
  | 66 => ⟨S16x64x16, .f32⟩
  | 67 => ⟨S16x64x8x2048, .f32⟩
  | 68 => ⟨S8x2048x16x64, .f32⟩
  | 69 => ⟨S16x64x8x2048, .f32⟩
  | 70 => ⟨S8x2048x16x64, .f32⟩
  | 71 => ⟨S2048x8x16x64, .f32⟩
  | 72 => ⟨S2048x8x16x64, .f32⟩
  | 73 => ⟨S_, .f32⟩
  | 74 => ⟨S2048x8x16x64, .f32⟩
  | 75 => ⟨S_, .f32⟩
  | 76 => ⟨S2048x8x16x64, .f32⟩
  | 77 => ⟨S_, .i32⟩
  | 78 => ⟨S2048x8x16x64, .f32⟩
  | 79 => ⟨S2048x8x16x64, .f32⟩
  | 80 => ⟨S16x64, .f32⟩
  | 81 => ⟨S16x64, .f32⟩
  | 82 => ⟨S_, .i32⟩
  | 83 => ⟨S8x16x64, .f32⟩
  | 84 => ⟨S8x16x64, .f32⟩
  | 85 => ⟨S2048x8x16x64, .f32⟩
  | 86 => ⟨S2048x8x16x64, .f32⟩
  | 87 => ⟨S_, .i32⟩
  | 88 => ⟨S_, .i1⟩
  | 89 => ⟨S_, .i32⟩
  | 90 => ⟨S_, .i32⟩
  | 91 => ⟨S_, .i32⟩
  | 92 => ⟨S1x8x16x64, .f32⟩
  | 93 => ⟨S8x16x64, .f32⟩
  | 94 => ⟨S_, .i32⟩
  | 95 => ⟨S_, .i32⟩
  | 96 => ⟨S_, .i32⟩
  | 97 => ⟨S1x8x16x64, .f32⟩
  | 98 => ⟨S8x16x64, .f32⟩
  | 99 => ⟨S1x16x64, .f32⟩
  | 100 => ⟨S8x16x64, .f32⟩
  | 101 => ⟨S8x16x64, .f32⟩
  | 102 => ⟨S1x16x64, .f32⟩
  | 103 => ⟨S8x16x64, .f32⟩
  | 104 => ⟨S8x16x64, .f32⟩
  | 105 => ⟨S8x16x64, .f32⟩
  | 106 => ⟨S8x16x64, .f32⟩
  | 107 => ⟨S1x16x64, .f32⟩
  | 108 => ⟨S8x16x64, .f32⟩
  | 109 => ⟨S8x16x64, .f32⟩
  | 110 => ⟨S1x16x64, .f32⟩
  | 111 => ⟨S8x16x64, .f32⟩
  | 112 => ⟨S8x16x64, .f32⟩
  | 113 => ⟨S8x16x64, .f32⟩
  | 114 => ⟨S8x16x64, .f32⟩
  | 115 => ⟨S1x8x16x64, .f32⟩
  | 116 => ⟨S_, .i32⟩
  | 117 => ⟨S_, .i32⟩
  | 118 => ⟨S_, .i32⟩
  | 119 => ⟨S2048x8x16x64, .f32⟩
  | 120 => ⟨S1x8x16x64, .f32⟩
  | 121 => ⟨S_, .i32⟩
  | 122 => ⟨S_, .i32⟩
  | 123 => ⟨S_, .i32⟩
  | 124 => ⟨S2048x8x16x64, .f32⟩
  | 125 => ⟨S_, .i32⟩
  | 126 => ⟨S_, .i32⟩
  | 127 => ⟨S16384x256, .f32⟩
  | _ => ⟨S16384x3200, .f32⟩

abbrev hbmTy0_1 (i : Nat) : BufTy := match i % 128 with
  | 0 => ⟨S8x2048x16x16, .f32⟩
  | 1 => ⟨S16x16x2048x8, .f32⟩
  | 2 => ⟨S8x2048x16x16, .f32⟩
  | 3 => ⟨S16x16x64, .f32⟩
  | 4 => ⟨S16x16x2048x8, .f32⟩
  | 5 => ⟨S8x2048x16x16, .f32⟩
  | 6 => ⟨S8x2048x16x16, .f32⟩
  | 7 => ⟨S1x1x16x16, .f32⟩
  | 8 => ⟨S8x2048x16x16, .f32⟩
  | 9 => ⟨S8x2048x16x16, .f32⟩
  | 10 => ⟨S8x2048x16x16, .f32⟩
  | 11 => ⟨S8x2048x256, .f32⟩
  | 12 => ⟨S8x2048x256, .f32⟩
  | 13 => ⟨S8x2048x256, .f32⟩
  | 14 => ⟨S_, .f32⟩
  | 15 => ⟨S8x2048x256, .f32⟩
  | 16 => ⟨S8x2048x256, .f32⟩
  | 17 => ⟨S8x2048x256, .f32⟩
  | 18 => ⟨S_, .f32⟩
  | 19 => ⟨S8x2048x256, .f32⟩
  | 20 => ⟨S8x2048x256, .f32⟩
  | 21 => ⟨S8x2048x256, .f32⟩
  | 22 => ⟨S_, .f32⟩
  | 23 => ⟨S8x2048x256, .f32⟩
  | 24 => ⟨S8x2048x256, .f32⟩
  | 25 => ⟨S_, .f32⟩
  | 26 => ⟨S8x2048x256, .f32⟩
  | 27 => ⟨S8x2048x256, .f32⟩
  | 28 => ⟨S8x2048x256, .f32⟩
  | 29 => ⟨S8x2048x256, .f32⟩
  | 30 => ⟨S1x1x256, .f32⟩
  | 31 => ⟨S8x2048x256, .f32⟩
  | 32 => ⟨S8x2048x256, .f32⟩
  | 33 => ⟨S8x2048x256, .f32⟩
  | 34 => ⟨S8x2048x256, .f32⟩
  | 35 => ⟨S_, .f32⟩
  | 36 => ⟨S8x2048x256, .f32⟩
  | 37 => ⟨S8x2048x256, .f32⟩
  | 38 => ⟨S_, .f32⟩
  | 39 => ⟨S8x2048x256, .f32⟩
  | 40 => ⟨S8x2048x256, .f32⟩
  | 41 => ⟨S8x2048x256, .f32⟩
  | 42 => ⟨S8x1x1024, .f32⟩
  | 43 => ⟨S8x1x1024, .f32⟩
  | 44 => ⟨S8x1x2048, .f32⟩
  | 45 => ⟨S16384x256, .f32⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_2 : Ref sig .tc := ⟨.hbm, 73, rfl⟩
abbrev main_v58 : Ref sig .tc := ⟨.hbm, 74, rfl⟩
abbrev main_cst_3 : Ref sig .tc := ⟨.hbm, 75, rfl⟩
abbrev main_v59 : Ref sig .tc := ⟨.hbm, 76, rfl⟩
abbrev main_c : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev main_v60_6 : Ref sig .tc := ⟨.hbm, 84, rfl⟩
abbrev main_v60_7 : Ref sig .tc := ⟨.hbm, 85, rfl⟩
abbrev main_v60_8 : Ref sig .tc := ⟨.hbm, 86, rfl⟩
abbrev main_while0c_c_18 : Ref sig .tc := ⟨.hbm, 87, rfl⟩
abbrev main_while0c_v102 : Ref sig .tc := ⟨.hbm, 88, rfl⟩
abbrev main_while0b_call0_c : Ref sig .tc := ⟨.hbm, 89, rfl⟩
abbrev main_while0b_call0_c_0 : Ref sig .tc := ⟨.hbm, 90, rfl⟩
abbrev main_while0b_call0_c_1 : Ref sig .tc := ⟨.hbm, 91, rfl⟩
abbrev main_while0b_call0_v0 : Ref sig .tc := ⟨.hbm, 92, rfl⟩
abbrev main_while0b_v102 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_v0 : Ref sig .tc := ⟨.hbm, 97, rfl⟩
abbrev main_while0b_v103 : Ref sig .tc := ⟨.hbm, 98, rfl⟩
abbrev main_while0b_v104 : Ref sig .tc := ⟨.hbm, 99, rfl⟩
abbrev main_while0b_v105 : Ref sig .tc := ⟨.hbm, 100, rfl⟩
abbrev main_while0b_v106 : Ref sig .tc := ⟨.hbm, 101, rfl⟩
abbrev main_while0b_v107 : Ref sig .tc := ⟨.hbm, 102, rfl⟩
abbrev main_while0b_v108 : Ref sig .tc := ⟨.hbm, 103, rfl⟩
abbrev main_while0b_v109 : Ref sig .tc := ⟨.hbm, 104, rfl⟩
abbrev main_while0b_v110 : Ref sig .tc := ⟨.hbm, 105, rfl⟩
abbrev main_while0b_v111 : Ref sig .tc := ⟨.hbm, 106, rfl⟩
abbrev main_while0b_v112 : Ref sig .tc := ⟨.hbm, 107, rfl⟩
abbrev main_while0b_v113 : Ref sig .tc := ⟨.hbm, 108, rfl⟩
abbrev main_while0b_v114 : Ref sig .tc := ⟨.hbm, 109, rfl⟩
abbrev main_while0b_v115 : Ref sig .tc := ⟨.hbm, 110, rfl⟩
abbrev main_while0b_v116 : Ref sig .tc := ⟨.hbm, 111, rfl⟩
abbrev main_while0b_v117 : Ref sig .tc := ⟨.hbm, 112, rfl⟩
abbrev main_while0b_v118 : Ref sig .tc := ⟨.hbm, 113, rfl⟩
abbrev main_while0b_v119 : Ref sig .tc := ⟨.hbm, 114, rfl⟩
abbrev main_while0b_call2_v0 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_c_1 : Ref sig .tc := ⟨.hbm, 118, rfl⟩
abbrev main_while0b_v120 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_v121 : Ref sig .tc := ⟨.hbm, 124, rfl⟩
abbrev main_while0b_c_18 : Ref sig .tc := ⟨.hbm, 125, rfl⟩
abbrev main_while0b_v122 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_4 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_5 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_6 : Ref sig .tc := ⟨.hbm, 150, rfl⟩
abbrev main_v82 : Ref sig .tc := ⟨.hbm, 151, rfl⟩
abbrev main_v83 : Ref sig .tc := ⟨.hbm, 152, rfl⟩
abbrev main_cst_7 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_cst_8 : Ref sig .tc := ⟨.hbm, 163, rfl⟩
abbrev main_v93 : Ref sig .tc := ⟨.hbm, 164, rfl⟩
abbrev main_v94 : Ref sig .tc := ⟨.hbm, 165, rfl⟩
abbrev main_cst_9 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x6144 : Shape := ⟨2, ![8, 6144]⟩
abbrev S1024 : Shape := ⟨1, ![1024]⟩
abbrev S8x2048x256 : Shape := ⟨3, ![8, 2048, 256]⟩
abbrev S1024x7096 : Shape := ⟨2, ![1024, 7096]⟩
abbrev S4x256x1024 : Shape := ⟨3, ![4, 256, 1024]⟩
abbrev S1024x1024 : Shape := ⟨2, ![1024, 1024]⟩
abbrev S16384x1024 : Shape := ⟨2, ![16384, 1024]⟩
abbrev S8x1x6144 : Shape := ⟨3, ![8, 1, 6144]⟩
abbrev S1024x4096 : Shape := ⟨2, ![1024, 4096]⟩
abbrev S16384x256 : Shape := ⟨2, ![16384, 256]⟩
abbrev S1x1024 : Shape := ⟨2, ![1, 1024]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 22
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S8x2048x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S1024x7096, .f32⟩
  | .hbm, ⟨8, _⟩ => ⟨S4x256x1024, .f32⟩
  | .hbm, ⟨9, _⟩ => ⟨S1024x1024, .f32⟩
  | .hbm, ⟨10, _⟩ => ⟨S16384x1024, .f32⟩
  | .hbm, ⟨11, _⟩ => ⟨S8x1x6144, .f32⟩
  | .hbm, ⟨12, _⟩ => ⟨S1024x4096, .f32⟩
  | .hbm, ⟨13, _⟩ => ⟨S1024x4096, .bf16⟩
  | .hbm, ⟨14, _⟩ => ⟨S4x256x1024, .bf16⟩
  | .hbm, ⟨15, _⟩ => ⟨S1024x1024, .bf16⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S1024x4096, .bf16⟩
  | .local _ .vmem, ⟨18, _⟩ => ⟨S4x256x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x2048x1024 : Shape := ⟨3, ![8, 2048, 1024]⟩
abbrev S8x6144 : Shape := ⟨2, ![8, 6144]⟩
abbrev S1024 : Shape := ⟨1, ![1024]⟩
abbrev S8x2048x256 : Shape := ⟨3, ![8, 2048, 256]⟩
abbrev S1024x7096 : Shape := ⟨2, ![1024, 7096]⟩
abbrev S4x256x1024 : Shape := ⟨3, ![4, 256, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S8x2048x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S1024x7096, .f32⟩
  | .hbm, ⟨8, _⟩ => ⟨S4x256x1024, .f32⟩
  | .hbm, ⟨9, _⟩ => ⟨S1024x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1024x4096, .f32⟩
  | .hbm, ⟨41, _⟩ => ⟨S8x2048x4096, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S1x256x1024, .f32⟩
  | .hbm, ⟨52, _⟩ => ⟨S256x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S1x256x1024, .f32⟩
  | .hbm, ⟨65, _⟩ => ⟨S256x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048x1024, .f32⟩
  | .hbm, ⟨77, _⟩ => ⟨S8x2048x1024, .f32⟩
  | .hbm, ⟨78, _⟩ => ⟨S1x256x1024, .f32⟩
  | .hbm, ⟨79, _⟩ => ⟨S256x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1024, .f32⟩
  | .hbm, ⟨88, _⟩ => ⟨S8x2048x1024, .f32⟩
  | .hbm, ⟨89, _⟩ => ⟨S_, .f32⟩
  | .hbm, ⟨90, _⟩ => ⟨S8x2048x1024, .f32⟩
  | .hbm, ⟨91, _⟩ => ⟨S8x2048x1024, .f32⟩
  | .hbm, ⟨92, _⟩ => ⟨S1x256x1024, .f32⟩
  | .hbm, ⟨93, _⟩ => ⟨S256x1024, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S8x1x6144 : Shape := ⟨3, ![8, 1, 6144]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S8x1x6144, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x4096, .f32⟩
  | .hbm, ⟨36, _⟩ => ⟨S_, .f32⟩
  | .hbm, ⟨37, _⟩ => ⟨S8x2048x4096, .f32⟩
  | .hbm, ⟨38, _⟩ => ⟨S8x2048x4096, .f32⟩
  | .hbm, ⟨39, _⟩ => ⟨S8x2048x4096, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S1024 : Shape := ⟨1, ![1024]⟩
abbrev S1024x7096 : Shape := ⟨2, ![1024, 7096]⟩
abbrev S16384x1024 : Shape := ⟨2, ![16384, 1024]⟩
abbrev S8x1x6144 : Shape := ⟨3, ![8, 1, 6144]⟩
abbrev S1024x256 : Shape := ⟨2, ![1024, 256]⟩
abbrev S1024x1024 : Shape := ⟨2, ![1024, 1024]⟩
abbrev S1024x896 : Shape := ⟨2, ![1024, 896]⟩
abbrev S1024x16 : Shape := ⟨2, ![1024, 16]⟩
abbrev S_ : Shape := ⟨0, ![]⟩
abbrev S1024x112 : Shape := ⟨2, ![1024, 112]⟩
abbrev S1024x40 : Shape := ⟨2, ![1024, 40]⟩
abbrev S1024x88 : Shape := ⟨2, ![1024, 88]⟩
abbrev S1024x3200 : Shape := ⟨2, ![1024, 3200]⟩
abbrev S1x1024 : Shape := ⟨2, ![1, 1024]⟩
abbrev S16384x3200 : Shape := ⟨2, ![16384, 3200]⟩
abbrev S512x1024 : Shape := ⟨2, ![512, 1024]⟩
abbrev S1x1x1024 : Shape := ⟨3, ![1, 1, 1024]⟩
abbrev S512x3200 : Shape := ⟨2, ![512, 3200]⟩
abbrev S512 : Shape := ⟨1, ![512]⟩
abbrev S512x1 : Shape := ⟨2, ![512, 1]⟩

abbrev nBuf : Space → Nat
  | .hbm => 22
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x7096, .f32⟩
  | .hbm, ⟨4, _⟩ => ⟨S16384x1024, .f32⟩
  | .hbm, ⟨5, _⟩ => ⟨S8x1x6144, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x1024, .f32⟩
  | .hbm, ⟨10, _⟩ => ⟨S1024x256, .f32⟩
  | .hbm, ⟨11, _⟩ => ⟨S1024x896, .f32⟩
  | .hbm, ⟨12, _⟩ => ⟨S1024x16, .f32⟩
  | .hbm, ⟨13, _⟩ => ⟨S_, .f32⟩
  | .hbm, ⟨14, _⟩ => ⟨S1024x112, .f32⟩
  | .hbm, ⟨15, _⟩ => ⟨S1024x40, .f32⟩
  | .hbm, ⟨16, _⟩ => ⟨S_, .f32⟩
  | .hbm, ⟨17, _⟩ => ⟨S1024x88, .f32⟩
  | .hbm, ⟨18, _⟩ => ⟨S1024x3200, .f32⟩
  | .hbm, ⟨19, _⟩ => ⟨S1024x3200, .bf16⟩
  | .hbm, ⟨20, _⟩ => ⟨S1x1024, .f32⟩
  | .hbm, ⟨21, _⟩ => ⟨S16384x3200, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3200, .bf16⟩
  | .local _ .vmem, ⟨8, _⟩ => ⟨S512x3200, .f32⟩
  | .local _ .vmem, ⟨9, _⟩ => ⟨S512x3200, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x2048x1024 : Shape := ⟨3, ![8, 2048, 1024]⟩
abbrev S8x6144 : Shape := ⟨2, ![8, 6144]⟩
abbrev S1024 : Shape := ⟨1, ![1024]⟩
abbrev S1024x7096 : Shape := ⟨2, ![1024, 7096]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7096 : Shape := ⟨3, ![8, 2048, 7096]⟩
abbrev S16384x7096 : Shape := ⟨2, ![16384, 7096]⟩
abbrev S16384x256 : Shape := ⟨2, ![16384, 256]⟩
abbrev S16384x1024 : Shape := ⟨2, ![16384, 1024]⟩
abbrev S16384x896 : Shape := ⟨2, ![16384, 896]⟩
abbrev S16384x16 : Shape := ⟨2, ![16384, 16]⟩
abbrev S16384x112 : Shape := ⟨2, ![16384, 112]⟩
abbrev S16384x40 : Shape := ⟨2, ![16384, 40]⟩
abbrev S16384x88 : Shape := ⟨2, ![16384, 88]⟩
abbrev S16384x3200 : Shape := ⟨2, ![16384, 3200]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x7096, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x7096, .f32⟩
  | .hbm, ⟨35, _⟩ => ⟨S16384x7096, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x1024, .f32⟩
  | .hbm, ⟨40, _⟩ => ⟨S16384x256, .f32⟩
  | .hbm, ⟨41, _⟩ => ⟨S16384x896, .f32⟩
  | .hbm, ⟨42, _⟩ => ⟨S16384x16, .f32⟩
  | .hbm, ⟨43, _⟩ => ⟨S_, .f32⟩
  | .hbm, ⟨44, _⟩ => ⟨S16384x112, .f32⟩
  | .hbm, ⟨45, _⟩ => ⟨S16384x40, .f32⟩
  | .hbm, ⟨46, _⟩ => ⟨S_, .f32⟩
  | .hbm, ⟨47, _⟩ => ⟨S16384x88, .f32⟩
  | .hbm, ⟨48, _⟩ => ⟨S16384x3200, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel5.lean ====
abbrev S1024x3200 : Shape := ⟨2, ![1024, 3200]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S16x1 : Shape := ⟨2, ![16, 1]⟩
abbrev S_ : Shape := ⟨0, ![]⟩
abbrev S16x64x1 : Shape := ⟨3, ![16, 64, 1]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S1x1024 : Shape := ⟨2, ![1, 1024]⟩
abbrev S1x2048 : Shape := ⟨2, ![1, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x256 : Shape := ⟨2, ![1, 256]⟩
abbrev S128x1x1024 : Shape := ⟨3, ![128, 1, 1024]⟩
abbrev S128x1x2048 : Shape := ⟨3, ![128, 1, 2048]⟩
abbrev S128x8x3200 : Shape := ⟨3, ![128, 8, 3200]⟩
abbrev S128x1x3200 : Shape := ⟨3, ![128, 1, 3200]⟩
abbrev S128x3200 : Shape := ⟨2, ![128, 3200]⟩
abbrev S128x2048 : Shape := ⟨2, ![128, 2048]⟩
abbrev S128x256 : Shape := ⟨2, ![128, 256]⟩
abbrev S128x1024 : Shape := ⟨2, ![128, 1024]⟩

abbrev nBuf : Space → Nat
  | .hbm => 136
  | .vmem => 10
  | .smem => 0
  | _ => 0

abbrev hbmTy0_0 (i : Nat) : BufTy := match i % 128 with
  | 0 => ⟨S1024x3200, .f32⟩
  | 1 => ⟨S128x16x64, .f32⟩
  | 2 => ⟨S128x16x64, .f32⟩
  | 3 => ⟨S16x64, .f32⟩
  | 4 => ⟨S16x64, .f32⟩
  | 5 => ⟨S16, .f32⟩
  | 6 => ⟨S16x64x16, .f32⟩
  | 7 => ⟨S16x64x16, .f32⟩
  | 8 => ⟨S16x16x64, .f32⟩
  | 9 => ⟨S16x16x64, .f32⟩
  | 10 => ⟨S16x16, .f32⟩
  | 11 => ⟨S256x256, .f32⟩
  | 12 => ⟨S256, .f32⟩
  | 13 => ⟨S16, .f32⟩
  | 14 => ⟨S16x1, .f32⟩
  | 15 => ⟨S_, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S_, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64x1, .f32⟩
  | 47 => ⟨S16x64x16, .f32⟩
  | 48 => ⟨S16x64x16, .f32⟩
  | 49 => ⟨S16x64x1, .f32⟩
  | 50 => ⟨S16x64x16, .f32⟩
  | 51 => ⟨S16x64x16, .f32⟩
  | 52 => ⟨S16x64x16, .f32⟩
  | 53 => ⟨S16x64x1, .f32⟩
  | 54 => ⟨S16x64x16, .f32⟩
  | 55 => ⟨S16x64x16, .f32⟩
  | 56 => ⟨S16x64x1, .f32⟩
  | 57 => ⟨S16x64x16, .f32⟩
  | 58 => ⟨S16x64x16, .f32⟩
  | 59 => ⟨S16x64x16, .f32⟩
  | 60 => ⟨S16x16x64, .f32⟩
  | 61 => ⟨S16x16, .i32⟩
  | 62 => ⟨S16x16, .i32⟩
  | 63 => ⟨S_, .i32⟩
  | 64 => ⟨S16x16, .i32⟩
  | 65 => ⟨S16x16, .i32⟩
  | 66 => ⟨S16x16, .i1⟩
  | 67 => ⟨S16x16, .f32⟩
  | 68 => ⟨S16x16x1x64, .f32⟩
  | 69 => ⟨S16x1x16x1, .f32⟩
  | 70 => ⟨S16x16x16x64, .f32⟩
  | 71 => ⟨S16x16x16x64, .f32⟩
  | 72 => ⟨S16x16x16x64, .f32⟩
  | 73 => ⟨S256x1024, .f32⟩
  | 74 => ⟨S16x16x64, .f32⟩
  | 75 => ⟨S16x16, .i32⟩
  | 76 => ⟨S16x16, .i32⟩
  | 77 => ⟨S_, .i32⟩
  | 78 => ⟨S16x16, .i32⟩
  | 79 => ⟨S16x16, .i32⟩
  | 80 => ⟨S16x16, .i1⟩
  | 81 => ⟨S16x16, .f32⟩
  | 82 => ⟨S16x16x1x64, .f32⟩
  | 83 => ⟨S16x1x16x1, .f32⟩
  | 84 => ⟨S16x16x16x64, .f32⟩
  | 85 => ⟨S16x16x16x64, .f32⟩
  | 86 => ⟨S16x16x16x64, .f32⟩
  | 87 => ⟨S256x1024, .f32⟩
  | 88 => ⟨S256x2048, .f32⟩
  | 89 => ⟨S256x2048, .bf16⟩
  | 90 => ⟨S1x1024, .f32⟩
  | 91 => ⟨S1x1024, .f32⟩
  | 92 => ⟨S1x2048, .f32⟩
  | 93 => ⟨S16x64x16, .f32⟩
  | 94 => ⟨S16x16, .i32⟩
  | 95 => ⟨S16x16, .i32⟩
  | 96 => ⟨S_, .i32⟩
  | 97 => ⟨S16x16, .i32⟩
  | 98 => ⟨S16x16, .i32⟩
  | 99 => ⟨S16x16, .i1⟩
  | 100 => ⟨S16x16, .f32⟩
  | 101 => ⟨S16x64x1x16, .f32⟩
  | 102 => ⟨S16x1x16x1, .f32⟩
  | 103 => ⟨S16x64x16x16, .f32⟩
  | 104 => ⟨S16x64x16x16, .f32⟩
  | 105 => ⟨S16x64x16x16, .f32⟩
  | 106 => ⟨S1024x256, .f32⟩
  | 107 => ⟨S16x64x16, .f32⟩
  | 108 => ⟨S16x16, .i32⟩
  | 109 => ⟨S16x16, .i32⟩
  | 110 => ⟨S_, .i32⟩
  | 111 => ⟨S16x16, .i32⟩
  | 112 => ⟨S16x16, .i32⟩
  | 113 => ⟨S16x16, .i1⟩
  | 114 => ⟨S16x16, .f32⟩
  | 115 => ⟨S16x64x1x16, .f32⟩
  | 116 => ⟨S16x1x16x1, .f32⟩
  | 117 => ⟨S16x64x16x16, .f32⟩
  | 118 => ⟨S16x64x16x16, .f32⟩
  | 119 => ⟨S16x64x16x16, .f32⟩
  | 120 => ⟨S1024x256, .f32⟩
  | 121 => ⟨S1024x256, .f32⟩
  | 122 => ⟨S2048x256, .f32⟩
  | 123 => ⟨S2048x256, .bf16⟩
  | 124 => ⟨S1x256, .f32⟩
  | 125 => ⟨S256x256, .bf16⟩
  | 126 => ⟨S1x256, .f32⟩
  | 127 => ⟨S128x1x1024, .f32⟩
  | _ => ⟨S1024x3200, .f32⟩

abbrev hbmTy0_1 (i : Nat) : BufTy := match i % 128 with
  | 0 => ⟨S128x1x1024, .f32⟩
  | 1 => ⟨S128x1x2048, .f32⟩
  | 2 => ⟨S128x8x3200, .f32⟩
  | 3 => ⟨S128x1x3200, .f32⟩
  | 4 => ⟨S128x3200, .f32⟩
  | 5 => ⟨S128x2048, .f32⟩
  | 6 => ⟨S128x256, .f32⟩
  | 7 => ⟨S128x2048, .f32⟩
  | _ => ⟨S1024x3200, .f32⟩

abbrev hbmTy (i : Nat) : BufTy := match i / 128 with
  | 0 => hbmTy0_0 i
  | 1 => hbmTy0_1 i
  | _ => ⟨S1024x3200, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x2048, .f32⟩
  | .local _ .vmem, ⟨2, _⟩ => ⟨S1x2048, .f32⟩
  | .local _ .vmem, ⟨3, _⟩ => ⟨S256x2048, .bf16⟩
  | .local _ .vmem, ⟨4, _⟩ => ⟨S2048x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S128x256, .f32⟩
  | .local _ .vmem, ⟨9, _⟩ => ⟨S128x2048, .f32⟩
  | _, _ => ⟨S1024x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_2 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_3 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_c_4 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114_0 : Ref sig .tc := ⟨.hbm, 134, rfl⟩
abbrev main_v114_1 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S1024x3200 : Shape := ⟨2, ![1024, 3200]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S128x8x3200 : Shape := ⟨3, ![128, 8, 3200]⟩
abbrev S128x1x256 : Shape := ⟨3, ![128, 1, 256]⟩
abbrev S128x1x16x16 : Shape := ⟨4, ![128, 1, 16, 16]⟩
abbrev S16x1 : Shape := ⟨2, ![16, 1]⟩
abbrev S_ : Shape := ⟨0, ![]⟩
abbrev S16x64x1 : Shape := ⟨3, ![16, 64, 1]⟩
abbrev S16x64x128x1 : Shape := ⟨4, ![16, 64, 128, 1]⟩
abbrev S128x1x16x64 : Shape := ⟨4, ![128, 1, 16, 64]⟩
abbrev S16x16x128x1 : Shape := ⟨4, ![16, 16, 128, 1]⟩
abbrev S1x1x16x16 : Shape := ⟨4, ![1, 1, 16, 16]⟩
abbrev S1x1x256 : Shape := ⟨3, ![1, 1, 256]⟩
abbrev S128x1024 : Shape := ⟨2, ![128, 1024]⟩
abbrev S128x2048 : Shape := ⟨2, ![128, 2048]⟩
abbrev S128x256 : Shape := ⟨2, ![128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1024x3200, .f32⟩
  | .hbm, ⟨1, _⟩ => ⟨S128x16x64, .f32⟩
  | .hbm, ⟨2, _⟩ => ⟨S128x16x64, .f32⟩
  | .hbm, ⟨3, _⟩ => ⟨S16x64, .f32⟩
  | .hbm, ⟨4, _⟩ => ⟨S16x64, .f32⟩
  | .hbm, ⟨5, _⟩ => ⟨S16, .f32⟩
  | .hbm, ⟨6, _⟩ => ⟨S16x64x16, .f32⟩
  | .hbm, ⟨7, _⟩ => ⟨S16x64x16, .f32⟩
  | .hbm, ⟨8, _⟩ => ⟨S16x16x64, .f32⟩
  | .hbm, ⟨9, _⟩ => ⟨S16x16x64, .f32⟩
  | .hbm, ⟨10, _⟩ => ⟨S16x16, .f32⟩
  | .hbm, ⟨11, _⟩ => ⟨S256x256, .f32⟩
  | .hbm, ⟨12, _⟩ => ⟨S256, .f32⟩
  | .hbm, ⟨13, _⟩ => ⟨S128x8x3200, .f32⟩
  | .hbm, ⟨14, _⟩ => ⟨S128x1x256, .f32⟩
  | .hbm, ⟨15, _⟩ => ⟨S128x1x16x16, .f32⟩
  | .hbm, ⟨16, _⟩ => ⟨S16, .f32⟩
  | .hbm, ⟨17, _⟩ => ⟨S16x1, .f32⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S_, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S_, .f32⟩
  | .hbm, ⟨44, _⟩ => ⟨S16x64, .f32⟩
  | .hbm, ⟨45, _⟩ => ⟨S16x64, .f32⟩
  | .hbm, ⟨46, _⟩ => ⟨S16x64, .f32⟩
  | .hbm, ⟨47, _⟩ => ⟨S16x64, .f32⟩
  | .hbm, ⟨48, _⟩ => ⟨S16x64, .f32⟩
  | .hbm, ⟨49, _⟩ => ⟨S16x64x1, .f32⟩
  | .hbm, ⟨50, _⟩ => ⟨S16x64x16, .f32⟩
  | .hbm, ⟨51, _⟩ => ⟨S16x64x16, .f32⟩
  | .hbm, ⟨52, _⟩ => ⟨S16x64x1, .f32⟩
  | .hbm, ⟨53, _⟩ => ⟨S16x64x16, .f32⟩
  | .hbm, ⟨54, _⟩ => ⟨S16x64x16, .f32⟩
  | .hbm, ⟨55, _⟩ => ⟨S16x64x16, .f32⟩
  | .hbm, ⟨56, _⟩ => ⟨S16x64x1, .f32⟩
  | .hbm, ⟨57, _⟩ => ⟨S16x64x16, .f32⟩
  | .hbm, ⟨58, _⟩ => ⟨S16x64x16, .f32⟩
  | .hbm, ⟨59, _⟩ => ⟨S16x64x1, .f32⟩
  | .hbm, ⟨60, _⟩ => ⟨S16x64x16, .f32⟩
  | .hbm, ⟨61, _⟩ => ⟨S16x64x16, .f32⟩
  | .hbm, ⟨62, _⟩ => ⟨S16x64x16, .f32⟩
  | .hbm, ⟨63, _⟩ => ⟨S16x64x128x1, .f32⟩
  | .hbm, ⟨64, _⟩ => ⟨S128x1x16x64, .f32⟩
  | .hbm, ⟨65, _⟩ => ⟨S16x64x128x1, .f32⟩
  | .hbm, ⟨66, _⟩ => ⟨S128x1x16x64, .f32⟩
  | .hbm, ⟨67, _⟩ => ⟨S128x1x16x64, .f32⟩
  | .hbm, ⟨68, _⟩ => ⟨S128x1x16x64, .f32⟩
  | .hbm, ⟨69, _⟩ => ⟨S128x1x16x64, .f32⟩
  | .hbm, ⟨70, _⟩ => ⟨S128x1x16x64, .f32⟩
  | .hbm, ⟨71, _⟩ => ⟨S128x1x16x64, .f32⟩
  | .hbm, ⟨72, _⟩ => ⟨S128x1x16x64, .f32⟩
  | .hbm, ⟨73, _⟩ => ⟨S128x1x16x64, .f32⟩
  | .hbm, ⟨74, _⟩ => ⟨S128x1x16x64, .f32⟩
  | .hbm, ⟨75, _⟩ => ⟨S128x1x16x64, .f32⟩
  | .hbm, ⟨76, _⟩ => ⟨S128x1x16x64, .f32⟩
  | .hbm, ⟨77, _⟩ => ⟨S128x1x16x64, .f32⟩
  | .hbm, ⟨78, _⟩ => ⟨S128x1x16x64, .f32⟩
  | .hbm, ⟨79, _⟩ => ⟨S16x16x128x1, .f32⟩
  | .hbm, ⟨80, _⟩ => ⟨S128x1x16x16, .f32⟩
  | .hbm, ⟨81, _⟩ => ⟨S16x16x64, .f32⟩
  | .hbm, ⟨82, _⟩ => ⟨S16x16x128x1, .f32⟩
  | .hbm, ⟨83, _⟩ => ⟨S128x1x16x16, .f32⟩
  | .hbm, ⟨84, _⟩ => ⟨S128x1x16x16, .f32⟩
  | .hbm, ⟨85, _⟩ => ⟨S1x1x16x16, .f32⟩
  | .hbm, ⟨86, _⟩ => ⟨S128x1x16x16, .f32⟩
  | .hbm, ⟨87, _⟩ => ⟨S128x1x16x16, .f32⟩
  | .hbm, ⟨88, _⟩ => ⟨S128x1x16x16, .f32⟩
  | .hbm, ⟨89, _⟩ => ⟨S128x1x256, .f32⟩
  | .hbm, ⟨90, _⟩ => ⟨S128x1x256, .f32⟩
  | .hbm, ⟨91, _⟩ => ⟨S128x1x256, .f32⟩
  | .hbm, ⟨92, _⟩ => ⟨S_, .f32⟩
  | .hbm, ⟨93, _⟩ => ⟨S128x1x256, .f32⟩
  | .hbm, ⟨94, _⟩ => ⟨S128x1x256, .f32⟩
  | .hbm, ⟨95, _⟩ => ⟨S128x1x256, .f32⟩
  | .hbm, ⟨96, _⟩ => ⟨S_, .f32⟩
  | .hbm, ⟨97, _⟩ => ⟨S128x1x256, .f32⟩
  | .hbm, ⟨98, _⟩ => ⟨S128x1x256, .f32⟩
  | .hbm, ⟨99, _⟩ => ⟨S128x1x256, .f32⟩
  | .hbm, ⟨100, _⟩ => ⟨S_, .f32⟩
  | .hbm, ⟨101, _⟩ => ⟨S128x1x256, .f32⟩
  | .hbm, ⟨102, _⟩ => ⟨S128x1x256, .f32⟩
  | .hbm, ⟨103, _⟩ => ⟨S_, .f32⟩
  | .hbm, ⟨104, _⟩ => ⟨S128x1x256, .f32⟩
  | .hbm, ⟨105, _⟩ => ⟨S128x1x256, .f32⟩
  | .hbm, ⟨106, _⟩ => ⟨S128x1x256, .f32⟩
  | .hbm, ⟨107, _⟩ => ⟨S128x1x256, .f32⟩
  | .hbm, ⟨108, _⟩ => ⟨S1x1x256, .f32⟩
  | .hbm, ⟨109, _⟩ => ⟨S128x1x256, .f32⟩
  | .hbm, ⟨110, _⟩ => ⟨S128x1x256, .f32⟩
  | .hbm, ⟨111, _⟩ => ⟨S128x1x256, .f32⟩
  | .hbm, ⟨112, _⟩ => ⟨S128x1x256, .f32⟩
  | .hbm, ⟨113, _⟩ => ⟨S_, .f32⟩
  | .hbm, ⟨114, _⟩ => ⟨S128x1x256, .f32⟩
  | .hbm, ⟨115, _⟩ => ⟨S128x1x256, .f32⟩
  | .hbm, ⟨116, _⟩ => ⟨S_, .f32⟩
  | .hbm, ⟨117, _⟩ => ⟨S128x1x256, .f32⟩
  | .hbm, ⟨118, _⟩ => ⟨S128x1x256, .f32⟩
  | .hbm, ⟨119, _⟩ => ⟨S128x1x256, .f32⟩
  | .hbm, ⟨120, _⟩ => ⟨S128x16x64, .f32⟩
  | .hbm, ⟨121, _⟩ => ⟨S128x1024, .f32⟩
  | .hbm, ⟨122, _⟩ => ⟨S128x16x64, .f32⟩
  | .hbm, ⟨123, _⟩ => ⟨S128x1024, .f32⟩
  | .hbm, ⟨124, _⟩ => ⟨S128x2048, .f32⟩
  | .hbm, ⟨125, _⟩ => ⟨S128x256, .f32⟩
  | _, _ => ⟨S1024x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_2 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_3 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_4 : Ref sig .tc := ⟨.hbm, 100, rfl⟩
abbrev main_v82 : Ref sig .tc := ⟨.hbm, 101, rfl⟩
abbrev main_v83 : Ref sig .tc := ⟨.hbm, 102, rfl⟩
abbrev main_cst_5 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_6 : Ref sig .tc := ⟨.hbm, 113, rfl⟩
abbrev main_v93 : Ref sig .tc := ⟨.hbm, 114, rfl⟩
abbrev main_v94 : Ref sig .tc := ⟨.hbm, 115, rfl⟩
abbrev main_cst_7 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩

abbrev nD : Nat := 1
abbrev τ : Topo := Topo.v7x

variable {F : FTy → Type} [FloatOps F]
-- ==== Kernel6.lean ====
abbrev S128x8x1024 : Shape := ⟨3, ![128, 8, 1024]⟩
abbrev S128x6144 : Shape := ⟨2, ![128, 6144]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S128x8x6144 : Shape := ⟨3, ![128, 8, 6144]⟩
abbrev S1024x6144 : Shape := ⟨2, ![1024, 6144]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S128x8x6144, .f32⟩
  | .hbm, ⟨7, _⟩ => ⟨S1024x6144, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S128x1024, .f32⟩
  | .local _ .vmem, ⟨12, _⟩ => ⟨S128x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S128x8x1024 : Shape := ⟨3, ![128, 8, 1024]⟩
abbrev S128x6144 : Shape := ⟨2, ![128, 6144]⟩
abbrev S1024 : Shape := ⟨1, ![1024]⟩
abbrev S1024x4096 : Shape := ⟨2, ![1024, 4096]⟩
abbrev S4096x1024 : Shape := ⟨2, ![4096, 1024]⟩
abbrev S128x1x6144 : Shape := ⟨3, ![128, 1, 6144]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4096 : Shape := ⟨3, ![128, 8, 4096]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S128x1x6144, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x8x1024, .f32⟩
  | .hbm, ⟨13, _⟩ => ⟨S_, .f32⟩
  | .hbm, ⟨14, _⟩ => ⟨S128x8, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S_, .f32⟩
  | .hbm, ⟨20, _⟩ => ⟨S128x8x1, .f32⟩
  | .hbm, ⟨21, _⟩ => ⟨S128x8x1, .f32⟩
  | .hbm, ⟨22, _⟩ => ⟨S128x8x1, .f32⟩
  | .hbm, ⟨23, _⟩ => ⟨S128x8x1024, .f32⟩
  | .hbm, ⟨24, _⟩ => ⟨S128x8x1024, .f32⟩
  | .hbm, ⟨25, _⟩ => ⟨S1x1x1024, .f32⟩
  | .hbm, ⟨26, _⟩ => ⟨S128x8x1024, .f32⟩
  | .hbm, ⟨27, _⟩ => ⟨S128x8x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S128x8x1024, .f32⟩
  | .hbm, ⟨35, _⟩ => ⟨S128x8x4096, .f32⟩
  | .hbm, ⟨36, _⟩ => ⟨S_, .f32⟩
  | .hbm, ⟨37, _⟩ => ⟨S128x8x4096, .f32⟩
  | .hbm, ⟨38, _⟩ => ⟨S128x8x4096, .f32⟩
  | .hbm, ⟨39, _⟩ => ⟨S128x8x4096, .f32⟩
  | .hbm, ⟨40, _⟩ => ⟨S128x8x1024, .f32⟩
  | .hbm, ⟨41, _⟩ => ⟨S128x8x1024, .f32⟩
  | .hbm, ⟨42, _⟩ => ⟨S128x8x1024, .f32⟩
  | .hbm, ⟨43, _⟩ => ⟨S128x8x1024, .f32⟩
  | .hbm, ⟨44, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S128x8x1024 : Shape := ⟨3, ![128, 8, 1024]⟩
abbrev S128x6144 : Shape := ⟨2, ![128, 6144]⟩
abbrev S1024 : Shape := ⟨1, ![1024]⟩
abbrev S1024x7096 : Shape := ⟨2, ![1024, 7096]⟩
abbrev S1024x1024 : Shape := ⟨2, ![1024, 1024]⟩
abbrev S128x8x6144 : Shape := ⟨3, ![128, 8, 6144]⟩
abbrev S1024x6144 : Shape := ⟨2, ![1024, 6144]⟩
abbrev S1024x256 : Shape := ⟨2, ![1024, 256]⟩
abbrev S1024x896 : Shape := ⟨2, ![1024, 896]⟩
abbrev S1024x16 : Shape := ⟨2, ![1024, 16]⟩
abbrev S_ : Shape := ⟨0, ![]⟩
abbrev S1024x112 : Shape := ⟨2, ![1024, 112]⟩
abbrev S1024x40 : Shape := ⟨2, ![1024, 40]⟩
abbrev S1024x88 : Shape := ⟨2, ![1024, 88]⟩
abbrev S1024x3200 : Shape := ⟨2, ![1024, 3200]⟩
abbrev S1x1024 : Shape := ⟨2, ![1, 1024]⟩
abbrev S128x1024 : Shape := ⟨2, ![128, 1024]⟩
abbrev S128x3200 : Shape := ⟨2, ![128, 3200]⟩
abbrev S128 : Shape := ⟨1, ![128]⟩
abbrev S128x1 : Shape := ⟨2, ![128, 1]⟩

abbrev nBuf : Space → Nat
  | .hbm => 23
  | .vmem => 10
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x7096, .f32⟩
  | .hbm, ⟨4, _⟩ => ⟨S1024x1024, .f32⟩
  | .hbm, ⟨5, _⟩ => ⟨S128x8x6144, .f32⟩
  | .hbm, ⟨6, _⟩ => ⟨S1024x6144, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x1024, .f32⟩
  | .hbm, ⟨11, _⟩ => ⟨S1024x256, .f32⟩
  | .hbm, ⟨12, _⟩ => ⟨S1024x896, .f32⟩
  | .hbm, ⟨13, _⟩ => ⟨S1024x16, .f32⟩
  | .hbm, ⟨14, _⟩ => ⟨S_, .f32⟩
  | .hbm, ⟨15, _⟩ => ⟨S1024x112, .f32⟩
  | .hbm, ⟨16, _⟩ => ⟨S1024x40, .f32⟩
  | .hbm, ⟨17, _⟩ => ⟨S_, .f32⟩
  | .hbm, ⟨18, _⟩ => ⟨S1024x88, .f32⟩
  | .hbm, ⟨19, _⟩ => ⟨S1024x3200, .f32⟩
  | .hbm, ⟨20, _⟩ => ⟨S1024x3200, .bf16⟩
  | .hbm, ⟨21, _⟩ => ⟨S1x1024, .f32⟩
  | .hbm, ⟨22, _⟩ => ⟨S1024x3200, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1024x3200, .bf16⟩
  | .local _ .vmem, ⟨8, _⟩ => ⟨S128x3200, .f32⟩
  | .local _ .vmem, ⟨9, _⟩ => ⟨S128x3200, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S128x8x1024 : Shape := ⟨3, ![128, 8, 1024]⟩
abbrev S128x6144 : Shape := ⟨2, ![128, 6144]⟩
abbrev S1024 : Shape := ⟨1, ![1024]⟩
abbrev S1024x7096 : Shape := ⟨2, ![1024, 7096]⟩
abbrev S128x1x6144 : Shape := ⟨3, ![128, 1, 6144]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x7096 : Shape := ⟨3, ![128, 8, 7096]⟩
abbrev S1024x256 : Shape := ⟨2, ![1024, 256]⟩
abbrev S1024x1024 : Shape := ⟨2, ![1024, 1024]⟩
abbrev S1024x896 : Shape := ⟨2, ![1024, 896]⟩
abbrev S1024x16 : Shape := ⟨2, ![1024, 16]⟩
abbrev S1024x112 : Shape := ⟨2, ![1024, 112]⟩
abbrev S1024x40 : Shape := ⟨2, ![1024, 40]⟩
abbrev S1024x88 : Shape := ⟨2, ![1024, 88]⟩
abbrev S1024x3200 : Shape := ⟨2, ![1024, 3200]⟩

abbrev nBuf : Space → Nat
  | .hbm => 49
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x7096, .f32⟩
  | .hbm, ⟨4, _⟩ => ⟨S128x1x6144, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S128x8x7096, .f32⟩
  | .hbm, ⟨35, _⟩ => ⟨S1024x7096, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x1024, .f32⟩
  | .hbm, ⟨40, _⟩ => ⟨S1024x256, .f32⟩
  | .hbm, ⟨41, _⟩ => ⟨S1024x896, .f32⟩
  | .hbm, ⟨42, _⟩ => ⟨S1024x16, .f32⟩
  | .hbm, ⟨43, _⟩ => ⟨S_, .f32⟩
  | .hbm, ⟨44, _⟩ => ⟨S1024x112, .f32⟩
  | .hbm, ⟨45, _⟩ => ⟨S1024x40, .f32⟩
  | .hbm, ⟨46, _⟩ => ⟨S_, .f32⟩
  | .hbm, ⟨47, _⟩ => ⟨S1024x88, .f32⟩
  | .hbm, ⟨48, _⟩ => ⟨S1024x3200, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel8.lean ====
abbrev S128x16 : Shape := ⟨2, ![128, 16]⟩
abbrev S128x1x8x32 : Shape := ⟨4, ![128, 1, 8, 32]⟩
abbrev S128x1x8 : Shape := ⟨3, ![128, 1, 8]⟩
abbrev S128x1x32 : Shape := ⟨3, ![128, 1, 32]⟩
abbrev S4x2560x128x32 : Shape := ⟨4, ![4, 2560, 128, 32]⟩
abbrev S4x2560x32x128 : Shape := ⟨4, ![4, 2560, 32, 128]⟩
abbrev S128x8x32 : Shape := ⟨3, ![128, 8, 32]⟩
abbrev S128x8x1 : Shape := ⟨3, ![128, 8, 1]⟩
abbrev S128x24x128 : Shape := ⟨3, ![128, 24, 128]⟩
abbrev S1x8x32 : Shape := ⟨3, ![1, 8, 32]⟩
abbrev S1x8x1 : Shape := ⟨3, ![1, 8, 1]⟩
abbrev S1x1x32 : Shape := ⟨3, ![1, 1, 32]⟩
abbrev S1x1x32x128 : Shape := ⟨4, ![1, 1, 32, 128]⟩
abbrev S1x1 : Shape := ⟨2, ![1, 1]⟩
abbrev S1x24x128 : Shape := ⟨3, ![1, 24, 128]⟩
abbrev S8x32 : Shape := ⟨2, ![8, 32]⟩
abbrev S8x1 : Shape := ⟨2, ![8, 1]⟩
abbrev S32x128 : Shape := ⟨2, ![32, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x32 : Shape := ⟨2, ![1, 32]⟩
abbrev S8 : Shape := ⟨1, ![8]⟩
abbrev S1 : Shape := ⟨1, ![1]⟩
abbrev S1x8x128 : Shape := ⟨3, ![1, 8, 128]⟩

abbrev nBuf : Space → Nat
  | .hbm => 8
  | .vmem => 40
  | .smem => 1
  | _ => 0

abbrev bufTy : (tb : Table) → Fin (tcTables nBuf tb) → BufTy
  | .hbm, ⟨0, _⟩ => ⟨S128x1x8x32, .f32⟩
  | .hbm, ⟨1, _⟩ => ⟨S128x1x8, .f32⟩
  | .hbm, ⟨2, _⟩ => ⟨S128x1x32, .f32⟩
  | .hbm, ⟨3, _⟩ => ⟨S4x2560x128x32, .f32⟩
  | .hbm, ⟨4, _⟩ => ⟨S4x2560x32x128, .f32⟩
  | .hbm, ⟨5, _⟩ => ⟨S128x8x32, .f32⟩
  | .hbm, ⟨6, _⟩ => ⟨S128x8x1, .f32⟩
  | .hbm, ⟨7, _⟩ => ⟨S128x24x128, .f32⟩
  | .local _ .vmem, ⟨0, _⟩ => ⟨S1x8x32, .f32⟩
  | .local _ .vmem, ⟨1, _⟩ => ⟨S1x8x32, .f32⟩
  | .local _ .vmem, ⟨2, _⟩ => ⟨S1x8x1, .f32⟩
  | .local _ .vmem, ⟨3, _⟩ => ⟨S1x8x1, .f32⟩
  | .local _ .vmem, ⟨4, _⟩ => ⟨S1x1x32, .f32⟩
  | .local _ .vmem, ⟨5, _⟩ => ⟨S1x1x32, .f32⟩
  | .local _ .vmem, ⟨6, _⟩ => ⟨S1x1x32x128, .f32⟩
  | .local _ .vmem, ⟨7, _⟩ => ⟨S1x1x32x128, .f32⟩
  | .local _ .vmem, ⟨8, _⟩ => ⟨S1x1x32x128, .f32⟩
  | .local _ .vmem, ⟨9, _⟩ => ⟨S1x1x32x128, .f32⟩
  | .local _ .vmem, ⟨10, _⟩ => ⟨S1x1x32x128, .f32⟩
  | .local _ .vmem, ⟨11, _⟩ => ⟨S1x1x32x128, .f32⟩
  | .local _ .vmem, ⟨12, _⟩ => ⟨S1x1x32x128, .f32⟩
  | .local _ .vmem, ⟨13, _⟩ => ⟨S1x1x32x128, .f32⟩
  | .local _ .vmem, ⟨14, _⟩ => ⟨S1x1x32x128, .f32⟩
  | .local _ .vmem, ⟨15, _⟩ => ⟨S1x1x32x128, .f32⟩
  | .local _ .vmem, ⟨16, _⟩ => ⟨S1x1x32x128, .f32⟩
  | .local _ .vmem, ⟨17, _⟩ => ⟨S1x1x32x128, .f32⟩
  | .local _ .vmem, ⟨18, _⟩ => ⟨S1x1x32x128, .f32⟩
  | .local _ .vmem, ⟨19, _⟩ => ⟨S1x1x32x128, .f32⟩
  | .local _ .vmem, ⟨20, _⟩ => ⟨S1x1x32x128, .f32⟩
  | .local _ .vmem, ⟨21, _⟩ => ⟨S1x1x32x128, .f32⟩
  | .local _ .vmem, ⟨22, _⟩ => ⟨S1x1x32x128, .f32⟩
  | .local _ .vmem, ⟨23, _⟩ => ⟨S1x1x32x128, .f32⟩
  | .local _ .vmem, ⟨24, _⟩ => ⟨S1x1x32x128, .f32⟩
  | .local _ .vmem, ⟨25, _⟩ => ⟨S1x1x32x128, .f32⟩
  | .local _ .vmem, ⟨26, _⟩ => ⟨S1x1x32x128, .f32⟩
  | .local _ .vmem, ⟨27, _⟩ => ⟨S1x1x32x128, .f32⟩
  | .local _ .vmem, ⟨28, _⟩ => ⟨S1x1x32x128, .f32⟩
  | .local _ .vmem, ⟨29, _⟩ => ⟨S1x1x32x128, .f32⟩
  | .local _ .vmem, ⟨30, _⟩ => ⟨S1x1x32x128, .f32⟩
  | .local _ .vmem, ⟨31, _⟩ => ⟨S1x1x32x128, .f32⟩
  | .local _ .vmem, ⟨32, _⟩ => ⟨S1x1x32x128, .f32⟩
  | .local _ .vmem, ⟨33, _⟩ => ⟨S1x1x32x128, .f32⟩
  | .local _ .vmem, ⟨34, _⟩ => ⟨S1x1x32x128, .f32⟩
  | .local _ .vmem, ⟨35, _⟩ => ⟨S1x1x32x128, .f32⟩
  | .local _ .vmem, ⟨36, _⟩ => ⟨S1x1x32x128, .f32⟩
  | .local _ .vmem, ⟨37, _⟩ => ⟨S1x1x32x128, .f32⟩
  | .local _ .vmem, ⟨38, _⟩ => ⟨S1x24x128, .f32⟩
  | .local _ .vmem, ⟨39, _⟩ => ⟨S1x24x128, .f32⟩
  | .local _ .smem, ⟨0, _⟩ => ⟨S128x16, .i32⟩
  | _, _ => ⟨S128x1x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_18 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x32x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x32x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x24x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference8Ideal.lean ====
abbrev S128x16 : Shape := ⟨2, ![128, 16]⟩
abbrev S128x1x8x32 : Shape := ⟨4, ![128, 1, 8, 32]⟩
abbrev S128x1x8 : Shape := ⟨3, ![128, 1, 8]⟩
abbrev S128x1x32 : Shape := ⟨3, ![128, 1, 32]⟩
abbrev S4x2560x128x32 : Shape := ⟨4, ![4, 2560, 128, 32]⟩
abbrev S1x2560x128x32 : Shape := ⟨4, ![1, 2560, 128, 32]⟩
abbrev S2560x128x32 : Shape := ⟨3, ![2560, 128, 32]⟩
abbrev S_ : Shape := ⟨0, ![]⟩
abbrev S128x16x1 : Shape := ⟨3, ![128, 16, 1]⟩
abbrev S128x16x128x32 : Shape := ⟨4, ![128, 16, 128, 32]⟩
abbrev S128x2048x32 : Shape := ⟨3, ![128, 2048, 32]⟩
abbrev S128x2049x32 : Shape := ⟨3, ![128, 2049, 32]⟩
abbrev S128x1x8x2049 : Shape := ⟨4, ![128, 1, 8, 2049]⟩
abbrev S128x1x2049 : Shape := ⟨3, ![128, 1, 2049]⟩
abbrev S128x2049 : Shape := ⟨2, ![128, 2049]⟩
abbrev S128x1023 : Shape := ⟨2, ![128, 1023]⟩
abbrev S128x3072 : Shape := ⟨2, ![128, 3072]⟩
abbrev S128x24x128 : Shape := ⟨3, ![128, 24, 128]⟩

abbrev nBuf : Space → Nat
  | .hbm => 31
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128x1x8x32, .f32⟩
  | .hbm, ⟨2, _⟩ => ⟨S128x1x8, .f32⟩
  | .hbm, ⟨3, _⟩ => ⟨S128x1x32, .f32⟩
  | .hbm, ⟨4, _⟩ => ⟨S4x2560x128x32, .f32⟩
  | .hbm, ⟨5, _⟩ => ⟨S1x2560x128x32, .f32⟩
  | .hbm, ⟨6, _⟩ => ⟨S2560x128x32, .f32⟩
  | .hbm, ⟨7, _⟩ => ⟨S_, .i32⟩
  | .hbm, ⟨8, _⟩ => ⟨S128x16, .i32⟩
  | .hbm, ⟨9, _⟩ => ⟨S128x16, .i1⟩
  | .hbm, ⟨10, _⟩ => ⟨S_, .i32⟩
  | .hbm, ⟨11, _⟩ => ⟨S128x16, .i32⟩
  | .hbm, ⟨12, _⟩ => ⟨S128x16, .i32⟩
  | .hbm, ⟨13, _⟩ => ⟨S128x16, .i32⟩
  | .hbm, ⟨14, _⟩ => ⟨S128x16x1, .i32⟩
  | .hbm, ⟨15, _⟩ => ⟨S128x16x128x32, .f32⟩
  | .hbm, ⟨16, _⟩ => ⟨S128x2048x32, .f32⟩
  | .hbm, ⟨17, _⟩ => ⟨S128x2049x32, .f32⟩
  | .hbm, ⟨18, _⟩ => ⟨S128x1x8x2049, .f32⟩
  | .hbm, ⟨19, _⟩ => ⟨S_, .f32⟩
  | .hbm, ⟨20, _⟩ => ⟨S128x1x8x2049, .f32⟩
  | .hbm, ⟨21, _⟩ => ⟨S128x1x8x2049, .f32⟩
  | .hbm, ⟨22, _⟩ => ⟨S_, .f32⟩
  | .hbm, ⟨23, _⟩ => ⟨S128x1x8x2049, .f32⟩
  | .hbm, ⟨24, _⟩ => ⟨S128x1x8x2049, .f32⟩
  | .hbm, ⟨25, _⟩ => ⟨S128x1x2049, .f32⟩
  | .hbm, ⟨26, _⟩ => ⟨S128x2049, .f32⟩
  | .hbm, ⟨27, _⟩ => ⟨S_, .f32⟩
  | .hbm, ⟨28, _⟩ => ⟨S128x1023, .f32⟩
  | .hbm, ⟨29, _⟩ => ⟨S128x3072, .f32⟩
  | .hbm, ⟨30, _⟩ => ⟨S128x24x128, .f32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel9.lean ====
abbrev S1024x3200 : Shape := ⟨2, ![1024, 3200]⟩
abbrev S64 : Shape := ⟨1, ![64]⟩
abbrev S_ : Shape := ⟨0, ![]⟩
abbrev S1024 : Shape := ⟨1, ![1024]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩
abbrev S1024x48 : Shape := ⟨2, ![1024, 48]⟩
abbrev S1024x64 : Shape := ⟨2, ![1024, 64]⟩
abbrev S1x1024x1x64 : Shape := ⟨4, ![1, 1024, 1, 64]⟩
abbrev S1x1024x4x64 : Shape := ⟨4, ![1, 1024, 4, 64]⟩
abbrev S1024x256 : Shape := ⟨2, ![1024, 256]⟩
abbrev S4 : Shape := ⟨1, ![4]⟩
abbrev S1x4 : Shape := ⟨2, ![1, 4]⟩
abbrev S1024x4 : Shape := ⟨2, ![1024, 4]⟩
abbrev S1024x24 : Shape := ⟨2, ![1024, 24]⟩
abbrev S1024x32 : Shape := ⟨2, ![1024, 32]⟩
abbrev S1x1024x1x32 : Shape := ⟨4, ![1, 1024, 1, 32]⟩
abbrev S1x1024x8x32 : Shape := ⟨4, ![1, 1024, 8, 32]⟩
abbrev S1x1024x4x32 : Shape := ⟨4, ![1, 1024, 4, 32]⟩
abbrev S1024x128 : Shape := ⟨2, ![1024, 128]⟩
abbrev S128 : Shape := ⟨1, ![128]⟩
abbrev S1x128 : Shape := ⟨2, ![1, 128]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x64 : Shape := ⟨2, ![1, 64]⟩
abbrev S4x64 : Shape := ⟨2, ![4, 64]⟩
abbrev S1x256 : Shape := ⟨2, ![1, 256]⟩
abbrev S32 : Shape := ⟨1, ![32]⟩
abbrev S1x32 : Shape := ⟨2, ![1, 32]⟩
abbrev S8x32 : Shape := ⟨2, ![8, 32]⟩
abbrev S256 : Shape := ⟨1, ![256]⟩
abbrev S4x1024x64 : Shape := ⟨3, ![4, 1024, 64]⟩
abbrev S8x1024x32 : Shape := ⟨3, ![8, 1024, 32]⟩
abbrev S128x256 : Shape := ⟨2, ![128, 256]⟩
abbrev S128x128 : Shape := ⟨2, ![128, 128]⟩
abbrev S4x128x64 : Shape := ⟨3, ![4, 128, 64]⟩
abbrev S8x128x32 : Shape := ⟨3, ![8, 128, 32]⟩
abbrev S128x64 : Shape := ⟨2, ![128, 64]⟩
abbrev S1x128x64 : Shape := ⟨3, ![1, 128, 64]⟩
abbrev S128x32 : Shape := ⟨2, ![128, 32]⟩
abbrev S1x128x32 : Shape := ⟨3, ![1, 128, 32]⟩

abbrev nBuf : Space → Nat
  | .hbm => 167
  | .vmem => 46
  | .smem => 0
  | _ => 0

abbrev hbmTy0_0 (i : Nat) : BufTy := match i % 128 with
  | 0 => ⟨S1024x3200, .f32⟩
  | 1 => ⟨S64, .f32⟩
  | 2 => ⟨S64, .f32⟩
  | 3 => ⟨S_, .i32⟩
  | 4 => ⟨S1024, .i32⟩
  | 5 => ⟨S1024, .f32⟩
  | 6 => ⟨S1024x1, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S1x8, .f32⟩
  | 16 => ⟨S1024x8, .f32⟩
  | 17 => ⟨S1024x8, .f32⟩
  | 18 => ⟨S1024x8, .f32⟩
  | 19 => ⟨S1024x8, .f32⟩
  | 20 => ⟨S1024x8, .f32⟩
  | 21 => ⟨S_, .f32⟩
  | 22 => ⟨S1024x48, .f32⟩
  | 23 => ⟨S_, .f32⟩
  | 24 => ⟨S1024x48, .f32⟩
  | 25 => ⟨S1024x64, .f32⟩
  | 26 => ⟨S1024x8, .f32⟩
  | 27 => ⟨S1024x64, .f32⟩
  | 28 => ⟨S1x1024x1x64, .f32⟩
  | 29 => ⟨S1x1024x4x64, .f32⟩
  | 30 => ⟨S1024x256, .f32⟩
  | 31 => ⟨S1x1024x1x64, .f32⟩
  | 32 => ⟨S1x1024x4x64, .f32⟩
  | 33 => ⟨S1024x256, .f32⟩
  | 34 => ⟨S4, .f32⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S1x4, .f32⟩
  | 43 => ⟨S1024x4, .f32⟩
  | 44 => ⟨S1024x4, .f32⟩
  | 45 => ⟨S1024x4, .f32⟩
  | 46 => ⟨S1024x4, .f32⟩
  | 47 => ⟨S1024x4, .f32⟩
  | 48 => ⟨S_, .f32⟩
  | 49 => ⟨S1024x24, .f32⟩
  | 50 => ⟨S_, .f32⟩
  | 51 => ⟨S1024x24, .f32⟩
  | 52 => ⟨S1024x32, .f32⟩
  | 53 => ⟨S1024x4, .f32⟩
  | 54 => ⟨S1024x32, .f32⟩
  | 55 => ⟨S1x1024x1x32, .f32⟩
  | 56 => ⟨S1x1024x8x32, .f32⟩
  | 57 => ⟨S1024x256, .f32⟩
  | 58 => ⟨S1x1024x1x32, .f32⟩
  | 59 => ⟨S1x1024x8x32, .f32⟩
  | 60 => ⟨S1024x256, .f32⟩
  | 61 => ⟨S4, .f32⟩
  | 62 => ⟨S4, .f32⟩
  | 63 => ⟨S_, .f32⟩
  | 64 => ⟨S4, .f32⟩
  | 65 => ⟨S4, .f32⟩
  | 66 => ⟨S_, .f32⟩
  | 67 => ⟨S4, .f32⟩
  | 68 => ⟨S4, .f32⟩
  | 69 => ⟨S1x4, .f32⟩
  | 70 => ⟨S1024x4, .f32⟩
  | 71 => ⟨S1024x4, .f32⟩
  | 72 => ⟨S1024x4, .f32⟩
  | 73 => ⟨S1024x4, .f32⟩
  | 74 => ⟨S1024x4, .f32⟩
  | 75 => ⟨S_, .f32⟩
  | 76 => ⟨S1024x24, .f32⟩
  | 77 => ⟨S_, .f32⟩
  | 78 => ⟨S1024x24, .f32⟩
  | 79 => ⟨S1024x32, .f32⟩
  | 80 => ⟨S1024x4, .f32⟩
  | 81 => ⟨S1024x32, .f32⟩
  | 82 => ⟨S1x1024x1x32, .f32⟩
  | 83 => ⟨S1x1024x4x32, .f32⟩
  | 84 => ⟨S1024x128, .f32⟩
  | 85 => ⟨S1x1024x1x32, .f32⟩
  | 86 => ⟨S1x1024x4x32, .f32⟩
  | 87 => ⟨S1024x128, .f32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i1⟩
  | 95 => ⟨S128, .i1⟩
  | 96 => ⟨S_, .f32⟩
  | 97 => ⟨S_, .f32⟩
  | 98 => ⟨S128, .f32⟩
  | 99 => ⟨S128, .f32⟩
  | 100 => ⟨S128, .f32⟩
  | 101 => ⟨S_, .i32⟩
  | 102 => ⟨S128, .i32⟩
  | 103 => ⟨S128, .i1⟩
  | 104 => ⟨S1x128, .f32⟩
  | 105 => ⟨S1x128, .f32⟩
  | 106 => ⟨S1024x128, .i1⟩
  | 107 => ⟨S1024x128, .f32⟩
  | 108 => ⟨S1024x128, .f32⟩
  | 109 => ⟨S_, .f32⟩
  | 110 => ⟨S_, .f32⟩
  | 111 => ⟨S1024x128, .i1⟩
  | 112 => ⟨S1024x128, .f32⟩
  | 113 => ⟨S1024x128, .f32⟩
  | 114 => ⟨S4x4, .i32⟩
  | 115 => ⟨S4x4, .i32⟩
  | 116 => ⟨S_, .i32⟩
  | 117 => ⟨S4x4, .i32⟩
  | 118 => ⟨S4x4, .i32⟩
  | 119 => ⟨S4x4, .i1⟩
  | 120 => ⟨S4x4, .f32⟩
  | 121 => ⟨S4x1x4x1, .f32⟩
  | 122 => ⟨S4x64x4x64, .f32⟩
  | 123 => ⟨S256x256, .f32⟩
  | 124 => ⟨S_, .f32⟩
  | 125 => ⟨S256x256, .f32⟩
  | 126 => ⟨S256x256, .f32⟩
  | 127 => ⟨S256x256, .bf16⟩
  | _ => ⟨S1024x3200, .f32⟩

abbrev hbmTy0_1 (i : Nat) : BufTy := match i % 128 with
  | 0 => ⟨S64, .i32⟩
  | 1 => ⟨S_, .i32⟩
  | 2 => ⟨S64, .i32⟩
  | 3 => ⟨S64, .i1⟩
  | 4 => ⟨S64, .f32⟩
  | 5 => ⟨S1x64, .f32⟩
  | 6 => ⟨S4x64, .f32⟩
  | 7 => ⟨S1x256, .f32⟩
  | 8 => ⟨S32, .i32⟩
  | 9 => ⟨S_, .i32⟩
  | 10 => ⟨S32, .i32⟩
  | 11 => ⟨S32, .i1⟩
  | 12 => ⟨S32, .f32⟩
  | 13 => ⟨S1x32, .f32⟩
  | 14 => ⟨S8x32, .f32⟩
  | 15 => ⟨S1x256, .f32⟩
  | 16 => ⟨S128, .i32⟩
  | 17 => ⟨S_, .i32⟩
  | 18 => ⟨S128, .i32⟩
  | 19 => ⟨S128, .i1⟩
  | 20 => ⟨S128, .f32⟩
  | 21 => ⟨S1x128, .f32⟩
  | 22 => ⟨S1x64, .f32⟩
  | 23 => ⟨S4x64, .f32⟩
  | 24 => ⟨S256, .f32⟩
  | 25 => ⟨S1x256, .f32⟩
  | 26 => ⟨S1x64, .f32⟩
  | 27 => ⟨S4x64, .f32⟩
  | 28 => ⟨S256, .f32⟩
  | 29 => ⟨S1x256, .f32⟩
  | 30 => ⟨S1024x256, .f32⟩
  | 31 => ⟨S1024x256, .f32⟩
  | 32 => ⟨S1024x256, .f32⟩
  | 33 => ⟨S1024x128, .f32⟩
  | 34 => ⟨S4x1024x64, .bf16⟩
  | 35 => ⟨S4x1024x64, .bf16⟩
  | 36 => ⟨S4x1024x64, .bf16⟩
  | 37 => ⟨S8x1024x32, .bf16⟩
  | 38 => ⟨S1024x128, .bf16⟩
  | _ => ⟨S1024x3200, .f32⟩

abbrev hbmTy (i : Nat) : BufTy := match i / 128 with
  | 0 => hbmTy0_0 i
  | 1 => hbmTy0_1 i
  | _ => ⟨S1024x3200, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x256, .f32⟩
  | .local _ .vmem, ⟨23, _⟩ => ⟨S1x256, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S256x256, .bf16⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x128, .f32⟩
  | .local _ .vmem, ⟨35, _⟩ => ⟨S128x128, .f32⟩
  | .local _ .vmem, ⟨36, _⟩ => ⟨S4x128x64, .bf16⟩
  | .local _ .vmem, ⟨37, _⟩ => ⟨S4x128x64, .bf16⟩
  | .local _ .vmem, ⟨38, _⟩ => ⟨S4x128x64, .bf16⟩
  | .local _ .vmem, ⟨39, _⟩ => ⟨S4x128x64, .bf16⟩
  | .local _ .vmem, ⟨40, _⟩ => ⟨S4x128x64, .bf16⟩
  | .local _ .vmem, ⟨41, _⟩ => ⟨S4x128x64, .bf16⟩
  | .local _ .vmem, ⟨42, _⟩ => ⟨S8x128x32, .bf16⟩
  | .local _ .vmem, ⟨43, _⟩ => ⟨S8x128x32, .bf16⟩
  | .local _ .vmem, ⟨44, _⟩ => ⟨S128x128, .bf16⟩
  | .local _ .vmem, ⟨45, _⟩ => ⟨S128x128, .bf16⟩
  | _, _ => ⟨S1024x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_11 : Ref sig .tc := ⟨.hbm, 89, rfl⟩
abbrev main_v73 : Ref sig .tc := ⟨.hbm, 90, rfl⟩
abbrev main_v74 : Ref sig .tc := ⟨.hbm, 91, rfl⟩
abbrev main_c_12 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_cst_14 : Ref sig .tc := ⟨.hbm, 97, rfl⟩
abbrev main_call0_v0 : Ref sig .tc := ⟨.hbm, 98, rfl⟩
abbrev main_call0_v1 : Ref sig .tc := ⟨.hbm, 99, rfl⟩
abbrev main_v78 : Ref sig .tc := ⟨.hbm, 100, rfl⟩
abbrev main_c_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v82 : Ref sig .tc := ⟨.hbm, 108, rfl⟩
abbrev main_cst_16 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_21 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123_0 : Ref sig .tc := ⟨.hbm, 158, rfl⟩
abbrev main_v123_1 : Ref sig .tc := ⟨.hbm, 159, rfl⟩
abbrev main_v123_2 : Ref sig .tc := ⟨.hbm, 160, rfl⟩
abbrev main_v123_3 : Ref sig .tc := ⟨.hbm, 161, rfl⟩
abbrev main_v123_4 : Ref sig .tc := ⟨.hbm, 162, rfl⟩
abbrev main_v123_5 : Ref sig .tc := ⟨.hbm, 163, rfl⟩
abbrev main_v123_6 : Ref sig .tc := ⟨.hbm, 164, rfl⟩
abbrev main_v123_7 : Ref sig .tc := ⟨.hbm, 165, rfl⟩
abbrev main_v123_8 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x128x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x128x64 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S4x128x64 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x128x32 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference9Ideal.lean ====
abbrev S1024x3200 : Shape := ⟨2, ![1024, 3200]⟩
abbrev S64 : Shape := ⟨1, ![64]⟩
abbrev S_ : Shape := ⟨0, ![]⟩
abbrev S8 : Shape := ⟨1, ![8]⟩
abbrev S128x8x3200 : Shape := ⟨3, ![128, 8, 3200]⟩
abbrev S128x8x256 : Shape := ⟨3, ![128, 8, 256]⟩
abbrev S128x8x4x64 : Shape := ⟨4, ![128, 8, 4, 64]⟩
abbrev S128x8x4 : Shape := ⟨3, ![128, 8, 4]⟩
abbrev S128x8x4x1 : Shape := ⟨4, ![128, 8, 4, 1]⟩
abbrev S1x1x1x64 : Shape := ⟨4, ![1, 1, 1, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x4x8 : Shape := ⟨4, ![128, 8, 4, 8]⟩
abbrev S128x8x4x48 : Shape := ⟨4, ![128, 8, 4, 48]⟩
abbrev S1x8x1x8 : Shape := ⟨4, ![1, 8, 1, 8]⟩
abbrev S128x8x8x32 : Shape := ⟨4, ![128, 8, 8, 32]⟩
abbrev S4 : Shape := ⟨1, ![4]⟩
abbrev S1x4 : Shape := ⟨2, ![1, 4]⟩
abbrev S8x4 : Shape := ⟨2, ![8, 4]⟩
abbrev S8x1x4 : Shape := ⟨3, ![8, 1, 4]⟩
abbrev S128x8x8x4 : Shape := ⟨4, ![128, 8, 8, 4]⟩
abbrev S128x8x8x24 : Shape := ⟨4, ![128, 8, 8, 24]⟩
abbrev S1x8x1x4 : Shape := ⟨4, ![1, 8, 1, 4]⟩
abbrev S128x8x32 : Shape := ⟨3, ![128, 8, 32]⟩
abbrev S128x8x1x32 : Shape := ⟨4, ![128, 8, 1, 32]⟩
abbrev S128x8x1x4 : Shape := ⟨4, ![128, 8, 1, 4]⟩
abbrev S128x8x1x24 : Shape := ⟨4, ![128, 8, 1, 24]⟩
abbrev S128x8x8 : Shape := ⟨3, ![128, 8, 8]⟩
abbrev S128x8x88 : Shape := ⟨3, ![128, 8, 88]⟩
abbrev S128x8x128 : Shape := ⟨3, ![128, 8, 128]⟩
abbrev S1024x256 : Shape := ⟨2, ![1024, 256]⟩
abbrev S1024x128 : Shape := ⟨2, ![1024, 128]⟩

abbrev nBuf : Space → Nat
  | .hbm => 201
  | .vmem => 0
  | .smem => 0
  | _ => 0

abbrev hbmTy0_0 (i : Nat) : BufTy := match i % 128 with
  | 0 => ⟨S1024x3200, .f32⟩
  | 1 => ⟨S64, .f32⟩
  | 2 => ⟨S64, .f32⟩
  | 3 => ⟨S_, .i32⟩
  | 4 => ⟨S8, .i32⟩
  | 5 => ⟨S128x8x3200, .f32⟩
  | 6 => ⟨S128x8x256, .f32⟩
  | 7 => ⟨S128x8x4x64, .f32⟩
  | 8 => ⟨S128x8x4x64, .f32⟩
  | 9 => ⟨S_, .f32⟩
  | 10 => ⟨S128x8x4, .f32⟩
  | 11 => ⟨S128x8x4x1, .f32⟩
  | 12 => ⟨S_, .f32⟩
  | 13 => ⟨S128x8x4x1, .f32⟩
  | 14 => ⟨S128x8x4x1, .f32⟩
  | 15 => ⟨S_, .f32⟩
  | 16 => ⟨S128x8x4x1, .f32⟩
  | 17 => ⟨S128x8x4x1, .f32⟩
  | 18 => ⟨S128x8x4x1, .f32⟩
  | 19 => ⟨S128x8x4x64, .f32⟩
  | 20 => ⟨S128x8x4x64, .f32⟩
  | 21 => ⟨S1x1x1x64, .f32⟩
  | 22 => ⟨S128x8x4x64, .f32⟩
  | 23 => ⟨S128x8x4x64, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S8x1, .f32⟩
  | 34 => ⟨S1x8, .f32⟩
  | 35 => ⟨S8x8, .f32⟩
  | 36 => ⟨S8x8, .f32⟩
  | 37 => ⟨S8x8, .f32⟩
  | 38 => ⟨S8x8, .f32⟩
  | 39 => ⟨S8x1x8, .f32⟩
  | 40 => ⟨S8x8, .f32⟩
  | 41 => ⟨S8x1x8, .f32⟩
  | 42 => ⟨S128x8x4x8, .f32⟩
  | 43 => ⟨S128x8x4x8, .f32⟩
  | 44 => ⟨S128x8x4x48, .f32⟩
  | 45 => ⟨S1x8x1x8, .f32⟩
  | 46 => ⟨S128x8x4x8, .f32⟩
  | 47 => ⟨S128x8x4x8, .f32⟩
  | 48 => ⟨S1x8x1x8, .f32⟩
  | 49 => ⟨S128x8x4x8, .f32⟩
  | 50 => ⟨S128x8x4x8, .f32⟩
  | 51 => ⟨S128x8x4x8, .f32⟩
  | 52 => ⟨S1x8x1x8, .f32⟩
  | 53 => ⟨S128x8x4x8, .f32⟩
  | 54 => ⟨S128x8x4x8, .f32⟩
  | 55 => ⟨S1x8x1x8, .f32⟩
  | 56 => ⟨S128x8x4x8, .f32⟩
  | 57 => ⟨S128x8x4x8, .f32⟩
  | 58 => ⟨S128x8x4x8, .f32⟩
  | 59 => ⟨S128x8x4x64, .f32⟩
  | 60 => ⟨S128x8x256, .f32⟩
  | 61 => ⟨S128x8x4x64, .f32⟩
  | 62 => ⟨S128x8x4x64, .f32⟩
  | 63 => ⟨S_, .f32⟩
  | 64 => ⟨S128x8x4, .f32⟩
  | 65 => ⟨S128x8x4x1, .f32⟩
  | 66 => ⟨S_, .f32⟩
  | 67 => ⟨S128x8x4x1, .f32⟩
  | 68 => ⟨S128x8x4x1, .f32⟩
  | 69 => ⟨S_, .f32⟩
  | 70 => ⟨S128x8x4x1, .f32⟩
  | 71 => ⟨S128x8x4x1, .f32⟩
  | 72 => ⟨S128x8x4x1, .f32⟩
  | 73 => ⟨S128x8x4x64, .f32⟩
  | 74 => ⟨S128x8x4x64, .f32⟩
  | 75 => ⟨S1x1x1x64, .f32⟩
  | 76 => ⟨S128x8x4x64, .f32⟩
  | 77 => ⟨S128x8x4x64, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8x1, .f32⟩
  | 88 => ⟨S1x8, .f32⟩
  | 89 => ⟨S8x8, .f32⟩
  | 90 => ⟨S8x8, .f32⟩
  | 91 => ⟨S8x8, .f32⟩
  | 92 => ⟨S8x8, .f32⟩
  | 93 => ⟨S8x1x8, .f32⟩
  | 94 => ⟨S8x8, .f32⟩
  | 95 => ⟨S8x1x8, .f32⟩
  | 96 => ⟨S128x8x4x8, .f32⟩
  | 97 => ⟨S128x8x4x8, .f32⟩
  | 98 => ⟨S128x8x4x48, .f32⟩
  | 99 => ⟨S1x8x1x8, .f32⟩
  | 100 => ⟨S128x8x4x8, .f32⟩
  | 101 => ⟨S128x8x4x8, .f32⟩
  | 102 => ⟨S1x8x1x8, .f32⟩
  | 103 => ⟨S128x8x4x8, .f32⟩
  | 104 => ⟨S128x8x4x8, .f32⟩
  | 105 => ⟨S128x8x4x8, .f32⟩
  | 106 => ⟨S1x8x1x8, .f32⟩
  | 107 => ⟨S128x8x4x8, .f32⟩
  | 108 => ⟨S128x8x4x8, .f32⟩
  | 109 => ⟨S1x8x1x8, .f32⟩
  | 110 => ⟨S128x8x4x8, .f32⟩
  | 111 => ⟨S128x8x4x8, .f32⟩
  | 112 => ⟨S128x8x4x8, .f32⟩
  | 113 => ⟨S128x8x4x64, .f32⟩
  | 114 => ⟨S128x8x256, .f32⟩
  | 115 => ⟨S128x8x8x32, .f32⟩
  | 116 => ⟨S4, .f32⟩
  | 117 => ⟨S4, .f32⟩
  | 118 => ⟨S_, .f32⟩
  | 119 => ⟨S4, .f32⟩
  | 120 => ⟨S4, .f32⟩
  | 121 => ⟨S_, .f32⟩
  | 122 => ⟨S4, .f32⟩
  | 123 => ⟨S4, .f32⟩
  | 124 => ⟨S8, .f32⟩
  | 125 => ⟨S8x1, .f32⟩
  | 126 => ⟨S1x4, .f32⟩
  | 127 => ⟨S8x4, .f32⟩
  | _ => ⟨S1024x3200, .f32⟩

abbrev hbmTy0_1 (i : Nat) : BufTy := match i % 128 with
  | 0 => ⟨S8x4, .f32⟩
  | 1 => ⟨S8x4, .f32⟩
  | 2 => ⟨S8x4, .f32⟩
  | 3 => ⟨S8x1x4, .f32⟩
  | 4 => ⟨S8x4, .f32⟩
  | 5 => ⟨S8x1x4, .f32⟩
  | 6 => ⟨S128x8x8x4, .f32⟩
  | 7 => ⟨S128x8x8x4, .f32⟩
  | 8 => ⟨S128x8x8x24, .f32⟩
  | 9 => ⟨S1x8x1x4, .f32⟩
  | 10 => ⟨S128x8x8x4, .f32⟩
  | 11 => ⟨S128x8x8x4, .f32⟩
  | 12 => ⟨S1x8x1x4, .f32⟩
  | 13 => ⟨S128x8x8x4, .f32⟩
  | 14 => ⟨S128x8x8x4, .f32⟩
  | 15 => ⟨S128x8x8x4, .f32⟩
  | 16 => ⟨S1x8x1x4, .f32⟩
  | 17 => ⟨S128x8x8x4, .f32⟩
  | 18 => ⟨S128x8x8x4, .f32⟩
  | 19 => ⟨S1x8x1x4, .f32⟩
  | 20 => ⟨S128x8x8x4, .f32⟩
  | 21 => ⟨S128x8x8x4, .f32⟩
  | 22 => ⟨S128x8x8x4, .f32⟩
  | 23 => ⟨S128x8x8x32, .f32⟩
  | 24 => ⟨S128x8x32, .f32⟩
  | 25 => ⟨S128x8x1x32, .f32⟩
  | 26 => ⟨S4, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S8, .f32⟩
  | 35 => ⟨S8x1, .f32⟩
  | 36 => ⟨S1x4, .f32⟩
  | 37 => ⟨S8x4, .f32⟩
  | 38 => ⟨S8x4, .f32⟩
  | 39 => ⟨S8x4, .f32⟩
  | 40 => ⟨S8x4, .f32⟩
  | 41 => ⟨S8x1x4, .f32⟩
  | 42 => ⟨S8x4, .f32⟩
  | 43 => ⟨S8x1x4, .f32⟩
  | 44 => ⟨S128x8x1x4, .f32⟩
  | 45 => ⟨S128x8x1x4, .f32⟩
  | 46 => ⟨S128x8x1x24, .f32⟩
  | 47 => ⟨S1x8x1x4, .f32⟩
  | 48 => ⟨S128x8x1x4, .f32⟩
  | 49 => ⟨S128x8x1x4, .f32⟩
  | 50 => ⟨S1x8x1x4, .f32⟩
  | 51 => ⟨S128x8x1x4, .f32⟩
  | 52 => ⟨S128x8x1x4, .f32⟩
  | 53 => ⟨S128x8x1x4, .f32⟩
  | 54 => ⟨S1x8x1x4, .f32⟩
  | 55 => ⟨S128x8x1x4, .f32⟩
  | 56 => ⟨S128x8x1x4, .f32⟩
  | 57 => ⟨S1x8x1x4, .f32⟩
  | 58 => ⟨S128x8x1x4, .f32⟩
  | 59 => ⟨S128x8x1x4, .f32⟩
  | 60 => ⟨S128x8x1x4, .f32⟩
  | 61 => ⟨S128x8x1x32, .f32⟩
  | 62 => ⟨S128x8x32, .f32⟩
  | 63 => ⟨S128x8x8, .f32⟩
  | 64 => ⟨S_, .f32⟩
  | 65 => ⟨S128x8x8, .f32⟩
  | 66 => ⟨S128x8x8, .f32⟩
  | 67 => ⟨S128x8x88, .f32⟩
  | 68 => ⟨S128x8x128, .f32⟩
  | 69 => ⟨S1024x256, .f32⟩
  | 70 => ⟨S1024x256, .f32⟩
  | 71 => ⟨S1024x256, .f32⟩
  | 72 => ⟨S1024x128, .f32⟩
  | _ => ⟨S1024x3200, .f32⟩

abbrev hbmTy (i : Nat) : BufTy := match i / 128 with
  | 0 => hbmTy0_0 i
  | 1 => hbmTy0_1 i
  | _ => ⟨S1024x3200, .f32⟩

abbrev bufTy : (tb : Table) → Fin (tcTables nBuf tb) → BufTy
  | .hbm, ⟨i, _⟩ => hbmTy i
  | _, _ => ⟨S1024x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_9 : Ref sig .tc := ⟨.hbm, 118, rfl⟩
abbrev main_v104 : Ref sig .tc := ⟨.hbm, 119, rfl⟩
abbrev main_v105 : Ref sig .tc := ⟨.hbm, 120, rfl⟩
abbrev main_cst_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_11 : Ref sig .tc := ⟨.hbm, 156, rfl⟩
abbrev main_v140 : Ref sig .tc := ⟨.hbm, 157, rfl⟩
abbrev main_v141 : Ref sig .tc := ⟨.hbm, 158, rfl⟩
abbrev main_cst_12 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_cst_13 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩

abbrev nD : Nat := 1
abbrev τ : Topo := Topo.v7x

variable {F : FTy → Type} [FloatOps F]
-- ==== Proof.S5Spec.lean ====
/- The diagonal recurrence layer as plain arithmetic on index functions: the drive, the state after n steps, the read-out, the gated activation. -/
module

public import Idealize.ShloMosaic.Lib.Pointwise

@[expose] public section

noncomputable section

open Idealize.ShloMosaic

namespace Cert.S5.Spec

/-- The row of the packed projection that holds step `n` of batch row `b`. -/
def row (b : Fin 8) (n : ℕ) : Fin 16384 := ⟨b.val * 2048 + n % 2048, by have := b.isLt; omega⟩

/-- The group and the place in the group of a state. -/
def grp (q : Fin 1024) : Fin 16 := ⟨q.val / 64, by have := q.isLt; omega⟩
def pos (q : Fin 1024) : Fin 64 := ⟨q.val % 64, by omega⟩

/-- The group and the place in the group of a channel; the channel of a group and a place. -/
def cgrp (k : Fin 256) : Fin 16 := ⟨k.val / 16, by have := k.isLt; omega⟩
def cpos (k : Fin 256) : Fin 16 := ⟨k.val % 16, by omega⟩
def chan (g r : Fin 16) : Fin 256 := ⟨g.val * 16 + r.val, by have := g.isLt; have := r.isLt; omega⟩

/-- What the inputs of step `n` add to the state. -/
def drv (B : Fin 16 → Fin 64 → Fin 16 → EReal) (U : Fin 16384 → Fin 256 → EReal) (b : Fin 8) (n : ℕ) (g : Fin 16) (p : Fin 64) : EReal :=
  ∑ r : Fin 16, B g p r * U (row b n) (chan g r)

/-- One step of the complex recurrence, real and imaginary part. -/
def stp (ar ai dr di : EReal) (x : EReal × EReal) : EReal × EReal :=
  ((ar * x.1 - ai * x.2) + dr, (ar * x.2 + ai * x.1) + di)

/-- The state after `n` steps. -/
def X (ar ai : Fin 16 → Fin 64 → EReal) (Br Bi : Fin 16 → Fin 64 → Fin 16 → EReal) (U : Fin 16384 → Fin 256 → EReal)
    (xr xi : Fin 8 → Fin 16 → Fin 64 → EReal) (b : Fin 8) : ℕ → Fin 16 → Fin 64 → EReal × EReal
  | 0 => fun g p => (xr b g p, xi b g p)
  | n + 1 => fun g p => stp (ar g p) (ai g p) (drv Br U b n g p) (drv Bi U b n g p) (X ar ai Br Bi U xr xi b n g p)

/-- The read-out of a state at a channel, with the skip connection. -/
def rd (cr ci : Fin 64 → EReal) (d u : EReal) (x : Fin 64 → EReal × EReal) : EReal :=
  (∑ p : Fin 64, cr p * (x p).1 + ∑ p : Fin 64, -ci p * (x p).2) + d * u

/-- The activation, in the tangent form. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The gated activations of a row. -/
def gate (w : Fin 256 → EReal) (g z : EReal) (zs : Fin 256 → EReal) : EReal :=
  z * Ideal.div 1 (1 + Ideal.exp (-(∑ k : Fin 256, zs k * w k + g)))

end Cert.S5.Spec

end
-- ==== Proof.S5Sums.lean ====
/- Sums over a block-diagonal matrix: only the diagonal block's terms are left. -/
module

public import proofs.«01_k».proof.Proof.S5Spec
public import Idealize.ShloMosaic.Lib.Pointwise
public import Idealize.ShloMosaic.Lib.Pipeline.ValueKit

@[expose] public section

noncomputable section

open Idealize.ShloMosaic

namespace Cert.S5.Spec

/-- The state of a group and a place. -/
def sidx (g : Fin 16) (p : Fin 64) : Fin 1024 := ⟨g.val * 64 + p.val, by have := g.isLt; have := p.isLt; omega⟩

theorem grp_sidx (g : Fin 16) (p : Fin 64) : grp (sidx g p) = g := Fin.ext (by show (g.val * 64 + p.val) / 64 = g.val; have := p.isLt; omega)
theorem pos_sidx (g : Fin 16) (p : Fin 64) : pos (sidx g p) = p := Fin.ext (by show (g.val * 64 + p.val) % 64 = p.val; have := p.isLt; omega)
theorem cgrp_chan (g r : Fin 16) : cgrp (chan g r) = g := Fin.ext (by show (g.val * 16 + r.val) / 16 = g.val; have := r.isLt; omega)
theorem cpos_chan (g r : Fin 16) : cpos (chan g r) = r := Fin.ext (by show (g.val * 16 + r.val) % 16 = r.val; have := r.isLt; omega)

/-- A sum over the channels in which only one group's terms are not zero. -/
theorem sum_chan (f : Fin 256 → EReal) (g : Fin 16) (h : ∀ j r : Fin 16, j ≠ g → f (chan j r) = 0) : ∑ k, f k = ∑ r : Fin 16, f (chan g r) := by
  have e : ∑ k, f k = ∑ j : Fin 16, ∑ r : Fin 16, f (chan j r) := Fin.sum_univ_tiles 16 16 rfl f
  rw [e]
  exact Finset.sum_eq_single g (fun j _ hj => Finset.sum_eq_zero fun r _ => h j r hj) (fun h => absurd (Finset.mem_univ g) h)

/-- A sum over the states in which only one group's terms are not zero. -/
theorem sum_sidx (f : Fin 1024 → EReal) (g : Fin 16) (h : ∀ (j : Fin 16) (p : Fin 64), j ≠ g → f (sidx j p) = 0) : ∑ q, f q = ∑ p : Fin 64, f (sidx g p) := by
  have e : ∑ q, f q = ∑ j : Fin 16, ∑ p : Fin 64, f (sidx j p) := Fin.sum_univ_tiles 16 64 rfl f
  rw [e]
  exact Finset.sum_eq_single g (fun j _ hj => Finset.sum_eq_zero fun p _ => h j p hj) (fun h => absurd (Finset.mem_univ g) h)

theorem in_sum (u : Fin 256 → EReal) (B : Fin 16 → Fin 16 → EReal) (g : Fin 16) :
    ∑ k : Fin 256, u k * (B (cgrp k) (cpos k) * (if cgrp k = g then (1 : EReal) else 0)) = ∑ r : Fin 16, B g r * u (chan g r) := by
  rw [sum_chan _ g fun j r hj => by rw [cgrp_chan, if_neg hj, mul_zero, mul_zero]]
  refine Finset.sum_congr rfl fun r _ => ?_
  rw [cgrp_chan, cpos_chan, if_pos rfl, mul_one, mul_comm]

theorem out_sum (x : Fin 1024 → EReal) (C : Fin 16 → Fin 64 → EReal) (g : Fin 16) :
    ∑ q : Fin 1024, x q * (C (grp q) (pos q) * (if grp q = g then (1 : EReal) else 0)) = ∑ p : Fin 64, C g p * x (sidx g p) := by
  rw [sum_sidx _ g fun j p hj => by rw [grp_sidx, if_neg hj, mul_zero, mul_zero]]
  refine Finset.sum_congr rfl fun p _ => ?_
  rw [grp_sidx, pos_sidx, if_pos rfl, mul_one, mul_comm]

theorem out_sum_neg (x : Fin 1024 → EReal) (C : Fin 16 → Fin 64 → EReal) (g : Fin 16) :
    ∑ q : Fin 1024, x q * -(C (grp q) (pos q) * (if grp q = g then (1 : EReal) else 0)) = ∑ p : Fin 64, -C g p * x (sidx g p) := by
  rw [sum_sidx _ g fun j p hj => by rw [grp_sidx, if_neg hj, mul_zero, neg_zero, mul_zero]]
  refine Finset.sum_congr rfl fun p _ => ?_
  rw [grp_sidx, pos_sidx, if_pos rfl, mul_one, mul_comm]

end Cert.S5.Spec

end
-- ==== Proof.S5Pure.lean ====
/- The S5 kernel's arithmetic at one grid point: the state before each step of a block, the blocks a point leaves. -/
module

public import proofs.«01_k».proof.Proof.Gen.KernelIdeal.Frame
public import proofs.«01_k».proof.Proof.Gen.KernelIdeal.Loops
public import Idealize.ShloMosaic.Lib.Pointwise

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

abbrev rA0 : Rect S1x2048 := Rect.unit (s := S1x2048) ![0, 0] S1x1024.size inb_S1x2048_S1x1024_0_0
abbrev rA1 : Rect S1x2048 := Rect.unit (s := S1x2048) ![0, 1024] S1x1024.size inb_S1x2048_S1x1024_0_1024
abbrev rU : Rect S512x256 := Rect.unit (s := S512x256) ![0, 0] S512x256.size inb_S512x256_S512x256_0_0
abbrev rB : Rect S256x2048 := Rect.unit (s := S256x2048) ![0, 0] S256x2048.size inb_S256x2048_S256x2048_0_0
abbrev rS : Rect S1x2048 := Rect.unit (s := S1x2048) ![0, 0] S1x2048.size inb_S1x2048_S1x2048_0_0
abbrev rI : Rect S1x1x2048 := Rect.unit (s := S1x1x2048) ![0, 0, 0] S1x1x2048.size inb_S1x1x2048_S1x1x2048_0_0_0
abbrev rX : Rect S512x1024 := Rect.unit (s := S512x1024) ![0, 0] S512x1024.size inb_S512x1024_S512x1024_0_0
abbrev rC0 : Rect S2048x256 := Rect.unit (s := S2048x256) ![0, 0] S1024x256.size inb_S2048x256_S1024x256_0_0
abbrev rC1 : Rect S2048x256 := Rect.unit (s := S2048x256) ![1024, 0] S1024x256.size inb_S2048x256_S1024x256_1024_0
abbrev rD : Rect S1x256 := Rect.unit (s := S1x256) ![0, 0] S1x256.size inb_S1x256_S1x256_0_0
abbrev rG : Rect S256x256 := Rect.unit (s := S256x256) ![0, 0] S256x256.size inb_S256x256_S256x256_0_0
abbrev rL : Rect S512x1024 := Rect.unit (s := S512x1024) ![511, 0] S1x1024.size inb_S512x1024_S1x1024_511_0
abbrev rF0 : Rect S1x1x2048 := Rect.unit (s := S1x1x2048) ![0, 0, 0] S1x1x1024.size inb_S1x1x2048_S1x1x1024_0_0_0
abbrev rF1 : Rect S1x1x2048 := Rect.unit (s := S1x1x2048) ![0, 0, 1024] S1x1x1024.size inb_S1x1x2048_S1x1x1024_0_0_1024
abbrev rT (k : Fin k0_t1_loop.trips) : Rect S512x1024 := Rect.unit (s := S512x1024) (k0_off1 k) S1x1024.size (k0_off1_inb k)

/-- Row `k` of a block of 512 rows (`k` taken modulo 512, so that every number names a row). -/
def row (B : Vec F S512x1024 .f32) (k : ℕ) : Vec F S1x1024 .f32 :=
  fun j => B (ix2 (⟨k % 512, Nat.mod_lt _ (by decide)⟩ : Fin 512) (j 1))

/-- The recurrence's state before step `k` of a block, its real and its imaginary half, from the state `s` before the
    first step: `ar` and `ai` are the decay's parts, `br` and `bi` the drives of the steps. -/
def itv (ar ai : Vec F S1x1024 .f32) (s : Vec F S1x1024 .f32 × Vec F S1x1024 .f32) (br bi : Vec F S512x1024 .f32) :
    ℕ → Vec F S1x1024 .f32 × Vec F S1x1024 .f32
  | 0 => s
  | k + 1 => (k0_pay10 ar ai (itv ar ai s br bi k).1 (itv ar ai s br bi k).2 (row br k),
      k0_pay11 ar ai (itv ar ai s br bi k).1 (itv ar ai s br bi k).2 (row bi k))

/-- The same, the decay and the state given as the kernel holds them: real part and imaginary part side by side. -/
def it (a s : Vec F S1x2048 .f32) (br bi : Vec F S512x1024 .f32) : ℕ → Vec F S1x1024 .f32 × Vec F S1x1024 .f32 :=
  itv (View.ld a rA0) (View.ld a rA1) (View.ld s rA0, View.ld s rA1) br bi

/-- The drives of the block's 512 steps, from the block of inputs and the input matrix. -/
def dr (x0 : Vec F S512x256 .f32) (x3 : Vec F S256x2048 .bf16) : Vec F S512x1024 .f32 := k0_pay6 (View.ld x0 rU) (View.ld x3 rB)
def di (x0 : Vec F S512x256 .f32) (x3 : Vec F S256x2048 .bf16) : Vec F S512x1024 .f32 := k0_pay7 (View.ld x0 rU) (View.ld x3 rB)

/-- The state after each of the block's 512 steps, real halves and imaginary halves. -/
def xr (a s : Vec F S1x2048 .f32) (br bi : Vec F S512x1024 .f32) : Vec F S512x1024 .f32 :=
  fun i => (it a s br bi ((i 0 : ℕ) + 1)).1 (ix2 (0 : Fin 1) (i 1))
def xi (a s : Vec F S1x2048 .f32) (br bi : Vec F S512x1024 .f32) : Vec F S512x1024 .f32 :=
  fun i => (it a s br bi ((i 0 : ℕ) + 1)).2 (ix2 (0 : Fin 1) (i 1))

/-- The block of outputs a point leaves, from the state `s` it starts with. -/
def outO (x0 : Vec F S512x256 .f32) (x2 : Vec F S1x2048 .f32) (x3 : Vec F S256x2048 .bf16) (x4 : Vec F S2048x256 .bf16) (x5 : Vec F S1x256 .f32)
    (x6 : Vec F S256x256 .bf16) (x7 : Vec F S1x256 .f32) (s : Vec F S1x2048 .f32) : Vec F S512x256 .f32 :=
  View.canon [⟨rU, k0_pay1
    (k0_pay16 (View.ld x0 rU) (xr x2 s (dr x0 x3) (di x0 x3)) (View.ld x4 rC0) (xi x2 s (dr x0 x3) (di x0 x3)) (View.ld x4 rC1) (View.ld x5 rD))
    (k0_pay17 (View.ld x0 rU) (xr x2 s (dr x0 x3) (di x0 x3)) (View.ld x4 rC0) (xi x2 s (dr x0 x3) (di x0 x3)) (View.ld x4 rC1) (View.ld x5 rD) (View.ld x6 rG))
    (k0_pay18 (View.ld x7 rD))⟩]

/-- The last state's block a point leaves. -/
def outX (x0 : Vec F S512x256 .f32) (x2 : Vec F S1x2048 .f32) (x3 : Vec F S256x2048 .bf16) (s : Vec F S1x2048 .f32) : Vec F S1x1x2048 .f32 :=
  View.canon [⟨rF1, k0_pay3 (it x2 s (dr x0 x3) (di x0 x3) 512).2⟩, ⟨rF0, k0_pay2 (it x2 s (dr x0 x3) (di x0 x3) 512).1⟩]

/-- The state a point leaves for the next. -/
def stNext (x0 : Vec F S512x256 .f32) (x2 : Vec F S1x2048 .f32) (x3 : Vec F S256x2048 .bf16) (s : Vec F S1x2048 .f32) : Vec F S1x2048 .f32 :=
  View.canon [⟨rA1, k0_pay15 (it x2 s (dr x0 x3) (di x0 x3) 512).2⟩, ⟨rA0, k0_pay14 (it x2 s (dr x0 x3) (di x0 x3) 512).1⟩]

/-- The state a batch row's first point starts with. -/
def st0 (x1 : Vec F S1x1x2048 .f32) : Vec F S1x2048 .f32 := View.canon [⟨rS, k0_pay4 (View.ld x1 rI)⟩]

end Cert.S5

end
-- ==== Proof.S5Pay.lean ====
/- What the S5 kernel's body computes at a grid point, read at an index: the drives, the recurrence's steps, the read-out, the gated activation. -/
module

public import proofs.«01_k».proof.Proof.S5Sums
public import proofs.«01_k».proof.Proof.S5Pure
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.S5

theorem dr_at (x0 : FVec Ideal S512x256 .f32) (x3 : FVec Ideal S256x2048 .bf16) (t : Fin 512) (q : Fin 1024) :
    dr (F := Ideal) x0 x3 (ix2 t q : S512x1024.Idx) = ∑ k : Fin 256, x0 (ix2 t k : S512x256.Idx) * x3 (ix2 k (⟨q.val, by omega⟩ : Fin 2048) : S256x2048.Idx) := by
  pointwise [dr, k0_pay6, k0_pay5]

theorem di_at (x0 : FVec Ideal S512x256 .f32) (x3 : FVec Ideal S256x2048 .bf16) (t : Fin 512) (q : Fin 1024) :
    di (F := Ideal) x0 x3 (ix2 t q : S512x1024.Idx) = ∑ k : Fin 256, x0 (ix2 t k : S512x256.Idx) * x3 (ix2 k (⟨1024 + q.val, by omega⟩ : Fin 2048) : S256x2048.Idx) := by
  pointwise [di, k0_pay7, k0_pay5]

/-- One step of a block's recurrence. -/
theorem step_at (ar ai xr xi br bi : FVec Ideal S1x1024 .f32) (q : Fin 1024) :
    (k0_pay10 (F := Ideal) ar ai xr xi br (ix2 (0 : Fin 1) q : S1x1024.Idx), k0_pay11 (F := Ideal) ar ai xr xi bi (ix2 (0 : Fin 1) q : S1x1024.Idx))
      = Spec.stp (ar (ix2 (0 : Fin 1) q : S1x1024.Idx)) (ai (ix2 (0 : Fin 1) q : S1x1024.Idx)) (br (ix2 (0 : Fin 1) q : S1x1024.Idx)) (bi (ix2 (0 : Fin 1) q : S1x1024.Idx))
          (xr (ix2 (0 : Fin 1) q : S1x1024.Idx), xi (ix2 (0 : Fin 1) q : S1x1024.Idx)) := by
  refine Prod.ext ?_ ?_ <;> pointwise [k0_pay10, k0_pay11, k0_pay8, k0_pay9, Spec.stp]

/-- The states of a block follow the recurrence, if its first does. -/
theorem itv_at (ar ai : FVec Ideal S1x1024 .f32) (s : Vec Ideal S1x1024 .f32 × Vec Ideal S1x1024 .f32) (br bi : FVec Ideal S512x1024 .f32) (q : Fin 1024)
    (A A' : EReal) (D D' : ℕ → EReal) (Y : ℕ → EReal × EReal)
    (hA : ar (ix2 (0 : Fin 1) q : S1x1024.Idx) = A) (hA' : ai (ix2 (0 : Fin 1) q : S1x1024.Idx) = A')
    (hD : ∀ t : Fin 512, br (ix2 t q : S512x1024.Idx) = D t.val) (hD' : ∀ t : Fin 512, bi (ix2 t q : S512x1024.Idx) = D' t.val)
    (h0 : ((s.1 (ix2 (0 : Fin 1) q : S1x1024.Idx) : EReal), (s.2 (ix2 (0 : Fin 1) q : S1x1024.Idx) : EReal)) = Y 0)
    (hY : ∀ n, Y (n + 1) = Spec.stp A A' (D n) (D' n) (Y n)) (k : ℕ) (hk : k ≤ 512) :
    (((itv (F := Ideal) ar ai s br bi k).1 (ix2 (0 : Fin 1) q : S1x1024.Idx) : EReal), ((itv (F := Ideal) ar ai s br bi k).2 (ix2 (0 : Fin 1) q : S1x1024.Idx) : EReal)) = Y k := by
  induction k with
  | zero => exact h0
  | succ k ih =>
    have hlt : k < 512 := by omega
    have e : (⟨k % 512, Nat.mod_lt _ (by decide)⟩ : Fin 512) = ⟨k, hlt⟩ := Fin.ext (Nat.mod_eq_of_lt hlt)
    have r1 : row (F := Ideal) br k (ix2 (0 : Fin 1) q : S1x1024.Idx) = D k := (congrArg (fun z : Fin 512 => br (ix2 z q : S512x1024.Idx)) e).trans (hD ⟨k, hlt⟩)
    have r2 : row (F := Ideal) bi k (ix2 (0 : Fin 1) q : S1x1024.Idx) = D' k := (congrArg (fun z : Fin 512 => bi (ix2 z q : S512x1024.Idx)) e).trans (hD' ⟨k, hlt⟩)
    refine (step_at ar ai (itv (F := Ideal) ar ai s br bi k).1 (itv (F := Ideal) ar ai s br bi k).2 (row (F := Ideal) br k) (row (F := Ideal) bi k) q).trans ?_
    rw [hY, ← ih (by omega), hA, hA', r1, r2]

/-- The activation of the read-out of a block, at an index. -/
theorem pay16_at (x0 : FVec Ideal S512x256 .f32) (xr xi : FVec Ideal S512x1024 .f32) (c0 c1 : FVec Ideal S1024x256 .bf16) (d : FVec Ideal S1x256 .f32) (t : Fin 512) (k : Fin 256) :
    k0_pay16 (F := Ideal) x0 xr c0 xi c1 d (ix2 t k : S512x256.Idx)
      = Spec.gelu ((∑ q : Fin 1024, xr (ix2 t q : S512x1024.Idx) * c0 (ix2 q k : S1024x256.Idx) + ∑ q : Fin 1024, xi (ix2 t q : S512x1024.Idx) * c1 (ix2 q k : S1024x256.Idx))
          + d (ix2 (0 : Fin 1) k : S1x256.Idx) * x0 (ix2 t k : S512x256.Idx)) := by
  pointwise [k0_pay16, Spec.gelu]
  exact (mul_assoc _ _ _).trans (mul_left_comm _ _ _)

/-- The gated activation of a block, at an index. -/
theorem pay1_at (z : FVec Ideal S512x256 .f32) (g : FVec Ideal S512x256 .f32) (b : FVec Ideal S1x256 .f32) (t : Fin 512) (k : Fin 256) :
    k0_pay1 (F := Ideal) z g (k0_pay18 (F := Ideal) b) (ix2 t k : S512x256.Idx)
      = z (ix2 t k : S512x256.Idx) * Ideal.div 1 (1 + Ideal.exp (-(g (ix2 t k : S512x256.Idx) + b (ix2 (0 : Fin 1) k : S1x256.Idx)))) := by
  pointwise [k0_pay1, k0_pay18]
  rw [sub_eq_add_neg, zero_add]

theorem pay17_at (x0 : FVec Ideal S512x256 .f32) (xr xi : FVec Ideal S512x1024 .f32) (c0 c1 : FVec Ideal S1024x256 .bf16) (d : FVec Ideal S1x256 .f32)
    (w : FVec Ideal S256x256 .bf16) (t : Fin 512) (k : Fin 256) :
    k0_pay17 (F := Ideal) x0 xr c0 xi c1 d w (ix2 t k : S512x256.Idx)
      = ∑ j : Fin 256, k0_pay16 (F := Ideal) x0 xr c0 xi c1 d (ix2 t j : S512x256.Idx) * w (ix2 j k : S256x256.Idx) := by
  unfold k0_pay17
  generalize k0_pay16 (F := Ideal) x0 xr c0 xi c1 d = z
  pointwise []

end Cert.S5

end
-- ==== Proof.S5Host.lean ====
/- The arrays the kernel's call is given by its host code, at an index: the decay, the block-diagonal input and output matrices, the skip and gate weights. -/
module

public import proofs.«01_k».proof.Proof.S5Spec
public import proofs.«01_k».proof.Proof.Gen.KernelIdeal.Frame
public import proofs.«01_k».proof.Proof.Gen.ReferenceIdeal.Step
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Cert.S5.Host

variable (m : (ℓ : Loc nD τ sig) → Buf (Elt Ideal) ℓ)

section
variable (c : Dev nD)
/-- The decay and the input matrix, as the reference's lines make them of the arguments. -/
def abr : FVec Ideal S16x64 .f32 := Cert.ReferenceIdeal.Step.A_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def abi : FVec Ideal S16x64 .f32 := Cert.ReferenceIdeal.Step.A_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def bbr : FVec Ideal S16x64x16 .f32 := Cert.ReferenceIdeal.Step.A_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def bbi : FVec Ideal S16x64x16 .f32 := Cert.ReferenceIdeal.Step.A_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem v10_eq : V m c main_v10 = abr m c := by
  show StableHlo.after hostOps0 (fun b => m (c, b)) main_v10 = _
  simp only [StableHlo.after_cons, StableHlo.after_nil]
  after_results_simp
  rfl
theorem v14_eq : V m c main_v14 = abi m c := by
  show StableHlo.after hostOps0 (fun b => m (c, b)) main_v14 = _
  simp only [StableHlo.after_cons, StableHlo.after_nil]
  after_results_simp
  rfl
theorem v36_eq : V m c main_v36 = bbr m c := by
  show StableHlo.after hostOps0 (fun b => m (c, b)) main_v36 = _
  simp only [StableHlo.after_cons, StableHlo.after_nil]
  after_results_simp
  rfl
theorem v43_eq : V m c main_v43 = bbi m c := by
  show StableHlo.after hostOps0 (fun b => m (c, b)) main_v43 = _
  simp only [StableHlo.after_cons, StableHlo.after_nil]
  after_results_simp
  rfl
end

/-- The output matrices, the skip weights and the gate's weights of the arguments. -/
def cR (c : Dev nD) : FVec Ideal S16x16x64 .f32 := m ((c : Thread nD τ).loc main_arg7)
def cI (c : Dev nD) : FVec Ideal S16x16x64 .f32 := m ((c : Thread nD τ).loc main_arg8)
def dA (c : Dev nD) : FVec Ideal S16x16 .f32 := m ((c : Thread nD τ).loc main_arg9)
def gW (c : Dev nD) : FVec Ideal S256x256 .f32 := m ((c : Thread nD τ).loc main_arg10)
def gB (c : Dev nD) : FVec Ideal S256 .f32 := m ((c : Thread nD τ).loc main_arg11)

/-- The identity matrix the host code compares two index vectors for. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- An input matrix with its groups on the diagonal. -/
def inDiag (B : FVec Ideal S16x64x16 .f32) : FVec Ideal S256x1024 .f32 :=
  shapeCast S256x1024 (mulf (broadcastInDim S16x16x16x64 ![0, 1, 2, 3] bcast_S16x16x1x64_S16x16x16x64_0_1_2_3 (broadcastInDim S16x16x1x64 ![0, 1, 3] bcast_S16x16x64_S16x16x1x64_0_1_3 (transpose S16x16x64 [0, 2, 1] B transposes_S16x64x16_S16x16x64_0_2_1)))
    (broadcastInDim S16x16x16x64 ![0, 1, 2, 3] bcast_S16x1x16x1_S16x16x16x64_0_1_2_3 (broadcastInDim S16x1x16x1 ![0, 2] bcast_S16x16_S16x1x16x1_0_2 eye))) shapeCasts_S16x16x16x64_S256x1024

/-- An output matrix with its groups on the diagonal. -/
def outDiag (C : FVec Ideal S16x16x64 .f32) : FVec Ideal S1024x256 .f32 :=
  shapeCast S1024x256 (mulf (broadcastInDim S16x64x16x16 ![0, 1, 2, 3] bcast_S16x64x1x16_S16x64x16x16_0_1_2_3 (broadcastInDim S16x64x1x16 ![0, 1, 3] bcast_S16x64x16_S16x64x1x16_0_1_3 (transpose S16x64x16 [0, 2, 1] C transposes_S16x16x64_S16x64x16_0_2_1)))
    (broadcastInDim S16x64x16x16 ![0, 1, 2, 3] bcast_S16x1x16x1_S16x64x16x16_0_1_2_3 (broadcastInDim S16x1x16x1 ![0, 2] bcast_S16x16_S16x1x16x1_0_2 eye))) shapeCasts_S16x64x16x16_S1024x256

theorem eye_at (g h : Fin 16) : eye (ix2 g h : S16x16.Idx) = if g = h then (1 : EReal) else 0 := by
  have hc : ∀ g h : Fin 16, IntOp.cmpi .eq (IntOp.addi (BitVec.ofNat 32 g.val) 0#32) (BitVec.ofNat 32 h.val) = if g = h then 1#1 else 0#1 := by decide
  pointwise [eye, hc g h]
  split
  · show (((1#1).toNat : ℝ) : EReal) = 1
    simp
  · show (((0#1).toNat : ℝ) : EReal) = 0
    simp

theorem inDiag_at (B : FVec Ideal S16x64x16 .f32) (k : Fin 256) (q : Fin 1024) :
    inDiag B (ix2 k q : S256x1024.Idx) = B (ix3 (Spec.cgrp k) (Spec.pos q) (Spec.cpos k) : S16x64x16.Idx) * (if Spec.cgrp k = Spec.grp q then (1 : EReal) else 0) := by
  rw [← eye_at]
  unfold inDiag
  generalize eye = e
  pointwise [Spec.cgrp, Spec.pos, Spec.cpos, Spec.grp]

theorem outDiag_at (C : FVec Ideal S16x16x64 .f32) (q : Fin 1024) (k : Fin 256) :
    outDiag C (ix2 q k : S1024x256.Idx) = C (ix3 (Spec.grp q) (Spec.cpos k) (Spec.pos q) : S16x16x64.Idx) * (if Spec.grp q = Spec.cgrp k then (1 : EReal) else 0) := by
  rw [← eye_at]
  unfold outDiag
  generalize eye = e
  pointwise [Spec.cgrp, Spec.pos, Spec.cpos, Spec.grp]

section
variable (c : Dev nD)

theorem v74_eq : V m c main_v74 = concatenate S1x2048 1 [⟨S1x1024, (shapeCast S1x1024 (abr m c) shapeCasts_S16x64_S1x1024 : FVec Ideal S1x1024 .f32)⟩, ⟨S1x1024, (shapeCast S1x1024 (abi m c) shapeCasts_S16x64_S1x1024 : FVec Ideal S1x1024 .f32)⟩] concatenates_S1x1024_S1x1024_S1x2048_d1 := by
  rw [← v10_eq, ← v14_eq]
  show StableHlo.after hostOps0 (fun b => m (c, b)) main_v74 = concatenate S1x2048 1 [⟨S1x1024, (shapeCast S1x1024 (StableHlo.after hostOps0 (fun b => m (c, b)) main_v10) shapeCasts_S16x64_S1x1024 : FVec Ideal S1x1024 .f32)⟩, ⟨S1x1024, (shapeCast S1x1024 (StableHlo.after hostOps0 (fun b => m (c, b)) main_v14) shapeCasts_S16x64_S1x1024 : FVec Ideal S1x1024 .f32)⟩] _
  simp only [StableHlo.after_cons, StableHlo.after_nil]
  after_results_simp
  all_goals rfl

theorem v71_eq : V m c main_v71 = truncf (F := Ideal) .bf16 (concatenate S256x2048 1 [⟨S256x1024, inDiag (bbr m c)⟩, ⟨S256x1024, inDiag (bbi m c)⟩] concatenates_S256x1024_S256x1024_S256x2048_d1) bitsLt_bf16_f32 := by
  rw [← v36_eq, ← v43_eq]
  show StableHlo.after hostOps0 (fun b => m (c, b)) main_v71 = truncf (F := Ideal) .bf16 (concatenate S256x2048 1 [⟨S256x1024, inDiag (StableHlo.after hostOps0 (fun b => m (c, b)) main_v36)⟩, ⟨S256x1024, inDiag (StableHlo.after hostOps0 (fun b => m (c, b)) main_v43)⟩] _) _
  simp only [StableHlo.after_cons, StableHlo.after_nil]
  after_results_simp
  all_goals rfl

theorem v103_eq : V m c main_v103 = truncf (F := Ideal) .bf16 (concatenate S2048x256 0 [⟨S1024x256, outDiag (cR m c)⟩, ⟨S1024x256, (Host.negf (outDiag (cI m c)) : FVec Ideal S1024x256 .f32)⟩] concatenates_S1024x256_S1024x256_S2048x256_d0) bitsLt_bf16_f32 := by
  show StableHlo.after hostOps0 (fun b => m (c, b)) main_v103 = _
  simp only [StableHlo.after_cons, StableHlo.after_nil]
  after_results_simp
  all_goals rfl

theorem v104_eq : V m c main_v104 = (shapeCast S1x256 (dA m c) shapeCasts_S16x16_S1x256 : FVec Ideal S1x256 .f32) := by
  show StableHlo.after hostOps0 (fun b => m (c, b)) main_v104 = _
  simp only [StableHlo.after_cons, StableHlo.after_nil]
  after_results_simp
  all_goals rfl

theorem v105_eq : V m c main_v105 = truncf (F := Ideal) .bf16 (gW m c) bitsLt_bf16_f32 := by
  show StableHlo.after hostOps0 (fun b => m (c, b)) main_v105 = _
  simp only [StableHlo.after_cons, StableHlo.after_nil]
  after_results_simp
  all_goals rfl

theorem v106_eq : V m c main_v106 = (broadcastInDim S1x256 ![1] bcast_S256_S1x256_1 (gB m c) : FVec Ideal S1x256 .f32) := by
  show StableHlo.after hostOps0 (fun b => m (c, b)) main_v106 = _
  simp only [StableHlo.after_cons, StableHlo.after_nil]
  after_results_simp
  all_goals rfl

theorem a_at (q : Fin 1024) :
    (V m c main_v74 : FVec Ideal S1x2048 .f32) (ix2 (0 : Fin 1) (⟨q.val, by omega⟩ : Fin 2048) : S1x2048.Idx) = abr m c (ix2 (Spec.grp q) (Spec.pos q) : S16x64.Idx)
    ∧ (V m c main_v74 : FVec Ideal S1x2048 .f32) (ix2 (0 : Fin 1) (⟨1024 + q.val, by omega⟩ : Fin 2048) : S1x2048.Idx) = abi m c (ix2 (Spec.grp q) (Spec.pos q) : S16x64.Idx) := by
  rw [v74_eq]
  generalize abr m c = x
  generalize abi m c = y
  constructor <;> pointwise [Spec.grp, Spec.pos]

theorem b_at (k : Fin 256) (q : Fin 1024) :
    (V m c main_v71 : FVec Ideal S256x2048 .bf16) (ix2 k (⟨q.val, by omega⟩ : Fin 2048) : S256x2048.Idx)
      = bbr m c (ix3 (Spec.cgrp k) (Spec.pos q) (Spec.cpos k) : S16x64x16.Idx) * (if Spec.cgrp k = Spec.grp q then (1 : EReal) else 0)
    ∧ (V m c main_v71 : FVec Ideal S256x2048 .bf16) (ix2 k (⟨1024 + q.val, by omega⟩ : Fin 2048) : S256x2048.Idx)
      = bbi m c (ix3 (Spec.cgrp k) (Spec.pos q) (Spec.cpos k) : S16x64x16.Idx) * (if Spec.cgrp k = Spec.grp q then (1 : EReal) else 0) := by
  rw [v71_eq, ← inDiag_at, ← inDiag_at]
  generalize inDiag (bbr m c) = x
  generalize inDiag (bbi m c) = y
  constructor <;> pointwise []

theorem c_at (q : Fin 1024) (k : Fin 256) :
    (V m c main_v103 : FVec Ideal S2048x256 .bf16) (ix2 (⟨q.val, by omega⟩ : Fin 2048) k : S2048x256.Idx)
      = cR m c (ix3 (Spec.grp q) (Spec.cpos k) (Spec.pos q) : S16x16x64.Idx) * (if Spec.grp q = Spec.cgrp k then (1 : EReal) else 0)
    ∧ (V m c main_v103 : FVec Ideal S2048x256 .bf16) (ix2 (⟨1024 + q.val, by omega⟩ : Fin 2048) k : S2048x256.Idx)
      = -(cI m c (ix3 (Spec.grp q) (Spec.cpos k) (Spec.pos q) : S16x16x64.Idx) * (if Spec.grp q = Spec.cgrp k then (1 : EReal) else 0)) := by
  rw [v103_eq, ← outDiag_at, ← outDiag_at]
  generalize outDiag (cR m c) = x
  generalize outDiag (cI m c) = y
  constructor <;> pointwise []

theorem d_at (k : Fin 256) :
    (V m c main_v104 : FVec Ideal S1x256 .f32) (ix2 (0 : Fin 1) k : S1x256.Idx) = dA m c (ix2 (Spec.cgrp k) (Spec.cpos k) : S16x16.Idx) := by
  rw [v104_eq]
  generalize dA m c = x
  pointwise [Spec.cgrp, Spec.cpos]

theorem gw_at (j k : Fin 256) :
    (V m c main_v105 : FVec Ideal S256x256 .bf16) (ix2 j k : S256x256.Idx) = gW m c (ix2 j k : S256x256.Idx) := by
  rw [v105_eq]
  generalize gW m c = x
  pointwise []

theorem gb_at (k : Fin 256) :
    (V m c main_v106 : FVec Ideal S1x256 .f32) (ix2 (0 : Fin 1) k : S1x256.Idx) = gB m c (ix1 k : S256.Idx) := by
  rw [v106_eq]
  generalize gB m c = x
  pointwise []
end

end Cert.S5.Host

end
-- ==== Proof.S5Loop.lean ====
/- The S5 kernel's loop over the 512 steps of a block: the state it carries and the rows it writes. -/
module

public import proofs.«01_k».proof.Proof.Gen.KernelIdeal.Frame
public import proofs.«01_k».proof.Proof.S5Pure
public import Idealize.ShloMosaic.Lib.WritesUnit
public import Idealize.ShloMosaic.Lib.VecWindow
public import Idealize.ShloMosaic.Lib.Pipeline.ValueKit

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the row a step reads is that row. -/
theorem ld_row (B : Vec F S512x1024 .f32) (k : Fin k0_t1_loop.trips) : View.ld B (rT k) = row B k.val := by
  have hk : k.val < 512 := Nat.lt_of_lt_of_le k.isLt k0_t1_abs.2.1
  funext j
  unfold View.ld row
  refine congrArg B (funext fun a => Fin.ext ?_)
  have h := k0_off1_eq k
  match a with
  | ⟨0, _⟩ =>
    refine (Rect.idx_unit_val _ _ _ j 0).trans ?_
    have hj : (j 0 : ℕ) < 1 := (j 0).isLt
    have h0 : k0_off1 k 0 = k.val := congrFun h 0
    show k0_off1 k 0 + (j 0 : ℕ) = k.val % 512
    omega
  | ⟨1, _⟩ =>
    refine (Rect.idx_unit_val _ _ _ j 1).trans ?_
    have h0 : k0_off1 k 1 = 0 := congrFun h 1
    show k0_off1 k 1 + (j 1 : ℕ) = (j 1 : ℕ)
    omega

/-- The rows the steps before step `k` write, last first. -/
def pcR (ar ai : Vec F S1x1024 .f32) (s : Vec F S1x1024 .f32 × Vec F S1x1024 .f32) (br bi : Vec F S512x1024 .f32) :
    ℕ → List (View.Piece (Elt F) S512x1024 .f32)
  | 0 => []
  | k + 1 => if h : k < k0_t1_loop.trips then
      ⟨rT ⟨k, h⟩, k0_pay12 ar ai (itv ar ai s br bi k).1 (itv ar ai s br bi k).2 (row br k)⟩ :: pcR ar ai s br bi k
    else pcR ar ai s br bi k
def pcI (ar ai : Vec F S1x1024 .f32) (s : Vec F S1x1024 .f32 × Vec F S1x1024 .f32) (br bi : Vec F S512x1024 .f32) :
    ℕ → List (View.Piece (Elt F) S512x1024 .f32)
  | 0 => []
  | k + 1 => if h : k < k0_t1_loop.trips then
      ⟨rT ⟨k, h⟩, k0_pay13 ar ai (itv ar ai s br bi k).1 (itv ar ai s br bi k).2 (row bi k)⟩ :: pcI ar ai s br bi k
    else pcI ar ai s br bi k

theorem itv_succ (ar ai : Vec F S1x1024 .f32) (s : Vec F S1x1024 .f32 × Vec F S1x1024 .f32) (br bi : Vec F S512x1024 .f32)
    (k : ℕ) : itv ar ai s br bi (k + 1) = (k0_pay10 ar ai (itv ar ai s br bi k).1 (itv ar ai s br bi k).2 (row br k),
      k0_pay11 ar ai (itv ar ai s br bi k).1 (itv ar ai s br bi k).2 (row bi k)) := rfl
theorem pcR_succ (ar ai : Vec F S1x1024 .f32) (s : Vec F S1x1024 .f32 × Vec F S1x1024 .f32) (br bi : Vec F S512x1024 .f32)
    (k : ℕ) (h : k < k0_t1_loop.trips) : pcR ar ai s br bi (k + 1)
      = ⟨rT ⟨k, h⟩, k0_pay12 ar ai (itv ar ai s br bi k).1 (itv ar ai s br bi k).2 (row br k)⟩ :: pcR ar ai s br bi k := dif_pos h
theorem pcI_succ (ar ai : Vec F S1x1024 .f32) (s : Vec F S1x1024 .f32 × Vec F S1x1024 .f32) (br bi : Vec F S512x1024 .f32)
    (k : ℕ) (h : k < k0_t1_loop.trips) : pcI ar ai s br bi (k + 1)
      = ⟨rT ⟨k, h⟩, k0_pay13 ar ai (itv ar ai s br bi k).1 (itv ar ai s br bi k).2 (row bi k)⟩ :: pcI ar ai s br bi k := dif_pos h

set_option maxHeartbeats 1000000 in
/-- The loop's state before step `k`: the recurrence's state and the rows written so far. -/
theorem st_eq (𝒱 : Variants) (c : Dev nD) (bd : Option 𝒱.V) (i : grid0.Coords) (arg2 : Memref sig .tc .vmem S512x256 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S512x256 .f32) (harg10 : arg10.IsWhole) (arg11 : Memref sig .tc .vmem S1x1x2048 .f32) (harg11 : arg11.IsWhole) (arg12 : Memref sig .tc .vmem S1x2048 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (v16 v18 : Vec F S1x1024 .f32)
    (X13 : BufTy.Contents (Elt F) arg13.view.ty) (X14 : BufTy.Contents (Elt F) arg14.view.ty)
    (init : Vec F S1x1024 .f32 × Vec F S1x1024 .f32) :
    ∀ k, k ≤ k0_t1_loop.trips → st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v16 v18 X13 X14 init k
      = (itv v16 v18 init (arg13.view.read (Elt F) X13) (arg14.view.read (Elt F) X14) k,
         pcR v16 v18 init (arg13.view.read (Elt F) X13) (arg14.view.read (Elt F) X14) k,
         pcI v16 v18 init (arg13.view.read (Elt F) X13) (arg14.view.read (Elt F) X14) k) := by
  intro k
  induction k with
  | zero => intro _; rfl
  | succ k ih =>
    intro hk
    have e13 : arg13.view.readAt (Elt F) (rT ⟨k, hk⟩).toLoadRect X13 = row (arg13.view.read (Elt F) X13) k := ld_row _ ⟨k, hk⟩
    have e14 : arg14.view.readAt (Elt F) (rT ⟨k, hk⟩).toLoadRect X14 = row (arg14.view.read (Elt F) X14) k := ld_row _ ⟨k, hk⟩
    refine (st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v16 v18 X13 X14 init ⟨k, hk⟩).trans ?_
    have ih' := ih (Nat.le_of_lt hk)
    dsimp only
    rw [ih']
    unfold tripR_k0_t1 trip_k0_t1
    dsimp only
    rw [pcR_succ _ _ _ _ _ k hk, pcI_succ _ _ _ _ _ k hk]
    rw [itv_succ, ← e13, ← e14]
    generalize itv v16 v18 init (arg13.view.read (Elt F) X13) (arg14.view.read (Elt F) X14) k = s
    generalize pcR v16 v18 init (arg13.view.read (Elt F) X13) (arg14.view.read (Elt F) X14) k = LR
    generalize pcI v16 v18 init (arg13.view.read (Elt F) X13) (arg14.view.read (Elt F) X14) k = LI
    rfl

/-- A row stored at step `k` lies over what was there; the other rows are as before. -/
theorem read_row {sig κ sp} (v : View sig κ sp S512x1024 .f32) (f : v.ty.Contents (Elt F)) (L : List (View.Piece (Elt F) S512x1024 .f32))
    (k : Fin k0_t1_loop.trips) (p : Vec F S1x1024 .f32) (n : Fin 512) (m : Fin 1024) (h : (n : ℕ) = k.val) :
    v.read (Elt F) (v.writes (Elt F) f (⟨rT k, p⟩ :: L)) (ix2 n m) = p (ix2 (0 : Fin 1) m) :=
  View.read_writes_cons_rows_of_mem (d := ![512, 1024]) (size := ![1, 1024]) (o := k.val) v f _ _ _ (ix2 n m) (ix2 (0 : Fin 1) m)
    (k0_off1_eq k) h rfl
theorem read_row_not {sig κ sp} (v : View sig κ sp S512x1024 .f32) (f : v.ty.Contents (Elt F)) (L : List (View.Piece (Elt F) S512x1024 .f32))
    (k : Fin k0_t1_loop.trips) (p : Vec F S1x1024 .f32) (n : Fin 512) (m : Fin 1024) (h : (n : ℕ) < k.val) :
    v.read (Elt F) (v.writes (Elt F) f (⟨rT k, p⟩ :: L)) (ix2 n m) = v.read (Elt F) (v.writes (Elt F) f L) (ix2 n m) :=
  View.read_writes_cons_rows_of_not_mem (d := ![512, 1024]) (size := ![1, 1024]) (o := k.val) (W := 1) v f _ _ _ (ix2 n m)
    (k0_off1_eq k) rfl (Or.inl h)

/-- What the steps write of the real half, read back: row `n` holds the state after step `n`. -/
theorem read_pcR {sig κ sp} (v : View sig κ sp S512x1024 .f32) (f : v.ty.Contents (Elt F)) (ar ai : Vec F S1x1024 .f32)
    (s : Vec F S1x1024 .f32 × Vec F S1x1024 .f32) (br bi : Vec F S512x1024 .f32) (n : Fin 512) (m : Fin 1024) :
    ∀ k, k ≤ k0_t1_loop.trips → (n : ℕ) < k →
      v.read (Elt F) (v.writes (Elt F) f (pcR ar ai s br bi k)) (ix2 n m) = (itv ar ai s br bi ((n : ℕ) + 1)).1 (ix2 (0 : Fin 1) m) := by
  intro k
  induction k with
  | zero => intro _ h; exact absurd h (Nat.not_lt_zero _)
  | succ k ih =>
    intro hk hy
    rw [pcR_succ _ _ _ _ _ k hk]
    by_cases he : (n : ℕ) = k
    · refine (read_row v f _ ⟨k, hk⟩ _ n m he).trans ?_
      subst he
      unfold k0_pay12
      exact congrFun (shapeCast_self _ _) _
    · exact (read_row_not v f _ ⟨k, hk⟩ _ n m (by show (n : ℕ) < k; omega)).trans (ih (Nat.le_of_lt hk) (by omega))

/-- What the steps write of the imaginary half, read back: row `n` holds the state after step `n`. -/
theorem read_pcI {sig κ sp} (v : View sig κ sp S512x1024 .f32) (f : v.ty.Contents (Elt F)) (ar ai : Vec F S1x1024 .f32)
    (s : Vec F S1x1024 .f32 × Vec F S1x1024 .f32) (br bi : Vec F S512x1024 .f32) (n : Fin 512) (m : Fin 1024) :
    ∀ k, k ≤ k0_t1_loop.trips → (n : ℕ) < k →
      v.read (Elt F) (v.writes (Elt F) f (pcI ar ai s br bi k)) (ix2 n m) = (itv ar ai s br bi ((n : ℕ) + 1)).2 (ix2 (0 : Fin 1) m) := by
  intro k
  induction k with
  | zero => intro _ h; exact absurd h (Nat.not_lt_zero _)
  | succ k ih =>
    intro hk hy
    rw [pcI_succ _ _ _ _ _ k hk]
    by_cases he : (n : ℕ) = k
    · refine (read_row v f _ ⟨k, hk⟩ _ n m he).trans ?_
      subst he
      unfold k0_pay13
      exact congrFun (shapeCast_self _ _) _
    · exact (read_row_not v f _ ⟨k, hk⟩ _ n m (by show (n : ℕ) < k; omega)).trans (ih (Nat.le_of_lt hk) (by omega))

theorem trips_eq : Scf.trips k0_t1_loop.lb k0_t1_loop.ub k0_t1_loop.st = 512 := by decide +kernel

/-- A load of all the rows the steps wrote, and of the last of them. -/
theorem all_pcR {sig κ sp} (v : View sig κ sp S512x1024 .f32) (f : v.ty.Contents (Elt F)) (ar ai : Vec F S1x1024 .f32)
    (s : Vec F S1x1024 .f32 × Vec F S1x1024 .f32) (br bi : Vec F S512x1024 .f32) :
    v.readAt (Elt F) rX.toLoadRect (v.writes (Elt F) f (pcR ar ai s br bi 512))
      = fun y => (itv ar ai s br bi ((y 0 : ℕ) + 1)).1 (ix2 (0 : Fin 1) (y 1)) := by
  rw [View.readAt_full]
  funext y
  obtain ⟨n, m, rfl⟩ : ∃ (n : Fin 512) (m : Fin 1024), y = ix2 n m := ⟨y 0, y 1, by funext a; match a with | ⟨0, _⟩ => rfl | ⟨1, _⟩ => rfl⟩
  exact read_pcR v f ar ai s br bi n m 512 (le_of_eq trips_eq.symm) n.isLt

theorem last_pcR {sig κ sp} (v : View sig κ sp S512x1024 .f32) (f : v.ty.Contents (Elt F)) (ar ai : Vec F S1x1024 .f32)
    (s : Vec F S1x1024 .f32 × Vec F S1x1024 .f32) (br bi : Vec F S512x1024 .f32) :
    v.readAt (Elt F) rL.toLoadRect (v.writes (Elt F) f (pcR ar ai s br bi 512)) = (itv ar ai s br bi 512).1 := by
  funext y
  have e : rL.idx y = (ix2 (511 : Fin 512) (y 1) : S512x1024.Idx) := by
    funext a; refine Fin.ext ?_
    match a with
    | ⟨0, _⟩ =>
      refine (Rect.idx_unit_val _ _ _ y 0).trans ?_
      have hj : (y 0 : ℕ) < 1 := (y 0).isLt
      show 511 + (y 0 : ℕ) = 511
      omega
    | ⟨1, _⟩ =>
      refine (Rect.idx_unit_val _ _ _ y 1).trans ?_
      show 0 + (y 1 : ℕ) = (y 1 : ℕ)
      omega
  show v.read (Elt F) _ (rL.idx y) = _
  rw [e]
  refine (read_pcR v f ar ai s br bi 511 (y 1) 512 (le_of_eq trips_eq.symm) (by decide)).trans ?_
  refine congrArg (itv ar ai s br bi 512).1 ?_
  funext a; refine Fin.ext ?_
  match a with
  | ⟨0, _⟩ =>
    have hj : (y 0 : ℕ) < 1 := (y 0).isLt
    show 0 = (y 0 : ℕ)
    omega
  | ⟨1, _⟩ => rfl

theorem all_pcI {sig κ sp} (v : View sig κ sp S512x1024 .f32) (f : v.ty.Contents (Elt F)) (ar ai : Vec F S1x1024 .f32)
    (s : Vec F S1x1024 .f32 × Vec F S1x1024 .f32) (br bi : Vec F S512x1024 .f32) :
    v.readAt (Elt F) rX.toLoadRect (v.writes (Elt F) f (pcI ar ai s br bi 512))
      = fun y => (itv ar ai s br bi ((y 0 : ℕ) + 1)).2 (ix2 (0 : Fin 1) (y 1)) := by
  rw [View.readAt_full]
  funext y
  obtain ⟨n, m, rfl⟩ : ∃ (n : Fin 512) (m : Fin 1024), y = ix2 n m := ⟨y 0, y 1, by funext a; match a with | ⟨0, _⟩ => rfl | ⟨1, _⟩ => rfl⟩
  exact read_pcI v f ar ai s br bi n m 512 (le_of_eq trips_eq.symm) n.isLt

theorem last_pcI {sig κ sp} (v : View sig κ sp S512x1024 .f32) (f : v.ty.Contents (Elt F)) (ar ai : Vec F S1x1024 .f32)
    (s : Vec F S1x1024 .f32 × Vec F S1x1024 .f32) (br bi : Vec F S512x1024 .f32) :
    v.readAt (Elt F) rL.toLoadRect (v.writes (Elt F) f (pcI ar ai s br bi 512)) = (itv ar ai s br bi 512).2 := by
  funext y
  have e : rL.idx y = (ix2 (511 : Fin 512) (y 1) : S512x1024.Idx) := by
    funext a; refine Fin.ext ?_
    match a with
    | ⟨0, _⟩ =>
      refine (Rect.idx_unit_val _ _ _ y 0).trans ?_
      have hj : (y 0 : ℕ) < 1 := (y 0).isLt
      show 511 + (y 0 : ℕ) = 511
      omega
    | ⟨1, _⟩ =>
      refine (Rect.idx_unit_val _ _ _ y 1).trans ?_
      show 0 + (y 1 : ℕ) = (y 1 : ℕ)
      omega
  show v.read (Elt F) _ (rL.idx y) = _
  rw [e]
  refine (read_pcI v f ar ai s br bi 511 (y 1) 512 (le_of_eq trips_eq.symm) (by decide)).trans ?_
  refine congrArg (itv ar ai s br bi 512).2 ?_
  funext a; refine Fin.ext ?_
  match a with
  | ⟨0, _⟩ =>
    have hj : (y 0 : ℕ) < 1 := (y 0).isLt
    show 0 = (y 0 : ℕ)
    omega
  | ⟨1, _⟩ => rfl

/-- The loop's end: the state after 512 steps and all the rows, the drives read from what the body stored in arg13 and arg14. -/
theorem st_full (𝒱 : Variants) (c : Dev nD) (bd : Option 𝒱.V) (i : grid0.Coords) (arg2 : Memref sig .tc .vmem S512x256 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S512x256 .f32) (harg10 : arg10.IsWhole) (arg11 : Memref sig .tc .vmem S1x1x2048 .f32) (harg11 : arg11.IsWhole) (arg12 : Memref sig .tc .vmem S1x2048 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (v16 v18 : Vec F S1x1024 .f32)
    (X13 : BufTy.Contents (Elt F) arg13.view.ty) (X14 : BufTy.Contents (Elt F) arg14.view.ty)
    (init : Vec F S1x1024 .f32 × Vec F S1x1024 .f32) (br bi : Vec F S512x1024 .f32)
    (hr : arg13.view.read (Elt F) X13 = br) (hi : arg14.view.read (Elt F) X14 = bi) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v16 v18 X13 X14 init (Scf.trips k0_t1_loop.lb k0_t1_loop.ub k0_t1_loop.st)
      = (itv v16 v18 init br bi 512, pcR v16 v18 init br bi 512, pcI v16 v18 init br bi 512) := by
  subst hr hi
  rw [trips_eq]
  exact st_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v16 v18 X13 X14 init 512 (le_of_eq trips_eq.symm)

/-- Two stores that cover a buffer leave their own contents, whatever lies under them. -/
theorem read_two {sig κ sp} {s : Shape} {e : EltTy} (v : View sig κ sp s e) (f : v.ty.Contents (Elt F)) (p q : View.Piece (Elt F) s e)
    (L : List (View.Piece (Elt F) s e)) (h : ∀ y, ∃ w ∈ [p, q], y ∈ w.1.set) :
    v.read (Elt F) (v.writes (Elt F) f (p :: q :: L)) = View.canon [p, q] :=
  View.read_writes_eq_canon v (v.writes (Elt F) f L) [p, q] h

end Cert.S5

end
-- ==== Proof.S5Body.lean ====
/- The S5 kernel's body at one grid point. -/
module

public import proofs.«01_k».proof.Proof.Gen.KernelIdeal.Frame
public import proofs.«01_k».proof.Proof.S5Loop

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 2000000 in
/-- The body at a point that is not the first of its row of points: the state it starts from is what arg12 holds. -/
theorem sound_B (c : Dev nD) (E : Set ℕ) (i : grid0.Coords) (arg2 : Memref sig .tc .vmem S512x256 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S512x256 .f32) (harg10 : arg10.IsWhole) (arg11 : Memref sig .tc .vmem S1x1x2048 .f32) (harg11 : arg11.IsWhole) (arg12 : Memref sig .tc .vmem S1x2048 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole)
    (hc : ¬ (Scalar.cmpi .ne (Scalar.extui (Scalar.cmpi .eq (BitVec.ofNat 32 (i 1).val) 0#32) : BitVec 32) 0#32 = 1#1))
    (x0 : Vec F S512x256 .f32) (x1 : Vec F S1x1x2048 .f32) (x2 : Vec F S1x2048 .f32) (x3 : Vec F S256x2048 .bf16) (x4 : Vec F S2048x256 .bf16) (x5 : Vec F S1x256 .f32) (x6 : Vec F S256x256 .bf16) (x7 : Vec F S1x256 .f32) (x8 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outO x0 x2 x3 x4 x5 x6 x7 x8) ∗ owns (c : Thread nD τ) arg11 fullShare (outX x0 x2 x3 x8) ∗ owns (c : Thread nD τ) arg12 fullShare (stNext x0 x2 x3 x8) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_s5 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_s5_eq_skeleton]; unfold cc0_s5_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf12
  sl_exec
  have hst := st_full (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.readAt (Elt F) rA0.toLoadRect f2) (arg4.view.readAt (Elt F) rA1.toLoadRect f2)
    (arg13.view.writes (Elt F) arg13.view.junk (sound_B.sl.H13_1 c arg2 arg5 f0 f3)) (arg14.view.writes (Elt F) arg14.view.junk (sound_B.sl.H14_1 c arg2 arg5 f0 f3))
    (arg12.view.readAt (Elt F) rA0.toLoadRect f12, arg12.view.readAt (Elt F) rA1.toLoadRect f12)
    (dr (arg2.view.read (Elt F) f0) (arg5.view.read (Elt F) f3)) (di (arg2.view.read (Elt F) f0) (arg5.view.read (Elt F) f3))
    (View.read_writes_full arg13.view _ _ _ _) (View.read_writes_full arg14.view _ _ _ _)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ ?_).trans ?_
    · exact View.cover_of_tiled _ S512x256.size (by rfl)
    refine congrArg₂ (fun XR XI : Vec F S512x1024 .f32 => View.canon (Val := Elt F) (s := S512x256) (e := .f32) [⟨rU, k0_pay1 (k0_pay16 (View.ld (arg2.view.read (Elt F) f0) rU) XR (View.ld (arg6.view.read (Elt F) f4) rC0) XI (View.ld (arg6.view.read (Elt F) f4) rC1) (View.ld (arg7.view.read (Elt F) f5) rD)) (k0_pay17 (View.ld (arg2.view.read (Elt F) f0) rU) XR (View.ld (arg6.view.read (Elt F) f4) rC0) XI (View.ld (arg6.view.read (Elt F) f4) rC1) (View.ld (arg7.view.read (Elt F) f5) rD) (View.ld (arg8.view.read (Elt F) f6) rG)) (k0_pay18 (View.ld (arg9.view.read (Elt F) f7) rD))⟩]) ?_ ?_
    · unfold sound_B.sl.v30; rw [hst]; exact all_pcR _ _ _ _ _ _ _
    · unfold sound_B.sl.v35; rw [hst]; exact all_pcI _ _ _ _ _ _ _
  isplitl [H9]
  · iexists _; isplitr
    swap; · iexact H9
    ipureintro
    refine (View.read_writes_eq_canon _ _ _ ?_).trans ?_
    · exact View.cover_of_tiled _ S1x1x1024.size (by rfl)
    refine congrArg₂ (fun p q : Vec F S1x1024 .f32 => View.canon (Val := Elt F) (s := S1x1x2048) (e := .f32) [⟨rF1, k0_pay3 p⟩, ⟨rF0, k0_pay2 q⟩]) ?_ ?_
    · unfold sound_B.sl.v80; rw [hst]; exact last_pcI _ _ _ _ _ _ _
    · unfold sound_B.sl.v76; rw [hst]; exact last_pcR _ _ _ _ _ _ _
  isplitl [H12]
  · iexists _; isplitr
    swap; · iexact H12
    ipureintro
    refine (View.read_writes_eq_canon _ _ _ ?_).trans ?_
    · exact View.cover_of_tiled _ S1x1024.size (by rfl)
    unfold sound_B.sl.r_1
    rw [hst]
    rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

set_option maxHeartbeats 2000000 in
/-- The body at the first point of a row: it starts from the state given, whatever arg12 held. -/
theorem sound_A (c : Dev nD) (E : Set ℕ) (i : grid0.Coords) (arg2 : Memref sig .tc .vmem S512x256 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S512x256 .f32) (harg10 : arg10.IsWhole) (arg11 : Memref sig .tc .vmem S1x1x2048 .f32) (harg11 : arg11.IsWhole) (arg12 : Memref sig .tc .vmem S1x2048 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole)
    (hc : Scalar.cmpi .ne (Scalar.extui (Scalar.cmpi .eq (BitVec.ofNat 32 (i 1).val) 0#32) : BitVec 32) 0#32 = 1#1)
    (x0 : Vec F S512x256 .f32) (x1 : Vec F S1x1x2048 .f32) (x2 : Vec F S1x2048 .f32) (x3 : Vec F S256x2048 .bf16) (x4 : Vec F S2048x256 .bf16) (x5 : Vec F S1x256 .f32) (x6 : Vec F S256x256 .bf16) (x7 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outO x0 x2 x3 x4 x5 x6 x7 (st0 x1)) ∗ owns (c : Thread nD τ) arg11 fullShare (outX x0 x2 x3 (st0 x1)) ∗ owns (c : Thread nD τ) arg12 fullShare (stNext x0 x2 x3 (st0 x1)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_s5 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_s5_eq_skeleton]; unfold cc0_s5_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d12, %f12, -, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7
  sl_exec
  have hst := st_full (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.readAt (Elt F) rA0.toLoadRect f2) (arg4.view.readAt (Elt F) rA1.toLoadRect f2)
    (arg13.view.writes (Elt F) arg13.view.junk (sound_A.sl.H13_1 c arg2 arg5 f0 f3)) (arg14.view.writes (Elt F) arg14.view.junk (sound_A.sl.H14_1 c arg2 arg5 f0 f3))
    (sound_A.sl.v20 c arg3 arg12 f1, sound_A.sl.v21 c arg3 arg12 f1)
    (dr (arg2.view.read (Elt F) f0) (arg5.view.read (Elt F) f3)) (di (arg2.view.read (Elt F) f0) (arg5.view.read (Elt F) f3))
    (View.read_writes_full arg13.view _ _ _ _) (View.read_writes_full arg14.view _ _ _ _)
  have h20 : sound_A.sl.v20 c arg3 arg12 f1 = View.ld (st0 (arg3.view.read (Elt F) f1)) rA0 := by
    unfold sound_A.sl.v20 sound_A.sl.H12_1
    exact congrArg (fun s => View.ld s rA0) (View.read_writes_eq_canon _ _ _ (View.cover_of_tiled _ S1x2048.size (by rfl)))
  have h21 : sound_A.sl.v21 c arg3 arg12 f1 = View.ld (st0 (arg3.view.read (Elt F) f1)) rA1 := by
    unfold sound_A.sl.v21 sound_A.sl.H12_1
    exact congrArg (fun s => View.ld s rA1) (View.read_writes_eq_canon _ _ _ (View.cover_of_tiled _ S1x2048.size (by rfl)))
  rw [h20, h21] at hst
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ ?_).trans ?_
    · exact View.cover_of_tiled _ S512x256.size (by rfl)
    refine congrArg₂ (fun XR XI : Vec F S512x1024 .f32 => View.canon (Val := Elt F) (s := S512x256) (e := .f32) [⟨rU, k0_pay1 (k0_pay16 (View.ld (arg2.view.read (Elt F) f0) rU) XR (View.ld (arg6.view.read (Elt F) f4) rC0) XI (View.ld (arg6.view.read (Elt F) f4) rC1) (View.ld (arg7.view.read (Elt F) f5) rD)) (k0_pay17 (View.ld (arg2.view.read (Elt F) f0) rU) XR (View.ld (arg6.view.read (Elt F) f4) rC0) XI (View.ld (arg6.view.read (Elt F) f4) rC1) (View.ld (arg7.view.read (Elt F) f5) rD) (View.ld (arg8.view.read (Elt F) f6) rG)) (k0_pay18 (View.ld (arg9.view.read (Elt F) f7) rD))⟩]) ?_ ?_
    · unfold sound_A.sl.v30; rw [h20, h21, hst]; exact all_pcR _ _ _ _ _ _ _
    · unfold sound_A.sl.v35; rw [h20, h21, hst]; exact all_pcI _ _ _ _ _ _ _
  isplitl [H9]
  · iexists _; isplitr
    swap; · iexact H9
    ipureintro
    refine (View.read_writes_eq_canon _ _ _ ?_).trans ?_
    · exact View.cover_of_tiled _ S1x1x1024.size (by rfl)
    refine congrArg₂ (fun p q : Vec F S1x1024 .f32 => View.canon (Val := Elt F) (s := S1x1x2048) (e := .f32) [⟨rF1, k0_pay3 p⟩, ⟨rF0, k0_pay2 q⟩]) ?_ ?_
    · unfold sound_A.sl.v80; rw [h20, h21, hst]; exact last_pcI _ _ _ _ _ _ _
    · unfold sound_A.sl.v76; rw [h20, h21, hst]; exact last_pcR _ _ _ _ _ _ _
  isplitl [H12]
  · iexists _; isplitr
    swap; · iexact H12
    ipureintro
    refine (read_two _ _ _ _ _ ?_).trans ?_
    · exact View.cover_of_tiled _ S1x1024.size (by rfl)
    unfold sound_A.sl.r_1
    rw [h20, h21, hst]
    rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

end Cert.S5

end
-- ==== Proof.S5Run.lean ====
/- The run of the S5 kernel, over any arithmetic: what each grid point finds in the scratch that carries the state, and
   what the windows' arrays end up holding. -/
module

public import proofs.«01_k».proof.Proof.S5Body
public import proofs.«01_k».proof.Proof.Gen.KernelIdeal.Frame

@[expose] public section

set_option maxRecDepth 16384

noncomputable section

namespace Cert.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`, counted round the grid. -/
def pt (n : ℕ) : Fin cfg0.N := ⟨n % 32, by show n % 32 < grid0.N; rw [N_0]; exact Nat.mod_lt _ (by decide)⟩

theorem pt_val (t : Fin cfg0.N) : pt t.val = t := Fin.ext (Nat.mod_eq_of_lt (N_0 ▸ t.isLt))

/-- The state before point `n`: at the first point of a row of four the sequence's initial state, then what the point before left. -/
def stS (c : Dev nD) : ℕ → Vec F S1x2048 .f32
  | 0 => st0 (iblk m c 1 (pt 0))
  | n + 1 => if (n + 1) % 4 = 0 then st0 (iblk m c 1 (pt (n + 1)))
      else stNext (X0_0 m c (pt n)) (iblk m c 2 (pt n)) (iblk m c 3 (pt n)) (stS c n)

theorem stS_first (c : Dev nD) (t : Fin cfg0.N) (h : t.val % 4 = 0) : stS m c t.val = st0 (iblk m c 1 t) := by
  rcases hn : t.val with _ | n
  · have e : t = pt 0 := by rw [← pt_val t, hn]
    rw [e]; rfl
  · have e : t = pt (n + 1) := by rw [← pt_val t, hn]
    rw [e]
    exact if_pos (hn ▸ h)

theorem stS_next (c : Dev nD) (t : Fin cfg0.N) (h : (t.val + 1) % 4 ≠ 0) :
    stS m c (t.val + 1) = stNext (X0_0 m c t) (iblk m c 2 t) (iblk m c 3 t) (stS m c t.val) := by
  refine (if_neg h).trans ?_
  rw [pt_val]

/-- The first point of a row is where the kernel sets its state. -/
theorem first_iff : ∀ t : Fin cfg0.N, (Scalar.cmpi .ne (Scalar.extui (Scalar.cmpi .eq (BitVec.ofNat 32 (grid0.coords t 1).val) 0#32) : BitVec 32) 0#32 = 1#1)
    ↔ t.val % 4 = 0 := by decide +kernel

/-- What holds before point `t`, beside the windows: the first scratch holds the state (unless the point sets it), the
    other four hold anything. -/
def inv (c : Dev nD) (t : ℕ) : sProp 𝕄 :=
  iprop((∃ d, ⌜t % 4 ≠ 0 → d = stS m c t⌝ ∗ owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outO (X0_0 m c t) (iblk m c 2 t) (iblk m c 3 t) (iblk m c 4 t) (iblk m c 5 t) (iblk m c 6 t) (iblk m c 7 t) (stS m c t.val)
    | ⟨9, _⟩ => outX (X0_0 m c t) (iblk m c 2 t) (iblk m c 3 t) (stS m c t.val)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outO (X0_0 m c t) (iblk m c 2 t) (iblk m c 3 t) (iblk m c 4 t) (iblk m c 5 t) (iblk m c 6 t) (iblk m c 7 t) (stS m c t.val) := by dsimp only [dats]
theorem after_9 (c : Dev nD) (t : Fin cfg0.N) : (dats m 0 c).after 9 t = outX (X0_0 m c t) (iblk m c 2 t) (iblk m c 3 t) (stS m c t.val) := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7, after_8, after_9]
  unfold inv
  iintro ⟨⟨⟨%d12, %hd, H12⟩, H13, H14, H15, H16, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h : t.val % 4 = 0
  · rw [stS_first m c t h]
    iapply (sound_A c Set.univ (grid0.coords t) _ _ _ _ _ _ _ _ _ _ _ _ _ _ _ _ _ _ _ _ _ _ _ _ _ _ _ _ _ _ ((first_iff t).mpr h) (X0_0 m c t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H12]; · iexists _; iexact H12
    isplitl [H13]; · iexact H13
    isplitl [H14]; · iexact H14
    isplitl [H15]; · iexact H15
    isplitl [H16]; · iexact H16
    iintro ⟨H0, H1, H2, H3, H4, H5, H6, H7, H8, H9, H12, H13, H14, H15, H16⟩
    isplitl [H12 H13 H14 H15 H16 Hr]
    · isplitl [H12]
      · iexists _; isplitr
        swap; · iexact H12
        ipureintro; intro hn; exact ((stS_next m c t hn).trans (by rw [stS_first m c t h])).symm
      isplitl [H13]; · iexact H13
      isplitl [H14]; · iexact H14
      isplitl [H15]; · iexact H15
      isplitl [H16]; · iexact H16
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain rfl := hd h
    iapply (sound_B c Set.univ (grid0.coords t) _ _ _ _ _ _ _ _ _ _ _ _ _ _ _ _ _ _ _ _ _ _ _ _ _ _ _ _ _ _ (fun e => h ((first_iff t).mp e)) (X0_0 m c t) (iblk m c 1 t) (iblk m c 2 t) (iblk m c 3 t) (iblk m c 4 t) (iblk m c 5 t) (iblk m c 6 t) (iblk m c 7 t) (stS m c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H12]; · iexact H12
    isplitl [H13]; · iexact H13
    isplitl [H14]; · iexact H14
    isplitl [H15]; · iexact H15
    isplitl [H16]; · iexact H16
    iintro ⟨H0, H1, H2, H3, H4, H5, H6, H7, H8, H9, H12, H13, H14, H15, H16⟩
    isplitl [H12 H13 H14 H15 H16 Hr]
    · isplitl [H12]
      · iexists _; isplitr
        swap; · iexact H12
        ipureintro; intro hn; exact (stS_next m c t hn).symm
      isplitl [H13]; · iexact H13
      isplitl [H14]; · iexact H14
      isplitl [H15]; · iexact H15
      isplitl [H16]; · iexact H16
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch holds anything. -/
theorem inv_in (c : Dev nD) : Pipeline.ΦA spec0 c ⊢ (inv m c 0 : sProp 𝕄) := by
  unfold Pipeline.ΦA inv
  rw [scopedRest0_eq]
  simp only [owns_whole]
  iintro ⟨⟨⟨%f0, H0⟩, ⟨%f1, H1⟩, ⟨%f2, H2⟩, ⟨%f3, H3⟩, ⟨%f4, H4⟩⟩, Hr⟩
  isplitl [H0]
  · iexists f0; isplitr
    · ipureintro; intro h; exact absurd rfl h
    iexact H0
  isplitl [H1]; · iexists f1; iexact H1
  isplitl [H2]; · iexists f2; iexact H2
  isplitl [H3]; · iexists f3; iexact H3
  isplitl [H4]; · iexists f4; iexact H4
  iexact Hr

/-- After the last point it is given back. -/
theorem inv_out (c : Dev nD) (n : ℕ) : (inv m c n : sProp 𝕄) ⊢ Pipeline.ΦA spec0 c := by
  unfold Pipeline.ΦA inv
  rw [scopedRest0_eq]
  simp only [owns_whole]
  iintro ⟨⟨%f0, %h0, H0⟩, ⟨%f1, H1⟩, ⟨%f2, H2⟩, ⟨%f3, H3⟩, ⟨%f4, H4⟩, Hr⟩
  isplitr [Hr]
  · isplitl [H0]; · iexists f0; iexact H0
    isplitl [H1]; · iexists f1; iexact H1
    isplitl [H2]; · iexists f2; iexact H2
    isplitl [H3]; · iexists f3; iexact H3
    iexists f4; iexact H4
  iexact Hr

set_option backward.isDefEq.respectTransparency.types false in
set_option maxHeartbeats 800000 in
/-- Every execution ends, each window's array holding what the proof data says, all semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

end Cert.S5

end
-- ==== Proof.S5RefVal.lean ====
/- The reference's loop and what follows it, as the plain arithmetic of the recurrence. -/
module

public import proofs.«01_k».proof.Proof.S5Spec
public import proofs.«01_k».proof.Proof.Gen.ReferenceIdeal.Step
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.S5.RefVal

/-- A dynamic start inside the axis is that start. -/
theorem start_val (n : ℕ) (h : n < 2048) : (BitVec.ofNat 32 n).toInt = (n : ℤ) := by
  rw [BitVec.toInt_eq_toNat_cond, BitVec.toNat_ofNat]
  split <;> omega

/-- Where step `n`'s slice starts. -/
def st (n : ℕ) : Fin 4 → Int :=
  fun k => BitVec.toInt ((![constantI S_ 32 (BitVec.ofNat 32 n), constantI S_ 32 0#32, constantI S_ 32 0#32, constantI S_ 32 0#32]
    : Fin 4 → (⟨S_, .i32⟩ : BufTy).Contents (Elt Ideal)) k (Shape.Idx.first h_S_))

theorem cl0 (n : ℕ) (h : n < 2048) (hr : S1x8x16x64.rank = S2048x8x16x64.rank) : Host.clampedStart S2048x8x16x64 S1x8x16x64 hr (st n) 0 = n :=
  Host.clampedStart_of_le hr (st n) 0 n (start_val n h) (by show n + 1 ≤ 2048; omega)
theorem cl1 (n : ℕ) (hr : S1x8x16x64.rank = S2048x8x16x64.rank) : Host.clampedStart S2048x8x16x64 S1x8x16x64 hr (st n) 1 = 0 :=
  Host.clampedStart_of_le hr (st n) 1 0 rfl (by show 0 + 8 ≤ 8; omega)
theorem cl2 (n : ℕ) (hr : S1x8x16x64.rank = S2048x8x16x64.rank) : Host.clampedStart S2048x8x16x64 S1x8x16x64 hr (st n) 2 = 0 :=
  Host.clampedStart_of_le hr (st n) 2 0 rfl (by show 0 + 16 ≤ 16; omega)
theorem cl3 (n : ℕ) (hr : S1x8x16x64.rank = S2048x8x16x64.rank) : Host.clampedStart S2048x8x16x64 S1x8x16x64 hr (st n) 3 = 0 :=
  Host.clampedStart_of_le hr (st n) 3 0 rfl (by show 0 + 64 ≤ 64; omega)

/-- The slice step `n` takes of the drives is row `n`. -/
theorem slice_at (n : ℕ) (h : n < 2048) (x : FVec Ideal S2048x8x16x64 .f32) (b : Fin 8) (g : Fin 16) (p : Fin 64) :
    shapeCast S8x16x64 (Host.dynamicSlice S1x8x16x64 x (st n) sliceFits_S2048x8x16x64_S1x8x16x64) shapeCasts_S1x8x16x64_S8x16x64 (ix3 b g p : S8x16x64.Idx)
      = x (ix4 (⟨n, h⟩ : Fin 2048) b g p : S2048x8x16x64.Idx) := by
  pointwise []
  simp only [cl0 n h, cl1, cl2, cl3, zero_add]

/-- Writing row `n` of a stack. -/
theorem update_at (n : ℕ) (h : n < 2048) (x : FVec Ideal S2048x8x16x64 .f32) (v : FVec Ideal S8x16x64 .f32) (t : Fin 2048) (b : Fin 8) (g : Fin 16) (p : Fin 64) :
    Host.dynamicUpdateSlice x (broadcastInDim S1x8x16x64 ![1, 2, 3] bcast_S8x16x64_S1x8x16x64_1_2_3 v) (st n) updateFits_S2048x8x16x64_S1x8x16x64 (ix4 t b g p : S2048x8x16x64.Idx)
      = if t.val = n then v (ix3 b g p) else x (ix4 t b g p) := by
  pointwise []
  simp only [cl0 n h, cl1, cl2, cl3, zero_add, Nat.zero_le, true_and, Nat.sub_zero, Fin.isLt, and_true]
  by_cases e : t.val = n
  · rw [if_pos e, dif_pos (by omega)]
  · rw [if_neg e, dif_neg (by omega)]

/-- A trip's state, at an index: one step of the recurrence, the stacks written at the trip's row. -/
theorem re_at (n : ℕ) (h : n < 2048) (s : Step.State Ideal) (b : Fin 8) (g : Fin 16) (p : Fin 64) :
    (Step.step n s).main_v60_5 (ix3 b g p : S8x16x64.Idx)
      = (Spec.stp (s.main_v60_2 (ix2 g p : S16x64.Idx)) (s.main_v60_3 (ix2 g p : S16x64.Idx)) (s.main_v60_0 (ix4 (⟨n, h⟩ : Fin 2048) b g p : S2048x8x16x64.Idx)) (s.main_v60_1 (ix4 (⟨n, h⟩ : Fin 2048) b g p : S2048x8x16x64.Idx))
          (s.main_v60_5 (ix3 b g p : S8x16x64.Idx), s.main_v60_6 (ix3 b g p : S8x16x64.Idx))).1 := by
  have hb : Step.b4 n s (ix3 b g p : S8x16x64.Idx) = _ := slice_at n h s.main_v60_0 b g p
  rw [Step.step_main_v60_5]
  pointwise [Step.b17, Step.b16, Step.b15, Step.b14, Step.b13, Step.b12, Step.b11, Step.b10, hb, Spec.stp]

theorem im_at (n : ℕ) (h : n < 2048) (s : Step.State Ideal) (b : Fin 8) (g : Fin 16) (p : Fin 64) :
    (Step.step n s).main_v60_6 (ix3 b g p : S8x16x64.Idx)
      = (Spec.stp (s.main_v60_2 (ix2 g p : S16x64.Idx)) (s.main_v60_3 (ix2 g p : S16x64.Idx)) (s.main_v60_0 (ix4 (⟨n, h⟩ : Fin 2048) b g p : S2048x8x16x64.Idx)) (s.main_v60_1 (ix4 (⟨n, h⟩ : Fin 2048) b g p : S2048x8x16x64.Idx))
          (s.main_v60_5 (ix3 b g p : S8x16x64.Idx), s.main_v60_6 (ix3 b g p : S8x16x64.Idx))).2 := by
  have hb : Step.b9 n s (ix3 b g p : S8x16x64.Idx) = _ := slice_at n h s.main_v60_1 b g p
  rw [Step.step_main_v60_6]
  pointwise [Step.b25, Step.b24, Step.b23, Step.b22, Step.b21, Step.b20, Step.b19, Step.b18, hb, Spec.stp]

theorem stackr_at (n : ℕ) (h : n < 2048) (s : Step.State Ideal) (t : Fin 2048) (b : Fin 8) (g : Fin 16) (p : Fin 64) :
    (Step.step n s).main_v60_7 (ix4 t b g p : S2048x8x16x64.Idx)
      = if t.val = n then (Step.step n s).main_v60_5 (ix3 b g p : S8x16x64.Idx) else s.main_v60_7 (ix4 t b g p : S2048x8x16x64.Idx) := by
  rw [Step.step_main_v60_5, Step.step_main_v60_7]
  exact update_at n h s.main_v60_7 (Step.b17 n s) t b g p

theorem stacki_at (n : ℕ) (h : n < 2048) (s : Step.State Ideal) (t : Fin 2048) (b : Fin 8) (g : Fin 16) (p : Fin 64) :
    (Step.step n s).main_v60_8 (ix4 t b g p : S2048x8x16x64.Idx)
      = if t.val = n then (Step.step n s).main_v60_6 (ix3 b g p : S8x16x64.Idx) else s.main_v60_8 (ix4 t b g p : S2048x8x16x64.Idx) := by
  rw [Step.step_main_v60_6, Step.step_main_v60_8]
  exact update_at n h s.main_v60_8 (Step.b25 n s) t b g p

/-- The packed projection's columns the layer reads. -/
def U (a0 : FVec Ideal S16384x3200 .f32) : Fin 16384 → Fin 256 → EReal := fun i k => a0 (ix2 i (⟨1792 + k.val, by omega⟩ : Fin 3200) : S16384x3200.Idx)

theorem bur_at (a0 : FVec Ideal S16384x3200 .f32) (a1 : FVec Ideal S8x1x2048 .f32) (a2 a3 : FVec Ideal S16x64 .f32) (a4 : FVec Ideal S16 .f32)
    (a5 a6 : FVec Ideal S16x64x16 .f32) (t : Fin 2048) (b : Fin 8) (g : Fin 16) (p : Fin 64) :
    Step.A_main_v56 (F := Ideal) a0 a1 a2 a3 a4 a5 a6 (ix4 t b g p : S2048x8x16x64.Idx)
      = Spec.drv (fun g p r => Step.A_main_v44 (F := Ideal) a0 a1 a2 a3 a4 a5 a6 (ix3 g p r : S16x64x16.Idx))
          (U a0) b t.val g p := by
  unfold Step.A_main_v56 Step.A_main_v53 Step.A_main_v52 Step.A_main_v1 Step.A_main_v0
  generalize Step.A_main_v44 (F := Ideal) a0 a1 a2 a3 a4 a5 a6 = B
  pointwise [Spec.drv, Spec.row, Spec.chan, U]
  simp only [Nat.mod_eq_of_lt t.isLt]

theorem bui_at (a0 : FVec Ideal S16384x3200 .f32) (a1 : FVec Ideal S8x1x2048 .f32) (a2 a3 : FVec Ideal S16x64 .f32) (a4 : FVec Ideal S16 .f32)
    (a5 a6 : FVec Ideal S16x64x16 .f32) (t : Fin 2048) (b : Fin 8) (g : Fin 16) (p : Fin 64) :
    Step.A_main_v57 (F := Ideal) a0 a1 a2 a3 a4 a5 a6 (ix4 t b g p : S2048x8x16x64.Idx)
      = Spec.drv (fun g p r => Step.A_main_v51 (F := Ideal) a0 a1 a2 a3 a4 a5 a6 (ix3 g p r : S16x64x16.Idx))
          (U a0) b t.val g p := by
  unfold Step.A_main_v57 Step.A_main_v55 Step.A_main_v54 Step.A_main_v1 Step.A_main_v0
  generalize Step.A_main_v51 (F := Ideal) a0 a1 a2 a3 a4 a5 a6 = B
  pointwise [Spec.drv, Spec.row, Spec.chan, U]
  simp only [Nat.mod_eq_of_lt t.isLt]

/-- The initial state's halves. -/
def xr0 (a1 : FVec Ideal S8x1x2048 .f32) (b : Fin 8) (g : Fin 16) (p : Fin 64) : EReal :=
  a1 (ix3 b (0 : Fin 1) (⟨g.val * 64 + p.val, by omega⟩ : Fin 2048) : S8x1x2048.Idx)
def xi0 (a1 : FVec Ideal S8x1x2048 .f32) (b : Fin 8) (g : Fin 16) (p : Fin 64) : EReal :=
  a1 (ix3 b (0 : Fin 1) (⟨1024 + (g.val * 64 + p.val), by omega⟩ : Fin 2048) : S8x1x2048.Idx)

theorem xr0_at (a0 : FVec Ideal S16384x3200 .f32) (a1 : FVec Ideal S8x1x2048 .f32) (a2 a3 : FVec Ideal S16x64 .f32) (a4 : FVec Ideal S16 .f32)
    (a5 a6 : FVec Ideal S16x64x16 .f32) (b : Fin 8) (g : Fin 16) (p : Fin 64) :
    Step.A_main_v4 (F := Ideal) a0 a1 a2 a3 a4 a5 a6 (ix3 b g p : S8x16x64.Idx) = xr0 a1 b g p := by
  pointwise [Step.A_main_v4, Step.A_main_v3, Step.A_main_v2, xr0]

theorem xi0_at (a0 : FVec Ideal S16384x3200 .f32) (a1 : FVec Ideal S8x1x2048 .f32) (a2 a3 : FVec Ideal S16x64 .f32) (a4 : FVec Ideal S16 .f32)
    (a5 a6 : FVec Ideal S16x64x16 .f32) (b : Fin 8) (g : Fin 16) (p : Fin 64) :
    Step.A_main_v7 (F := Ideal) a0 a1 a2 a3 a4 a5 a6 (ix3 b g p : S8x16x64.Idx) = xi0 a1 b g p := by
  pointwise [Step.A_main_v7, Step.A_main_v6, Step.A_main_v5, xi0]

section
variable (a0 : FVec Ideal S16384x3200 .f32) (a1 : FVec Ideal S8x1x2048 .f32) (a2 a3 : FVec Ideal S16x64 .f32) (a4 : FVec Ideal S16 .f32)
    (a5 a6 : FVec Ideal S16x64x16 .f32)

/-- The loop's states. -/
def iter : ℕ → Step.State Ideal
  | 0 => Step.init a0 a1 a2 a3 a4 a5 a6
  | n + 1 => Step.step n (iter n)

/-- The recurrence at the reference's own decay, input matrix and initial state. -/
abbrev XS : Fin 8 → ℕ → Fin 16 → Fin 64 → EReal × EReal :=
  Spec.X (fun g p => Step.A_main_v18 (F := Ideal) a0 a1 a2 a3 a4 a5 a6 (ix2 g p : S16x64.Idx)) (fun g p => Step.A_main_v22 (F := Ideal) a0 a1 a2 a3 a4 a5 a6 (ix2 g p : S16x64.Idx))
    (fun g p r => Step.A_main_v44 (F := Ideal) a0 a1 a2 a3 a4 a5 a6 (ix3 g p r : S16x64x16.Idx)) (fun g p r => Step.A_main_v51 (F := Ideal) a0 a1 a2 a3 a4 a5 a6 (ix3 g p r : S16x64x16.Idx))
    (U a0) (xr0 a1) (xi0 a1)

theorem iter_const (n : ℕ) : (iter a0 a1 a2 a3 a4 a5 a6 n).main_v60_0 = Step.A_main_v56 a0 a1 a2 a3 a4 a5 a6
    ∧ (iter a0 a1 a2 a3 a4 a5 a6 n).main_v60_1 = Step.A_main_v57 a0 a1 a2 a3 a4 a5 a6
    ∧ (iter a0 a1 a2 a3 a4 a5 a6 n).main_v60_2 = Step.A_main_v18 a0 a1 a2 a3 a4 a5 a6
    ∧ (iter a0 a1 a2 a3 a4 a5 a6 n).main_v60_3 = Step.A_main_v22 a0 a1 a2 a3 a4 a5 a6 := by
  induction n with
  | zero => exact ⟨rfl, rfl, rfl, rfl⟩
  | succ n ih => exact ih

/-- The state after `n` trips. -/
theorem iter_state (n : ℕ) (h : n ≤ 2048) (b : Fin 8) (g : Fin 16) (p : Fin 64) :
    ((iter a0 a1 a2 a3 a4 a5 a6 n).main_v60_5 (ix3 b g p : S8x16x64.Idx), (iter a0 a1 a2 a3 a4 a5 a6 n).main_v60_6 (ix3 b g p : S8x16x64.Idx))
      = XS a0 a1 a2 a3 a4 a5 a6 b n g p := by
  induction n with
  | zero => exact Prod.ext (xr0_at a0 a1 a2 a3 a4 a5 a6 b g p) (xi0_at a0 a1 a2 a3 a4 a5 a6 b g p)
  | succ n ih =>
    have h' : n < 2048 := by omega
    obtain ⟨c0, c1, c2, c3⟩ := iter_const a0 a1 a2 a3 a4 a5 a6 n
    have e0 := bur_at a0 a1 a2 a3 a4 a5 a6 ⟨n, h'⟩ b g p
    have e1 := bui_at a0 a1 a2 a3 a4 a5 a6 ⟨n, h'⟩ b g p
    have er := re_at n h' (iter a0 a1 a2 a3 a4 a5 a6 n) b g p
    have ei := im_at n h' (iter a0 a1 a2 a3 a4 a5 a6 n) b g p
    rw [ih (by omega), c0, c1, c2, c3, e0, e1] at er ei
    exact Prod.ext er ei

/-- The stacks after `n` trips hold the first `n` states. -/
theorem iter_stack (n : ℕ) (h : n ≤ 2048) (t : Fin 2048) (ht : t.val < n) (b : Fin 8) (g : Fin 16) (p : Fin 64) :
    ((iter a0 a1 a2 a3 a4 a5 a6 n).main_v60_7 (ix4 t b g p : S2048x8x16x64.Idx), (iter a0 a1 a2 a3 a4 a5 a6 n).main_v60_8 (ix4 t b g p : S2048x8x16x64.Idx))
      = XS a0 a1 a2 a3 a4 a5 a6 b (t.val + 1) g p := by
  induction n with
  | zero => omega
  | succ n ih =>
    have h' : n < 2048 := by omega
    have er := stackr_at n h' (iter a0 a1 a2 a3 a4 a5 a6 n) t b g p
    have ei := stacki_at n h' (iter a0 a1 a2 a3 a4 a5 a6 n) t b g p
    by_cases e : t.val = n
    · rw [if_pos e] at er ei
      rw [e]
      exact (Prod.ext er ei).trans (iter_state a0 a1 a2 a3 a4 a5 a6 (n + 1) h b g p)
    · rw [if_neg e] at er ei
      exact (Prod.ext er ei).trans (ih (by omega) (by omega))

end

end Cert.S5.RefVal

end
-- ==== Proof.S5RefOut.lean ====
/- The reference's two results at an index: the last state, and the gated activations of the read-out. -/
module

public import proofs.«01_k».proof.Proof.S5RefVal

@[expose] public section

set_option maxRecDepth 16384

noncomputable section

open Idealize.ShloMosaic Idealize.ShloMosaic.TcCoe Idealize.SL.Sem
open Cert.ReferenceIdeal Cert.ReferenceIdeal.Gen

namespace Cert.S5.RefVal

/-- The read-out with its skip connection, by batch row, step and channel. -/
def Yv (x7 x8 : FVec Ideal S2048x8x16x64 .f32) (a0 : FVec Ideal S16384x3200 .f32) (a7 a8 : FVec Ideal S16x16x64 .f32) (a9 : FVec Ideal S16x16 .f32) : FVec Ideal S8x2048x256 .f32 :=
  shapeCast _ (addf (addf (transpose S8x2048x16x16 [3, 2, 0, 1] (Host.dotGeneral dot_S16x16x64_S2048x8x16x64_S16x16x2048x8_2_3_1_01_0_2 none a7 x7) transposes_S16x16x2048x8_S8x2048x16x16_3_2_0_1) (transpose S8x2048x16x16 [3, 2, 0, 1] (Host.dotGeneral dot_S16x16x64_S2048x8x16x64_S16x16x2048x8_2_3_1_01_0_2 none (Host.negf a8) x8) transposes_S16x16x2048x8_S8x2048x16x16_3_2_0_1)) (mulf (broadcastInDim S8x2048x16x16 ![0, 1, 2, 3] bcast_S1x1x16x16_S8x2048x16x16_0_1_2_3 (broadcastInDim S1x1x16x16 ![2, 3] bcast_S16x16_S1x1x16x16_2_3 a9)) (shapeCast _ (extractStridedSlice S16384x256 ![0, 1792] a0 slices_S16384x3200_S16384x256_0_1792) shapeCasts_S16384x256_S8x2048x16x16))) shapeCasts_S8x2048x16x16_S8x2048x256

/-- The activation of a block. -/
def Zv (y : FVec Ideal S8x2048x256 .f32) : FVec Ideal S8x2048x256 .f32 :=
  mulf y (mulf (broadcastInDim S8x2048x256 ![] bcast_S_S8x2048x256 (constant (F := Ideal) S_ .f32 0x3F000000#32)) (addf (broadcastInDim S8x2048x256 ![] bcast_S_S8x2048x256 (constant (F := Ideal) S_ .f32 0x3F800000#32)) (Host.tanh (mulf (broadcastInDim S8x2048x256 ![] bcast_S_S8x2048x256 (constant (F := Ideal) S_ .f32 0x3F4C422A#32)) (addf y (mulf (broadcastInDim S8x2048x256 ![] bcast_S_S8x2048x256 (constant (F := Ideal) S_ .f32 0x3D372713#32)) (mulf (mulf y y) y)))))))

/-- The gated activations. -/
def Gv (z : FVec Ideal S8x2048x256 .f32) (a10 : FVec Ideal S256x256 .f32) (a11 : FVec Ideal S256 .f32) : FVec Ideal S16384x256 .f32 :=
  shapeCast S16384x256 (mulf z (Host.divf (broadcastInDim S8x2048x256 ![] bcast_S_S8x2048x256 (constant (F := Ideal) S_ .f32 0x3F800000#32)) (addf (broadcastInDim S8x2048x256 ![] bcast_S_S8x2048x256 (constant (F := Ideal) S_ .f32 0x3F800000#32)) (Host.exp (Host.negf (addf (Host.dotGeneral dot_S8x2048x256_S256x256_S8x2048x256_2_0_01_1_n_n none z a10) (broadcastInDim S8x2048x256 ![0, 1, 2] bcast_S1x1x256_S8x2048x256_0_1_2 (broadcastInDim S1x1x256 ![2] bcast_S256_S1x1x256_2 a11)))))))) shapeCasts_S8x2048x256_S16384x256

theorem out_eq (s : Step.State Ideal) (a0 : FVec Ideal S16384x3200 .f32) (a7 a8 : FVec Ideal S16x16x64 .f32) (a9 : FVec Ideal S16x16 .f32)
    (a10 : FVec Ideal S256x256 .f32) (a11 : FVec Ideal S256 .f32) :
    Step.R_main_v101 s a0 a7 a8 a9 a10 a11 = Gv (Zv (Yv s.main_v60_7 s.main_v60_8 a0 a7 a8 a9)) a10 a11 := by
  unfold Step.R_main_v101 Gv Zv Yv
  rfl

theorem Yv_at (x7 x8 : FVec Ideal S2048x8x16x64 .f32) (a0 : FVec Ideal S16384x3200 .f32) (a7 a8 : FVec Ideal S16x16x64 .f32) (a9 : FVec Ideal S16x16 .f32)
    (b : Fin 8) (t : Fin 2048) (k : Fin 256) :
    Yv x7 x8 a0 a7 a8 a9 (ix3 b t k : S8x2048x256.Idx)
      = Spec.rd (fun p => a7 (ix3 (Spec.cgrp k) (Spec.cpos k) p : S16x16x64.Idx)) (fun p => a8 (ix3 (Spec.cgrp k) (Spec.cpos k) p : S16x16x64.Idx))
          (a9 (ix2 (Spec.cgrp k) (Spec.cpos k) : S16x16.Idx)) (U a0 (Spec.row b t.val) k)
          (fun p => (x7 (ix4 t b (Spec.cgrp k) p : S2048x8x16x64.Idx), x8 (ix4 t b (Spec.cgrp k) p : S2048x8x16x64.Idx))) := by
  pointwise [Yv, Spec.rd, Spec.cgrp, Spec.cpos, U, Spec.row]
  simp only [Nat.mod_eq_of_lt t.isLt]

theorem Zv_at (y : FVec Ideal S8x2048x256 .f32) (b : Fin 8) (t : Fin 2048) (k : Fin 256) :
    Zv y (ix3 b t k : S8x2048x256.Idx) = Spec.gelu (y (ix3 b t k : S8x2048x256.Idx)) := by
  pointwise [Zv, Spec.gelu]

theorem Gv_at (z : FVec Ideal S8x2048x256 .f32) (a10 : FVec Ideal S256x256 .f32) (a11 : FVec Ideal S256 .f32) (b : Fin 8) (t : Fin 2048) (k : Fin 256) :
    Gv z a10 a11 (ix2 (Spec.row b t.val) k : S16384x256.Idx)
      = Spec.gate (fun j => a10 (ix2 j k : S256x256.Idx)) (a11 (ix1 k : S256.Idx)) (z (ix3 b t k : S8x2048x256.Idx)) (fun j => z (ix3 b t j : S8x2048x256.Idx)) := by
  have e1 : (⟨(Spec.row b t.val).val / 2048, by have := (Spec.row b t.val).isLt; omega⟩ : Fin 8) = b := by
    refine Fin.ext ?_; have := b.isLt; have := t.isLt; show (b.val * 2048 + t.val % 2048) / 2048 = b.val; omega
  have e2 : (⟨(Spec.row b t.val).val % 2048, by omega⟩ : Fin 2048) = t := by
    refine Fin.ext ?_; have := b.isLt; have := t.isLt; show (b.val * 2048 + t.val % 2048) % 2048 = t.val; omega
  pointwise [Gv, Spec.gate]
  rw [e1, e2]

theorem last_at (s : Step.State Ideal) (b : Fin 8) (q : Fin 1024) :
    Step.R_main_v100 s (ix3 b (0 : Fin 1) (⟨q.val, by omega⟩ : Fin 2048) : S8x1x2048.Idx) = s.main_v60_5 (ix3 b (Spec.grp q) (Spec.pos q) : S8x16x64.Idx)
    ∧ Step.R_main_v100 s (ix3 b (0 : Fin 1) (⟨1024 + q.val, by omega⟩ : Fin 2048) : S8x1x2048.Idx) = s.main_v60_6 (ix3 b (Spec.grp q) (Spec.pos q) : S8x16x64.Idx) := by
  constructor <;> pointwise [Step.R_main_v100, Spec.grp, Spec.pos]

section
variable (a0 : FVec Ideal S16384x3200 .f32) (a1 : FVec Ideal S8x1x2048 .f32) (a2 a3 : FVec Ideal S16x64 .f32) (a4 : FVec Ideal S16 .f32)
    (a5 a6 : FVec Ideal S16x64x16 .f32) (a7 a8 : FVec Ideal S16x16x64 .f32) (a9 : FVec Ideal S16x16 .f32) (a10 : FVec Ideal S256x256 .f32) (a11 : FVec Ideal S256 .f32)

/-- The reference's two results. -/
def OUT : FVec Ideal S16384x256 .f32 := Step.R_main_v101 (iter a0 a1 a2 a3 a4 a5 a6 2048) a0 a7 a8 a9 a10 a11
def LAST : FVec Ideal S8x1x2048 .f32 := Step.R_main_v100 (iter a0 a1 a2 a3 a4 a5 a6 2048)

/-- The activation of step `t`'s read-out. -/
abbrev act (b : Fin 8) (t : ℕ) (k : Fin 256) : EReal :=
  Spec.gelu (Spec.rd (fun p => a7 (ix3 (Spec.cgrp k) (Spec.cpos k) p : S16x16x64.Idx)) (fun p => a8 (ix3 (Spec.cgrp k) (Spec.cpos k) p : S16x16x64.Idx))
          (a9 (ix2 (Spec.cgrp k) (Spec.cpos k) : S16x16.Idx)) (U a0 (Spec.row b t) k)
          (fun p => XS a0 a1 a2 a3 a4 a5 a6 b (t + 1) (Spec.cgrp k) p))

theorem act_at (b : Fin 8) (t : Fin 2048) (k : Fin 256) :
    Zv (Yv (iter a0 a1 a2 a3 a4 a5 a6 2048).main_v60_7 (iter a0 a1 a2 a3 a4 a5 a6 2048).main_v60_8 a0 a7 a8 a9) (ix3 b t k : S8x2048x256.Idx)
      = act a0 a1 a2 a3 a4 a5 a6 a7 a8 a9 b t.val k := by
  rw [Zv_at, Yv_at]
  simp only [iter_stack a0 a1 a2 a3 a4 a5 a6 2048 (le_refl _) t t.isLt]

theorem OUT_at (b : Fin 8) (t : Fin 2048) (k : Fin 256) :
    OUT a0 a1 a2 a3 a4 a5 a6 a7 a8 a9 a10 a11 (ix2 (Spec.row b t.val) k : S16384x256.Idx)
      = Spec.gate (fun j => a10 (ix2 j k : S256x256.Idx)) (a11 (ix1 k : S256.Idx)) (act a0 a1 a2 a3 a4 a5 a6 a7 a8 a9 b t.val k)
          (fun j => act a0 a1 a2 a3 a4 a5 a6 a7 a8 a9 b t.val j) := by
  rw [OUT, out_eq, Gv_at]
  simp only [act_at]

theorem LAST_at (b : Fin 8) (q : Fin 1024) :
    LAST a0 a1 a2 a3 a4 a5 a6 (ix3 b (0 : Fin 1) (⟨q.val, by omega⟩ : Fin 2048) : S8x1x2048.Idx) = (XS a0 a1 a2 a3 a4 a5 a6 b 2048 (Spec.grp q) (Spec.pos q)).1
    ∧ LAST a0 a1 a2 a3 a4 a5 a6 (ix3 b (0 : Fin 1) (⟨1024 + q.val, by omega⟩ : Fin 2048) : S8x1x2048.Idx) = (XS a0 a1 a2 a3 a4 a5 a6 b 2048 (Spec.grp q) (Spec.pos q)).2 := by
  have h := iter_state a0 a1 a2 a3 a4 a5 a6 2048 (le_refl _) b (Spec.grp q) (Spec.pos q)
  obtain ⟨e1, e2⟩ := last_at (iter a0 a1 a2 a3 a4 a5 a6 2048) b q
  exact ⟨e1.trans (congrArg Prod.fst h), e2.trans (congrArg Prod.snd h)⟩

end

end Cert.S5.RefVal

end
-- ==== Proof.S5Blocks.lean ====
/- The blocks a grid point of the S5 kernel finds staged, at an index, and what its body makes of them. -/
module

public import proofs.«01_k».proof.Proof.S5Pay
public import proofs.«01_k».proof.Proof.S5Host
public import proofs.«01_k».proof.Proof.S5Run
public import proofs.«01_k».proof.Proof.S5RefOut

@[expose] public section

set_option maxRecDepth 16384

noncomputable section

open Idealize.ShloMosaic Idealize.ShloMosaic.TcCoe Idealize.SL.Sem
open Cert.KernelIdeal Cert.KernelIdeal.Gen

namespace Cert.S5

variable (m : (ℓ : Loc nD τ sig) → Buf (Elt Ideal) ℓ) (c : Dev nD)

/-- The windows' block indices at every grid point: projection and output rows move with the point, the states with the batch row. -/
theorem idx_val : ∀ t : Fin cfg0.N, win0_0.index t = ![t.val, 7] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![t.val / 4, 0, 0] :=
  (by decide +kernel : ∀ t : Fin grid0.N, _)

/-- The batch row of a point. -/
def bat (t : Fin cfg0.N) : Fin 8 := ⟨t.val / 4, by have : t.val < 32 := t.isLt; omega⟩

/-- The packed projection and the initial states of the arguments. -/
def pA : FVec Ideal S16384x3200 .f32 := m ((c : Thread nD τ).loc main_arg0)
def xA : FVec Ideal S8x1x2048 .f32 := m ((c : Thread nD τ).loc main_arg1)

theorem X0_at (t : Fin cfg0.N) (r : Fin 512) (k : Fin 256) :
    (X0_0 m c t : FVec Ideal S512x256 .f32) (ix2 r k : S512x256.Idx) = RefVal.U (pA m c) (Spec.row (bat t) (t.val % 4 * 512 + r.val)) k := by
  have ht : t.val < 32 := t.isLt
  have hv : Spec.row (bat t) (t.val % 4 * 512 + r.val) = (⟨t.val * 512 + r.val, by omega⟩ : Fin 16384) :=
    Fin.ext (by show t.val / 4 * 2048 + (t.val % 4 * 512 + r.val) % 2048 = t.val * 512 + r.val; have := r.isLt; omega)
  rw [hv]
  unfold X0_0 Pipeline.Window.fill
  refine (dif_pos (moved0_0 t _)).trans ?_
  unfold RefVal.U pA
  blk_point [iblk, V, idx_val t]

theorem b1_at (t : Fin cfg0.N) (q : Fin 2048) :
    (iblk m c 1 t : FVec Ideal S1x1x2048 .f32) (ix3 (0 : Fin 1) (0 : Fin 1) q : S1x1x2048.Idx) = xA m c (ix3 (bat t) (0 : Fin 1) q : S8x1x2048.Idx) := by
  unfold xA bat
  blk_point [iblk, V, idx_val t]

theorem b2_at (t : Fin cfg0.N) (q : Fin 2048) :
    (iblk m c 2 t : FVec Ideal S1x2048 .f32) (ix2 (0 : Fin 1) q : S1x2048.Idx) = (V m c main_v74 : FVec Ideal S1x2048 .f32) (ix2 (0 : Fin 1) q : S1x2048.Idx) := by
  blk_point [iblk, idx_val t]
theorem b3_at (t : Fin cfg0.N) (k : Fin 256) (q : Fin 2048) :
    (iblk m c 3 t : FVec Ideal S256x2048 .bf16) (ix2 k q : S256x2048.Idx) = (V m c main_v71 : FVec Ideal S256x2048 .bf16) (ix2 k q : S256x2048.Idx) := by
  blk_point [iblk, idx_val t]
theorem b4_at (t : Fin cfg0.N) (q : Fin 2048) (k : Fin 256) :
    (iblk m c 4 t : FVec Ideal S2048x256 .bf16) (ix2 q k : S2048x256.Idx) = (V m c main_v103 : FVec Ideal S2048x256 .bf16) (ix2 q k : S2048x256.Idx) := by
  blk_point [iblk, idx_val t]
theorem b5_at (t : Fin cfg0.N) (k : Fin 256) :
    (iblk m c 5 t : FVec Ideal S1x256 .f32) (ix2 (0 : Fin 1) k : S1x256.Idx) = (V m c main_v104 : FVec Ideal S1x256 .f32) (ix2 (0 : Fin 1) k : S1x256.Idx) := by
  blk_point [iblk, idx_val t]
theorem b6_at (t : Fin cfg0.N) (j k : Fin 256) :
    (iblk m c 6 t : FVec Ideal S256x256 .bf16) (ix2 j k : S256x256.Idx) = (V m c main_v105 : FVec Ideal S256x256 .bf16) (ix2 j k : S256x256.Idx) := by
  blk_point [iblk, idx_val t]
theorem b7_at (t : Fin cfg0.N) (k : Fin 256) :
    (iblk m c 7 t : FVec Ideal S1x256 .f32) (ix2 (0 : Fin 1) k : S1x256.Idx) = (V m c main_v106 : FVec Ideal S1x256 .f32) (ix2 (0 : Fin 1) k : S1x256.Idx) := by
  blk_point [iblk, idx_val t]

/-- The recurrence at the decay, input matrix and initial state of the arguments. -/
def XK : Fin 8 → ℕ → Fin 16 → Fin 64 → EReal × EReal :=
  Spec.X (fun g p => Host.abr m c (ix2 g p : S16x64.Idx)) (fun g p => Host.abi m c (ix2 g p : S16x64.Idx))
    (fun g p r => Host.bbr m c (ix3 g p r : S16x64x16.Idx)) (fun g p r => Host.bbi m c (ix3 g p r : S16x64x16.Idx))
    (RefVal.U (pA m c)) (RefVal.xr0 (xA m c)) (RefVal.xi0 (xA m c))

theorem dr_val (t : Fin cfg0.N) (r : Fin 512) (q : Fin 1024) :
    dr (F := Ideal) (X0_0 m c t) (iblk m c 3 t) (ix2 r q : S512x1024.Idx)
      = Spec.drv (fun g p r => Host.bbr m c (ix3 g p r : S16x64x16.Idx)) (RefVal.U (pA m c)) (bat t) (t.val % 4 * 512 + r.val) (Spec.grp q) (Spec.pos q) := by
  refine (dr_at _ _ r q).trans ?_
  refine Eq.trans (Finset.sum_congr rfl fun k _ => congrArg₂ (· * ·) (X0_at m c t r k) ((b3_at m c t k _).trans (Host.b_at m c k q).1)) ?_
  exact Spec.in_sum (fun k => RefVal.U (pA m c) (Spec.row (bat t) (t.val % 4 * 512 + r.val)) k) (fun g r => Host.bbr m c (ix3 g (Spec.pos q) r : S16x64x16.Idx)) (Spec.grp q)

theorem di_val (t : Fin cfg0.N) (r : Fin 512) (q : Fin 1024) :
    di (F := Ideal) (X0_0 m c t) (iblk m c 3 t) (ix2 r q : S512x1024.Idx)
      = Spec.drv (fun g p r => Host.bbi m c (ix3 g p r : S16x64x16.Idx)) (RefVal.U (pA m c)) (bat t) (t.val % 4 * 512 + r.val) (Spec.grp q) (Spec.pos q) := by
  refine (di_at _ _ r q).trans ?_
  refine Eq.trans (Finset.sum_congr rfl fun k _ => congrArg₂ (· * ·) (X0_at m c t r k) ((b3_at m c t k _).trans (Host.b_at m c k q).2)) ?_
  exact Spec.in_sum (fun k => RefVal.U (pA m c) (Spec.row (bat t) (t.val % 4 * 512 + r.val)) k) (fun g r => Host.bbi m c (ix3 g (Spec.pos q) r : S16x64x16.Idx)) (Spec.grp q)

end Cert.S5

end
-- ==== Proof.S5State.lean ====
/- The state every grid point of the S5 kernel starts with, and every step's state inside a block, are the recurrence's. -/
module

public import proofs.«01_k».proof.Proof.S5Blocks

@[expose] public section

set_option maxRecDepth 16384

noncomputable section

open Idealize.ShloMosaic Idealize.ShloMosaic.TcCoe Idealize.SL.Sem
open Cert.KernelIdeal Cert.KernelIdeal.Gen

namespace Cert.S5

variable (m : (ℓ : Loc nD τ sig) → Buf (Elt Ideal) ℓ) (c : Dev nD)

/-- The two halves a state buffer is read in. -/
theorem half0 (a : Vec Ideal S1x2048 .f32) (q : Fin 1024) : View.ld a rA0 (ix2 (0 : Fin 1) q : S1x1024.Idx) = a (ix2 (0 : Fin 1) (⟨q.val, by omega⟩ : Fin 2048) : S1x2048.Idx) := by
  pointwise []
theorem half1 (a : Vec Ideal S1x2048 .f32) (q : Fin 1024) : View.ld a rA1 (ix2 (0 : Fin 1) q : S1x1024.Idx) = a (ix2 (0 : Fin 1) (⟨1024 + q.val, by omega⟩ : Fin 2048) : S1x2048.Idx) := by
  pointwise []

/-- The two halves a state buffer is written in. -/
theorem canon_lo (u v : Vec Ideal S1x1024 .f32) (q : Fin 1024) :
    View.canon (Val := Elt Ideal) (s := S1x2048) (e := .f32) [⟨rA1, k0_pay15 u⟩, ⟨rA0, k0_pay14 v⟩] (ix2 (0 : Fin 1) (⟨q.val, by omega⟩ : Fin 2048) : S1x2048.Idx) = v (ix2 (0 : Fin 1) q : S1x1024.Idx) := by
  canon_tiles x h
  case piece0 => exact absurd (show q.val = 1024 + (x 1).val from h1) (by omega)
  case piece1 =>
    have e : x = (ix2 (0 : Fin 1) q : S1x1024.Idx) := by
      idx_vars x
      idx_ext
    rw [e]
    pointwise [k0_pay14]
theorem canon_hi (u v : Vec Ideal S1x1024 .f32) (q : Fin 1024) :
    View.canon (Val := Elt Ideal) (s := S1x2048) (e := .f32) [⟨rA1, k0_pay15 u⟩, ⟨rA0, k0_pay14 v⟩] (ix2 (0 : Fin 1) (⟨1024 + q.val, by omega⟩ : Fin 2048) : S1x2048.Idx) = u (ix2 (0 : Fin 1) q : S1x1024.Idx) := by
  canon_tiles x h
  case piece0 =>
    have e : x = (ix2 (0 : Fin 1) q : S1x1024.Idx) := by
      idx_vars x
      idx_ext
    rw [e]
    pointwise [k0_pay15]
  case piece1 => exact absurd (show 1024 + q.val = (x 1).val from h1) (by omega)

/-- The first state's buffer. -/
theorem st0_at (a : Vec Ideal S1x1x2048 .f32) (q : Fin 2048) : st0 (F := Ideal) a (ix2 (0 : Fin 1) q : S1x2048.Idx) = a (ix3 (0 : Fin 1) (0 : Fin 1) q : S1x1x2048.Idx) := by
  unfold st0
  frame_out
  pointwise [k0_pay4]

/-- A state buffer holds the recurrence's state of batch row `b` after `n` steps. -/
def Holds (s : FVec Ideal S1x2048 .f32) (b : Fin 8) (n : ℕ) : Prop :=
  ∀ q : Fin 1024, (s (ix2 (0 : Fin 1) (⟨q.val, by omega⟩ : Fin 2048) : S1x2048.Idx), s (ix2 (0 : Fin 1) (⟨1024 + q.val, by omega⟩ : Fin 2048) : S1x2048.Idx))
    = XK m c b n (Spec.grp q) (Spec.pos q)

theorem it_val (t : Fin cfg0.N) (s : FVec Ideal S1x2048 .f32) (hs : Holds m c s (bat t) (t.val % 4 * 512)) (k : ℕ) (hk : k ≤ 512) (q : Fin 1024) :
    (((it (F := Ideal) (iblk m c 2 t) s (dr (X0_0 m c t) (iblk m c 3 t)) (di (X0_0 m c t) (iblk m c 3 t)) k).1 (ix2 (0 : Fin 1) q : S1x1024.Idx) : EReal),
      ((it (F := Ideal) (iblk m c 2 t) s (dr (X0_0 m c t) (iblk m c 3 t)) (di (X0_0 m c t) (iblk m c 3 t)) k).2 (ix2 (0 : Fin 1) q : S1x1024.Idx) : EReal))
      = XK m c (bat t) (t.val % 4 * 512 + k) (Spec.grp q) (Spec.pos q) := by
  refine itv_at _ _ _ _ _ q (Host.abr m c (ix2 (Spec.grp q) (Spec.pos q) : S16x64.Idx)) (Host.abi m c (ix2 (Spec.grp q) (Spec.pos q) : S16x64.Idx))
    (fun n => Spec.drv (fun g p r => Host.bbr m c (ix3 g p r : S16x64x16.Idx)) (RefVal.U (pA m c)) (bat t) (t.val % 4 * 512 + n) (Spec.grp q) (Spec.pos q))
    (fun n => Spec.drv (fun g p r => Host.bbi m c (ix3 g p r : S16x64x16.Idx)) (RefVal.U (pA m c)) (bat t) (t.val % 4 * 512 + n) (Spec.grp q) (Spec.pos q))
    (fun n => XK m c (bat t) (t.val % 4 * 512 + n) (Spec.grp q) (Spec.pos q))
    ?_ ?_ (fun r => dr_val m c t r q) (fun r => di_val m c t r q) ?_ (fun n => rfl) k hk
  · exact (half0 _ q).trans ((b2_at m c t (⟨q.val, by omega⟩ : Fin 2048)).trans (Host.a_at m c q).1)
  · exact (half1 _ q).trans ((b2_at m c t (⟨1024 + q.val, by omega⟩ : Fin 2048)).trans (Host.a_at m c q).2)
  · rw [Nat.add_zero, ← hs q, ← half0 s q, ← half1 s q]

theorem st0_val (t : Fin cfg0.N) : Holds m c (st0 (F := Ideal) (iblk m c 1 t)) (bat t) 0 := by
  intro q
  rw [st0_at (iblk m c 1 t), st0_at (iblk m c 1 t), b1_at, b1_at]
  refine Prod.ext ?_ ?_
  · show _ = RefVal.xr0 (xA m c) (bat t) (Spec.grp q) (Spec.pos q)
    unfold RefVal.xr0
    refine congrArg (fun z : Fin 2048 => xA m c (ix3 (bat t) (0 : Fin 1) z : S8x1x2048.Idx)) (Fin.ext ?_)
    show q.val = q.val / 64 * 64 + q.val % 64
    omega
  · show _ = RefVal.xi0 (xA m c) (bat t) (Spec.grp q) (Spec.pos q)
    unfold RefVal.xi0
    refine congrArg (fun z : Fin 2048 => xA m c (ix3 (bat t) (0 : Fin 1) z : S8x1x2048.Idx)) (Fin.ext ?_)
    show 1024 + q.val = 1024 + (q.val / 64 * 64 + q.val % 64)
    omega

theorem stNext_val (t : Fin cfg0.N) (s : FVec Ideal S1x2048 .f32) (hs : Holds m c s (bat t) (t.val % 4 * 512)) :
    Holds m c (stNext (F := Ideal) (X0_0 m c t) (iblk m c 2 t) (iblk m c 3 t) s) (bat t) (t.val % 4 * 512 + 512) := by
  intro q
  refine Eq.trans ?_ (it_val m c t s hs 512 (le_refl _) q)
  unfold stNext
  generalize it (F := Ideal) (iblk m c 2 t) s (dr (X0_0 m c t) (iblk m c 3 t)) (di (X0_0 m c t) (iblk m c 3 t)) 512 = z
  rw [← canon_lo z.2 z.1 q, ← canon_hi z.2 z.1 q]

theorem stS_val (n : ℕ) (hn : n < 32) : ∀ t : Fin cfg0.N, t.val = n → Holds m c (stS m c t.val) (bat t) (t.val % 4 * 512) := by
  induction n with
  | zero =>
    intro t ht
    rw [stS_first m c t (by omega), show t.val % 4 * 512 = 0 by omega]
    exact st0_val m c t
  | succ n ih =>
    intro t ht
    by_cases h : t.val % 4 = 0
    · rw [stS_first m c t h, show t.val % 4 * 512 = 0 by omega]
      exact st0_val m c t
    · let t' : Fin cfg0.N := ⟨n, by show n < 32; omega⟩
      have ht' : t'.val = n := rfl
      have e := stS_next m c t' (by omega)
      have hb : bat t' = bat t := Fin.ext (by show t'.val / 4 = t.val / 4; omega)
      have hq : t'.val % 4 * 512 + 512 = t.val % 4 * 512 := by omega
      rw [show t.val = t'.val + 1 by omega, e]
      have hh := stNext_val m c t' (stS m c t'.val) (ih (by omega) t' rfl)
      rw [hb, hq] at hh
      rw [show (t'.val + 1) % 4 * 512 = t.val % 4 * 512 by omega]
      exact hh

end Cert.S5

end
-- ==== Proof.S5Value.lean ====
/- What the S5 kernel's two result arrays hold after the run: the reference's gated activations and its last state. -/
module

public import proofs.«01_k».proof.Proof.S5State

@[expose] public section

set_option maxRecDepth 16384

noncomputable section

open Idealize.ShloMosaic Idealize.ShloMosaic.TcCoe Idealize.SL.Sem
open Cert.KernelIdeal Cert.KernelIdeal.Gen

namespace Cert.S5

theorem rowsC0 (a : Vec Ideal S2048x256 .bf16) (q : Fin 1024) (k : Fin 256) :
    View.ld a rC0 (ix2 q k : S1024x256.Idx) = a (ix2 (⟨q.val, by omega⟩ : Fin 2048) k : S2048x256.Idx) := by
  pointwise []
theorem rowsC1 (a : Vec Ideal S2048x256 .bf16) (q : Fin 1024) (k : Fin 256) :
    View.ld a rC1 (ix2 q k : S1024x256.Idx) = a (ix2 (⟨1024 + q.val, by omega⟩ : Fin 2048) k : S2048x256.Idx) := by
  pointwise []

/-- The gated block from the kept states and the two halves of the output matrix. -/
theorem gated_at (x0 : FVec Ideal S512x256 .f32) (a b : FVec Ideal S512x1024 .f32) (c0 c1 : FVec Ideal S1024x256 .bf16) (d : FVec Ideal S1x256 .f32)
    (w : FVec Ideal S256x256 .bf16) (g : FVec Ideal S1x256 .f32) (C0 C1 : Fin 1024 → Fin 256 → EReal)
    (h0 : ∀ q j, c0 (ix2 q j : S1024x256.Idx) = C0 q j) (h1 : ∀ q j, c1 (ix2 q j : S1024x256.Idx) = C1 q j) (r : Fin 512) (k : Fin 256) :
    k0_pay1 (F := Ideal) (k0_pay16 x0 a c0 b c1 d) (k0_pay17 x0 a c0 b c1 d w) (k0_pay18 g) (ix2 r k : S512x256.Idx)
      = Spec.gate (fun j => w (ix2 j k : S256x256.Idx)) (g (ix2 (0 : Fin 1) k : S1x256.Idx))
          (Spec.gelu ((∑ q, a (ix2 r q : S512x1024.Idx) * C0 q k + ∑ q, b (ix2 r q : S512x1024.Idx) * C1 q k) + d (ix2 (0 : Fin 1) k : S1x256.Idx) * x0 (ix2 r k : S512x256.Idx)))
          (fun j => Spec.gelu ((∑ q, a (ix2 r q : S512x1024.Idx) * C0 q j + ∑ q, b (ix2 r q : S512x1024.Idx) * C1 q j) + d (ix2 (0 : Fin 1) j : S1x256.Idx) * x0 (ix2 r j : S512x256.Idx))) := by
  refine (pay1_at _ _ _ r k).trans ?_
  rw [pay17_at]
  simp only [pay16_at, h0, h1]
  rfl

/-- The block of activations a point computes before its gate. -/
def zK (x0 : FVec Ideal S512x256 .f32) (x2 : FVec Ideal S1x2048 .f32) (x3 : FVec Ideal S256x2048 .bf16) (x4 : FVec Ideal S2048x256 .bf16) (x5 : FVec Ideal S1x256 .f32)
    (s : FVec Ideal S1x2048 .f32) (r : Fin 512) (k : Fin 256) : EReal :=
  Spec.gelu ((∑ q : Fin 1024, xr (F := Ideal) x2 s (dr x0 x3) (di x0 x3) (ix2 r q : S512x1024.Idx) * x4 (ix2 (⟨q.val, by omega⟩ : Fin 2048) k : S2048x256.Idx)
      + ∑ q : Fin 1024, xi (F := Ideal) x2 s (dr x0 x3) (di x0 x3) (ix2 r q : S512x1024.Idx) * x4 (ix2 (⟨1024 + q.val, by omega⟩ : Fin 2048) k : S2048x256.Idx))
    + x5 (ix2 (0 : Fin 1) k : S1x256.Idx) * x0 (ix2 r k : S512x256.Idx))

theorem outO_at (x0 : FVec Ideal S512x256 .f32) (x2 : FVec Ideal S1x2048 .f32) (x3 : FVec Ideal S256x2048 .bf16) (x4 : FVec Ideal S2048x256 .bf16) (x5 : FVec Ideal S1x256 .f32)
    (x6 : FVec Ideal S256x256 .bf16) (x7 : FVec Ideal S1x256 .f32) (s : FVec Ideal S1x2048 .f32) (r : Fin 512) (k : Fin 256) :
    outO (F := Ideal) x0 x2 x3 x4 x5 x6 x7 s (ix2 r k : S512x256.Idx)
      = Spec.gate (fun j => x6 (ix2 j k : S256x256.Idx)) (x7 (ix2 (0 : Fin 1) k : S1x256.Idx)) (zK x0 x2 x3 x4 x5 s r k) (fun j => zK x0 x2 x3 x4 x5 s r j) := by
  unfold outO zK
  generalize xr (F := Ideal) x2 s (dr x0 x3) (di x0 x3) = a
  generalize xi (F := Ideal) x2 s (dr x0 x3) (di x0 x3) = b
  frame_out
  exact gated_at x0 a b _ _ x5 x6 x7 (fun q j => x4 (ix2 (⟨q.val, by omega⟩ : Fin 2048) j : S2048x256.Idx)) (fun q j => x4 (ix2 (⟨1024 + q.val, by omega⟩ : Fin 2048) j : S2048x256.Idx))
    (rowsC0 x4) (rowsC1 x4) r k

theorem last_lo (u v : Vec Ideal S1x1024 .f32) (q : Fin 1024) :
    View.canon (Val := Elt Ideal) (s := S1x1x2048) (e := .f32) [⟨rF1, k0_pay3 u⟩, ⟨rF0, k0_pay2 v⟩] (ix3 (0 : Fin 1) (0 : Fin 1) (⟨q.val, by omega⟩ : Fin 2048) : S1x1x2048.Idx) = v (ix2 (0 : Fin 1) q : S1x1024.Idx) := by
  canon_tiles x h
  case piece0 => exact absurd (show q.val = 1024 + (x 2).val from h2) (by omega)
  case piece1 =>
    have e : x = (ix3 (0 : Fin 1) (0 : Fin 1) q : S1x1x1024.Idx) := by
      idx_vars x
      idx_ext
    rw [e]
    pointwise [k0_pay2]
theorem last_hi (u v : Vec Ideal S1x1024 .f32) (q : Fin 1024) :
    View.canon (Val := Elt Ideal) (s := S1x1x2048) (e := .f32) [⟨rF1, k0_pay3 u⟩, ⟨rF0, k0_pay2 v⟩] (ix3 (0 : Fin 1) (0 : Fin 1) (⟨1024 + q.val, by omega⟩ : Fin 2048) : S1x1x2048.Idx) = u (ix2 (0 : Fin 1) q : S1x1024.Idx) := by
  canon_tiles x h
  case piece0 =>
    have e : x = (ix3 (0 : Fin 1) (0 : Fin 1) q : S1x1x1024.Idx) := by
      idx_vars x
      idx_ext
    rw [e]
    pointwise [k0_pay3]
  case piece1 => exact absurd (show 1024 + q.val = (x 2).val from h2) (by omega)

variable (m : (ℓ : Loc nD τ sig) → Buf (Elt Ideal) ℓ) (c : Dev nD)

/-- The reference's two results from this memory's arguments. -/
def outK : FVec Ideal S16384x256 .f32 :=
  RefVal.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def lastK : FVec Ideal S8x1x2048 .f32 :=
  RefVal.LAST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The activation of step `n` of batch row `b`. -/
def actK (b : Fin 8) (n : ℕ) (k : Fin 256) : EReal :=
  Spec.gelu (Spec.rd (fun p => Host.cR m c (ix3 (Spec.cgrp k) (Spec.cpos k) p : S16x16x64.Idx)) (fun p => Host.cI m c (ix3 (Spec.cgrp k) (Spec.cpos k) p : S16x16x64.Idx))
    (Host.dA m c (ix2 (Spec.cgrp k) (Spec.cpos k) : S16x16.Idx)) (RefVal.U (pA m c) (Spec.row b n) k) (fun p => XK m c b (n + 1) (Spec.cgrp k) p))

theorem outK_at (b : Fin 8) (t : Fin 2048) (k : Fin 256) :
    outK m c (ix2 (Spec.row b t.val) k : S16384x256.Idx)
      = Spec.gate (fun j => Host.gW m c (ix2 j k : S256x256.Idx)) (Host.gB m c (ix1 k : S256.Idx)) (actK m c b t.val k) (fun j => actK m c b t.val j) :=
  RefVal.OUT_at _ _ _ _ _ _ _ _ _ _ _ _ b t k

theorem lastK_at (b : Fin 8) (q : Fin 1024) :
    lastK m c (ix3 b (0 : Fin 1) (⟨q.val, by omega⟩ : Fin 2048) : S8x1x2048.Idx) = (XK m c b 2048 (Spec.grp q) (Spec.pos q)).1
    ∧ lastK m c (ix3 b (0 : Fin 1) (⟨1024 + q.val, by omega⟩ : Fin 2048) : S8x1x2048.Idx) = (XK m c b 2048 (Spec.grp q) (Spec.pos q)).2 :=
  RefVal.LAST_at _ _ _ _ _ _ _ b q

/-- The states a block keeps: row `r` holds the state after the block's step `r`. -/
theorem xr_val (t : Fin cfg0.N) (r : Fin 512) (q : Fin 1024) :
    xr (F := Ideal) (iblk m c 2 t) (stS m c t.val) (dr (X0_0 m c t) (iblk m c 3 t)) (di (X0_0 m c t) (iblk m c 3 t)) (ix2 r q : S512x1024.Idx)
      = (XK m c (bat t) (t.val % 4 * 512 + r.val + 1) (Spec.grp q) (Spec.pos q)).1 :=
  congrArg Prod.fst (it_val m c t (stS m c t.val) (stS_val m c t.val (N_0 ▸ t.isLt) t rfl) (r.val + 1) r.isLt q)
theorem xi_val (t : Fin cfg0.N) (r : Fin 512) (q : Fin 1024) :
    xi (F := Ideal) (iblk m c 2 t) (stS m c t.val) (dr (X0_0 m c t) (iblk m c 3 t)) (di (X0_0 m c t) (iblk m c 3 t)) (ix2 r q : S512x1024.Idx)
      = (XK m c (bat t) (t.val % 4 * 512 + r.val + 1) (Spec.grp q) (Spec.pos q)).2 :=
  congrArg Prod.snd (it_val m c t (stS m c t.val) (stS_val m c t.val (N_0 ▸ t.isLt) t rfl) (r.val + 1) r.isLt q)

/-- The two products of the read-out are the sums over one group's states. -/
theorem read0 (b : Fin 8) (n : ℕ) (k : Fin 256) :
    ∑ q : Fin 1024, (XK m c b n (Spec.grp q) (Spec.pos q)).1 * (V m c main_v103 : FVec Ideal S2048x256 .bf16) (ix2 (⟨q.val, by omega⟩ : Fin 2048) k : S2048x256.Idx)
      = ∑ p : Fin 64, Host.cR m c (ix3 (Spec.cgrp k) (Spec.cpos k) p : S16x16x64.Idx) * (XK m c b n (Spec.cgrp k) p).1 := by
  simp only [fun q => (Host.c_at m c q k).1]
  refine (Spec.out_sum (fun q => (XK m c b n (Spec.grp q) (Spec.pos q)).1) (fun g p => Host.cR m c (ix3 g (Spec.cpos k) p : S16x16x64.Idx)) (Spec.cgrp k)).trans ?_
  simp only [Spec.grp_sidx, Spec.pos_sidx]
theorem read1 (b : Fin 8) (n : ℕ) (k : Fin 256) :
    ∑ q : Fin 1024, (XK m c b n (Spec.grp q) (Spec.pos q)).2 * (V m c main_v103 : FVec Ideal S2048x256 .bf16) (ix2 (⟨1024 + q.val, by omega⟩ : Fin 2048) k : S2048x256.Idx)
      = ∑ p : Fin 64, -Host.cI m c (ix3 (Spec.cgrp k) (Spec.cpos k) p : S16x16x64.Idx) * (XK m c b n (Spec.cgrp k) p).2 := by
  simp only [fun q => (Host.c_at m c q k).2]
  refine (Spec.out_sum_neg (fun q => (XK m c b n (Spec.grp q) (Spec.pos q)).2) (fun g p => Host.cI m c (ix3 g (Spec.cpos k) p : S16x16x64.Idx)) (Spec.cgrp k)).trans ?_
  simp only [Spec.grp_sidx, Spec.pos_sidx]

theorem zK_val (t : Fin cfg0.N) (r : Fin 512) (k : Fin 256) :
    zK (X0_0 m c t) (iblk m c 2 t) (iblk m c 3 t) (iblk m c 4 t) (iblk m c 5 t) (stS m c t.val) r k = actK m c (bat t) (t.val % 4 * 512 + r.val) k := by
  unfold zK actK Spec.rd
  rw [← read0, ← read1, ← Host.d_at, ← X0_at, ← b5_at m c t]
  simp only [xr_val, xi_val, b4_at]

/-- A grid point's block of the activations. -/
theorem point8 (t : Fin cfg0.N) (r : Fin 512) (k : Fin 256) :
    outO (F := Ideal) (X0_0 m c t) (iblk m c 2 t) (iblk m c 3 t) (iblk m c 4 t) (iblk m c 5 t) (iblk m c 6 t) (iblk m c 7 t) (stS m c t.val) (ix2 r k : S512x256.Idx)
      = outK m c (ix2 (Spec.row (bat t) (t.val % 4 * 512 + r.val)) k : S16384x256.Idx) := by
  rw [outO_at]
  refine Eq.trans ?_ (outK_at m c (bat t) ⟨t.val % 4 * 512 + r.val, by have := r.isLt; omega⟩ k).symm
  simp only [zK_val, b6_at, b7_at]
  exact congrArg₂ (fun w g => Spec.gate w g _ _) (funext fun j => Host.gw_at m c j k) (Host.gb_at m c k)

/-- The last point of a batch row writes the sequence's last state. -/
theorem point9 (t : Fin cfg0.N) (ht : t.val % 4 = 3) (q : Fin 2048) :
    outX (F := Ideal) (X0_0 m c t) (iblk m c 2 t) (iblk m c 3 t) (stS m c t.val) (ix3 (0 : Fin 1) (0 : Fin 1) q : S1x1x2048.Idx)
      = lastK m c (ix3 (bat t) (0 : Fin 1) q : S8x1x2048.Idx) := by
  have h := fun p => it_val m c t (stS m c t.val) (stS_val m c t.val (N_0 ▸ t.isLt) t rfl) 512 (le_refl _) p
  rw [show t.val % 4 * 512 + 512 = 2048 by omega] at h
  unfold outX
  generalize it (F := Ideal) (iblk m c 2 t) (stS m c t.val) (dr (X0_0 m c t) (iblk m c 3 t)) (di (X0_0 m c t) (iblk m c 3 t)) 512 = z at h ⊢
  by_cases hq : q.val < 1024
  · refine (last_lo z.2 z.1 ⟨q.val, hq⟩).trans ?_
    exact (congrArg Prod.fst (h ⟨q.val, hq⟩)).trans (lastK_at m c (bat t) ⟨q.val, hq⟩).1.symm
  · obtain ⟨p, hp⟩ : ∃ p : Fin 1024, q = (⟨1024 + p.val, by omega⟩ : Fin 2048) :=
      ⟨⟨q.val - 1024, by omega⟩, Fin.ext (by show q.val = 1024 + (q.val - 1024); omega)⟩
    rw [hp]
    refine (last_hi z.2 z.1 p).trans ?_
    exact (congrArg Prod.snd (h p)).trans (lastK_at m c (bat t) p).2.symm

/-- The activations after the run. -/
theorem final8 : (dats m 0 c).arrAt 8 (cfgs 0).N = outK m c := by
  refine (dats m 0 c).arrAt_eq_of_covers 8 _ (by decide +kernel) fun t hf y => ?_
  have ht : t.val < 32 := N_0 ▸ t.isLt
  have hy : (y 0).val < 512 := (y 0).isLt
  have hemb : ((cfg0.win 8).blk t).view.emb y = (ix2 (Spec.row (bat t) (t.val % 4 * 512 + (y 0).val)) (⟨(y 1).val, (y 1).isLt⟩ : Fin 256) : S16384x256.Idx) := by
    rw [show Spec.row (bat t) (t.val % 4 * 512 + (y 0).val) = (⟨t.val * 512 + (y 0).val, by omega⟩ : Fin 16384) from
      Fin.ext (by show t.val / 4 * 2048 + (t.val % 4 * 512 + (y 0).val) % 2048 = t.val * 512 + (y 0).val; omega)]
    blk_ext [idx_val t]
  blk_simp
  rw [after_8]
  refine Eq.trans ?_ (congrArg (outK m c) hemb).symm
  idx_vars y
  exact point8 m c t _ _

/-- The last states after the run. -/
theorem final9 : (dats m 0 c).arrAt 9 (cfgs 0).N = lastK m c := by
  refine (dats m 0 c).arrAt_eq_of_covers 9 _ (by decide +kernel) fun t hf y => ?_
  have ht : t.val < 32 := N_0 ▸ t.isLt
  have h3 : t.val % 4 = 3 := (flush0_9 t).mp hf
  have hemb : ((cfg0.win 9).blk t).view.emb y = (ix3 (bat t) (0 : Fin 1) (⟨(y 2).val, (y 2).isLt⟩ : Fin 2048) : S8x1x2048.Idx) := by
    blk_ext [idx_val t]
    rfl
  blk_simp
  rw [after_9]
  refine Eq.trans ?_ (congrArg (lastK m c) hemb).symm
  idx_vars y
  rw [Subsingleton.elim y0 0, Subsingleton.elim y1 0]
  exact point9 m c t h3 y2

end Cert.S5

end
-- ==== Proof.S5RefRun.lean ====
/- The S5 reference's run over the step of its loop: a valuation that holds a state keeps holding it through a trip, what the
   program leaves before the loop holds the first state, and the results are the fields of the step iterated. -/
module

public import proofs.«01_k».proof.Proof.Gen.ReferenceIdeal.Run
public import proofs.«01_k».proof.Proof.Gen.ReferenceIdeal.Step

@[expose] public section

noncomputable section

namespace Cert.S5.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v60_5) = s.main_v60_5
  f_6 : V0 (Proc.devRef .tc main_v60_6) = s.main_v60_6
  f_7 : V0 (Proc.devRef .tc main_v60_7) = s.main_v60_7
  f_8 : V0 (Proc.devRef .tc main_v60_8) = s.main_v60_8
  f_0 : V0 (Proc.devRef .tc main_v60_0) = s.main_v60_0
  f_1 : V0 (Proc.devRef .tc main_v60_1) = s.main_v60_1
  f_2 : V0 (Proc.devRef .tc main_v60_2) = s.main_v60_2
  f_3 : V0 (Proc.devRef .tc main_v60_3) = s.main_v60_3
  n_4 : V0 (Proc.devRef .tc main_v60_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x8x16x64 (V0 (Proc.devRef .tc main_v60_0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) sliceFits_S2048x8x16x64_S1x8x16x64 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_4]
  try rfl
set_option maxRecDepth 8192 in
theorem al_4 (h : Holds V0 s j) : (shapeCast S8x16x64 (Host.dynamicSlice S1x8x16x64 (V0 (Proc.devRef .tc main_v60_0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) sliceFits_S2048x8x16x64_S1x8x16x64) shapeCasts_S1x8x16x64_S8x16x64 : (Proc.devRef .tc main_while0b_v102 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x16x64 (V0 (Proc.devRef .tc main_v60_1)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) sliceFits_S2048x8x16x64_S1x8x16x64 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_4]
  try rfl
set_option maxRecDepth 8192 in
theorem al_9 (h : Holds V0 s j) : (shapeCast S8x16x64 (Host.dynamicSlice S1x8x16x64 (V0 (Proc.devRef .tc main_v60_1)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) sliceFits_S2048x8x16x64_S1x8x16x64) shapeCasts_S1x8x16x64_S8x16x64 : (Proc.devRef .tc main_while0b_v103 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (broadcastInDim S1x16x64 ![1, 2] bcast_S16x64_S1x16x64_1_2 (V0 (Proc.devRef .tc main_v60_2)) : (Proc.devRef .tc main_while0b_v104 : DevRef τ sig).ty.Contents (Elt F)) = Cert.ReferenceIdeal.Step.b10 j s := by
  unfold Cert.ReferenceIdeal.Step.b10
  rw [h.f_2]
  try rfl
set_option maxRecDepth 8192 in
theorem al_11 (h : Holds V0 s j) : (broadcastInDim S8x16x64 ![0, 1, 2] bcast_S1x16x64_S8x16x64_0_1_2 (broadcastInDim S1x16x64 ![1, 2] bcast_S16x64_S1x16x64_1_2 (V0 (Proc.devRef .tc main_v60_2))) : (Proc.devRef .tc main_while0b_v105 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (mulf (broadcastInDim S8x16x64 ![0, 1, 2] bcast_S1x16x64_S8x16x64_0_1_2 (broadcastInDim S1x16x64 ![1, 2] bcast_S16x64_S1x16x64_1_2 (V0 (Proc.devRef .tc main_v60_2)))) (V0 (Proc.devRef .tc main_v60_5)) : (Proc.devRef .tc main_while0b_v106 : DevRef τ sig).ty.Contents (Elt F)) = Cert.ReferenceIdeal.Step.b12 j s := by
  unfold Cert.ReferenceIdeal.Step.b12
  rw [← al_11 h, h.f_5]
  try rfl
set_option maxRecDepth 8192 in
theorem al_13 (h : Holds V0 s j) : (broadcastInDim S1x16x64 ![1, 2] bcast_S16x64_S1x16x64_1_2 (V0 (Proc.devRef .tc main_v60_3)) : (Proc.devRef .tc main_while0b_v107 : DevRef τ sig).ty.Contents (Elt F)) = Cert.ReferenceIdeal.Step.b13 j s := by
  unfold Cert.ReferenceIdeal.Step.b13
  rw [h.f_3]
  try rfl
set_option maxRecDepth 8192 in
theorem al_14 (h : Holds V0 s j) : (broadcastInDim S8x16x64 ![0, 1, 2] bcast_S1x16x64_S8x16x64_0_1_2 (broadcastInDim S1x16x64 ![1, 2] bcast_S16x64_S1x16x64_1_2 (V0 (Proc.devRef .tc main_v60_3))) : (Proc.devRef .tc main_while0b_v108 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (mulf (broadcastInDim S8x16x64 ![0, 1, 2] bcast_S1x16x64_S8x16x64_0_1_2 (broadcastInDim S1x16x64 ![1, 2] bcast_S16x64_S1x16x64_1_2 (V0 (Proc.devRef .tc main_v60_3)))) (V0 (Proc.devRef .tc main_v60_6)) : (Proc.devRef .tc main_while0b_v109 : DevRef τ sig).ty.Contents (Elt F)) = Cert.ReferenceIdeal.Step.b15 j s := by
  unfold Cert.ReferenceIdeal.Step.b15
  rw [← al_14 h, h.f_6]
  try rfl
set_option maxRecDepth 8192 in
theorem al_16 (h : Holds V0 s j) : (subf (mulf (broadcastInDim S8x16x64 ![0, 1, 2] bcast_S1x16x64_S8x16x64_0_1_2 (broadcastInDim S1x16x64 ![1, 2] bcast_S16x64_S1x16x64_1_2 (V0 (Proc.devRef .tc main_v60_2)))) (V0 (Proc.devRef .tc main_v60_5))) (mulf (broadcastInDim S8x16x64 ![0, 1, 2] bcast_S1x16x64_S8x16x64_0_1_2 (broadcastInDim S1x16x64 ![1, 2] bcast_S16x64_S1x16x64_1_2 (V0 (Proc.devRef .tc main_v60_3)))) (V0 (Proc.devRef .tc main_v60_6))) : (Proc.devRef .tc main_while0b_v110 : DevRef τ sig).ty.Contents (Elt F)) = Cert.ReferenceIdeal.Step.b16 j s := by
  unfold Cert.ReferenceIdeal.Step.b16
  rw [← al_12 h, ← al_15 h]
  try rfl
set_option maxRecDepth 8192 in
theorem al_17 (h : Holds V0 s j) : (res_main_while0b_v111 V0 : (Proc.devRef .tc main_while0b_v111 : DevRef τ sig).ty.Contents (Elt F)) = Cert.ReferenceIdeal.Step.b17 j s := by
  unfold res_main_while0b_v111 Cert.ReferenceIdeal.Step.b17
  rw [← al_16 h, ← al_4 h]
  try rfl
set_option maxRecDepth 8192 in
theorem al_18 (h : Holds V0 s j) : (broadcastInDim S1x16x64 ![1, 2] bcast_S16x64_S1x16x64_1_2 (V0 (Proc.devRef .tc main_v60_2)) : (Proc.devRef .tc main_while0b_v112 : DevRef τ sig).ty.Contents (Elt F)) = Cert.ReferenceIdeal.Step.b18 j s := by
  unfold Cert.ReferenceIdeal.Step.b18
  rw [h.f_2]
  try rfl
set_option maxRecDepth 8192 in
theorem al_19 (h : Holds V0 s j) : (broadcastInDim S8x16x64 ![0, 1, 2] bcast_S1x16x64_S8x16x64_0_1_2 (broadcastInDim S1x16x64 ![1, 2] bcast_S16x64_S1x16x64_1_2 (V0 (Proc.devRef .tc main_v60_2))) : (Proc.devRef .tc main_while0b_v113 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (mulf (broadcastInDim S8x16x64 ![0, 1, 2] bcast_S1x16x64_S8x16x64_0_1_2 (broadcastInDim S1x16x64 ![1, 2] bcast_S16x64_S1x16x64_1_2 (V0 (Proc.devRef .tc main_v60_2)))) (V0 (Proc.devRef .tc main_v60_6)) : (Proc.devRef .tc main_while0b_v114 : DevRef τ sig).ty.Contents (Elt F)) = Cert.ReferenceIdeal.Step.b20 j s := by
  unfold Cert.ReferenceIdeal.Step.b20
  rw [← al_19 h, h.f_6]
  try rfl
set_option maxRecDepth 8192 in
theorem al_21 (h : Holds V0 s j) : (broadcastInDim S1x16x64 ![1, 2] bcast_S16x64_S1x16x64_1_2 (V0 (Proc.devRef .tc main_v60_3)) : (Proc.devRef .tc main_while0b_v115 : DevRef τ sig).ty.Contents (Elt F)) = Cert.ReferenceIdeal.Step.b21 j s := by
  unfold Cert.ReferenceIdeal.Step.b21
  rw [h.f_3]
  try rfl
set_option maxRecDepth 8192 in
theorem al_22 (h : Holds V0 s j) : (broadcastInDim S8x16x64 ![0, 1, 2] bcast_S1x16x64_S8x16x64_0_1_2 (broadcastInDim S1x16x64 ![1, 2] bcast_S16x64_S1x16x64_1_2 (V0 (Proc.devRef .tc main_v60_3))) : (Proc.devRef .tc main_while0b_v116 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (mulf (broadcastInDim S8x16x64 ![0, 1, 2] bcast_S1x16x64_S8x16x64_0_1_2 (broadcastInDim S1x16x64 ![1, 2] bcast_S16x64_S1x16x64_1_2 (V0 (Proc.devRef .tc main_v60_3)))) (V0 (Proc.devRef .tc main_v60_5)) : (Proc.devRef .tc main_while0b_v117 : DevRef τ sig).ty.Contents (Elt F)) = Cert.ReferenceIdeal.Step.b23 j s := by
  unfold Cert.ReferenceIdeal.Step.b23
  rw [← al_22 h, h.f_5]
  try rfl
set_option maxRecDepth 8192 in
theorem al_24 (h : Holds V0 s j) : (addf (mulf (broadcastInDim S8x16x64 ![0, 1, 2] bcast_S1x16x64_S8x16x64_0_1_2 (broadcastInDim S1x16x64 ![1, 2] bcast_S16x64_S1x16x64_1_2 (V0 (Proc.devRef .tc main_v60_2)))) (V0 (Proc.devRef .tc main_v60_6))) (mulf (broadcastInDim S8x16x64 ![0, 1, 2] bcast_S1x16x64_S8x16x64_0_1_2 (broadcastInDim S1x16x64 ![1, 2] bcast_S16x64_S1x16x64_1_2 (V0 (Proc.devRef .tc main_v60_3)))) (V0 (Proc.devRef .tc main_v60_5))) : (Proc.devRef .tc main_while0b_v118 : DevRef τ sig).ty.Contents (Elt F)) = Cert.ReferenceIdeal.Step.b24 j s := by
  unfold Cert.ReferenceIdeal.Step.b24
  rw [← al_20 h, ← al_23 h]
  try rfl
set_option maxRecDepth 8192 in
theorem al_25 (h : Holds V0 s j) : (res_main_while0b_v119 V0 : (Proc.devRef .tc main_while0b_v119 : DevRef τ sig).ty.Contents (Elt F)) = Cert.ReferenceIdeal.Step.b25 j s := by
  unfold res_main_while0b_v119 Cert.ReferenceIdeal.Step.b25
  rw [← al_24 h, ← al_9 h]
  try rfl
set_option maxRecDepth 8192 in
theorem al_26 (h : Holds V0 s j) : (broadcastInDim S1x8x16x64 ![1, 2, 3] bcast_S8x16x64_S1x8x16x64_1_2_3 (res_main_while0b_v111 V0) : (Proc.devRef .tc main_while0b_call2_v0 : DevRef τ sig).ty.Contents (Elt F)) = Cert.ReferenceIdeal.Step.b26 j s := by
  unfold Cert.ReferenceIdeal.Step.b26
  rw [← al_17 h]
  try rfl
set_option maxRecDepth 8192 in
theorem al_27 (h : Holds V0 s j) : (constantI S_ 32 0#32 : (Proc.devRef .tc main_while0b_call2_c : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call2_c_0 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call2_c_1 : DevRef τ sig).ty.Contents (Elt F)) = Cert.ReferenceIdeal.Step.b29 j s := by
  unfold Cert.ReferenceIdeal.Step.b29
  rfl
set_option maxRecDepth 8192 in
theorem al_30 (h : Holds V0 s j) : (Host.dynamicUpdateSlice (V0 (Proc.devRef .tc main_v60_7)) (broadcastInDim S1x8x16x64 ![1, 2, 3] bcast_S8x16x64_S1x8x16x64_1_2_3 (res_main_while0b_v111 V0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) updateFits_S2048x8x16x64_S1x8x16x64 : (Proc.devRef .tc main_while0b_v120 : DevRef τ sig).ty.Contents (Elt F)) = Cert.ReferenceIdeal.Step.b30 j s := by
  unfold Cert.ReferenceIdeal.Step.b30
  rw [← al_26 h, ← al_27 h, ← al_28 h, ← al_29 h, h.f_7, h.n_4]
  try rfl
set_option maxRecDepth 8192 in
theorem al_31 (h : Holds V0 s j) : (broadcastInDim S1x8x16x64 ![1, 2, 3] bcast_S8x16x64_S1x8x16x64_1_2_3 (res_main_while0b_v119 V0) : (Proc.devRef .tc main_while0b_call3_v0 : DevRef τ sig).ty.Contents (Elt F)) = Cert.ReferenceIdeal.Step.b31 j s := by
  unfold Cert.ReferenceIdeal.Step.b31
  rw [← al_25 h]
  try rfl
set_option maxRecDepth 8192 in
theorem al_32 (h : Holds V0 s j) : (constantI S_ 32 0#32 : (Proc.devRef .tc main_while0b_call3_c : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call3_c_0 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call3_c_1 : DevRef τ sig).ty.Contents (Elt F)) = Cert.ReferenceIdeal.Step.b34 j s := by
  unfold Cert.ReferenceIdeal.Step.b34
  rfl
set_option maxRecDepth 8192 in
theorem al_35 (h : Holds V0 s j) : (Host.dynamicUpdateSlice (V0 (Proc.devRef .tc main_v60_8)) (broadcastInDim S1x8x16x64 ![1, 2, 3] bcast_S8x16x64_S1x8x16x64_1_2_3 (res_main_while0b_v119 V0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) updateFits_S2048x8x16x64_S1x8x16x64 : (Proc.devRef .tc main_while0b_v121 : DevRef τ sig).ty.Contents (Elt F)) = Cert.ReferenceIdeal.Step.b35 j s := by
  unfold Cert.ReferenceIdeal.Step.b35
  rw [← al_31 h, ← al_32 h, ← al_33 h, ← al_34 h, h.f_8, h.n_4]
  try rfl

/-! One trip's step of the carried values is `step`, field by field; a counter steps to the next number. -/

theorem step_5 (h : Holds V0 s j) : step_main_v60_5 V0 = (step j s).main_v60_5 := by
  unfold step_main_v60_5 Cert.ReferenceIdeal.Step.step
  show id (res_main_while0b_v111 V0) = _
  rw [al_17 h]
  try rfl
theorem step_6 (h : Holds V0 s j) : step_main_v60_6 V0 = (step j s).main_v60_6 := by
  unfold step_main_v60_6 Cert.ReferenceIdeal.Step.step
  show id (res_main_while0b_v119 V0) = _
  rw [al_25 h]
  try rfl
theorem step_7 (h : Holds V0 s j) : step_main_v60_7 V0 = (step j s).main_v60_7 := by
  unfold step_main_v60_7 Cert.ReferenceIdeal.Step.step
  show id (Host.dynamicUpdateSlice (V0 (Proc.devRef .tc main_v60_7)) (broadcastInDim S1x8x16x64 ![1, 2, 3] bcast_S8x16x64_S1x8x16x64_1_2_3 (res_main_while0b_v111 V0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) updateFits_S2048x8x16x64_S1x8x16x64) = _
  exact al_30 h
theorem step_8 (h : Holds V0 s j) : step_main_v60_8 V0 = (step j s).main_v60_8 := by
  unfold step_main_v60_8 Cert.ReferenceIdeal.Step.step
  show id (Host.dynamicUpdateSlice (V0 (Proc.devRef .tc main_v60_8)) (broadcastInDim S1x8x16x64 ![1, 2, 3] bcast_S8x16x64_S1x8x16x64_1_2_3 (res_main_while0b_v119 V0)) (fun k => (((![V0 (Proc.devRef .tc main_v60_4), constantI S_ 32 0#32, constantI S_ 32 0#32, constantI S_ 32 0#32] : Fin 4 → (⟨S_, .i32⟩ : BufTy).Contents (Elt F))) k (Shape.Idx.first h_S_)).toInt) updateFits_S2048x8x16x64_S1x8x16x64) = _
  exact al_35 h
theorem step_4 (h : Holds V0 s j) : step_main_v60_4 V0 = constantI S_ 32 (BitVec.ofNat 32 (j + 1)) := by
  unfold step_main_v60_4
  rw [h.n_4]
  funext i
  show BitVec.ofNat 32 j + 1#32 = BitVec.ofNat 32 (j + 1)
  simp only [BitVec.ofNat_add]

set_option maxRecDepth 8192 in
theorem out_main_v101_holds (h : Holds V0 s j) {x_main_arg0 : (⟨S16384x3200, .f32⟩ : BufTy).Contents (Elt F)} (h_main_arg0 : V0 (Proc.devRef .tc main_arg0) = x_main_arg0) {x_main_arg7 : (⟨S16x16x64, .f32⟩ : BufTy).Contents (Elt F)} (h_main_arg7 : V0 (Proc.devRef .tc main_arg7) = x_main_arg7) {x_main_arg8 : (⟨S16x16x64, .f32⟩ : BufTy).Contents (Elt F)} (h_main_arg8 : V0 (Proc.devRef .tc main_arg8) = x_main_arg8) {x_main_arg9 : (⟨S16x16, .f32⟩ : BufTy).Contents (Elt F)} (h_main_arg9 : V0 (Proc.devRef .tc main_arg9) = x_main_arg9) {x_main_arg10 : (⟨S256x256, .f32⟩ : BufTy).Contents (Elt F)} (h_main_arg10 : V0 (Proc.devRef .tc main_arg10) = x_main_arg10) {x_main_arg11 : (⟨S256, .f32⟩ : BufTy).Contents (Elt F)} (h_main_arg11 : V0 (Proc.devRef .tc main_arg11) = x_main_arg11) : out_main_v101 V0 = Cert.ReferenceIdeal.Step.R_main_v101 s x_main_arg0 x_main_arg7 x_main_arg8 x_main_arg9 x_main_arg10 x_main_arg11 := by
  unfold out_main_v101 Cert.ReferenceIdeal.Step.R_main_v101
  rw [h.f_7, h.f_8, h_main_arg0, h_main_arg7, h_main_arg8, h_main_arg9, h_main_arg10, h_main_arg11]
  try rfl

set_option maxRecDepth 8192 in
theorem out_main_v100_holds (h : Holds V0 s j) : out_main_v100 V0 = Cert.ReferenceIdeal.Step.R_main_v100 s := by
  unfold out_main_v100 Cert.ReferenceIdeal.Step.R_main_v100
  rw [h.f_5, h.f_6]
  try rfl

/-- One trip keeps the valuation holding: `step` of the state, the same set-up values, the next number. -/
theorem holds_step (h : Holds V0 s j) : Holds (STEP V0) (step j s) (j + 1) where
  f_5 := (STEP_main_v60_5 V0).trans (step_5 h)
  f_6 := (STEP_main_v60_6 V0).trans (step_6 h)
  f_7 := (STEP_main_v60_7 V0).trans (step_7 h)
  f_8 := (STEP_main_v60_8 V0).trans (step_8 h)
  n_4 := (STEP_main_v60_4 V0).trans (step_4 h)
  f_0 := (STEP_main_v60_0 V0).trans h.f_0
  f_1 := (STEP_main_v60_1 V0).trans h.f_1
  f_2 := (STEP_main_v60_2 V0).trans h.f_2
  f_3 := (STEP_main_v60_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v101) = Cert.ReferenceIdeal.Step.R_main_v101 (it c 2048) (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v100) = Cert.ReferenceIdeal.Step.R_main_v100 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 2048
    ⟨(h c).1.trans (out_main_v101_holds hk (iter_main_arg0 m c 2048) (iter_main_arg7 m c 2048) (iter_main_arg8 m c 2048) (iter_main_arg9 m c 2048) (iter_main_arg10 m c 2048) (iter_main_arg11 m c 2048)), (h c).2.1.trans (out_main_v100_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.S5.RefRun

end
-- ==== Proof.S5Claim.lean ====
/- The S5 call's claims: the three frames, and that kernel and reference leave the same two arrays. -/
module

public import proofs.«01_k».proof.Proof.S5Value
public import proofs.«01_k».proof.Proof.S5RefRun
public import proofs.«01_k».proof.Proof.Gen.Kernel
public import proofs.«01_k».proof.Defs

@[expose] public section

set_option maxRecDepth 16384

noncomputable section

open Idealize.ShloMosaic Idealize.ShloMosaic.TcCoe Idealize.SL.Sem

namespace Cert.S5

section
open Cert.KernelIdeal Cert.KernelIdeal.Gen

/-- Over any arithmetic the kernel's run leaves its arguments as they were and every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))
end

/-! The kernel's text is its ideal program's: the body tables, label by label, are equal, and so are the two `main`s. -/

set_option maxHeartbeats 1000000 in
theorem body_zero (a : Cert.Kernel.Λ₀.Args (0 : Fin 1)) :
    Cert.Kernel.defs₀ (F := Bits) .tc (0 : Fin 1) a = Cert.KernelIdeal.defs₀ (F := Bits) .tc (0 : Fin 1) a := rfl

theorem body_all : ∀ (ℓ : Fin 1) (a : Cert.Kernel.Λ₀.Args ℓ), Cert.Kernel.defs₀ (F := Bits) .tc ℓ a = Cert.KernelIdeal.defs₀ (F := Bits) .tc ℓ a :=
  Fin.forall_fin_one.mpr body_zero

set_option maxHeartbeats 1000000 in
theorem bodies_eq : Cert.Kernel.defs₀ (F := Bits) = Cert.KernelIdeal.defs₀ (F := Bits) := by
  funext th ℓ a
  cases th with
  | tc => exact body_all ℓ a
  | scScalar _ => rfl
  | scVector _ _ => rfl

theorem table_eq : Cert.Kernel.defs (F := Bits) = Cert.KernelIdeal.defs (F := Bits) :=
  congrArg (Pipeline.defs (Cert.Kernel.pcfgs (F := Bits))) bodies_eq

set_option maxHeartbeats 4000000 in
theorem main_eq : Cert.Kernel.main (F := Bits) = Cert.KernelIdeal.main (F := Bits) := rfl

set_option maxHeartbeats 4000000 in
/-- So the kernel's frame is the ideal program's run at words. -/
theorem frame_kernel : Cert.quiescent_Kernel := fun m ρ _ => by
  rw [table_eq, main_eq]
  exact (θ_run Cert.KernelIdeal.defs _ _).mono (fun _ h => h) (run_frame (F := Bits) m ρ)

theorem frame_ideal : Cert.quiescent_KernelIdeal := fun m ρ _ => run_frame (F := Ideal) m ρ

section
open Cert.ReferenceIdeal

/-- The states of the reference's loop. -/
def refIter (m : (ℓ : Loc nD τ sig) → Buf (Elt Ideal) ℓ) (c : Dev nD) : ℕ → Step.State Ideal :=
  RefVal.iter (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
end

/-- The reference is host operations alone and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.S5.RefRun.run_iter (F := Ideal) m ρ (refIter m) (fun _ => rfl) (fun _ _ => rfl))

section
open Cert.KernelIdeal Cert.KernelIdeal.Gen
variable (m : (ℓ : Loc nD τ sig) → Buf (Elt Ideal) ℓ) (ρ : Dev nD → PrngReg)

/-- The kernel's two result arrays after the run. -/
theorem run_out : θ_run defs (onTc (τ := τ) (main (F := Ideal))) (s₀ m ρ) (fun r => ∀ c : Dev nD,
    r.2.mem ((c.tc : Thread nD τ).loc main_v107_0) = outK m c ∧ r.2.mem ((c.tc : Thread nD τ).loc main_v107_1) = lastK m c) :=
  (θ_run defs _ _).mono (fun r h c => ⟨((h c).1 8).trans (final8 m c), ((h c).1 9).trans (final9 m c)⟩) (run_main m ρ)
end

/-- The reference's results depend on its arguments alone. -/
theorem out_congr {a0 b0 : FVec Ideal KernelIdeal.S16384x3200 .f32} {a1 b1 : FVec Ideal KernelIdeal.S8x1x2048 .f32} {a2 b2 a3 b3 : FVec Ideal KernelIdeal.S16x64 .f32}
    {a4 b4 : FVec Ideal KernelIdeal.S16 .f32} {a5 b5 a6 b6 : FVec Ideal KernelIdeal.S16x64x16 .f32} {a7 b7 a8 b8 : FVec Ideal KernelIdeal.S16x16x64 .f32}
    {a9 b9 : FVec Ideal KernelIdeal.S16x16 .f32} {a10 b10 : FVec Ideal KernelIdeal.S256x256 .f32} {a11 b11 : FVec Ideal KernelIdeal.S256 .f32}
    (h : a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11) :
    RefVal.OUT a0 a1 a2 a3 a4 a5 a6 a7 a8 a9 a10 a11 = RefVal.OUT b0 b1 b2 b3 b4 b5 b6 b7 b8 b9 b10 b11
    ∧ RefVal.LAST a0 a1 a2 a3 a4 a5 a6 = RefVal.LAST b0 b1 b2 b3 b4 b5 b6 := by
  obtain ⟨rfl, rfl, rfl, rfl, rfl, rfl, rfl, rfl, rfl, rfl, rfl, rfl⟩ := h
  exact ⟨rfl, rfl⟩

open Cert.KernelIdeal.Gen (frame_of) in
theorem algebraic : Cert.algebraic_KernelIdeal_ReferenceIdeal := fun m g m' g' _ hagree =>
  ⟨fun c => outK m c, fun c => lastK m c,
    (θ_run _ _ _).mono (fun r h c => ⟨(h.1 c).1, (h.1 c).2, h.2 c⟩)
      (θ_run_and (run_out m g) (frame_of (F := Ideal) m g (dats m) (A_eq m) (run_main m g))),
    (θ_run _ _ _).mono (fun r h c => ⟨(h c).1.trans (out_congr (hagree c)).1, (h c).2.1.trans (out_congr (hagree c)).2, (h c).2.2⟩)
      (Cert.S5.RefRun.run_iter (F := Ideal) m' g' (refIter m') (fun _ => rfl) (fun _ _ => rfl))⟩

end Cert.S5

end
-- ==== Proof.Row.lean ====
/- The row functions that the layer's calls share, over the extended reals: the modulated root-mean-square norm
   of one row, and the sigmoid as the kernels spell it. -/
module

public import Idealize.ShloMosaic.Lib.Pointwise

@[expose] public section

noncomputable section

namespace Cert.Row

open Idealize.ShloMosaic

/-- Entry `k` of a row `x` after the modulated norm: `x / rms(x) · g · (1 + sc) + sh`. -/
def nrm (x g sc sh : Fin 1024 → EReal) (k : Fin 1024) : EReal :=
  x k * Ideal.rsqrt (Ideal.div (∑ j, x j * x j) (Ideal.ofBits .f32 0x44800000#32) + Ideal.ofBits .f32 0x358637BD#32)
    * g k * (1 + sc k) + sh k

/-- One entry of the feed-forward update of a row: the residual plus the gate times the squared-relu network. -/
def ffn (x g sc sh gt : Fin 1024 → EReal) (w1 : Fin 1024 → Fin 4096 → EReal) (w2 : Fin 4096 → Fin 1024 → EReal)
    (l : Fin 1024) : EReal :=
  x l + gt l * ∑ k, (max (∑ i, nrm x g sc sh i * w1 i k) 0 * max (∑ i, nrm x g sc sh i * w1 i k) 0) * w2 k l

/-- The sigmoid as both programs spell it. -/
def sig (z : EReal) : EReal := Ideal.div 1 (1 + Ideal.exp (-z))

/-- One entry of the gated merge of a row: the residual plus the gate times the output projection of the sum of the four
    branches, each through its own projection and under its own sigmoid gate. -/
def merge (x g sc sh gt : Fin 1024 → EReal) (o : Fin 4 → Fin 256 → EReal) (wg : Fin 4 → Fin 1024 → Fin 1024 → EReal)
    (wb : Fin 4 → Fin 256 → Fin 1024 → EReal) (wo : Fin 1024 → Fin 1024 → EReal) (l : Fin 1024) : EReal :=
  x l + gt l * ∑ k, (sig (∑ i, nrm x g sc sh i * wg 0 i k) * (∑ i, o 0 i * wb 0 i k)
    + sig (∑ i, nrm x g sc sh i * wg 1 i k) * (∑ i, o 1 i * wb 1 i k)
    + sig (∑ i, nrm x g sc sh i * wg 2 i k) * (∑ i, o 2 i * wb 2 i k)
    + sig (∑ i, nrm x g sc sh i * wg 3 i k) * (∑ i, o 3 i * wb 3 i k)) * wo k l

/-- The packed columns of the input projection out of its 7096 columns, in the order in which the layer's other calls read
    them; the padding columns are zero. -/
def pack (row : Fin 7096 → EReal) (q : Fin 3200) : EReal :=
  if h : q.val < 256 then row ⟨256 + (q.val), by omega⟩ else
  if h : q.val - 256 < 256 then row ⟨528 + (q.val - 256), by omega⟩ else
  if h : q.val - 256 - 256 < 256 then row ⟨0 + (q.val - 256 - 256), by omega⟩ else
  if h : q.val - 256 - 256 - 256 < 1024 then row ⟨784 + (q.val - 256 - 256 - 256), by omega⟩ else
  if h : q.val - 256 - 256 - 256 - 1024 < 256 then row ⟨1848 + (q.val - 256 - 256 - 256 - 1024), by omega⟩ else
  if h : q.val - 256 - 256 - 256 - 1024 - 256 < 896 then row ⟨2104 + (q.val - 256 - 256 - 256 - 1024 - 256), by omega⟩ else
  if h : q.val - 256 - 256 - 256 - 1024 - 256 - 896 < 16 then row ⟨512 + (q.val - 256 - 256 - 256 - 1024 - 256 - 896), by omega⟩ else
  if h : q.val - 256 - 256 - 256 - 1024 - 256 - 896 - 16 < 112 then 0 else
  if h : q.val - 256 - 256 - 256 - 1024 - 256 - 896 - 16 - 112 < 40 then row ⟨1808 + (q.val - 256 - 256 - 256 - 1024 - 256 - 896 - 16 - 112), by omega⟩ else
  0

theorem pack_congr {a b : Fin 7096 → EReal} (h : ∀ c, a c = b c) (q : Fin 3200) : pack a q = pack b q := by rw [funext h]

/-- A packed column is one of the 7096 columns, or zero. -/
theorem pack_cases (q : Fin 3200) : (∃ c, ∀ row, pack row q = row c) ∨ ∀ row, pack row q = 0 := by
  unfold pack
  by_cases h0 : q.val < 256
  · exact .inl ⟨⟨256 + (q.val), by omega⟩, fun row => by simp only [dif_pos h0]⟩
  by_cases h1 : q.val - 256 < 256
  · exact .inl ⟨⟨528 + (q.val - 256), by omega⟩, fun row => by simp only [dif_neg h0, dif_pos h1]⟩
  by_cases h2 : q.val - 256 - 256 < 256
  · exact .inl ⟨⟨0 + (q.val - 256 - 256), by omega⟩, fun row => by simp only [dif_neg h0, dif_neg h1, dif_pos h2]⟩
  by_cases h3 : q.val - 256 - 256 - 256 < 1024
  · exact .inl ⟨⟨784 + (q.val - 256 - 256 - 256), by omega⟩, fun row => by simp only [dif_neg h0, dif_neg h1, dif_neg h2, dif_pos h3]⟩
  by_cases h4 : q.val - 256 - 256 - 256 - 1024 < 256
  · exact .inl ⟨⟨1848 + (q.val - 256 - 256 - 256 - 1024), by omega⟩, fun row => by simp only [dif_neg h0, dif_neg h1, dif_neg h2, dif_neg h3, dif_pos h4]⟩
  by_cases h5 : q.val - 256 - 256 - 256 - 1024 - 256 < 896
  · exact .inl ⟨⟨2104 + (q.val - 256 - 256 - 256 - 1024 - 256), by omega⟩, fun row => by simp only [dif_neg h0, dif_neg h1, dif_neg h2, dif_neg h3, dif_neg h4, dif_pos h5]⟩
  by_cases h6 : q.val - 256 - 256 - 256 - 1024 - 256 - 896 < 16
  · exact .inl ⟨⟨512 + (q.val - 256 - 256 - 256 - 1024 - 256 - 896), by omega⟩, fun row => by simp only [dif_neg h0, dif_neg h1, dif_neg h2, dif_neg h3, dif_neg h4, dif_neg h5, dif_pos h6]⟩
  by_cases h7 : q.val - 256 - 256 - 256 - 1024 - 256 - 896 - 16 < 112
  · exact .inr fun row => by simp only [dif_neg h0, dif_neg h1, dif_neg h2, dif_neg h3, dif_neg h4, dif_neg h5, dif_neg h6, dif_pos h7]
  by_cases h8 : q.val - 256 - 256 - 256 - 1024 - 256 - 896 - 16 - 112 < 40
  · exact .inl ⟨⟨1808 + (q.val - 256 - 256 - 256 - 1024 - 256 - 896 - 16 - 112), by omega⟩, fun row => by simp only [dif_neg h0, dif_neg h1, dif_neg h2, dif_neg h3, dif_neg h4, dif_neg h5, dif_neg h6, dif_neg h7, dif_pos h8]⟩
  · exact .inr fun row => by simp only [dif_neg h0, dif_neg h1, dif_neg h2, dif_neg h3, dif_neg h4, dif_neg h5, dif_neg h6, dif_neg h7, dif_neg h8]

/-- A product with packed columns is the packed product: a padding column's product is zero. -/
theorem sum_pack (h : Fin 1024 → EReal) (w : Fin 1024 → Fin 7096 → EReal) (q : Fin 3200) :
    ∑ j, h j * pack (w j) q = pack (fun c => ∑ j, h j * w j c) q := by
  rcases pack_cases q with ⟨c, hc⟩ | hz
  · simp only [hc]
  · simp only [hz, mul_zero, Finset.sum_const_zero]

end Cert.Row

end
-- ==== Proof.MergePure.lean ====
/- The merge call: what the body stores in a block and what the reference computes, each read at an index as the same
   row function. -/
module

public import proofs.«01_k».proof.Proof.Gen.Kernel2Ideal.Frame
public import proofs.«01_k».proof.Proof.Gen.Reference2Ideal.Read
public import proofs.«01_k».proof.Proof.Row
public import Idealize.ShloMosaic.Lib.Pointwise

@[expose] public section

set_option maxRecDepth 16384

noncomputable section

open Idealize.ShloMosaic

namespace Cert.Merge

section
open Cert.Kernel2Ideal Cert.Kernel2Ideal.Gen

/-- The body's normed row block at an index. -/
theorem pay2_at (v0 : FVec Ideal S512x1024 .f32) (v2 : FVec Ideal S1x1024 .f32) (v4 v6 : FVec Ideal S1x1x1024 .f32)
    (r : Fin 512) (k : Fin 1024) :
    k0_pay2 (F := Ideal) v0 v2 v4 v6 (ix2 r k : S512x1024.Idx)
      = Row.nrm (fun j => v0 (ix2 r j)) (fun j => v2 (ix2 0 j)) (fun j => v4 (ix3 0 0 j)) (fun j => v6 (ix3 0 0 j)) k := by
  pointwise [k0_pay2, k0_pay1, Row.nrm]

/-- A gate of a row block. -/
def gate (h : FVec Ideal S512x1024 .bf16) (w : FVec Ideal S1024x1024 .bf16) (r : Fin 512) (k : Fin 1024) : EReal :=
  Row.sig (∑ i : Fin 1024, h (ix2 r i) * w (ix2 i k))

/-- A branch of a row block through its projection. -/
def proj (o : FVec Ideal S512x256 .f32) (w : FVec Ideal S1x256x1024 .bf16) (r : Fin 512) (k : Fin 1024) : EReal :=
  ∑ i : Fin 256, o (ix2 r i) * w (ix3 0 i k)

theorem pay3_at (v0 : FVec Ideal S512x1024 .f32) (v2 : FVec Ideal S1x1024 .f32) (v4 v6 : FVec Ideal S1x1x1024 .f32)
    (w : FVec Ideal S1024x1024 .bf16) (r : Fin 512) (k : Fin 1024) :
    k0_pay3 (F := Ideal) v0 v2 v4 v6 w (ix2 r k : S512x1024.Idx) = gate (k0_pay2 (F := Ideal) v0 v2 v4 v6) w r k := by
  unfold k0_pay3
  generalize k0_pay2 (F := Ideal) v0 v2 v4 v6 = h
  pointwise [gate, Row.sig]
  simp only [sub_eq_add_neg, zero_add]

theorem pay5_at (h : FVec Ideal S512x1024 .bf16) (w : FVec Ideal S1024x1024 .bf16) (r : Fin 512) (k : Fin 1024) :
    k0_pay5 (F := Ideal) h w (ix2 r k : S512x1024.Idx) = gate h w r k := by
  pointwise [k0_pay5, gate, Row.sig]
  simp only [sub_eq_add_neg, zero_add]

theorem pay4_at (h : FVec Ideal S512x1024 .bf16) (g0 : FVec Ideal S512x1024 .f32) (o0 : FVec Ideal S512x256 .f32)
    (b0 : FVec Ideal S1x256x1024 .bf16) (w1 : FVec Ideal S1024x1024 .bf16) (o1 : FVec Ideal S512x256 .f32)
    (b1 : FVec Ideal S1x256x1024 .bf16) (r : Fin 512) (k : Fin 1024) :
    k0_pay4 (F := Ideal) h g0 o0 b0 w1 o1 b1 (ix2 r k : S512x1024.Idx)
      = g0 (ix2 r k) * proj o0 b0 r k + gate h w1 r k * proj o1 b1 r k := by
  pointwise [k0_pay4, gate, proj, Row.sig]
  simp only [sub_eq_add_neg, zero_add]

theorem pay6_at (x : FVec Ideal S512x1024 .f32) (h : FVec Ideal S512x1024 .bf16) (acc g2 : FVec Ideal S512x1024 .f32)
    (o2 : FVec Ideal S512x256 .f32) (b2 : FVec Ideal S1x256x1024 .bf16) (w3 : FVec Ideal S1024x1024 .bf16)
    (o3 : FVec Ideal S512x256 .f32) (b3 : FVec Ideal S1x256x1024 .bf16) (wo : FVec Ideal S1024x1024 .bf16)
    (gt : FVec Ideal S1x1x1024 .f32) (r : Fin 512) (l : Fin 1024) :
    k0_pay6 (F := Ideal) x h acc g2 o2 b2 w3 o3 b3 wo gt (ix2 r l : S512x1024.Idx)
      = x (ix2 r l) + gt (ix3 0 0 l) * ∑ k : Fin 1024, (acc (ix2 r k) + g2 (ix2 r k) * proj o2 b2 r k
          + gate h w3 r k * proj o3 b3 r k) * wo (ix2 k l) := by
  pointwise [k0_pay6, gate, proj, Row.sig]
  simp only [sub_eq_add_neg, zero_add]

/-- The body's stored block at an index is the row function of the merge call. -/
theorem block_at (v0 : FVec Ideal S512x1024 .f32) (v2 : FVec Ideal S1x1024 .f32) (v4 v6 gt : FVec Ideal S1x1x1024 .f32)
    (w0 w1 w2 w3 : FVec Ideal S1024x1024 .bf16) (o0 o1 o2 o3 : FVec Ideal S512x256 .f32) (b0 b1 b2 b3 : FVec Ideal S1x256x1024 .bf16)
    (wo : FVec Ideal S1024x1024 .bf16) (wg : FVec Ideal S1024x4096 .bf16) (wb : FVec Ideal S4x256x1024 .bf16)
    (hw0 : ∀ i k : Fin 1024, w0 (ix2 i k) = wg (ix2 i ⟨0 * 1024 + k.val, by omega⟩))
    (hw1 : ∀ i k : Fin 1024, w1 (ix2 i k) = wg (ix2 i ⟨1 * 1024 + k.val, by omega⟩))
    (hw2 : ∀ i k : Fin 1024, w2 (ix2 i k) = wg (ix2 i ⟨2 * 1024 + k.val, by omega⟩))
    (hw3 : ∀ i k : Fin 1024, w3 (ix2 i k) = wg (ix2 i ⟨3 * 1024 + k.val, by omega⟩))
    (hb0 : ∀ (i : Fin 256) (k : Fin 1024), b0 (ix3 0 i k) = wb (ix3 0 i k))
    (hb1 : ∀ (i : Fin 256) (k : Fin 1024), b1 (ix3 0 i k) = wb (ix3 1 i k))
    (hb2 : ∀ (i : Fin 256) (k : Fin 1024), b2 (ix3 0 i k) = wb (ix3 2 i k))
    (hb3 : ∀ (i : Fin 256) (k : Fin 1024), b3 (ix3 0 i k) = wb (ix3 3 i k))
    (r : Fin 512) (l : Fin 1024) :
    k0_pay6 (F := Ideal) (k0_pay1 v0) (k0_pay2 v0 v2 v4 v6)
      (k0_pay4 (k0_pay2 v0 v2 v4 v6) (k0_pay3 v0 v2 v4 v6 w0) o0 b0 w1 o1 b1) (k0_pay5 (k0_pay2 v0 v2 v4 v6) w2)
      o2 b2 w3 o3 b3 wo gt (ix2 r l : S512x1024.Idx)
      = Row.merge (fun j => v0 (ix2 r j)) (fun j => v2 (ix2 0 j)) (fun j => v4 (ix3 0 0 j)) (fun j => v6 (ix3 0 0 j))
          (fun j => gt (ix3 0 0 j)) ![fun i => o0 (ix2 r i), fun i => o1 (ix2 r i), fun i => o2 (ix2 r i), fun i => o3 (ix2 r i)]
          (fun b i k => wg (ix2 i ⟨b.val * 1024 + k.val, by omega⟩)) (fun b i k => wb (ix3 b i k)) (fun k l => wo (ix2 k l)) l := by
  have hp : ∀ x : FVec Ideal S512x1024 .f32, k0_pay1 (F := Ideal) x (ix2 r l : S512x1024.Idx) = x (ix2 r l) := by
    intro x; pointwise [k0_pay1]
  rw [pay6_at, hp]
  simp only [pay4_at, pay3_at, pay5_at, gate, proj, pay2_at, hw0, hw1, hw2, hw3, hb0, hb1, hb2, hb3]
  rfl

end

section
open Cert.Reference2Ideal Cert.Reference2Ideal.Gen Cert.Reference2Ideal.Read

theorem ref25_at (x0 : FVec Ideal S8x2048x1024 .f32) (x1 : FVec Ideal S8x6144 .f32) (x2 : FVec Ideal S1024 .f32)
    (b : Fin 8) (s : Fin 2048) (k : Fin 1024) :
    val_main_v25 (F := Ideal) x0 x1 x2 (ix3 b s k : S8x2048x1024.Idx)
      = Row.nrm (fun j => x0 (ix3 b s j)) (fun j => x2 (ix1 j)) (fun j => x1 (ix2 b ⟨1024 + j.val, by omega⟩))
          (fun j => x1 (ix2 b ⟨0 + j.val, by omega⟩)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0,
    val_main_cst, val_main_cst_0, val_main_cst_1, val_main_cst_2, Row.nrm]

/-- All four gates before the sigmoid. -/
theorem ref27_at (x0 : FVec Ideal S8x2048x1024 .f32) (x1 : FVec Ideal S8x6144 .f32) (x2 : FVec Ideal S1024 .f32)
    (x7 : FVec Ideal S1024x7096 .f32) (b : Fin 8) (s : Fin 2048) (k : Fin 4096) :
    val_main_v27 (F := Ideal) x0 x1 x2 x7 (ix3 b s k : S8x2048x4096.Idx)
      = ∑ j : Fin 1024, val_main_v25 (F := Ideal) x0 x1 x2 (ix3 b s j : S8x2048x1024.Idx) * x7 (ix2 j (⟨3000 + k.val, by omega⟩ : Fin 7096)) := by
  unfold val_main_v27 val_main_v26
  generalize val_main_v25 (F := Ideal) x0 x1 x2 = y
  pointwise []

/-- Branch 0's gated term in the reference. -/
theorem term0_at (x0 : FVec Ideal S8x2048x1024 .f32) (x1 : FVec Ideal S8x6144 .f32) (x2 : FVec Ideal S1024 .f32)
    (o : FVec Ideal S8x2048x256 .f32) (x7 : FVec Ideal S1024x7096 .f32) (x8 : FVec Ideal S4x256x1024 .f32)
    (b : Fin 8) (s : Fin 2048) (k : Fin 1024) :
    val_main_v38 (F := Ideal) x0 x1 x2 o x7 x8 (ix3 b s k : S8x2048x1024.Idx)
      = Row.sig (val_main_v27 (F := Ideal) x0 x1 x2 x7 (ix3 b s (⟨0 + k.val, by omega⟩ : Fin 4096) : S8x2048x4096.Idx))
        * ∑ i : Fin 256, o (ix3 b s i) * x8 (ix3 (0 : Fin 4) i k) := by
  unfold val_main_v38 val_main_v37 val_main_v36 val_main_v35 val_main_v34 val_main_v33 val_main_v32 val_main_v31 val_main_v30 val_main_v29 val_main_v28 val_main_cst_3 val_main_cst_4
  generalize val_main_v27 (F := Ideal) x0 x1 x2 x7 = y
  pointwise [Row.sig]

/-- Branch 1's gated term in the reference. -/
theorem term1_at (x0 : FVec Ideal S8x2048x1024 .f32) (x1 : FVec Ideal S8x6144 .f32) (x2 : FVec Ideal S1024 .f32)
    (o : FVec Ideal S8x2048x256 .f32) (x7 : FVec Ideal S1024x7096 .f32) (x8 : FVec Ideal S4x256x1024 .f32)
    (b : Fin 8) (s : Fin 2048) (k : Fin 1024) :
    val_main_v49 (F := Ideal) x0 x1 x2 o x7 x8 (ix3 b s k : S8x2048x1024.Idx)
      = Row.sig (val_main_v27 (F := Ideal) x0 x1 x2 x7 (ix3 b s (⟨1024 + k.val, by omega⟩ : Fin 4096) : S8x2048x4096.Idx))
        * ∑ i : Fin 256, o (ix3 b s i) * x8 (ix3 (1 : Fin 4) i k) := by
  unfold val_main_v49 val_main_v48 val_main_v47 val_main_v46 val_main_v45 val_main_v44 val_main_v43 val_main_v42 val_main_v41 val_main_v40 val_main_v39 val_main_cst_5 val_main_cst_6
  generalize val_main_v27 (F := Ideal) x0 x1 x2 x7 = y
  pointwise [Row.sig]

/-- Branch 2's gated term in the reference. -/
theorem term2_at (x0 : FVec Ideal S8x2048x1024 .f32) (x1 : FVec Ideal S8x6144 .f32) (x2 : FVec Ideal S1024 .f32)
    (o : FVec Ideal S8x2048x256 .f32) (x7 : FVec Ideal S1024x7096 .f32) (x8 : FVec Ideal S4x256x1024 .f32)
    (b : Fin 8) (s : Fin 2048) (k : Fin 1024) :
    val_main_v61 (F := Ideal) x0 x1 x2 o x7 x8 (ix3 b s k : S8x2048x1024.Idx)
      = Row.sig (val_main_v27 (F := Ideal) x0 x1 x2 x7 (ix3 b s (⟨2048 + k.val, by omega⟩ : Fin 4096) : S8x2048x4096.Idx))
        * ∑ i : Fin 256, o (ix3 b s i) * x8 (ix3 (2 : Fin 4) i k) := by
  unfold val_main_v61 val_main_v60 val_main_v59 val_main_v58 val_main_v57 val_main_v56 val_main_v55 val_main_v54 val_main_v53 val_main_v52 val_main_v51 val_main_cst_7 val_main_cst_8
  generalize val_main_v27 (F := Ideal) x0 x1 x2 x7 = y
  pointwise [Row.sig]

/-- Branch 3's gated term in the reference. -/
theorem term3_at (x0 : FVec Ideal S8x2048x1024 .f32) (x1 : FVec Ideal S8x6144 .f32) (x2 : FVec Ideal S1024 .f32)
    (o : FVec Ideal S8x2048x256 .f32) (x7 : FVec Ideal S1024x7096 .f32) (x8 : FVec Ideal S4x256x1024 .f32)
    (b : Fin 8) (s : Fin 2048) (k : Fin 1024) :
    val_main_v73 (F := Ideal) x0 x1 x2 o x7 x8 (ix3 b s k : S8x2048x1024.Idx)
      = Row.sig (val_main_v27 (F := Ideal) x0 x1 x2 x7 (ix3 b s (⟨3072 + k.val, by omega⟩ : Fin 4096) : S8x2048x4096.Idx))
        * ∑ i : Fin 256, o (ix3 b s i) * x8 (ix3 (3 : Fin 4) i k) := by
  unfold val_main_v73 val_main_v72 val_main_v71 val_main_v70 val_main_v69 val_main_v68 val_main_v67 val_main_v66 val_main_v65 val_main_v64 val_main_v63 val_main_cst_9 val_main_cst_10
  generalize val_main_v27 (F := Ideal) x0 x1 x2 x7 = y
  pointwise [Row.sig]

/-- The reference at an index is the row function of the merge call. -/
theorem ref_at (x0 : FVec Ideal S8x2048x1024 .f32) (x1 : FVec Ideal S8x6144 .f32) (x2 : FVec Ideal S1024 .f32)
    (x3 x4 x5 x6 : FVec Ideal S8x2048x256 .f32) (x7 : FVec Ideal S1024x7096 .f32) (x8 : FVec Ideal S4x256x1024 .f32)
    (x9 : FVec Ideal S1024x1024 .f32) (i : Fin 16384) (l : Fin 1024) :
    val_main_v79 (F := Ideal) x0 x1 x2 x3 x4 x5 x6 x7 x8 x9 (ix2 i l : S16384x1024.Idx)
      = Row.merge (fun j => x0 (ix3 ⟨i.val / 2048, by omega⟩ ⟨i.val % 2048, by omega⟩ j)) (fun j => x2 (ix1 j))
          (fun j => x1 (ix2 ⟨i.val / 2048, by omega⟩ ⟨1024 + j.val, by omega⟩))
          (fun j => x1 (ix2 ⟨i.val / 2048, by omega⟩ ⟨0 + j.val, by omega⟩))
          (fun j => x1 (ix2 ⟨i.val / 2048, by omega⟩ ⟨2048 + j.val, by omega⟩))
          ![fun j => x3 (ix3 ⟨i.val / 2048, by omega⟩ ⟨i.val % 2048, by omega⟩ j),
            fun j => x4 (ix3 ⟨i.val / 2048, by omega⟩ ⟨i.val % 2048, by omega⟩ j),
            fun j => x5 (ix3 ⟨i.val / 2048, by omega⟩ ⟨i.val % 2048, by omega⟩ j),
            fun j => x6 (ix3 ⟨i.val / 2048, by omega⟩ ⟨i.val % 2048, by omega⟩ j)]
          (fun b j k => x7 (ix2 j ⟨3000 + (b.val * 1024 + k.val), by omega⟩)) (fun b j k => x8 (ix3 b j k))
          (fun k l => x9 (ix2 k l)) l := by
  have h79 : ∀ (y : FVec Ideal S8x2048x1024 .f32), shapeCast S16384x1024 (addf x0 (mulf (val_main_v76 (F := Ideal) x1)
      (Host.dotGeneral (F := Ideal) dot_S8x2048x1024_S1024x1024_S8x2048x1024_2_0_01_1_n_n none y x9)))
        shapeCasts_S8x2048x1024_S16384x1024 (ix2 i l : S16384x1024.Idx)
      = x0 (ix3 ⟨i.val / 2048, by omega⟩ ⟨i.val % 2048, by omega⟩ l) + x1 (ix2 ⟨i.val / 2048, by omega⟩ ⟨2048 + l.val, by omega⟩)
        * ∑ k : Fin 1024, y (ix3 ⟨i.val / 2048, by omega⟩ ⟨i.val % 2048, by omega⟩ k) * x9 (ix2 k l) := by
    intro y
    pointwise [val_main_v76, val_main_v3, val_main_v0]
  have h74 : ∀ (b : Fin 8) (s : Fin 2048) (k : Fin 1024),
      val_main_v74 (F := Ideal) x0 x1 x2 x3 x4 x5 x6 x7 x8 (ix3 b s k : S8x2048x1024.Idx)
      = val_main_v38 (F := Ideal) x0 x1 x2 x3 x7 x8 (ix3 b s k) + val_main_v49 (F := Ideal) x0 x1 x2 x4 x7 x8 (ix3 b s k)
        + val_main_v61 (F := Ideal) x0 x1 x2 x5 x7 x8 (ix3 b s k) + val_main_v73 (F := Ideal) x0 x1 x2 x6 x7 x8 (ix3 b s k) :=
    fun _ _ _ => rfl
  refine (h79 (val_main_v74 (F := Ideal) x0 x1 x2 x3 x4 x5 x6 x7 x8)).trans ?_
  simp only [h74, term0_at, term1_at, term2_at, term3_at, ref27_at, ref25_at]
  rfl

end

end Cert.Merge

end
-- ==== Proof.MergeValue.lean ====
/- The merge call: the array after the run is the reference's function of the argument arrays, and the claim. -/
module

public import proofs.«01_k».proof.Proof.Gen.Kernel2Ideal.Value
public import proofs.«01_k».proof.Proof.Gen.Reference2Ideal.Run
public import proofs.«01_k».proof.Proof.MergePure
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Merge

section
open Cert.Kernel2Ideal Cert.Kernel2Ideal.Gen

variable (m : (ℓ : Loc nD τ sig) → Buf (Elt Ideal) ℓ)

/-- The windows' block indices at every grid point: rows move with the point, the modulation rows with the batch. -/
theorem idx_val : ∀ t : Fin cfg0.N, win0_0.index t = ![t.val, 0] ∧ win0_1.index t = ![t.val / 4, 0, 1]
    ∧ win0_2.index t = ![t.val / 4, 0, 0] ∧ win0_3.index t = ![t.val / 4, 0, 2] ∧ win0_4.index t = ![0, 0]
    ∧ win0_5.index t = ![t.val, 0] ∧ win0_6.index t = ![t.val, 0] ∧ win0_7.index t = ![t.val, 0] ∧ win0_8.index t = ![t.val, 0]
    ∧ win0_9.index t = ![0, 0] ∧ win0_10.index t = ![0, 0, 0] ∧ win0_11.index t = ![0, 0] ∧ win0_12.index t = ![t.val, 0] :=
  (by decide +kernel : ∀ t : Fin grid0.N, _)

/-- The reference's result over the argument arrays. -/
abbrev REF (x0 : FVec Ideal Cert.Reference2Ideal.S8x2048x1024 .f32) (x1 : FVec Ideal Cert.Reference2Ideal.S8x6144 .f32) (x2 : FVec Ideal Cert.Reference2Ideal.S1024 .f32)
    (x3 x4 x5 x6 : FVec Ideal Cert.Reference2Ideal.S8x2048x256 .f32) (x7 : FVec Ideal Cert.Reference2Ideal.S1024x7096 .f32) (x8 : FVec Ideal Cert.Reference2Ideal.S4x256x1024 .f32)
    (x9 : FVec Ideal Cert.Reference2Ideal.S1024x1024 .f32) : FVec Ideal Cert.Reference2Ideal.S16384x1024 .f32 :=
  Cert.Reference2Ideal.Read.val_main_v79 (F := Ideal) x0 x1 x2 x3 x4 x5 x6 x7 x8 x9

theorem merge_congr {x x' g g' sc sc' sh sh' gt gt' : Fin 1024 → EReal} {o o' : Fin 4 → Fin 256 → EReal}
    {wg wg' : Fin 4 → Fin 1024 → Fin 1024 → EReal} {wb wb' : Fin 4 → Fin 256 → Fin 1024 → EReal}
    {wo wo' : Fin 1024 → Fin 1024 → EReal} (hx : ∀ j, x j = x' j) (hg : ∀ j, g j = g' j) (hsc : ∀ j, sc j = sc' j)
    (hsh : ∀ j, sh j = sh' j) (hgt : ∀ j, gt j = gt' j) (ho0 : ∀ i, o 0 i = o' 0 i) (ho1 : ∀ i, o 1 i = o' 1 i)
    (ho2 : ∀ i, o 2 i = o' 2 i) (ho3 : ∀ i, o 3 i = o' 3 i) (hwg : ∀ b i k, wg b i k = wg' b i k)
    (hwb : ∀ b i k, wb b i k = wb' b i k) (hwo : ∀ k l, wo k l = wo' k l) (l : Fin 1024) :
    Row.merge x g sc sh gt o wg wb wo l = Row.merge x' g' sc' sh' gt' o' wg' wb' wo' l := by
  have ho : o = o' := by
    funext b; fin_cases b
    exacts [funext ho0, funext ho1, funext ho2, funext ho3]
  rw [funext hx, funext hg, funext hsc, funext hsh, funext hgt, ho, funext fun b => funext fun i => funext (hwg b i),
    funext fun b => funext fun i => funext (hwb b i), funext fun i => funext (hwo i)]

/-- The stored block at an index, over the staged blocks. -/
theorem point_block (c : Dev nD) (t : Fin cfg0.N) (r : Fin 512) (l : Fin 1024) :
    k0_pay6 (F := Ideal) (k0_pay1 (iblk m c 0 t)) (k0_pay2 (iblk m c 0 t) (iblk m c 4 t) (iblk m c 1 t) (iblk m c 2 t))
      (k0_pay4 (k0_pay2 (iblk m c 0 t) (iblk m c 4 t) (iblk m c 1 t) (iblk m c 2 t)) (k0_pay3 (iblk m c 0 t) (iblk m c 4 t) (iblk m c 1 t) (iblk m c 2 t) (View.ld (iblk m c 9 t) r0_3)) (iblk m c 5 t) (View.ld (iblk m c 10 t) r0_5) (View.ld (iblk m c 9 t) r0_6) (iblk m c 6 t) (View.ld (iblk m c 10 t) r0_7))
      (k0_pay5 (k0_pay2 (iblk m c 0 t) (iblk m c 4 t) (iblk m c 1 t) (iblk m c 2 t)) (View.ld (iblk m c 9 t) r0_8)) (iblk m c 7 t) (View.ld (iblk m c 10 t) r0_9) (View.ld (iblk m c 9 t) r0_10) (iblk m c 8 t) (View.ld (iblk m c 10 t) r0_11) (iblk m c 11 t) (iblk m c 3 t) (ix2 r l : S512x1024.Idx)
      = Row.merge (fun j => (iblk m c 0 t) (ix2 r j)) (fun j => (iblk m c 4 t) (ix2 0 j)) (fun j => (iblk m c 1 t) (ix3 0 0 j)) (fun j => (iblk m c 2 t) (ix3 0 0 j))
          (fun j => (iblk m c 3 t) (ix3 0 0 j)) ![fun i => (iblk m c 5 t) (ix2 r i), fun i => (iblk m c 6 t) (ix2 r i), fun i => (iblk m c 7 t) (ix2 r i), fun i => (iblk m c 8 t) (ix2 r i)]
          (fun b i k => (iblk m c 9 t) (ix2 i ⟨b.val * 1024 + k.val, by omega⟩)) (fun b i k => (iblk m c 10 t) (ix3 b i k)) (fun k l => (iblk m c 11 t) (ix2 k l)) l := by
  refine block_at (iblk m c 0 t) (iblk m c 4 t) (iblk m c 1 t) (iblk m c 2 t) (iblk m c 3 t) (View.ld (iblk m c 9 t) r0_3) (View.ld (iblk m c 9 t) r0_6) (View.ld (iblk m c 9 t) r0_8) (View.ld (iblk m c 9 t) r0_10) (iblk m c 5 t) (iblk m c 6 t) (iblk m c 7 t) (iblk m c 8 t)
      (View.ld (iblk m c 10 t) r0_5) (View.ld (iblk m c 10 t) r0_7) (View.ld (iblk m c 10 t) r0_9) (View.ld (iblk m c 10 t) r0_11) (iblk m c 11 t) (iblk m c 9 t) (iblk m c 10 t) ?_ ?_ ?_ ?_ ?_ ?_ ?_ ?_ _ _
  all_goals (intro i k; pointwise [])

/-- The staged blocks are the arguments' rows, so the row function over them is the reference's. -/
theorem point_row (c : Dev nD) (t : Fin cfg0.N) (r : Fin 512) (l : Fin 1024) (i : Fin 16384) (hi : i.val = t.val * 512 + r.val) :
    Row.merge (fun j => (iblk m c 0 t) (ix2 r j)) (fun j => (iblk m c 4 t) (ix2 0 j)) (fun j => (iblk m c 1 t) (ix3 0 0 j)) (fun j => (iblk m c 2 t) (ix3 0 0 j))
          (fun j => (iblk m c 3 t) (ix3 0 0 j)) ![fun i => (iblk m c 5 t) (ix2 r i), fun i => (iblk m c 6 t) (ix2 r i), fun i => (iblk m c 7 t) (ix2 r i), fun i => (iblk m c 8 t) (ix2 r i)]
          (fun b i k => (iblk m c 9 t) (ix2 i ⟨b.val * 1024 + k.val, by omega⟩)) (fun b i k => (iblk m c 10 t) (ix3 b i k)) (fun k l => (iblk m c 11 t) (ix2 k l)) l
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 i l : S16384x1024.Idx) := by
  have ht : t.val < 32 := t.isLt
  have hl : t.val * 512 + r.val < 16384 := by have := r.isLt; clear hi; omega
  obtain rfl : i = ⟨t.val * 512 + r.val, hl⟩ := Fin.ext hi
  refine Eq.trans ?_ (ref_at _ _ _ _ _ _ _ _ _ _ _ _).symm
  refine merge_congr (fun j => ?_) (fun j => ?_) (fun j => ?_) (fun j => ?_) (fun j => ?_) (fun j => ?_) (fun j => ?_)
    (fun j => ?_) (fun j => ?_) (fun b i k => ?_) (fun b i k => ?_) (fun k l => ?_) _
  · blk_point [iblk, V, idx_val t]
  · blk_point [iblk, V, idx_val t]
  · blk_point [iblk, V, idx_val t]
  · blk_point [iblk, V, idx_val t]
  · blk_point [iblk, V, idx_val t]
  · show (iblk m c 5 t) (ix2 _ j) = (m ((c : Thread nD τ).loc main_arg3)) (ix3 _ _ j); blk_point [iblk, V, idx_val t]
  · show (iblk m c 6 t) (ix2 _ j) = (m ((c : Thread nD τ).loc main_arg4)) (ix3 _ _ j); blk_point [iblk, V, idx_val t]
  · show (iblk m c 7 t) (ix2 _ j) = (m ((c : Thread nD τ).loc main_arg5)) (ix3 _ _ j); blk_point [iblk, V, idx_val t]
  · show (iblk m c 8 t) (ix2 _ j) = (m ((c : Thread nD τ).loc main_arg6)) (ix3 _ _ j); blk_point [iblk, V, idx_val t]
  · blk_point [iblk, V, idx_val t]
  · blk_point [iblk, V, idx_val t]
  · blk_point [iblk, V, idx_val t]

theorem point (c : Dev nD) (t : Fin cfg0.N) (y : S512x1024.Idx) :
    k0_pay6 (F := Ideal) (k0_pay1 (iblk m c 0 t)) (k0_pay2 (iblk m c 0 t) (iblk m c 4 t) (iblk m c 1 t) (iblk m c 2 t))
      (k0_pay4 (k0_pay2 (iblk m c 0 t) (iblk m c 4 t) (iblk m c 1 t) (iblk m c 2 t)) (k0_pay3 (iblk m c 0 t) (iblk m c 4 t) (iblk m c 1 t) (iblk m c 2 t) (View.ld (iblk m c 9 t) r0_3)) (iblk m c 5 t) (View.ld (iblk m c 10 t) r0_5) (View.ld (iblk m c 9 t) r0_6) (iblk m c 6 t) (View.ld (iblk m c 10 t) r0_7))
      (k0_pay5 (k0_pay2 (iblk m c 0 t) (iblk m c 4 t) (iblk m c 1 t) (iblk m c 2 t)) (View.ld (iblk m c 9 t) r0_8)) (iblk m c 7 t) (View.ld (iblk m c 10 t) r0_9) (View.ld (iblk m c 9 t) r0_10) (iblk m c 8 t) (View.ld (iblk m c 10 t) r0_11) (iblk m c 11 t) (iblk m c 3 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 12).blk t).view.emb y) := by
  have ht : t.val < 32 := t.isLt
  have hemb : ((cfg0.win 12).blk t).view.emb y = (ix2 (⟨t.val * 512 + (y 0).val, by have := (y 0).isLt; change (y 0).val < 512 at this; omega⟩ : Fin 16384) (⟨(y 1).val, (y 1).isLt⟩ : Fin 1024) : S16384x1024.Idx) := by
    blk_ext [idx_val t]
  rw [hemb]
  idx_vars y
  exact (point_block m c t _ _).trans (point_row m c t _ _ _ rfl)

/-- The result array after the run. -/
theorem final (c : Dev nD) : (dats m 0 c).arrAt 12 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp; rw [after0_12]; unfold out0_12 k0_pay7; frame_out
  exact point m c t y

end

end Cert.Merge

end
-- ==== Proof.MergeClaim.lean ====
/- The merge call's claims: the three frames, and that kernel and reference leave the same array. -/
module

public import proofs.«01_k».proof.Proof.MergeValue
public import proofs.«01_k».proof.Proof.Gen.Kernel2.Frame

@[expose] public section

set_option maxRecDepth 16384

noncomputable section

open Idealize.ShloMosaic Idealize.ShloMosaic.TcCoe Idealize.SL.Sem

namespace Cert.Merge

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference is host operations alone and declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  pair_intro
  · run_from Cert.Kernel2Ideal.Gen.run_main m g
  · run_from Cert.Reference2Ideal.Value.run m' g'
    refine (Cert.Reference2Ideal.Read.val_main_v79_eq _ _).trans ?_
    obtain ⟨h0, h1, h2, h3, h4, h5, h6, h7, h8, h9⟩ := hagree c
    simp only [h0, h1, h2, h3, h4, h5, h6, h7, h8, h9]
    exact (final m c).symm

end Cert.Merge

end
-- ==== Proof.FfnPure.lean ====
/- The feed-forward call: what the body stores in a block and what the reference computes, each read at an index
   as the same row function. -/
module

public import proofs.«01_k».proof.Proof.Gen.Kernel3Ideal.Skeleton
public import proofs.«01_k».proof.Proof.Gen.Reference3Ideal.Read
public import proofs.«01_k».proof.Proof.Row
public import Idealize.ShloMosaic.Lib.Pointwise

@[expose] public section

set_option maxRecDepth 16384

noncomputable section

open Idealize.ShloMosaic

namespace Cert.Ffn

section
open Cert.Kernel3Ideal Cert.Kernel3Ideal.Gen

/-- The body's normed row block at an index. -/
theorem pay3_at (v0 : FVec Ideal S512x1024 .f32) (v2 : FVec Ideal S1x1024 .f32) (v4 v6 : FVec Ideal S1x1x1024 .f32)
    (r : Fin 512) (k : Fin 1024) :
    k0_pay3 (F := Ideal) v0 v2 v4 v6 (ix2 r k : S512x1024.Idx)
      = Row.nrm (fun j => v0 (ix2 r j)) (fun j => v2 (ix2 0 j)) (fun j => v4 (ix3 0 0 j)) (fun j => v6 (ix3 0 0 j)) k := by
  pointwise [k0_pay3, k0_pay2, Row.nrm]

/-- One quarter of the network: 1024 of the 4096 hidden entries of a row, through both products. -/
def quarter (h : FVec Ideal S512x1024 .bf16) (w1 w2 : FVec Ideal S1024x1024 .bf16) (r : Fin 512) (l : Fin 1024) : EReal :=
  ∑ k : Fin 1024, (max (∑ i : Fin 1024, h (ix2 r i) * w1 (ix2 i k)) 0 * max (∑ i : Fin 1024, h (ix2 r i) * w1 (ix2 i k)) 0)
    * w2 (ix2 k l)

theorem pay4_at (v0 : FVec Ideal S512x1024 .f32) (v2 : FVec Ideal S1x1024 .f32) (v4 v6 : FVec Ideal S1x1x1024 .f32)
    (a b : FVec Ideal S1024x1024 .bf16) (r : Fin 512) (l : Fin 1024) :
    k0_pay4 (F := Ideal) v0 v2 v4 v6 a b (ix2 r l : S512x1024.Idx) = quarter (k0_pay3 (F := Ideal) v0 v2 v4 v6) a b r l := by
  unfold k0_pay4
  generalize k0_pay3 (F := Ideal) v0 v2 v4 v6 = h
  pointwise [quarter]

theorem pay5_at (h : FVec Ideal S512x1024 .bf16) (p : FVec Ideal S512x1024 .f32) (a1 b1 a2 b2 a3 b3 : FVec Ideal S1024x1024 .bf16)
    (gt : FVec Ideal S1x1x1024 .f32) (r : Fin 512) (l : Fin 1024) :
    k0_pay5 (F := Ideal) h p a1 b1 a2 b2 a3 b3 gt (ix2 r l : S512x1024.Idx)
      = gt (ix3 0 0 l) * (p (ix2 r l) + quarter h a1 b1 r l + quarter h a2 b2 r l + quarter h a3 b3 r l) := by
  pointwise [k0_pay5, quarter]

/-- A sum over 4096 terms is the sum of its four quarters. -/
theorem sum_quarters (f : Fin 4096 → EReal) :
    (∑ k, f k) = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_tiles 4 1024 rfl f]
  simp only [Fin.sum_univ_four]
  refine congrArg₂ (· + ·) (congrArg₂ (· + ·) (congrArg₂ (· + ·) ?_ ?_) ?_) ?_ <;>
    exact Finset.sum_congr rfl fun k _ => congrArg f (Fin.ext (by simp))

/-- The body's stored block at an index is the row function of the feed-forward call: the four quarters of the hidden
    axis, added in order, are the whole sum. -/
theorem block_at (v0 : FVec Ideal S512x1024 .f32) (v2 : FVec Ideal S1x1024 .f32) (v4 v6 gt : FVec Ideal S1x1x1024 .f32)
    (a0 b0 a1 b1 a2 b2 a3 b3 : FVec Ideal S1024x1024 .bf16) (w1 : FVec Ideal S1024x4096 .bf16) (w2 : FVec Ideal S4096x1024 .bf16)
    (ha0 : ∀ i k : Fin 1024, a0 (ix2 i k) = w1 (ix2 i ⟨k.val, by omega⟩)) (hb0 : ∀ k l : Fin 1024, b0 (ix2 k l) = w2 (ix2 ⟨k.val, by omega⟩ l))
    (ha1 : ∀ i k : Fin 1024, a1 (ix2 i k) = w1 (ix2 i ⟨1024 + k.val, by omega⟩)) (hb1 : ∀ k l : Fin 1024, b1 (ix2 k l) = w2 (ix2 ⟨1024 + k.val, by omega⟩ l))
    (ha2 : ∀ i k : Fin 1024, a2 (ix2 i k) = w1 (ix2 i ⟨2048 + k.val, by omega⟩)) (hb2 : ∀ k l : Fin 1024, b2 (ix2 k l) = w2 (ix2 ⟨2048 + k.val, by omega⟩ l))
    (ha3 : ∀ i k : Fin 1024, a3 (ix2 i k) = w1 (ix2 i ⟨3072 + k.val, by omega⟩)) (hb3 : ∀ k l : Fin 1024, b3 (ix2 k l) = w2 (ix2 ⟨3072 + k.val, by omega⟩ l))
    (r : Fin 512) (l : Fin 1024) :
    k0_pay1 (F := Ideal) (k0_pay2 v0) (k0_pay5 (k0_pay3 v0 v2 v4 v6) (k0_pay4 v0 v2 v4 v6 a0 b0) a1 b1 a2 b2 a3 b3 gt)
        (ix2 r l : S512x1024.Idx)
      = Row.ffn (fun j => v0 (ix2 r j)) (fun j => v2 (ix2 0 j)) (fun j => v4 (ix3 0 0 j)) (fun j => v6 (ix3 0 0 j))
          (fun j => gt (ix3 0 0 j)) (fun i k => w1 (ix2 i k)) (fun k l => w2 (ix2 k l)) l := by
  have hp : ∀ (x y : FVec Ideal S512x1024 .f32), k0_pay1 (F := Ideal) (k0_pay2 x) y (ix2 r l : S512x1024.Idx) = x (ix2 r l) + y (ix2 r l) := by
    intro x y; pointwise [k0_pay1, k0_pay2]
  rw [hp, pay5_at, pay4_at]
  unfold Row.ffn
  rw [sum_quarters]
  simp only [quarter, pay3_at, ha0, hb0, ha1, hb1, ha2, hb2, ha3, hb3]

end

section
open Cert.Reference3Ideal Cert.Reference3Ideal.Gen Cert.Reference3Ideal.Read

theorem ref25_at (x0 : FVec Ideal S8x2048x1024 .f32) (x1 : FVec Ideal S8x6144 .f32) (x2 : FVec Ideal S1024 .f32)
    (b : Fin 8) (s : Fin 2048) (k : Fin 1024) :
    val_main_v25 (F := Ideal) x0 x1 x2 (ix3 b s k : S8x2048x1024.Idx)
      = Row.nrm (fun j => x0 (ix3 b s j)) (fun j => x2 (ix1 j)) (fun j => x1 (ix2 b ⟨4096 + j.val, by omega⟩))
          (fun j => x1 (ix2 b ⟨3072 + j.val, by omega⟩)) k := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v5, val_main_v4, val_main_v0, val_main_cst, val_main_cst_0, val_main_cst_1,
    val_main_cst_2, Row.nrm]

/-- The reference at an index is the row function of the feed-forward call. -/
theorem ref_at (x0 : FVec Ideal S8x2048x1024 .f32) (x1 : FVec Ideal S8x6144 .f32) (x2 : FVec Ideal S1024 .f32)
    (x3 : FVec Ideal S1024x4096 .f32) (x4 : FVec Ideal S4096x1024 .f32) (i : Fin 16384) (l : Fin 1024) :
    val_main_v33 (F := Ideal) x0 x1 x2 x3 x4 (ix2 i l : S16384x1024.Idx)
      = Row.ffn (fun j => x0 (ix3 ⟨i.val / 2048, by omega⟩ ⟨i.val % 2048, by omega⟩ j)) (fun j => x2 (ix1 j))
          (fun j => x1 (ix2 ⟨i.val / 2048, by omega⟩ ⟨4096 + j.val, by omega⟩))
          (fun j => x1 (ix2 ⟨i.val / 2048, by omega⟩ ⟨3072 + j.val, by omega⟩))
          (fun j => x1 (ix2 ⟨i.val / 2048, by omega⟩ ⟨5120 + j.val, by omega⟩))
          (fun i k => x3 (ix2 i k)) (fun k l => x4 (ix2 k l)) l := by
  have h26 : ∀ (b : Fin 8) (s : Fin 2048) (k : Fin 4096), val_main_v26 (F := Ideal) x0 x1 x2 x3 (ix3 b s k : S8x2048x4096.Idx)
      = ∑ j : Fin 1024, val_main_v25 (F := Ideal) x0 x1 x2 (ix3 b s j : S8x2048x1024.Idx) * x3 (ix2 j k) := by
    intro b s k
    unfold val_main_v26
    generalize val_main_v25 (F := Ideal) x0 x1 x2 = y
    pointwise []
  have h33 : ∀ (y : FVec Ideal S8x2048x4096 .f32), shapeCast S16384x1024 (addf x0 (mulf (val_main_v30 (F := Ideal) x1)
      (Host.dotGeneral (F := Ideal) dot_S8x2048x4096_S4096x1024_S8x2048x1024_2_0_01_1_n_n none (mulf (maximumf y (val_main_call0_v0 (F := Ideal))) (maximumf y (val_main_call0_v0 (F := Ideal)))) x4)))
        shapeCasts_S8x2048x1024_S16384x1024 (ix2 i l : S16384x1024.Idx)
      = x0 (ix3 ⟨i.val / 2048, by omega⟩ ⟨i.val % 2048, by omega⟩ l) + x1 (ix2 ⟨i.val / 2048, by omega⟩ ⟨5120 + l.val, by omega⟩)
        * ∑ k : Fin 4096, (max (y (ix3 ⟨i.val / 2048, by omega⟩ ⟨i.val % 2048, by omega⟩ k)) 0
            * max (y (ix3 ⟨i.val / 2048, by omega⟩ ⟨i.val % 2048, by omega⟩ k)) 0) * x4 (ix2 k l) := by
    intro y
    pointwise [val_main_v30, val_main_v6, val_main_v0, val_main_call0_v0, val_main_call0_cst]
  refine (h33 (val_main_v26 (F := Ideal) x0 x1 x2 x3)).trans ?_
  unfold Row.ffn
  simp only [h26, ref25_at]

end

end Cert.Ffn

end
-- ==== Proof.FfnValue.lean ====
/- The feed-forward call: the array after the run is the reference's function of the argument arrays, and the claim. -/
module

public import proofs.«01_k».proof.Proof.Gen.Kernel3Ideal.Value
public import proofs.«01_k».proof.Proof.Gen.Reference3Ideal.Run
public import proofs.«01_k».proof.Proof.FfnPure
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Ffn

section
open Cert.Kernel3Ideal Cert.Kernel3Ideal.Gen

variable (m : (ℓ : Loc nD τ sig) → Buf (Elt Ideal) ℓ)

/-- The windows' block indices at every grid point: rows move with the point, the modulation rows with the batch. -/
theorem idx_val : ∀ t : Fin cfg0.N, win0_0.index t = ![t.val, 0] ∧ win0_1.index t = ![t.val / 4, 0, 4]
    ∧ win0_2.index t = ![t.val / 4, 0, 3] ∧ win0_3.index t = ![t.val / 4, 0, 5] ∧ win0_4.index t = ![0, 0]
    ∧ win0_5.index t = ![0, 0] ∧ win0_6.index t = ![0, 0] ∧ win0_7.index t = ![t.val, 0] :=
  (by decide +kernel : ∀ t : Fin grid0.N, _)

/-- The reference's result over the argument arrays. -/
abbrev REF (x0 : FVec Ideal Cert.Reference3Ideal.S8x2048x1024 .f32) (x1 : FVec Ideal Cert.Reference3Ideal.S8x6144 .f32)
    (x2 : FVec Ideal Cert.Reference3Ideal.S1024 .f32) (x3 : FVec Ideal Cert.Reference3Ideal.S1024x4096 .f32)
    (x4 : FVec Ideal Cert.Reference3Ideal.S4096x1024 .f32) : FVec Ideal Cert.Reference3Ideal.S16384x1024 .f32 :=
  Cert.Reference3Ideal.Read.val_main_v33 (F := Ideal) x0 x1 x2 x3 x4

theorem ffn_congr {x x' g g' sc sc' sh sh' gt gt' : Fin 1024 → EReal} {w1 w1' : Fin 1024 → Fin 4096 → EReal}
    {w2 w2' : Fin 4096 → Fin 1024 → EReal} (hx : ∀ j, x j = x' j) (hg : ∀ j, g j = g' j) (hsc : ∀ j, sc j = sc' j)
    (hsh : ∀ j, sh j = sh' j) (hgt : ∀ j, gt j = gt' j) (hw1 : ∀ i k, w1 i k = w1' i k) (hw2 : ∀ k l, w2 k l = w2' k l)
    (l : Fin 1024) : Row.ffn x g sc sh gt w1 w2 l = Row.ffn x' g' sc' sh' gt' w1' w2' l := by
  rw [funext hx, funext hg, funext hsc, funext hsh, funext hgt, funext fun i => funext (hw1 i), funext fun i => funext (hw2 i)]

theorem point (c : Dev nD) (t : Fin cfg0.N) (y : S512x1024.Idx) :
    k0_pay1 (F := Ideal) (k0_pay2 (iblk m c 0 t)) (k0_pay5 (k0_pay3 (iblk m c 0 t) (iblk m c 4 t) (iblk m c 1 t) (iblk m c 2 t))
      (k0_pay4 (iblk m c 0 t) (iblk m c 4 t) (iblk m c 1 t) (iblk m c 2 t) (View.ld (iblk m c 5 t) r0_3) (View.ld (iblk
      m c 6 t) r0_4)) (View.ld (iblk m c 5 t) r0_5) (View.ld (iblk m c 6 t) r0_6) (View.ld (iblk m c 5 t) r0_7) (View.ld
      (iblk m c 6 t) r0_8) (View.ld (iblk m c 5 t) r0_9) (View.ld (iblk m c 6 t) r0_10) (iblk m c 3 t)) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 7).blk
        t).view.emb y) := by
  have ht : t.val < 32 := t.isLt
  have hemb : ((cfg0.win 7).blk t).view.emb y = (ix2 (⟨t.val * 512 + (y 0).val, by have := (y 0).isLt; change (y 0).val < 512 at this; omega⟩ : Fin 16384) (⟨(y 1).val, (y 1).isLt⟩ : Fin 1024) : S16384x1024.Idx) := by
    blk_ext [idx_val t]
  rw [hemb]
  idx_vars y
  refine (block_at (iblk m c 0 t) (iblk m c 4 t) (iblk m c 1 t) (iblk m c 2 t) (iblk m c 3 t) (View.ld (iblk m c 5 t) r0_3) (View.ld (iblk
      m c 6 t) r0_4) (View.ld (iblk m c 5 t) r0_5) (View.ld (iblk m c 6 t) r0_6) (View.ld (iblk m c 5 t) r0_7) (View.ld
      (iblk m c 6 t) r0_8) (View.ld (iblk m c 5 t) r0_9) (View.ld (iblk m c 6 t) r0_10) (iblk m c 5 t) (iblk m c 6 t)
      ?_ ?_ ?_ ?_ ?_ ?_ ?_ ?_ _ _).trans ?_
  all_goals try (intro i k; pointwise []; done)
  refine Eq.trans ?_ (ref_at _ _ _ _ _ _ _).symm
  refine ffn_congr (fun j => ?_) (fun j => ?_) (fun j => ?_) (fun j => ?_) (fun j => ?_) (fun i k => ?_) (fun k l => ?_) _
  all_goals blk_point [iblk, V, idx_val t]

/-- The result array after the run. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]; frame_out
  exact point m c t y

end

end Cert.Ffn

end
-- ==== Proof.FfnClaim.lean ====
/- The feed-forward call's claims: the three frames, and that kernel and reference leave the same array. -/
module

public import proofs.«01_k».proof.Proof.FfnValue
public import proofs.«01_k».proof.Proof.Gen.Kernel3.Frame

@[expose] public section

set_option maxRecDepth 16384

noncomputable section

open Idealize.ShloMosaic Idealize.ShloMosaic.TcCoe Idealize.SL.Sem

namespace Cert.Ffn

theorem frame_kernel : Cert.quiescent_Kernel3 := fun m ρ _ => Cert.Kernel3.Gen.frame m ρ

theorem frame_ideal : Cert.quiescent_Kernel3Ideal := fun m ρ _ => Cert.Kernel3Ideal.Gen.frame m ρ

/-- The reference is host operations alone and declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  pair_intro
  · run_from Cert.Kernel3Ideal.Gen.run_main m g
  · run_from Cert.Reference3Ideal.Value.run m' g'
    exact (final m _).symm

end Cert.Ffn

end
-- ==== Proof.InprojPure.lean ====
/- The input projection call: what the body stores in a block and what the reference computes, each read at an index as
   the same packed row of products. -/
module

public import proofs.«01_k».proof.Proof.Gen.Kernel4Ideal.Frame
public import proofs.«01_k».proof.Proof.Gen.Reference4Ideal.Read
public import proofs.«01_k».proof.Proof.Row
public import Idealize.ShloMosaic.Lib.Pointwise

@[expose] public section

set_option maxRecDepth 16384

noncomputable section

open Idealize.ShloMosaic

namespace Cert.Inproj

section
open Cert.Kernel4Ideal Cert.Kernel4Ideal.Gen

/-- The body's stored block at an index: the normed row times the packed weights' column. -/
theorem pay1_at (v0 : FVec Ideal S512x1024 .f32) (v2 : FVec Ideal S1x1024 .f32) (v4 v6 : FVec Ideal S1x1x1024 .f32)
    (w : FVec Ideal S1024x3200 .bf16) (r : Fin 512) (q : Fin 3200) :
    k0_pay1 (F := Ideal) v0 v2 v4 v6 w (ix2 r q : S512x3200.Idx)
      = ∑ k : Fin 1024, Row.nrm (fun j => v0 (ix2 r j)) (fun j => v2 (ix2 0 j)) (fun j => v4 (ix3 0 0 j)) (fun j => v6 (ix3 0 0 j)) k
          * w (ix2 k q) := by
  pointwise [k0_pay1, Row.nrm]

end

section
open Cert.Reference4Ideal Cert.Reference4Ideal.Gen Cert.Reference4Ideal.Read

theorem ref25_at (x0 : FVec Ideal S8x2048x1024 .f32) (x1 : FVec Ideal S8x6144 .f32) (x2 : FVec Ideal S1024 .f32)
    (b : Fin 8) (s : Fin 2048) (k : Fin 1024) :
    val_main_v25 (F := Ideal) x0 x1 x2 (ix3 b s k : S8x2048x1024.Idx)
      = Row.nrm (fun j => x0 (ix3 b s j)) (fun j => x2 (ix1 j)) (fun j => x1 (ix2 b ⟨1024 + j.val, by omega⟩))
          (fun j => x1 (ix2 b ⟨0 + j.val, by omega⟩)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0,
    val_main_cst, val_main_cst_0, val_main_cst_1, val_main_cst_2, Row.nrm]

/-- The reference at an index. -/
theorem ref_at (x0 : FVec Ideal S8x2048x1024 .f32) (x1 : FVec Ideal S8x6144 .f32) (x2 : FVec Ideal S1024 .f32)
    (x3 : FVec Ideal S1024x7096 .f32) (i : Fin 16384) (q : Fin 3200) :
    val_main_v38 (F := Ideal) x0 x1 x2 x3 (ix2 i q : S16384x3200.Idx)
      = ∑ k : Fin 1024, Row.nrm (fun j => x0 (ix3 ⟨i.val / 2048, by omega⟩ ⟨i.val % 2048, by omega⟩ j)) (fun j => x2 (ix1 j))
          (fun j => x1 (ix2 ⟨i.val / 2048, by omega⟩ ⟨1024 + j.val, by omega⟩))
          (fun j => x1 (ix2 ⟨i.val / 2048, by omega⟩ ⟨0 + j.val, by omega⟩)) k
          * Row.pack (fun c => x3 (ix2 k c)) q := by
  rw [Row.sum_pack]
  have h27 : ∀ c : Fin 7096, val_main_v27 (F := Ideal) x0 x1 x2 x3 (ix2 i c : S16384x7096.Idx)
      = ∑ k : Fin 1024, val_main_v25 (F := Ideal) x0 x1 x2 (ix3 (⟨i.val / 2048, by omega⟩ : Fin 8) (⟨i.val % 2048, by omega⟩ : Fin 2048) k : S8x2048x1024.Idx)
          * x3 (ix2 k c) := by
    intro c
    unfold val_main_v27 val_main_v26
    generalize val_main_v25 (F := Ideal) x0 x1 x2 = y
    pointwise []
  simp only [← ref25_at x0 x1 x2, ← h27]
  unfold val_main_v38 val_main_v37 val_main_v36 val_main_v35 val_main_v34 val_main_v33 val_main_v32 val_main_v31
    val_main_v30 val_main_v29 val_main_v28 val_main_cst_3 val_main_cst_4
  generalize val_main_v27 (F := Ideal) x0 x1 x2 x3 = y
  pointwise [Row.pack]

end

end Cert.Inproj

end
-- ==== Proof.InprojValue.lean ====
/- The input projection call: the array after the run is the reference's function of the argument arrays, and the claim. -/
module

public import proofs.«01_k».proof.Proof.Gen.Kernel4Ideal.Value
public import proofs.«01_k».proof.Proof.Gen.Reference4Ideal.Run
public import proofs.«01_k».proof.Proof.InprojPure
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Inproj

section
open Cert.Kernel4Ideal Cert.Kernel4Ideal.Gen

variable (m : (ℓ : Loc nD τ sig) → Buf (Elt Ideal) ℓ)

/-- The windows' block indices at every grid point: rows move with the point, the modulation rows with the batch. -/
theorem idx_val : ∀ t : Fin cfg0.N, win0_0.index t = ![t.val, 0] ∧ win0_1.index t = ![t.val / 4, 0, 1]
    ∧ win0_2.index t = ![t.val / 4, 0, 0] ∧ win0_3.index t = ![0, 0] ∧ win0_4.index t = ![0, 0] ∧ win0_5.index t = ![t.val, 0] :=
  (by decide +kernel : ∀ t : Fin grid0.N, _)

/-- The reference's result over the argument arrays. -/
abbrev REF (x0 : FVec Ideal Cert.Reference4Ideal.S8x2048x1024 .f32) (x1 : FVec Ideal Cert.Reference4Ideal.S8x6144 .f32) (x2 : FVec Ideal Cert.Reference4Ideal.S1024 .f32)
    (x3 : FVec Ideal Cert.Reference4Ideal.S1024x7096 .f32) : FVec Ideal Cert.Reference4Ideal.S16384x3200 .f32 :=
  Cert.Reference4Ideal.Read.val_main_v38 (F := Ideal) x0 x1 x2 x3

theorem nrm_congr {x x' g g' sc sc' sh sh' : Fin 1024 → EReal} (hx : ∀ j, x j = x' j) (hg : ∀ j, g j = g' j)
    (hsc : ∀ j, sc j = sc' j) (hsh : ∀ j, sh j = sh' j) (k : Fin 1024) : Row.nrm x g sc sh k = Row.nrm x' g' sc' sh' k := by
  rw [funext hx, funext hg, funext hsc, funext hsh]

/-- A concatenation of equal lists of pieces. -/
theorem concat_congr {α : Type} {t : Shape} {a : Fin t.rank} {l l' : List ((s : Shape) × (s.Idx → α))} (h : l = l')
    (hl : Shape.Concatenates (l.map (·.1)) t a) (hl' : Shape.Concatenates (l'.map (·.1)) t a) : concatenate t a l hl = concatenate t a l' hl' := by
  subst h; rfl

/-- The packed weights at the launch: the columns of the argument side by side, with zero columns as padding. -/
theorem packed (c : Dev nD) : V m c main_v13 = truncf (F := Ideal) .bf16 (concatenate S1024x3200 1
    [⟨S1024x256, (extractStridedSlice S1024x256 ![0, 256] (m ((c : Thread nD τ).loc main_arg3) : FVec Ideal S1024x7096 .f32) slices_S1024x7096_S1024x256_0_256 : FVec Ideal S1024x256 .f32)⟩,
      ⟨S1024x256, (extractStridedSlice S1024x256 ![0, 528] (m ((c : Thread nD τ).loc main_arg3) : FVec Ideal S1024x7096 .f32) slices_S1024x7096_S1024x256_0_528 : FVec Ideal S1024x256 .f32)⟩,
      ⟨S1024x256, (extractStridedSlice S1024x256 ![0, 0] (m ((c : Thread nD τ).loc main_arg3) : FVec Ideal S1024x7096 .f32) slices_S1024x7096_S1024x256_0_0 : FVec Ideal S1024x256 .f32)⟩,
      ⟨S1024x1024, (extractStridedSlice S1024x1024 ![0, 784] (m ((c : Thread nD τ).loc main_arg3) : FVec Ideal S1024x7096 .f32) slices_S1024x7096_S1024x1024_0_784 : FVec Ideal S1024x1024 .f32)⟩,
      ⟨S1024x256, (extractStridedSlice S1024x256 ![0, 1848] (m ((c : Thread nD τ).loc main_arg3) : FVec Ideal S1024x7096 .f32) slices_S1024x7096_S1024x256_0_1848 : FVec Ideal S1024x256 .f32)⟩,
      ⟨S1024x896, (extractStridedSlice S1024x896 ![0, 2104] (m ((c : Thread nD τ).loc main_arg3) : FVec Ideal S1024x7096 .f32) slices_S1024x7096_S1024x896_0_2104 : FVec Ideal S1024x896 .f32)⟩,
      ⟨S1024x16, (extractStridedSlice S1024x16 ![0, 512] (m ((c : Thread nD τ).loc main_arg3) : FVec Ideal S1024x7096 .f32) slices_S1024x7096_S1024x16_0_512 : FVec Ideal S1024x16 .f32)⟩,
      ⟨S1024x112, (broadcastInDim S1024x112 ![] bcast_S_S1024x112 (constant (F := Ideal) S_ .f32 0x00000000#32) : FVec Ideal S1024x112 .f32)⟩,
      ⟨S1024x40, (extractStridedSlice S1024x40 ![0, 1808] (m ((c : Thread nD τ).loc main_arg3) : FVec Ideal S1024x7096 .f32) slices_S1024x7096_S1024x40_0_1808 : FVec Ideal S1024x40 .f32)⟩,
      ⟨S1024x88, (broadcastInDim S1024x88 ![] bcast_S_S1024x88 (constant (F := Ideal) S_ .f32 0x00000000#32) : FVec Ideal S1024x88 .f32)⟩]
    concatenates_S1024x256_S1024x256_S1024x256_S1024x1024_S1024x256_S1024x896_S1024x16_S1024x112_S1024x40_S1024x88_S1024x3200_d1) bitsLt_bf16_f32 := by
  show StableHlo.after hostOps0 (fun b => m (c, b)) main_v13 = _
  simp only [StableHlo.after_cons, StableHlo.after_nil]
  after_results_simp
  dsimp only [Matrix.cons_val]
  refine congrArg (fun z => truncf (F := Ideal) .bf16 z bitsLt_bf16_f32) (concat_congr ?_ _ _)
  after_results_simp
/-- The staged weights are the packed columns of the argument's. -/
theorem weights_at (c : Dev nD) (t : Fin cfg0.N) (k : Fin 1024) (q : Fin 3200) :
    (iblk m c 4 t) (ix2 k q : S1024x3200.Idx) = Row.pack (fun j => m ((c : Thread nD τ).loc main_arg3) (ix2 k j)) q := by
  have h0 : (iblk m c 4 t) (ix2 k q : S1024x3200.Idx) = V m c main_v13 (ix2 k q : S1024x3200.Idx) := by
    blk_point [iblk, idx_val t]
  rw [h0, packed]
  generalize m ((c : Thread nD τ).loc main_arg3) = w
  pointwise [Row.pack]

theorem point (c : Dev nD) (t : Fin cfg0.N) (y : S512x3200.Idx) :
    k0_pay1 (F := Ideal) (iblk m c 0 t) (iblk m c 3 t) (iblk m c 1 t) (iblk m c 2 t) (iblk m c 4 t) y
      = REF (m ((c : Thread nD τ).loc main_arg0)) (m ((c : Thread nD τ).loc main_arg1)) (m ((c : Thread nD τ).loc main_arg2)) (m ((c : Thread nD τ).loc main_arg3)) (((cfg0.win 5).blk t).view.emb y) := by
  have ht : t.val < 32 := t.isLt
  have hemb : ((cfg0.win 5).blk t).view.emb y = (ix2 (⟨t.val * 512 + (y 0).val, by have := (y 0).isLt; change (y 0).val < 512 at this; omega⟩ : Fin 16384) (⟨(y 1).val, (y 1).isLt⟩ : Fin 3200) : S16384x3200.Idx) := by
    blk_ext [idx_val t]
  rw [hemb]
  idx_vars y
  refine (pay1_at (iblk m c 0 t) (iblk m c 3 t) (iblk m c 1 t) (iblk m c 2 t) (iblk m c 4 t) _ _).trans ?_
  refine Eq.trans ?_ (ref_at _ _ _ _ _ _).symm
  refine Finset.sum_congr rfl fun k _ => congrArg₂ (· * ·) (nrm_congr (fun j => ?_) (fun j => ?_) (fun j => ?_) (fun j => ?_) k)
    (weights_at m c t k _)
  all_goals blk_point [iblk, V, idx_val t]

/-- The result array after the run. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point m c t y

end

end Cert.Inproj

end
-- ==== Proof.InprojClaim.lean ====
/- The input projection call's claims: the three frames, and that kernel and reference leave the same array. -/
module

public import proofs.«01_k».proof.Proof.InprojValue
public import proofs.«01_k».proof.Proof.Gen.Kernel4.Frame

@[expose] public section

set_option maxRecDepth 16384

noncomputable section

open Idealize.ShloMosaic Idealize.ShloMosaic.TcCoe Idealize.SL.Sem

namespace Cert.Inproj

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference is host operations alone and declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  pair_intro
  · run_from Cert.Kernel4Ideal.Gen.run_main m g
  · run_from Cert.Reference4Ideal.Value.run m' g'
    refine (Cert.Reference4Ideal.Read.val_main_v38_eq _ _).trans ?_
    obtain ⟨h0, h1, h2, h3⟩ := hagree c
    simp only [h0, h1, h2, h3]
    exact (final m c).symm

end Cert.Inproj

end
-- ==== Proof.S5StepHost.lean ====
/- The arrays the decoding step's call is given by its host code, at an index: decay, block-diagonal matrices, skip and gate weights, the sequences' states and inputs. -/
module

public import proofs.«01_k».proof.Proof.S5Host
public import proofs.«01_k».proof.Proof.Gen.Kernel5Ideal.Frame
public import proofs.«01_k».proof.Proof.Gen.Reference5Ideal.Read

@[expose] public section

set_option maxRecDepth 16384

noncomputable section

open Idealize.ShloMosaic Idealize.ShloMosaic.TcCoe Idealize.SL.Sem
open Cert.Kernel5Ideal Cert.Kernel5Ideal.Gen

namespace Cert.S5Step

variable (m : (ℓ : Loc nD τ sig) → Buf (Elt Ideal) ℓ) (c : Dev nD)

/-- The decay and the input matrix, as the reference's lines make them of the arguments. -/
def abr : FVec Ideal S16x64 .f32 := Cert.Reference5Ideal.Read.val_main_v13 (F := Ideal) (m ((c : Thread nD τ).loc main_arg3)) (m ((c : Thread nD τ).loc main_arg4)) (m ((c : Thread nD τ).loc main_arg5))
def abi : FVec Ideal S16x64 .f32 := Cert.Reference5Ideal.Read.val_main_v17 (F := Ideal) (m ((c : Thread nD τ).loc main_arg3)) (m ((c : Thread nD τ).loc main_arg4)) (m ((c : Thread nD τ).loc main_arg5))
def bbr : FVec Ideal S16x64x16 .f32 := Cert.Reference5Ideal.Read.val_main_v39 (F := Ideal) (m ((c : Thread nD τ).loc main_arg3)) (m ((c : Thread nD τ).loc main_arg4)) (m ((c : Thread nD τ).loc main_arg5)) (m ((c : Thread nD τ).loc main_arg6)) (m ((c : Thread nD τ).loc main_arg7))
def bbi : FVec Ideal S16x64x16 .f32 := Cert.Reference5Ideal.Read.val_main_v46 (F := Ideal) (m ((c : Thread nD τ).loc main_arg3)) (m ((c : Thread nD τ).loc main_arg4)) (m ((c : Thread nD τ).loc main_arg5)) (m ((c : Thread nD τ).loc main_arg6)) (m ((c : Thread nD τ).loc main_arg7))

/-- The packed projection, the states, the output matrices, the skip and the gate's weights. -/
def pA : FVec Ideal S1024x3200 .f32 := m ((c : Thread nD τ).loc main_arg0)
def sR : FVec Ideal S128x16x64 .f32 := m ((c : Thread nD τ).loc main_arg1)
def sI : FVec Ideal S128x16x64 .f32 := m ((c : Thread nD τ).loc main_arg2)
def cR : FVec Ideal S16x16x64 .f32 := m ((c : Thread nD τ).loc main_arg8)
def cI : FVec Ideal S16x16x64 .f32 := m ((c : Thread nD τ).loc main_arg9)
def dA : FVec Ideal S16x16 .f32 := m ((c : Thread nD τ).loc main_arg10)
def gW : FVec Ideal S256x256 .f32 := m ((c : Thread nD τ).loc main_arg11)
def gB : FVec Ideal S256 .f32 := m ((c : Thread nD τ).loc main_arg12)

theorem v10_eq : V m c main_v10 = abr m c := by
  show StableHlo.after hostOps0 (fun b => m (c, b)) main_v10 = _
  simp only [StableHlo.after_cons, StableHlo.after_nil]
  after_results_simp
  rfl
theorem v14_eq : V m c main_v14 = abi m c := by
  show StableHlo.after hostOps0 (fun b => m (c, b)) main_v14 = _
  simp only [StableHlo.after_cons, StableHlo.after_nil]
  after_results_simp
  rfl
theorem v36_eq : V m c main_v36 = bbr m c := by
  show StableHlo.after hostOps0 (fun b => m (c, b)) main_v36 = _
  simp only [StableHlo.after_cons, StableHlo.after_nil]
  after_results_simp
  rfl
theorem v43_eq : V m c main_v43 = bbi m c := by
  show StableHlo.after hostOps0 (fun b => m (c, b)) main_v43 = _
  simp only [StableHlo.after_cons, StableHlo.after_nil]
  after_results_simp
  rfl

theorem v74_eq : V m c main_v74 = concatenate S1x2048 1 [⟨S1x1024, (shapeCast S1x1024 (abr m c) shapeCasts_S16x64_S1x1024 : FVec Ideal S1x1024 .f32)⟩, ⟨S1x1024, (shapeCast S1x1024 (abi m c) shapeCasts_S16x64_S1x1024 : FVec Ideal S1x1024 .f32)⟩] concatenates_S1x1024_S1x1024_S1x2048_d1 := by
  rw [← v10_eq, ← v14_eq]
  show StableHlo.after hostOps0 (fun b => m (c, b)) main_v74 = concatenate S1x2048 1 [⟨S1x1024, (shapeCast S1x1024 (StableHlo.after hostOps0 (fun b => m (c, b)) main_v10) shapeCasts_S16x64_S1x1024 : FVec Ideal S1x1024 .f32)⟩, ⟨S1x1024, (shapeCast S1x1024 (StableHlo.after hostOps0 (fun b => m (c, b)) main_v14) shapeCasts_S16x64_S1x1024 : FVec Ideal S1x1024 .f32)⟩] _
  simp only [StableHlo.after_cons, StableHlo.after_nil]
  after_results_simp
  all_goals rfl

theorem v71_eq : V m c main_v71 = truncf (F := Ideal) .bf16 (concatenate S256x2048 1 [⟨S256x1024, Cert.S5.Host.inDiag (bbr m c)⟩, ⟨S256x1024, Cert.S5.Host.inDiag (bbi m c)⟩] concatenates_S256x1024_S256x1024_S256x2048_d1) bitsLt_bf16_f32 := by
  rw [← v36_eq, ← v43_eq]
  show StableHlo.after hostOps0 (fun b => m (c, b)) main_v71 = truncf (F := Ideal) .bf16 (concatenate S256x2048 1 [⟨S256x1024, Cert.S5.Host.inDiag (StableHlo.after hostOps0 (fun b => m (c, b)) main_v36)⟩, ⟨S256x1024, Cert.S5.Host.inDiag (StableHlo.after hostOps0 (fun b => m (c, b)) main_v43)⟩] _) _
  simp only [StableHlo.after_cons, StableHlo.after_nil]
  after_results_simp
  all_goals rfl

theorem v103_eq : V m c main_v103 = truncf (F := Ideal) .bf16 (concatenate S2048x256 0 [⟨S1024x256, Cert.S5.Host.outDiag (cR m c)⟩, ⟨S1024x256, (Host.negf (Cert.S5.Host.outDiag (cI m c)) : FVec Ideal S1024x256 .f32)⟩] concatenates_S1024x256_S1024x256_S2048x256_d0) bitsLt_bf16_f32 := by
  show StableHlo.after hostOps0 (fun b => m (c, b)) main_v103 = _
  simp only [StableHlo.after_cons, StableHlo.after_nil]
  after_results_simp
  all_goals rfl

theorem v104_eq : V m c main_v104 = (shapeCast S1x256 (dA m c) shapeCasts_S16x16_S1x256 : FVec Ideal S1x256 .f32) := by
  show StableHlo.after hostOps0 (fun b => m (c, b)) main_v104 = _
  simp only [StableHlo.after_cons, StableHlo.after_nil]
  after_results_simp
  all_goals rfl

theorem v105_eq : V m c main_v105 = truncf (F := Ideal) .bf16 (gW m c) bitsLt_bf16_f32 := by
  show StableHlo.after hostOps0 (fun b => m (c, b)) main_v105 = _
  simp only [StableHlo.after_cons, StableHlo.after_nil]
  after_results_simp
  all_goals rfl

theorem v106_eq : V m c main_v106 = (broadcastInDim S1x256 ![1] bcast_S256_S1x256_1 (gB m c) : FVec Ideal S1x256 .f32) := by
  show StableHlo.after hostOps0 (fun b => m (c, b)) main_v106 = _
  simp only [StableHlo.after_cons, StableHlo.after_nil]
  after_results_simp
  all_goals rfl

theorem a_at (q : Fin 1024) :
    (V m c main_v74 : FVec Ideal S1x2048 .f32) (ix2 (0 : Fin 1) (⟨q.val, by omega⟩ : Fin 2048) : S1x2048.Idx) = abr m c (ix2 (Cert.S5.Spec.grp q) (Cert.S5.Spec.pos q) : S16x64.Idx)
    ∧ (V m c main_v74 : FVec Ideal S1x2048 .f32) (ix2 (0 : Fin 1) (⟨1024 + q.val, by omega⟩ : Fin 2048) : S1x2048.Idx) = abi m c (ix2 (Cert.S5.Spec.grp q) (Cert.S5.Spec.pos q) : S16x64.Idx) := by
  rw [v74_eq]
  generalize abr m c = x
  generalize abi m c = y
  constructor <;> pointwise [Cert.S5.Spec.grp, Cert.S5.Spec.pos]

theorem b_at (k : Fin 256) (q : Fin 1024) :
    (V m c main_v71 : FVec Ideal S256x2048 .bf16) (ix2 k (⟨q.val, by omega⟩ : Fin 2048) : S256x2048.Idx)
      = bbr m c (ix3 (Cert.S5.Spec.cgrp k) (Cert.S5.Spec.pos q) (Cert.S5.Spec.cpos k) : S16x64x16.Idx) * (if Cert.S5.Spec.cgrp k = Cert.S5.Spec.grp q then (1 : EReal) else 0)
    ∧ (V m c main_v71 : FVec Ideal S256x2048 .bf16) (ix2 k (⟨1024 + q.val, by omega⟩ : Fin 2048) : S256x2048.Idx)
      = bbi m c (ix3 (Cert.S5.Spec.cgrp k) (Cert.S5.Spec.pos q) (Cert.S5.Spec.cpos k) : S16x64x16.Idx) * (if Cert.S5.Spec.cgrp k = Cert.S5.Spec.grp q then (1 : EReal) else 0) := by
  rw [v71_eq, ← Cert.S5.Host.inDiag_at, ← Cert.S5.Host.inDiag_at]
  generalize Cert.S5.Host.inDiag (bbr m c) = x
  generalize Cert.S5.Host.inDiag (bbi m c) = y
  constructor <;> pointwise []

theorem c_at (q : Fin 1024) (k : Fin 256) :
    (V m c main_v103 : FVec Ideal S2048x256 .bf16) (ix2 (⟨q.val, by omega⟩ : Fin 2048) k : S2048x256.Idx)
      = cR m c (ix3 (Cert.S5.Spec.grp q) (Cert.S5.Spec.cpos k) (Cert.S5.Spec.pos q) : S16x16x64.Idx) * (if Cert.S5.Spec.grp q = Cert.S5.Spec.cgrp k then (1 : EReal) else 0)
    ∧ (V m c main_v103 : FVec Ideal S2048x256 .bf16) (ix2 (⟨1024 + q.val, by omega⟩ : Fin 2048) k : S2048x256.Idx)
      = -(cI m c (ix3 (Cert.S5.Spec.grp q) (Cert.S5.Spec.cpos k) (Cert.S5.Spec.pos q) : S16x16x64.Idx) * (if Cert.S5.Spec.grp q = Cert.S5.Spec.cgrp k then (1 : EReal) else 0)) := by
  rw [v103_eq, ← Cert.S5.Host.outDiag_at, ← Cert.S5.Host.outDiag_at]
  generalize Cert.S5.Host.outDiag (cR m c) = x
  generalize Cert.S5.Host.outDiag (cI m c) = y
  constructor <;> pointwise []

theorem d_at (k : Fin 256) :
    (V m c main_v104 : FVec Ideal S1x256 .f32) (ix2 (0 : Fin 1) k : S1x256.Idx) = dA m c (ix2 (Cert.S5.Spec.cgrp k) (Cert.S5.Spec.cpos k) : S16x16.Idx) := by
  rw [v104_eq]
  generalize dA m c = x
  pointwise [Cert.S5.Spec.cgrp, Cert.S5.Spec.cpos]

theorem gw_at (j k : Fin 256) :
    (V m c main_v105 : FVec Ideal S256x256 .bf16) (ix2 j k : S256x256.Idx) = gW m c (ix2 j k : S256x256.Idx) := by
  rw [v105_eq]
  generalize gW m c = x
  pointwise []

theorem gb_at (k : Fin 256) :
    (V m c main_v106 : FVec Ideal S1x256 .f32) (ix2 (0 : Fin 1) k : S1x256.Idx) = gB m c (ix1 k : S256.Idx) := by
  rw [v106_eq]
  generalize gB m c = x
  pointwise []

/-- The inputs of the step: the first of each sequence's eight rows. -/
theorem p_at (b : Fin 128) (j : Fin 3200) :
    (V m c main_v112 : FVec Ideal S128x3200 .f32) (ix2 b j : S128x3200.Idx) = pA m c (ix2 (⟨b.val * 8, by omega⟩ : Fin 1024) j : S1024x3200.Idx) := by
  have e : V m c main_v112 = (shapeCast S128x3200 (extractStridedSlice S128x1x3200 ![0, 0, 0] (shapeCast S128x8x3200 (pA m c) shapeCasts_S1024x3200_S128x8x3200 : FVec Ideal S128x8x3200 .f32) slices_S128x8x3200_S128x1x3200_0_0_0 : FVec Ideal S128x1x3200 .f32) shapeCasts_S128x1x3200_S128x3200 : FVec Ideal S128x3200 .f32) := by
    show StableHlo.after hostOps0 (fun b => m (c, b)) main_v112 = _
    simp only [StableHlo.after_cons, StableHlo.after_nil]
    after_results_simp
    all_goals rfl
  rw [e]
  generalize pA m c = x
  pointwise []

/-- The states the step starts from, real parts beside imaginary parts. -/
theorem x_at (b : Fin 128) (q : Fin 1024) :
    (V m c main_v113 : FVec Ideal S128x2048 .f32) (ix2 b (⟨q.val, by omega⟩ : Fin 2048) : S128x2048.Idx) = sR m c (ix3 b (Cert.S5.Spec.grp q) (Cert.S5.Spec.pos q) : S128x16x64.Idx)
    ∧ (V m c main_v113 : FVec Ideal S128x2048 .f32) (ix2 b (⟨1024 + q.val, by omega⟩ : Fin 2048) : S128x2048.Idx) = sI m c (ix3 b (Cert.S5.Spec.grp q) (Cert.S5.Spec.pos q) : S128x16x64.Idx) := by
  have e : V m c main_v113 = (shapeCast S128x2048 (concatenate S128x1x2048 2 [⟨S128x1x1024, (shapeCast S128x1x1024 (sR m c) shapeCasts_S128x16x64_S128x1x1024 : FVec Ideal S128x1x1024 .f32)⟩, ⟨S128x1x1024, (shapeCast S128x1x1024 (sI m c) shapeCasts_S128x16x64_S128x1x1024 : FVec Ideal S128x1x1024 .f32)⟩] concatenates_S128x1x1024_S128x1x1024_S128x1x2048_d2 : FVec Ideal S128x1x2048 .f32) shapeCasts_S128x1x2048_S128x2048 : FVec Ideal S128x2048 .f32) := by
    show StableHlo.after hostOps0 (fun b => m (c, b)) main_v113 = _
    simp only [StableHlo.after_cons, StableHlo.after_nil]
    after_results_simp
    all_goals rfl
  rw [e]
  generalize sR m c = x
  generalize sI m c = y
  constructor <;> pointwise [Cert.S5.Spec.grp, Cert.S5.Spec.pos]

end Cert.S5Step

end
-- ==== Proof.S5StepPure.lean ====
/- What the decoding step's body computes, at an index, and what the reference computes there. -/
module

public import proofs.«01_k».proof.Proof.S5Sums
public import proofs.«01_k».proof.Proof.Gen.Kernel5Ideal.Skeleton
public import proofs.«01_k».proof.Proof.Gen.Reference5Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.S5Step

section
open Cert.Kernel5Ideal Cert.Kernel5Ideal.Gen

/-- The new state of a sequence. -/
theorem state_at (x0 : FVec Ideal S128x256 .f32) (x3 : FVec Ideal S256x2048 .bf16) (ar ai : FVec Ideal S1x1024 .f32) (xr xi : FVec Ideal S128x1024 .f32) (b : Fin 128) (q : Fin 1024) :
    (k0_pay8 (F := Ideal) x0 x3 ar ai xr xi (ix2 b q : S128x1024.Idx), k0_pay9 (F := Ideal) x0 x3 ar ai xr xi (ix2 b q : S128x1024.Idx))
      = Cert.S5.Spec.stp (ar (ix2 (0 : Fin 1) q : S1x1024.Idx)) (ai (ix2 (0 : Fin 1) q : S1x1024.Idx))
          (∑ k : Fin 256, x0 (ix2 b k : S128x256.Idx) * x3 (ix2 k (⟨q.val, by omega⟩ : Fin 2048) : S256x2048.Idx))
          (∑ k : Fin 256, x0 (ix2 b k : S128x256.Idx) * x3 (ix2 k (⟨1024 + q.val, by omega⟩ : Fin 2048) : S256x2048.Idx))
          (xr (ix2 b q : S128x1024.Idx), xi (ix2 b q : S128x1024.Idx)) := by
  refine Prod.ext ?_ ?_ <;> pointwise [k0_pay8, k0_pay9, k0_pay7, k0_pay6, k0_pay5, k0_pay4, k0_pay3, k0_pay2, Cert.S5.Spec.stp]

/-- The two products of the read-out, from the new states. -/
theorem pay10_at (x0 : FVec Ideal S128x256 .f32) (x3 : FVec Ideal S256x2048 .bf16) (ar ai : FVec Ideal S1x1024 .f32) (xr xi : FVec Ideal S128x1024 .f32)
    (c0 c1 : FVec Ideal S1024x256 .bf16) (b : Fin 128) (k : Fin 256) :
    k0_pay10 (F := Ideal) x0 x3 ar ai xr xi c0 c1 (ix2 b k : S128x256.Idx)
      = ∑ q : Fin 1024, k0_pay8 (F := Ideal) x0 x3 ar ai xr xi (ix2 b q : S128x1024.Idx) * c0 (ix2 q k : S1024x256.Idx)
        + ∑ q : Fin 1024, k0_pay9 (F := Ideal) x0 x3 ar ai xr xi (ix2 b q : S128x1024.Idx) * c1 (ix2 q k : S1024x256.Idx) := by
  unfold k0_pay10
  generalize k0_pay8 (F := Ideal) x0 x3 ar ai xr xi = u
  generalize k0_pay9 (F := Ideal) x0 x3 ar ai xr xi = v
  pointwise []

/-- The activation as the body takes it: the half is multiplied first. -/
theorem half_first (y : EReal) : Ideal.ofBits .f32 0x3F000000#32 * y * (1 + Ideal.tanh (Ideal.ofBits .f32 0x3F4C422A#32 * (y + Ideal.ofBits .f32 0x3D372713#32 * (y * y * y)))) = Cert.S5.Spec.gelu y :=
  (mul_assoc _ _ _).trans (mul_left_comm _ _ _)

/-- The gated activations. -/
theorem pay1_at (x0 : FVec Ideal S128x256 .f32) (y : FVec Ideal S128x256 .f32) (d : FVec Ideal S1x256 .f32) (w : FVec Ideal S256x256 .bf16) (g : FVec Ideal S1x256 .f32) (b : Fin 128) (k : Fin 256) :
    k0_pay1 (F := Ideal) (k0_pay2 x0) y d w g (ix2 b k : S128x256.Idx)
      = Cert.S5.Spec.gate (fun j => w (ix2 j k : S256x256.Idx)) (g (ix2 (0 : Fin 1) k : S1x256.Idx))
          (Cert.S5.Spec.gelu (y (ix2 b k : S128x256.Idx) + d (ix2 (0 : Fin 1) k : S1x256.Idx) * x0 (ix2 b k : S128x256.Idx)))
          (fun j => Cert.S5.Spec.gelu (y (ix2 b j : S128x256.Idx) + d (ix2 (0 : Fin 1) j : S1x256.Idx) * x0 (ix2 b j : S128x256.Idx))) := by
  simp only [← half_first]
  pointwise [k0_pay1, k0_pay2, Cert.S5.Spec.gate]
  exact congrArg (fun z => _ * Ideal.div 1 (1 + Ideal.exp z)) ((sub_eq_add_neg _ _).trans (zero_add _))

end

section
open Cert.Reference5Ideal Cert.Reference5Ideal.Read

/-- The row of the packed projection that holds a sequence's step, and its columns the layer reads. -/
def U (a0 : FVec Ideal S1024x3200 .f32) (b : Fin 128) (k : Fin 256) : EReal :=
  a0 (ix2 (⟨b.val * 8, by omega⟩ : Fin 1024) (⟨1792 + k.val, by omega⟩ : Fin 3200) : S1024x3200.Idx)

/-- What the inputs add to a sequence's state. -/
def drv (B : Fin 16 → Fin 64 → Fin 16 → EReal) (u : Fin 256 → EReal) (g : Fin 16) (p : Fin 64) : EReal :=
  ∑ r : Fin 16, B g p r * u (Cert.S5.Spec.chan g r)

variable (a0 : FVec Ideal S1024x3200 .f32) (a1 a2 : FVec Ideal S128x16x64 .f32) (a3 a4 : FVec Ideal S16x64 .f32) (a5 : FVec Ideal S16 .f32)
    (a6 a7 : FVec Ideal S16x64x16 .f32) (a8 a9 : FVec Ideal S16x16x64 .f32) (a10 : FVec Ideal S16x16 .f32) (a11 : FVec Ideal S256x256 .f32) (a12 : FVec Ideal S256 .f32)

theorem u_at (b : Fin 128) (g r : Fin 16) :
    val_main_v2 (F := Ideal) a0 (ix4 b (0 : Fin 1) g r : S128x1x16x16.Idx) = U a0 b (Cert.S5.Spec.chan g r) := by
  pointwise [val_main_v2, val_main_v1, val_main_v0, U, Cert.S5.Spec.chan]

/-- The reference's new state. -/
def ST (b : Fin 128) (g : Fin 16) (p : Fin 64) : EReal × EReal :=
  Cert.S5.Spec.stp (val_main_v13 (F := Ideal) a3 a4 a5 (ix2 g p : S16x64.Idx)) (val_main_v17 (F := Ideal) a3 a4 a5 (ix2 g p : S16x64.Idx))
    (drv (fun g p r => val_main_v39 (F := Ideal) a3 a4 a5 a6 a7 (ix3 g p r : S16x64x16.Idx)) (U a0 b) g p)
    (drv (fun g p r => val_main_v46 (F := Ideal) a3 a4 a5 a6 a7 (ix3 g p r : S16x64x16.Idx)) (U a0 b) g p)
    (a1 (ix3 b g p : S128x16x64.Idx), a2 (ix3 b g p : S128x16x64.Idx))

theorem v48_at (b : Fin 128) (g : Fin 16) (p : Fin 64) :
    val_main_v48 (F := Ideal) a0 a3 a4 a5 a6 a7 (ix4 b (0 : Fin 1) g p : S128x1x16x64.Idx)
      = drv (fun g p r => val_main_v39 (F := Ideal) a3 a4 a5 a6 a7 (ix3 g p r : S16x64x16.Idx)) (U a0 b) g p := by
  unfold val_main_v48 val_main_v47 drv
  simp only [← u_at]
  generalize val_main_v39 (F := Ideal) a3 a4 a5 a6 a7 = x
  generalize val_main_v2 (F := Ideal) a0 = y
  pointwise []

theorem v50_at (b : Fin 128) (g : Fin 16) (p : Fin 64) :
    val_main_v50 (F := Ideal) a0 a3 a4 a5 a6 a7 (ix4 b (0 : Fin 1) g p : S128x1x16x64.Idx)
      = drv (fun g p r => val_main_v46 (F := Ideal) a3 a4 a5 a6 a7 (ix3 g p r : S16x64x16.Idx)) (U a0 b) g p := by
  unfold val_main_v50 val_main_v49 drv
  simp only [← u_at]
  generalize val_main_v46 (F := Ideal) a3 a4 a5 a6 a7 = x
  generalize val_main_v2 (F := Ideal) a0 = y
  pointwise []

theorem v61_at (b : Fin 128) (g : Fin 16) (p : Fin 64) :
    val_main_v61 (F := Ideal) a0 a1 a2 a3 a4 a5 a6 a7 (ix4 b (0 : Fin 1) g p : S128x1x16x64.Idx) = (ST a0 a1 a2 a3 a4 a5 a6 a7 b g p).1 := by
  unfold ST Cert.S5.Spec.stp
  rw [← v48_at]
  unfold val_main_v61 val_main_v57 val_main_v55 val_main_v56 val_main_v51 val_main_v52 val_main_v53 val_main_v54
  generalize val_main_v48 (F := Ideal) a0 a3 a4 a5 a6 a7 = d
  generalize val_main_v13 (F := Ideal) a3 a4 a5 = x
  generalize val_main_v17 (F := Ideal) a3 a4 a5 = y
  pointwise []
  exact add_comm _ _

theorem v62_at (b : Fin 128) (g : Fin 16) (p : Fin 64) :
    val_main_v62 (F := Ideal) a0 a1 a2 a3 a4 a5 a6 a7 (ix4 b (0 : Fin 1) g p : S128x1x16x64.Idx) = (ST a0 a1 a2 a3 a4 a5 a6 a7 b g p).2 := by
  unfold ST Cert.S5.Spec.stp
  rw [← v50_at]
  unfold val_main_v62 val_main_v60 val_main_v58 val_main_v59 val_main_v51 val_main_v52 val_main_v53 val_main_v54
  generalize val_main_v50 (F := Ideal) a0 a3 a4 a5 a6 a7 = d
  generalize val_main_v13 (F := Ideal) a3 a4 a5 = x
  generalize val_main_v17 (F := Ideal) a3 a4 a5 = y
  pointwise []
  exact add_comm _ _

/-- The reference's second result: the new states. -/
theorem last_at (b : Fin 128) (q : Fin 1024) :
    val_main_v102 (F := Ideal) a0 a1 a2 a3 a4 a5 a6 a7 (ix2 b (⟨q.val, by omega⟩ : Fin 2048) : S128x2048.Idx) = (ST a0 a1 a2 a3 a4 a5 a6 a7 b (Cert.S5.Spec.grp q) (Cert.S5.Spec.pos q)).1
    ∧ val_main_v102 (F := Ideal) a0 a1 a2 a3 a4 a5 a6 a7 (ix2 b (⟨1024 + q.val, by omega⟩ : Fin 2048) : S128x2048.Idx) = (ST a0 a1 a2 a3 a4 a5 a6 a7 b (Cert.S5.Spec.grp q) (Cert.S5.Spec.pos q)).2 := by
  rw [← v61_at, ← v62_at]
  unfold val_main_v102 val_main_v99 val_main_v98 val_main_v101 val_main_v100
  generalize val_main_v61 (F := Ideal) a0 a1 a2 a3 a4 a5 a6 a7 = x
  generalize val_main_v62 (F := Ideal) a0 a1 a2 a3 a4 a5 a6 a7 = y
  constructor <;> pointwise [Cert.S5.Spec.grp, Cert.S5.Spec.pos]

/-- The read-out of a sequence's new state, with the skip connection. -/
def RD (b : Fin 128) (k : Fin 256) : EReal :=
  Cert.S5.Spec.rd (fun p => a8 (ix3 (Cert.S5.Spec.cgrp k) (Cert.S5.Spec.cpos k) p : S16x16x64.Idx)) (fun p => a9 (ix3 (Cert.S5.Spec.cgrp k) (Cert.S5.Spec.cpos k) p : S16x16x64.Idx))
    (a10 (ix2 (Cert.S5.Spec.cgrp k) (Cert.S5.Spec.cpos k) : S16x16.Idx)) (U a0 b k) (fun p => ST a0 a1 a2 a3 a4 a5 a6 a7 b (Cert.S5.Spec.cgrp k) p)

theorem v73_at (b : Fin 128) (k : Fin 256) :
    val_main_v73 (F := Ideal) a0 a1 a2 a3 a4 a5 a6 a7 a8 a9 a10 (ix3 b (0 : Fin 1) k : S128x1x256.Idx) = RD a0 a1 a2 a3 a4 a5 a6 a7 a8 a9 a10 b k := by
  have hk : Cert.S5.Spec.chan (Cert.S5.Spec.cgrp k) (Cert.S5.Spec.cpos k) = k := Fin.ext (by show k.val / 16 * 16 + k.val % 16 = k.val; omega)
  have hu : U a0 b k = val_main_v2 (F := Ideal) a0 (ix4 b (0 : Fin 1) (Cert.S5.Spec.cgrp k) (Cert.S5.Spec.cpos k) : S128x1x16x16.Idx) := by rw [u_at, hk]
  unfold RD Cert.S5.Spec.rd
  rw [hu]
  simp only [← v61_at, ← v62_at]
  unfold val_main_v73 val_main_v72 val_main_v71 val_main_v70 val_main_v69 val_main_v68 val_main_v67 val_main_v66 val_main_v65 val_main_v64 val_main_v63
  generalize val_main_v61 (F := Ideal) a0 a1 a2 a3 a4 a5 a6 a7 = x
  generalize val_main_v62 (F := Ideal) a0 a1 a2 a3 a4 a5 a6 a7 = y
  generalize val_main_v2 (F := Ideal) a0 = u
  pointwise [Cert.S5.Spec.cgrp, Cert.S5.Spec.cpos]

theorem v86_at (b : Fin 128) (k : Fin 256) :
    val_main_v86 (F := Ideal) a0 a1 a2 a3 a4 a5 a6 a7 a8 a9 a10 (ix3 b (0 : Fin 1) k : S128x1x256.Idx) = Cert.S5.Spec.gelu (RD a0 a1 a2 a3 a4 a5 a6 a7 a8 a9 a10 b k) := by
  rw [← v73_at]
  unfold val_main_v86 val_main_v85 val_main_v84 val_main_v83 val_main_v82 val_main_v81 val_main_v80 val_main_v79 val_main_v78 val_main_v77 val_main_v76 val_main_v75 val_main_v74
  generalize val_main_v73 (F := Ideal) a0 a1 a2 a3 a4 a5 a6 a7 a8 a9 a10 = y
  pointwise [val_main_cst_2, val_main_cst_3, val_main_cst_4, val_main_cst_5, Cert.S5.Spec.gelu]

/-- The reference's first result: the gated activations. -/
theorem out_at (b : Fin 128) (k : Fin 256) :
    val_main_v103 (F := Ideal) a0 a1 a2 a3 a4 a5 a6 a7 a8 a9 a10 a11 a12 (ix2 b k : S128x256.Idx)
      = Cert.S5.Spec.gate (fun j => a11 (ix2 j k : S256x256.Idx)) (a12 (ix1 k : S256.Idx)) (Cert.S5.Spec.gelu (RD a0 a1 a2 a3 a4 a5 a6 a7 a8 a9 a10 b k))
          (fun j => Cert.S5.Spec.gelu (RD a0 a1 a2 a3 a4 a5 a6 a7 a8 a9 a10 b j)) := by
  simp only [← v86_at]
  unfold val_main_v103 val_main_v97 val_main_v96 val_main_v95 val_main_v94 val_main_v93 val_main_v92 val_main_v91 val_main_v90 val_main_v89 val_main_v88 val_main_v87
  generalize val_main_v86 (F := Ideal) a0 a1 a2 a3 a4 a5 a6 a7 a8 a9 a10 = z
  pointwise [val_main_cst_6, val_main_cst_7, Cert.S5.Spec.gate]

end

end Cert.S5Step

end
-- ==== Proof.S5StepValue.lean ====
/- What the decoding step's two result arrays hold after the run: the reference's gated activations and its new states. -/
module

public import proofs.«01_k».proof.Proof.S5StepHost
public import proofs.«01_k».proof.Proof.S5StepPure
public import proofs.«01_k».proof.Proof.Gen.Kernel5Ideal.Value

@[expose] public section

set_option maxRecDepth 16384

noncomputable section

open Idealize.ShloMosaic Idealize.ShloMosaic.TcCoe Idealize.SL.Sem
open Cert.Kernel5Ideal Cert.Kernel5Ideal.Gen

namespace Cert.S5Step

variable (m : (ℓ : Loc nD τ sig) → Buf (Elt Ideal) ℓ) (c : Dev nD)

/-- The windows' block indices at the one grid point. -/
theorem idx_val : ∀ t : Fin cfg0.N, win0_0.index t = ![0, 7] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

theorem b0_at (t : Fin cfg0.N) (b : Fin 128) (k : Fin 256) :
    (X0_0 m c t : FVec Ideal S128x256 .f32) (ix2 b k : S128x256.Idx) = U (pA m c) b k := by
  unfold U
  rw [← p_at]
  unfold X0_0 Pipeline.Window.fill
  refine (dif_pos (moved0_0 t _)).trans ?_
  blk_point [iblk, idx_val t]
theorem b1_at (t : Fin cfg0.N) (b : Fin 128) (q : Fin 2048) :
    (iblk m c 1 t : FVec Ideal S128x2048 .f32) (ix2 b q : S128x2048.Idx) = (V m c main_v113 : FVec Ideal S128x2048 .f32) (ix2 b q : S128x2048.Idx) := by
  blk_point [iblk, idx_val t]
theorem b2_at (t : Fin cfg0.N) (q : Fin 2048) :
    (iblk m c 2 t : FVec Ideal S1x2048 .f32) (ix2 (0 : Fin 1) q : S1x2048.Idx) = (V m c main_v74 : FVec Ideal S1x2048 .f32) (ix2 (0 : Fin 1) q : S1x2048.Idx) := by
  blk_point [iblk, idx_val t]
theorem b3_at (t : Fin cfg0.N) (k : Fin 256) (q : Fin 2048) :
    (iblk m c 3 t : FVec Ideal S256x2048 .bf16) (ix2 k q : S256x2048.Idx) = (V m c main_v71 : FVec Ideal S256x2048 .bf16) (ix2 k q : S256x2048.Idx) := by
  blk_point [iblk, idx_val t]
theorem b4_at (t : Fin cfg0.N) (q : Fin 2048) (k : Fin 256) :
    (iblk m c 4 t : FVec Ideal S2048x256 .bf16) (ix2 q k : S2048x256.Idx) = (V m c main_v103 : FVec Ideal S2048x256 .bf16) (ix2 q k : S2048x256.Idx) := by
  blk_point [iblk, idx_val t]
theorem b5_at (t : Fin cfg0.N) (k : Fin 256) :
    (iblk m c 5 t : FVec Ideal S1x256 .f32) (ix2 (0 : Fin 1) k : S1x256.Idx) = (V m c main_v104 : FVec Ideal S1x256 .f32) (ix2 (0 : Fin 1) k : S1x256.Idx) := by
  blk_point [iblk, idx_val t]
theorem b6_at (t : Fin cfg0.N) (j k : Fin 256) :
    (iblk m c 6 t : FVec Ideal S256x256 .bf16) (ix2 j k : S256x256.Idx) = (V m c main_v105 : FVec Ideal S256x256 .bf16) (ix2 j k : S256x256.Idx) := by
  blk_point [iblk, idx_val t]
theorem b7_at (t : Fin cfg0.N) (k : Fin 256) :
    (iblk m c 7 t : FVec Ideal S1x256 .f32) (ix2 (0 : Fin 1) k : S1x256.Idx) = (V m c main_v106 : FVec Ideal S1x256 .f32) (ix2 (0 : Fin 1) k : S1x256.Idx) := by
  blk_point [iblk, idx_val t]

/-- The reference's two results from this memory's arguments. -/
def outK : FVec Ideal S128x256 .f32 :=
  Cert.Reference5Ideal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def lastK : FVec Ideal S128x2048 .f32 :=
  Cert.Reference5Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The new state and the activation of a sequence. -/
def STK (b : Fin 128) (g : Fin 16) (p : Fin 64) : EReal × EReal :=
  Cert.S5.Spec.stp (abr m c (ix2 g p : S16x64.Idx)) (abi m c (ix2 g p : S16x64.Idx))
    (drv (fun g p r => bbr m c (ix3 g p r : S16x64x16.Idx)) (U (pA m c) b) g p)
    (drv (fun g p r => bbi m c (ix3 g p r : S16x64x16.Idx)) (U (pA m c) b) g p)
    (sR m c (ix3 b g p : S128x16x64.Idx), sI m c (ix3 b g p : S128x16x64.Idx))
def actK (b : Fin 128) (k : Fin 256) : EReal :=
  Cert.S5.Spec.gelu (Cert.S5.Spec.rd (fun p => cR m c (ix3 (Cert.S5.Spec.cgrp k) (Cert.S5.Spec.cpos k) p : S16x16x64.Idx)) (fun p => cI m c (ix3 (Cert.S5.Spec.cgrp k) (Cert.S5.Spec.cpos k) p : S16x16x64.Idx))
    (dA m c (ix2 (Cert.S5.Spec.cgrp k) (Cert.S5.Spec.cpos k) : S16x16.Idx)) (U (pA m c) b k) (fun p => STK m c b (Cert.S5.Spec.cgrp k) p))

theorem outK_at (b : Fin 128) (k : Fin 256) :
    outK m c (ix2 b k : S128x256.Idx)
      = Cert.S5.Spec.gate (fun j => gW m c (ix2 j k : S256x256.Idx)) (gB m c (ix1 k : S256.Idx)) (actK m c b k) (fun j => actK m c b j) :=
  out_at _ _ _ _ _ _ _ _ _ _ _ _ _ b k
theorem lastK_at (b : Fin 128) (q : Fin 1024) :
    lastK m c (ix2 b (⟨q.val, by omega⟩ : Fin 2048) : S128x2048.Idx) = (STK m c b (Cert.S5.Spec.grp q) (Cert.S5.Spec.pos q)).1
    ∧ lastK m c (ix2 b (⟨1024 + q.val, by omega⟩ : Fin 2048) : S128x2048.Idx) = (STK m c b (Cert.S5.Spec.grp q) (Cert.S5.Spec.pos q)).2 :=
  last_at _ _ _ _ _ _ _ _ b q

/-! The halves of the decay, of the states and of the output matrix that the body loads, and of the states it stores. -/

abbrev rA0 : Rect S1x2048 := Rect.unit ![0, 0] ![1, 1024] inb_S1x2048_S1x1024_0_0
abbrev rA1 : Rect S1x2048 := Rect.unit ![0, 1024] ![1, 1024] inb_S1x2048_S1x1024_0_1024
abbrev rX0 : Rect S128x2048 := Rect.unit ![0, 0] ![128, 1024] inb_S128x2048_S128x1024_0_0
abbrev rX1 : Rect S128x2048 := Rect.unit ![0, 1024] ![128, 1024] inb_S128x2048_S128x1024_0_1024
abbrev rC0 : Rect S2048x256 := Rect.unit ![0, 0] ![1024, 256] inb_S2048x256_S1024x256_0_0
abbrev rC1 : Rect S2048x256 := Rect.unit ![1024, 0] ![1024, 256] inb_S2048x256_S1024x256_1024_0

theorem colsA0 (a : Vec Ideal S1x2048 .f32) (q : Fin 1024) :
    View.ld a rA0 (ix2 (0 : Fin 1) q : S1x1024.Idx) = a (ix2 (0 : Fin 1) (⟨q.val, by omega⟩ : Fin 2048) : S1x2048.Idx) := by
  pointwise []
theorem colsA1 (a : Vec Ideal S1x2048 .f32) (q : Fin 1024) :
    View.ld a rA1 (ix2 (0 : Fin 1) q : S1x1024.Idx) = a (ix2 (0 : Fin 1) (⟨1024 + q.val, by omega⟩ : Fin 2048) : S1x2048.Idx) := by
  pointwise []
theorem colsX0 (a : Vec Ideal S128x2048 .f32) (b : Fin 128) (q : Fin 1024) :
    View.ld a rX0 (ix2 b q : S128x1024.Idx) = a (ix2 b (⟨q.val, by omega⟩ : Fin 2048) : S128x2048.Idx) := by
  pointwise []
theorem colsX1 (a : Vec Ideal S128x2048 .f32) (b : Fin 128) (q : Fin 1024) :
    View.ld a rX1 (ix2 b q : S128x1024.Idx) = a (ix2 b (⟨1024 + q.val, by omega⟩ : Fin 2048) : S128x2048.Idx) := by
  pointwise []
theorem rowsC0 (a : Vec Ideal S2048x256 .bf16) (q : Fin 1024) (k : Fin 256) :
    View.ld a rC0 (ix2 q k : S1024x256.Idx) = a (ix2 (⟨q.val, by omega⟩ : Fin 2048) k : S2048x256.Idx) := by
  pointwise []
theorem rowsC1 (a : Vec Ideal S2048x256 .bf16) (q : Fin 1024) (k : Fin 256) :
    View.ld a rC1 (ix2 q k : S1024x256.Idx) = a (ix2 (⟨1024 + q.val, by omega⟩ : Fin 2048) k : S2048x256.Idx) := by
  pointwise []

theorem put_lo (u v : Vec Ideal S128x1024 .f32) (b : Fin 128) (q : Fin 1024) :
    View.canon (Val := Elt Ideal) (s := S128x2048) (e := .f32) [⟨rX1, u⟩, ⟨rX0, v⟩] (ix2 b (⟨q.val, by omega⟩ : Fin 2048) : S128x2048.Idx) = v (ix2 b q : S128x1024.Idx) := by
  canon_tiles x h
  case piece0 => exact absurd (show q.val = 1024 + (x 1).val from h1) (by omega)
  case piece1 =>
    have e : x = (ix2 b q : S128x1024.Idx) := by
      idx_vars x
      idx_ext
    rw [e]
theorem put_hi (u v : Vec Ideal S128x1024 .f32) (b : Fin 128) (q : Fin 1024) :
    View.canon (Val := Elt Ideal) (s := S128x2048) (e := .f32) [⟨rX1, u⟩, ⟨rX0, v⟩] (ix2 b (⟨1024 + q.val, by omega⟩ : Fin 2048) : S128x2048.Idx) = u (ix2 b q : S128x1024.Idx) := by
  canon_tiles x h
  case piece0 =>
    have e : x = (ix2 b q : S128x1024.Idx) := by
      idx_vars x
      idx_ext
    rw [e]
  case piece1 => exact absurd (show 1024 + q.val = (x 1).val from h1) (by omega)

/-- The new states the body computes of its blocks, real and imaginary. -/
def nR (t : Fin cfg0.N) : FVec Ideal S128x1024 .f32 :=
  k0_pay8 (F := Ideal) (X0_0 m c t) (iblk m c 3 t) (View.ld (iblk m c 2 t) rA0) (View.ld (iblk m c 2 t) rA1) (View.ld (iblk m c 1 t) rX0) (View.ld (iblk m c 1 t) rX1)
def nI (t : Fin cfg0.N) : FVec Ideal S128x1024 .f32 :=
  k0_pay9 (F := Ideal) (X0_0 m c t) (iblk m c 3 t) (View.ld (iblk m c 2 t) rA0) (View.ld (iblk m c 2 t) rA1) (View.ld (iblk m c 1 t) rX0) (View.ld (iblk m c 1 t) rX1)

theorem drvR (b : Fin 128) (q : Fin 1024) :
    ∑ k : Fin 256, U (pA m c) b k * (V m c main_v71 : FVec Ideal S256x2048 .bf16) (ix2 k (⟨q.val, by omega⟩ : Fin 2048) : S256x2048.Idx)
      = drv (fun g p r => bbr m c (ix3 g p r : S16x64x16.Idx)) (U (pA m c) b) (Cert.S5.Spec.grp q) (Cert.S5.Spec.pos q) := by
  simp only [fun k => (b_at m c k q).1]
  exact Cert.S5.Spec.in_sum (U (pA m c) b) (fun g r => bbr m c (ix3 g (Cert.S5.Spec.pos q) r : S16x64x16.Idx)) (Cert.S5.Spec.grp q)
theorem drvI (b : Fin 128) (q : Fin 1024) :
    ∑ k : Fin 256, U (pA m c) b k * (V m c main_v71 : FVec Ideal S256x2048 .bf16) (ix2 k (⟨1024 + q.val, by omega⟩ : Fin 2048) : S256x2048.Idx)
      = drv (fun g p r => bbi m c (ix3 g p r : S16x64x16.Idx)) (U (pA m c) b) (Cert.S5.Spec.grp q) (Cert.S5.Spec.pos q) := by
  simp only [fun k => (b_at m c k q).2]
  exact Cert.S5.Spec.in_sum (U (pA m c) b) (fun g r => bbi m c (ix3 g (Cert.S5.Spec.pos q) r : S16x64x16.Idx)) (Cert.S5.Spec.grp q)

theorem new_at (t : Fin cfg0.N) (b : Fin 128) (q : Fin 1024) :
    (nR m c t (ix2 b q : S128x1024.Idx), nI m c t (ix2 b q : S128x1024.Idx)) = STK m c b (Cert.S5.Spec.grp q) (Cert.S5.Spec.pos q) := by
  refine (state_at _ _ _ _ _ _ b q).trans ?_
  unfold STK
  rw [colsA0, colsA1, colsX0, colsX1, b1_at, b1_at, b2_at, b2_at, (a_at m c q).1, (a_at m c q).2, (x_at m c b q).1, (x_at m c b q).2]
  simp only [b0_at, b3_at]
  rw [drvR, drvI]
theorem nR_at (t : Fin cfg0.N) (b : Fin 128) (q : Fin 1024) : nR m c t (ix2 b q : S128x1024.Idx) = (STK m c b (Cert.S5.Spec.grp q) (Cert.S5.Spec.pos q)).1 :=
  congrArg Prod.fst (new_at m c t b q)
theorem nI_at (t : Fin cfg0.N) (b : Fin 128) (q : Fin 1024) : nI m c t (ix2 b q : S128x1024.Idx) = (STK m c b (Cert.S5.Spec.grp q) (Cert.S5.Spec.pos q)).2 :=
  congrArg Prod.snd (new_at m c t b q)

/-- The two products of the read-out are the sums over one group's states. -/
theorem read0 (b : Fin 128) (k : Fin 256) :
    ∑ q : Fin 1024, (STK m c b (Cert.S5.Spec.grp q) (Cert.S5.Spec.pos q)).1 * (V m c main_v103 : FVec Ideal S2048x256 .bf16) (ix2 (⟨q.val, by omega⟩ : Fin 2048) k : S2048x256.Idx)
      = ∑ p : Fin 64, cR m c (ix3 (Cert.S5.Spec.cgrp k) (Cert.S5.Spec.cpos k) p : S16x16x64.Idx) * (STK m c b (Cert.S5.Spec.cgrp k) p).1 := by
  simp only [fun q => (c_at m c q k).1]
  refine (Cert.S5.Spec.out_sum (fun q => (STK m c b (Cert.S5.Spec.grp q) (Cert.S5.Spec.pos q)).1) (fun g p => cR m c (ix3 g (Cert.S5.Spec.cpos k) p : S16x16x64.Idx)) (Cert.S5.Spec.cgrp k)).trans ?_
  simp only [Cert.S5.Spec.grp_sidx, Cert.S5.Spec.pos_sidx]
theorem read1 (b : Fin 128) (k : Fin 256) :
    ∑ q : Fin 1024, (STK m c b (Cert.S5.Spec.grp q) (Cert.S5.Spec.pos q)).2 * (V m c main_v103 : FVec Ideal S2048x256 .bf16) (ix2 (⟨1024 + q.val, by omega⟩ : Fin 2048) k : S2048x256.Idx)
      = ∑ p : Fin 64, -cI m c (ix3 (Cert.S5.Spec.cgrp k) (Cert.S5.Spec.cpos k) p : S16x16x64.Idx) * (STK m c b (Cert.S5.Spec.cgrp k) p).2 := by
  simp only [fun q => (c_at m c q k).2]
  refine (Cert.S5.Spec.out_sum_neg (fun q => (STK m c b (Cert.S5.Spec.grp q) (Cert.S5.Spec.pos q)).2) (fun g p => cI m c (ix3 g (Cert.S5.Spec.cpos k) p : S16x16x64.Idx)) (Cert.S5.Spec.cgrp k)).trans ?_
  simp only [Cert.S5.Spec.grp_sidx, Cert.S5.Spec.pos_sidx]

/-- The activation the body computes. -/
theorem act_at (t : Fin cfg0.N) (b : Fin 128) (k : Fin 256) :
    Cert.S5.Spec.gelu (k0_pay10 (F := Ideal) (X0_0 m c t) (iblk m c 3 t) (View.ld (iblk m c 2 t) rA0) (View.ld (iblk m c 2 t) rA1) (View.ld (iblk m c 1 t) rX0) (View.ld (iblk m c 1 t) rX1)
        (View.ld (iblk m c 4 t) rC0) (View.ld (iblk m c 4 t) rC1) (ix2 b k : S128x256.Idx)
      + (show EReal from (iblk m c 5 t : FVec Ideal S1x256 .f32) (ix2 (0 : Fin 1) k : S1x256.Idx)) * (show EReal from (X0_0 m c t : FVec Ideal S128x256 .f32) (ix2 b k : S128x256.Idx))) = actK m c b k := by
  rw [pay10_at]
  unfold actK Cert.S5.Spec.rd
  rw [← read0, ← read1, ← d_at]
  refine congrArg Cert.S5.Spec.gelu (congrArg₂ (· + ·) (congrArg₂ (· + ·) (Finset.sum_congr rfl fun q _ => ?_) (Finset.sum_congr rfl fun q _ => ?_)) ?_)
  · exact congrArg₂ (· * ·) (nR_at m c t b q) ((rowsC0 _ q k).trans (b4_at m c t _ k))
  · exact congrArg₂ (· * ·) (nI_at m c t b q) ((rowsC1 _ q k).trans (b4_at m c t _ k))
  · exact congrArg₂ (· * ·) (b5_at m c t k) (b0_at m c t b k)

/-- The block of activations. -/
theorem point8 (t : Fin cfg0.N) (b : Fin 128) (k : Fin 256) :
    k0_pay1 (F := Ideal) (k0_pay2 (X0_0 m c t)) (k0_pay10 (X0_0 m c t) (iblk m c 3 t) (View.ld (iblk m c 2 t) rA0) (View.ld (iblk m c 2 t) rA1) (View.ld (iblk m c 1 t) rX0) (View.ld (iblk m c 1 t) rX1)
        (View.ld (iblk m c 4 t) rC0) (View.ld (iblk m c 4 t) rC1)) (iblk m c 5 t) (iblk m c 6 t) (iblk m c 7 t) (ix2 b k : S128x256.Idx) = outK m c (ix2 b k : S128x256.Idx) := by
  refine (pay1_at _ _ _ _ _ b k).trans ((?_ : _ = _).trans (outK_at m c b k).symm)
  simp only [act_at, b6_at, b7_at]
  exact congrArg₂ (fun w g => Cert.S5.Spec.gate w g _ _) (funext fun j => gw_at m c j k) (gb_at m c k)

/-- The block of new states. -/
theorem point9 (t : Fin cfg0.N) (b : Fin 128) (q : Fin 2048) :
    View.canon (Val := Elt Ideal) (s := S128x2048) (e := .f32) [⟨rX1, nI m c t⟩, ⟨rX0, nR m c t⟩] (ix2 b q : S128x2048.Idx) = lastK m c (ix2 b q : S128x2048.Idx) := by
  by_cases hq : q.val < 1024
  · refine (put_lo _ _ b ⟨q.val, hq⟩).trans ?_
    exact (nR_at m c t b ⟨q.val, hq⟩).trans (lastK_at m c b ⟨q.val, hq⟩).1.symm
  · obtain ⟨p, hp⟩ : ∃ p : Fin 1024, q = (⟨1024 + p.val, by omega⟩ : Fin 2048) :=
      ⟨⟨q.val - 1024, by omega⟩, Fin.ext (by show q.val = 1024 + (q.val - 1024); omega)⟩
    rw [hp]
    refine (put_hi _ _ b p).trans ?_
    exact (nI_at m c t b p).trans (lastK_at m c b p).2.symm

/-- The gated activations after the run. -/
theorem final8 : (dats m 0 c).arrAt 8 (cfgs 0).N = outK m c := by
  refine (dats m 0 c).arrAt_eq_of_covers 8 _ (by decide +kernel) fun t hf y => ?_
  have hemb : ((cfg0.win 8).blk t).view.emb y = (ix2 (⟨(y 0).val, (y 0).isLt⟩ : Fin 128) (⟨(y 1).val, (y 1).isLt⟩ : Fin 256) : S128x256.Idx) := by
    blk_ext [idx_val t]
  blk_simp
  rw [after0_8]; unfold outsAt0; dsimp only
  refine Eq.trans ?_ (congrArg (outK m c) hemb).symm
  idx_vars y
  frame_out
  exact point8 m c t _ _

/-- The new states after the run. -/
theorem final9 : (dats m 0 c).arrAt 9 (cfgs 0).N = lastK m c := by
  refine (dats m 0 c).arrAt_eq_of_covers 9 _ (by decide +kernel) fun t hf y => ?_
  have hemb : ((cfg0.win 9).blk t).view.emb y = (ix2 (⟨(y 0).val, (y 0).isLt⟩ : Fin 128) (⟨(y 1).val, (y 1).isLt⟩ : Fin 2048) : S128x2048.Idx) := by
    blk_ext [idx_val t]
  blk_simp
  rw [after0_9]; unfold outsAt0; dsimp only
  refine Eq.trans ?_ (congrArg (lastK m c) hemb).symm
  idx_vars y
  frame_out
  exact point9 m c t _ _

end Cert.S5Step

end
-- ==== Proof.S5StepClaim.lean ====
/- The decoding step's claims: the three frames, and that kernel and reference leave the same two arrays. -/
module

public import proofs.«01_k».proof.Proof.S5StepValue
public import proofs.«01_k».proof.Proof.Gen.Kernel5.Frame
public import proofs.«01_k».proof.Proof.Gen.Reference5Ideal.Run
public import proofs.«01_k».proof.Defs

@[expose] public section

set_option maxRecDepth 16384

noncomputable section

open Idealize.ShloMosaic Idealize.ShloMosaic.TcCoe Idealize.SL.Sem

namespace Cert.S5Step

theorem frame_kernel : Cert.quiescent_Kernel5 := fun m ρ _ => Cert.Kernel5.Gen.frame m ρ

theorem frame_ideal : Cert.quiescent_Kernel5Ideal := fun m ρ _ => Cert.Kernel5Ideal.Gen.frame m ρ

/-- The reference is host operations alone and declares no semaphore. -/
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

section
open Cert.Kernel5Ideal Cert.Kernel5Ideal.Gen
variable (m : (ℓ : Loc nD τ sig) → Buf (Elt Ideal) ℓ) (ρ : Dev nD → PrngReg)

/-- The kernel's two result arrays after the run. -/
theorem run_out : θ_run defs (onTc (τ := τ) (main (F := Ideal))) (s₀ m ρ) (fun r => ∀ c : Dev nD,
    r.2.mem ((c.tc : Thread nD τ).loc main_v114_0) = outK m c ∧ r.2.mem ((c.tc : Thread nD τ).loc main_v114_1) = lastK m c) :=
  (θ_run defs _ _).mono (fun r h c => ⟨((h c).1 8).trans (final8 m c), ((h c).1 9).trans (final9 m c)⟩) (run_main m ρ)
end

open Cert.Reference5Ideal.Read in
/-- The reference's results depend on its arguments alone. -/
theorem out_congr {a0 b0 : FVec Ideal Kernel5Ideal.S1024x3200 .f32} {a1 b1 a2 b2 : FVec Ideal Kernel5Ideal.S128x16x64 .f32} {a3 b3 a4 b4 : FVec Ideal Kernel5Ideal.S16x64 .f32}
    {a5 b5 : FVec Ideal Kernel5Ideal.S16 .f32} {a6 b6 a7 b7 : FVec Ideal Kernel5Ideal.S16x64x16 .f32} {a8 b8 a9 b9 : FVec Ideal Kernel5Ideal.S16x16x64 .f32}
    {a10 b10 : FVec Ideal Kernel5Ideal.S16x16 .f32} {a11 b11 : FVec Ideal Kernel5Ideal.S256x256 .f32} {a12 b12 : FVec Ideal Kernel5Ideal.S256 .f32}
    (h : a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11 ∧ a12 = b12) :
    val_main_v103 (F := Ideal) a0 a1 a2 a3 a4 a5 a6 a7 a8 a9 a10 a11 a12 = val_main_v103 (F := Ideal) b0 b1 b2 b3 b4 b5 b6 b7 b8 b9 b10 b11 b12
    ∧ val_main_v102 (F := Ideal) a0 a1 a2 a3 a4 a5 a6 a7 = val_main_v102 (F := Ideal) b0 b1 b2 b3 b4 b5 b6 b7 := by
  obtain ⟨rfl, rfl, rfl, rfl, rfl, rfl, rfl, rfl, rfl, rfl, rfl, rfl, rfl⟩ := h
  exact ⟨rfl, rfl⟩

open Cert.Kernel5Ideal.Gen (frame_of) in
theorem algebraic : Cert.algebraic_Kernel5Ideal_Reference5Ideal := fun m g m' g' _ hagree =>
  ⟨fun c => outK m c, fun c => lastK m c,
    (θ_run _ _ _).mono (fun r h c => ⟨(h.1 c).1, (h.1 c).2, h.2 c⟩)
      (θ_run_and (run_out m g) (frame_of (F := Ideal) m g (Cert.Kernel5Ideal.Gen.dats m) (Cert.Kernel5Ideal.Gen.A_eq m) (Cert.Kernel5Ideal.Gen.run_main m g))),
    (θ_run _ _ _).mono (fun r h c => ⟨((h c).1.trans (Cert.Reference5Ideal.Read.val_main_v103_eq _)).trans (out_congr (hagree c)).1,
        ((h c).2.1.trans (Cert.Reference5Ideal.Read.val_main_v102_eq _)).trans (out_congr (hagree c)).2, (h c).2.2⟩)
      (Cert.Reference5Ideal.Value.run (F := Ideal) m' g')⟩

end Cert.S5Step

end
-- ==== Proof.FfnSPure.lean ====
/- The feed-forward call of the sample group: what the body stores in a block and what the reference computes, each read
   at an index as the row function of the feed-forward update. -/
module

public import proofs.«01_k».proof.Proof.Gen.Kernel6Ideal.Skeleton
public import proofs.«01_k».proof.Proof.Gen.Reference6Ideal.Read
public import proofs.«01_k».proof.Proof.Row
public import Idealize.ShloMosaic.Lib.Pointwise

@[expose] public section

set_option maxRecDepth 16384

noncomputable section

open Idealize.ShloMosaic

namespace Cert.FfnS

section
open Cert.Kernel6Ideal Cert.Kernel6Ideal.Gen

/-- The body's normed row block at an index. -/
theorem pay2_at (v0 : FVec Ideal S128x1024 .f32) (v2 : FVec Ideal S1x1024 .f32) (v4 v6 : FVec Ideal S128x1024 .f32)
    (r : Fin 128) (k : Fin 1024) :
    k0_pay2 (F := Ideal) v0 v2 v4 v6 (ix2 r k : S128x1024.Idx)
      = Row.nrm (fun j => v0 (ix2 r j)) (fun j => v2 (ix2 0 j)) (fun j => v4 (ix2 r j)) (fun j => v6 (ix2 r j)) k := by
  pointwise [k0_pay2, k0_pay1, Row.nrm]

/-- A quarter of the hidden entries of one row, through both products. -/
def part (h : Fin 1024 → EReal) (w1 w2 : FVec Ideal S1024x1024 .bf16) (l : Fin 1024) : EReal :=
  ∑ k : Fin 1024, (max (∑ i : Fin 1024, h i * w1 (ix2 i k)) 0 * max (∑ i : Fin 1024, h i * w1 (ix2 i k)) 0) * w2 (ix2 k l)

theorem pay3_at (v0 : FVec Ideal S128x1024 .f32) (v2 : FVec Ideal S1x1024 .f32) (v4 v6 : FVec Ideal S128x1024 .f32)
    (a b : FVec Ideal S1024x1024 .bf16) (r : Fin 128) (l : Fin 1024) :
    k0_pay3 (F := Ideal) v0 v2 v4 v6 a b (ix2 r l : S128x1024.Idx) = part (fun i => k0_pay2 (F := Ideal) v0 v2 v4 v6 (ix2 r i)) a b l := by
  unfold k0_pay3
  generalize k0_pay2 (F := Ideal) v0 v2 v4 v6 = h
  pointwise [part]

theorem pay5_at (x : FVec Ideal S128x1024 .f32) (h : FVec Ideal S128x1024 .bf16) (p : FVec Ideal S128x1024 .f32)
    (a1 b1 a2 b2 a3 b3 : FVec Ideal S1024x1024 .bf16) (gt : FVec Ideal S128x1024 .f32) (r : Fin 128) (l : Fin 1024) :
    k0_pay5 (F := Ideal) (k0_pay1 x) h p (k0_pay4 a1) (constant S128x1024 .f32 0x00000000#32) b1 a2 b2 a3 b3 gt (ix2 r l : S128x1024.Idx)
      = x (ix2 r l) + gt (ix2 r l) * (p (ix2 r l) + part (fun i => h (ix2 r i)) a1 b1 l + part (fun i => h (ix2 r i)) a2 b2 l
          + part (fun i => h (ix2 r i)) a3 b3 l) := by
  pointwise [k0_pay5, k0_pay4, k0_pay1, part]

/-- The hidden axis is its four quarters. -/
theorem sum_hidden (f : Fin 4096 → EReal) :
    (∑ k, f k) = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_tiles 4 1024 rfl f]
  simp only [Fin.sum_univ_four]
  refine congrArg₂ (· + ·) (congrArg₂ (· + ·) (congrArg₂ (· + ·) ?_ ?_) ?_) ?_ <;>
    exact Finset.sum_congr rfl fun k _ => congrArg f (Fin.ext (by simp))

/-- The body's stored block at an index is the row function of the update. -/
theorem block_at (x : FVec Ideal S128x1024 .f32) (g : FVec Ideal S1x1024 .f32) (sc sh gt : FVec Ideal S128x1024 .f32)
    (a0 b0 a1 b1 a2 b2 a3 b3 : FVec Ideal S1024x1024 .bf16) (w1 : FVec Ideal S1024x4096 .bf16) (w2 : FVec Ideal S4096x1024 .bf16)
    (ha0 : ∀ i k : Fin 1024, a0 (ix2 i k) = w1 (ix2 i ⟨k.val, by omega⟩)) (hb0 : ∀ k l : Fin 1024, b0 (ix2 k l) = w2 (ix2 ⟨k.val, by omega⟩ l))
    (ha1 : ∀ i k : Fin 1024, a1 (ix2 i k) = w1 (ix2 i ⟨1024 + k.val, by omega⟩)) (hb1 : ∀ k l : Fin 1024, b1 (ix2 k l) = w2 (ix2 ⟨1024 + k.val, by omega⟩ l))
    (ha2 : ∀ i k : Fin 1024, a2 (ix2 i k) = w1 (ix2 i ⟨2048 + k.val, by omega⟩)) (hb2 : ∀ k l : Fin 1024, b2 (ix2 k l) = w2 (ix2 ⟨2048 + k.val, by omega⟩ l))
    (ha3 : ∀ i k : Fin 1024, a3 (ix2 i k) = w1 (ix2 i ⟨3072 + k.val, by omega⟩)) (hb3 : ∀ k l : Fin 1024, b3 (ix2 k l) = w2 (ix2 ⟨3072 + k.val, by omega⟩ l))
    (r : Fin 128) (l : Fin 1024) :
    k0_pay5 (F := Ideal) (k0_pay1 x) (k0_pay2 x g sc sh) (k0_pay3 x g sc sh a0 b0) (k0_pay4 a1) (constant S128x1024 .f32 0x00000000#32) b1 a2 b2 a3 b3 gt
        (ix2 r l : S128x1024.Idx)
      = Row.ffn (fun j => x (ix2 r j)) (fun j => g (ix2 0 j)) (fun j => sc (ix2 r j)) (fun j => sh (ix2 r j))
          (fun j => gt (ix2 r j)) (fun i k => w1 (ix2 i k)) (fun k l => w2 (ix2 k l)) l := by
  rw [pay5_at, pay3_at]
  unfold Row.ffn
  rw [sum_hidden]
  simp only [part, pay2_at, ha0, hb0, ha1, hb1, ha2, hb2, ha3, hb3]

end

section
open Cert.Reference6Ideal Cert.Reference6Ideal.Gen Cert.Reference6Ideal.Read

theorem ref25_at (x0 : FVec Ideal S128x8x1024 .f32) (x1 : FVec Ideal S128x6144 .f32) (x2 : FVec Ideal S1024 .f32)
    (b : Fin 128) (s : Fin 8) (k : Fin 1024) :
    val_main_v25 (F := Ideal) x0 x1 x2 (ix3 b s k : S128x8x1024.Idx)
      = Row.nrm (fun j => x0 (ix3 b s j)) (fun j => x2 (ix1 j)) (fun j => x1 (ix2 b ⟨4096 + j.val, by omega⟩))
          (fun j => x1 (ix2 b ⟨3072 + j.val, by omega⟩)) k := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v5, val_main_v4, val_main_v0, val_main_cst, val_main_cst_0, val_main_cst_1,
    val_main_cst_2, Row.nrm]

/-- The reference at an index is the row function of the feed-forward update. -/
theorem ref_at (x0 : FVec Ideal S128x8x1024 .f32) (x1 : FVec Ideal S128x6144 .f32) (x2 : FVec Ideal S1024 .f32)
    (x3 : FVec Ideal S1024x4096 .f32) (x4 : FVec Ideal S4096x1024 .f32) (i : Fin 1024) (l : Fin 1024) :
    val_main_v33 (F := Ideal) x0 x1 x2 x3 x4 (ix2 i l : S1024x1024.Idx)
      = Row.ffn (fun j => x0 (ix3 ⟨i.val / 8, by omega⟩ ⟨i.val % 8, by omega⟩ j)) (fun j => x2 (ix1 j))
          (fun j => x1 (ix2 ⟨i.val / 8, by omega⟩ ⟨4096 + j.val, by omega⟩))
          (fun j => x1 (ix2 ⟨i.val / 8, by omega⟩ ⟨3072 + j.val, by omega⟩))
          (fun j => x1 (ix2 ⟨i.val / 8, by omega⟩ ⟨5120 + j.val, by omega⟩))
          (fun i k => x3 (ix2 i k)) (fun k l => x4 (ix2 k l)) l := by
  have h26 : ∀ (b : Fin 128) (s : Fin 8) (k : Fin 4096), val_main_v26 (F := Ideal) x0 x1 x2 x3 (ix3 b s k : S128x8x4096.Idx)
      = ∑ j : Fin 1024, val_main_v25 (F := Ideal) x0 x1 x2 (ix3 b s j : S128x8x1024.Idx) * x3 (ix2 j k) := by
    intro b s k
    unfold val_main_v26
    generalize val_main_v25 (F := Ideal) x0 x1 x2 = y
    pointwise []
  have h33 : ∀ (y : FVec Ideal S128x8x4096 .f32), shapeCast S1024x1024 (addf x0 (mulf (val_main_v30 (F := Ideal) x1)
      (Host.dotGeneral (F := Ideal) dot_S128x8x4096_S4096x1024_S128x8x1024_2_0_01_1_n_n none (mulf (maximumf y (val_main_call0_v0 (F := Ideal))) (maximumf y (val_main_call0_v0 (F := Ideal)))) x4)))
        shapeCasts_S128x8x1024_S1024x1024 (ix2 i l : S1024x1024.Idx)
      = x0 (ix3 ⟨i.val / 8, by omega⟩ ⟨i.val % 8, by omega⟩ l) + x1 (ix2 ⟨i.val / 8, by omega⟩ ⟨5120 + l.val, by omega⟩)
        * ∑ k : Fin 4096, (max (y (ix3 ⟨i.val / 8, by omega⟩ ⟨i.val % 8, by omega⟩ k)) 0
            * max (y (ix3 ⟨i.val / 8, by omega⟩ ⟨i.val % 8, by omega⟩ k)) 0) * x4 (ix2 k l) := by
    intro y
    pointwise [val_main_v30, val_main_v6, val_main_v0, val_main_call0_v0, val_main_call0_cst]
  refine (h33 (val_main_v26 (F := Ideal) x0 x1 x2 x3)).trans ?_
  unfold Row.ffn
  simp only [h26, ref25_at]

end

end Cert.FfnS

end
-- ==== Proof.FfnSValue.lean ====
/- The feed-forward call of the sample group: the array after the run is the reference's function of the argument arrays. -/
module

public import proofs.«01_k».proof.Proof.Gen.Kernel6Ideal.Value
public import proofs.«01_k».proof.Proof.Gen.Reference6Ideal.Run
public import proofs.«01_k».proof.Proof.FfnSPure
public import proofs.«01_k».proof.Proof.FfnValue
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen

namespace Cert.FfnS

variable (m : (ℓ : Loc nD τ sig) → Buf (Elt Ideal) ℓ)

/-- The windows' block indices at every grid point: rows and modulation rows move with the point. -/
theorem idx_val : ∀ t : Fin cfg0.N, win0_0.index t = ![t.val, 0] ∧ win0_1.index t = ![t.val, 4]
    ∧ win0_2.index t = ![t.val, 3] ∧ win0_3.index t = ![t.val, 5] ∧ win0_4.index t = ![0, 0]
    ∧ win0_5.index t = ![0, 0] ∧ win0_6.index t = ![0, 0] ∧ win0_7.index t = ![t.val, 0] :=
  (by decide +kernel : ∀ t : Fin grid0.N, _)

/-- The reference's result over the argument arrays. -/
abbrev REF (x0 : FVec Ideal Cert.Reference6Ideal.S128x8x1024 .f32) (x1 : FVec Ideal Cert.Reference6Ideal.S128x6144 .f32)
    (x2 : FVec Ideal Cert.Reference6Ideal.S1024 .f32) (x3 : FVec Ideal Cert.Reference6Ideal.S1024x4096 .f32)
    (x4 : FVec Ideal Cert.Reference6Ideal.S4096x1024 .f32) : FVec Ideal Cert.Reference6Ideal.S1024x1024 .f32 :=
  Cert.Reference6Ideal.Read.val_main_v33 (F := Ideal) x0 x1 x2 x3 x4

theorem point (c : Dev nD) (t : Fin cfg0.N) (y : S128x1024.Idx) :
    k0_pay5 (F := Ideal) (k0_pay1 (iblk m c 0 t)) (k0_pay2 (iblk m c 0 t) (iblk m c 4 t) (iblk m c 1 t) (iblk m c 2 t))
      (k0_pay3 (iblk m c 0 t) (iblk m c 4 t) (iblk m c 1 t) (iblk m c 2 t) (View.ld (iblk m c 5 t) r0_2) (View.ld (iblk m c 6 t) r0_3))
      (k0_pay4 (View.ld (iblk m c 5 t) r0_4)) (constant S128x1024 .f32 0x00000000#32) (View.ld (iblk m c 6 t) r0_5) (View.ld (iblk m c 5 t) r0_6)
      (View.ld (iblk m c 6 t) r0_7) (View.ld (iblk m c 5 t) r0_8) (View.ld (iblk m c 6 t) r0_9) (iblk m c 3 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 7).blk
        t).view.emb y) := by
  have ht : t.val < 8 := t.isLt
  have hemb : ((cfg0.win 7).blk t).view.emb y = (ix2 (⟨t.val * 128 + (y 0).val, by have := (y 0).isLt; change (y 0).val < 128 at this; omega⟩ : Fin 1024) (⟨(y 1).val, (y 1).isLt⟩ : Fin 1024) : S1024x1024.Idx) := by
    blk_ext [idx_val t]
  rw [hemb]
  idx_vars y
  refine (block_at (iblk m c 0 t) (iblk m c 4 t) (iblk m c 1 t) (iblk m c 2 t) (iblk m c 3 t) (View.ld (iblk m c 5 t) r0_2) (View.ld (iblk
      m c 6 t) r0_3) (View.ld (iblk m c 5 t) r0_4) (View.ld (iblk m c 6 t) r0_5) (View.ld (iblk m c 5 t) r0_6) (View.ld
      (iblk m c 6 t) r0_7) (View.ld (iblk m c 5 t) r0_8) (View.ld (iblk m c 6 t) r0_9) (iblk m c 5 t) (iblk m c 6 t)
      ?_ ?_ ?_ ?_ ?_ ?_ ?_ ?_ _ _).trans ?_
  all_goals try (intro i k; pointwise []; done)
  refine Eq.trans ?_ (ref_at _ _ _ _ _ _ _).symm
  refine Cert.Ffn.ffn_congr (fun j => ?_) (fun j => ?_) (fun j => ?_) (fun j => ?_) (fun j => ?_) (fun i k => ?_) (fun k l => ?_) _
  all_goals blk_point [iblk, V, idx_val t]

/-- The result array after the run. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]; frame_out
  exact point m c t y

end Cert.FfnS

end
-- ==== Proof.FfnSClaim.lean ====
/- The sample group's feed-forward call's claims: the three frames, and that kernel and reference leave the same array. -/
module

public import proofs.«01_k».proof.Proof.FfnSValue
public import proofs.«01_k».proof.Proof.Gen.Kernel6.Frame

@[expose] public section

set_option maxRecDepth 16384

noncomputable section

open Idealize.ShloMosaic Idealize.ShloMosaic.TcCoe Idealize.SL.Sem

namespace Cert.FfnS

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference is host operations alone and declares no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  pair_intro
  · run_from Cert.Kernel6Ideal.Gen.run_main m g
  · run_from Cert.Reference6Ideal.Value.run m' g'
    exact (final m _).symm

end Cert.FfnS

end
-- ==== Proof.InprojSPure.lean ====
/- The input projection of the sample group: what the body stores in a block and what the reference computes, each read at an index as
   the same packed row of products. -/
module

public import proofs.«01_k».proof.Proof.Gen.Kernel7Ideal.Frame
public import proofs.«01_k».proof.Proof.Gen.Reference7Ideal.Read
public import proofs.«01_k».proof.Proof.Row
public import Idealize.ShloMosaic.Lib.Pointwise

@[expose] public section

set_option maxRecDepth 1024

noncomputable section

open Idealize.ShloMosaic

namespace Cert.InprojS

section
open Cert.Kernel7Ideal Cert.Kernel7Ideal.Gen

/-- The body's stored block at an index: the normed row times the packed weights' column. -/
theorem pay1_at (v0 : FVec Ideal S128x1024 .f32) (v2 : FVec Ideal S1x1024 .f32) (v4 v6 : FVec Ideal S128x1024 .f32)
    (w : FVec Ideal S1024x3200 .bf16) (r : Fin 128) (q : Fin 3200) :
    k0_pay1 (F := Ideal) v0 v2 v4 v6 w (ix2 r q : S128x3200.Idx)
      = ∑ k : Fin 1024, Row.nrm (fun j => v0 (ix2 r j)) (fun j => v2 (ix2 0 j)) (fun j => v4 (ix2 r j)) (fun j => v6 (ix2 r j)) k
          * w (ix2 k q) := by
  pointwise [k0_pay1, Row.nrm]

end

section
open Cert.Reference7Ideal Cert.Reference7Ideal.Gen Cert.Reference7Ideal.Read

theorem ref25_at (x0 : FVec Ideal S128x8x1024 .f32) (x1 : FVec Ideal S128x6144 .f32) (x2 : FVec Ideal S1024 .f32)
    (b : Fin 128) (s : Fin 8) (k : Fin 1024) :
    val_main_v25 (F := Ideal) x0 x1 x2 (ix3 b s k : S128x8x1024.Idx)
      = Row.nrm (fun j => x0 (ix3 b s j)) (fun j => x2 (ix1 j)) (fun j => x1 (ix2 b ⟨1024 + j.val, by omega⟩))
          (fun j => x1 (ix2 b ⟨0 + j.val, by omega⟩)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0,
    val_main_cst, val_main_cst_0, val_main_cst_1, val_main_cst_2, Row.nrm]

/-- The reference at an index. -/
theorem ref_at (x0 : FVec Ideal S128x8x1024 .f32) (x1 : FVec Ideal S128x6144 .f32) (x2 : FVec Ideal S1024 .f32)
    (x3 : FVec Ideal S1024x7096 .f32) (i : Fin 1024) (q : Fin 3200) :
    val_main_v38 (F := Ideal) x0 x1 x2 x3 (ix2 i q : S1024x3200.Idx)
      = ∑ k : Fin 1024, Row.nrm (fun j => x0 (ix3 ⟨i.val / 8, by omega⟩ ⟨i.val % 8, by omega⟩ j)) (fun j => x2 (ix1 j))
          (fun j => x1 (ix2 ⟨i.val / 8, by omega⟩ ⟨1024 + j.val, by omega⟩))
          (fun j => x1 (ix2 ⟨i.val / 8, by omega⟩ ⟨0 + j.val, by omega⟩)) k
          * Row.pack (fun c => x3 (ix2 k c)) q := by
  rw [Row.sum_pack]
  have h27 : ∀ c : Fin 7096, val_main_v27 (F := Ideal) x0 x1 x2 x3 (ix2 i c : S1024x7096.Idx)
      = ∑ k : Fin 1024, val_main_v25 (F := Ideal) x0 x1 x2 (ix3 (⟨i.val / 8, by omega⟩ : Fin 128) (⟨i.val % 8, by omega⟩ : Fin 8) k : S128x8x1024.Idx)
          * x3 (ix2 k c) := by
    intro c
    unfold val_main_v27 val_main_v26
    generalize val_main_v25 (F := Ideal) x0 x1 x2 = y
    pointwise []
  simp only [← ref25_at x0 x1 x2, ← h27]
  unfold val_main_v38 val_main_v37 val_main_v36 val_main_v35 val_main_v34 val_main_v33 val_main_v32 val_main_v31
    val_main_v30 val_main_v29 val_main_v28 val_main_cst_3 val_main_cst_4
  generalize val_main_v27 (F := Ideal) x0 x1 x2 x3 = y
  pointwise [Row.pack]

end

end Cert.InprojS

end
-- ==== Proof.InprojSValue.lean ====
/- The input projection of the sample group: the array after the run is the reference's function of the argument arrays, and the claim. -/
module

public import proofs.«01_k».proof.Proof.Gen.Kernel7Ideal.Value
public import proofs.«01_k».proof.Proof.Gen.Reference7Ideal.Run
public import proofs.«01_k».proof.Proof.InprojSPure
public import proofs.«01_k».proof.Proof.InprojValue
public import Idealize.ShloMosaic.Lib.Pipeline.ValueKit
public import Idealize.ShloMosaic.Lib.Claim
public import proofs.«01_k».proof.Defs

@[expose] public section

set_option maxRecDepth 1024

noncomputable section

open Idealize.ShloMosaic Idealize.ShloMosaic.TcCoe Idealize.SL.Sem
open Idealize.ShloMosaic.Pipeline (Dat)

namespace Cert.InprojS

section
open Cert.Kernel7Ideal Cert.Kernel7Ideal.Gen

variable (m : (ℓ : Loc nD τ sig) → Buf (Elt Ideal) ℓ)

/-- The windows' block indices at every grid point: the activation rows and the modulation rows move with the point. -/
theorem idx_val : ∀ t : Fin cfg0.N, win0_0.index t = ![t.val, 0] ∧ win0_1.index t = ![t.val, 1]
    ∧ win0_2.index t = ![t.val, 0] ∧ win0_3.index t = ![0, 0] ∧ win0_4.index t = ![0, 0] ∧ win0_5.index t = ![t.val, 0] :=
  (by decide +kernel : ∀ t : Fin grid0.N, _)

/-- The reference's result over the argument arrays. -/
abbrev REF (x0 : FVec Ideal Cert.Reference7Ideal.S128x8x1024 .f32) (x1 : FVec Ideal Cert.Reference7Ideal.S128x6144 .f32) (x2 : FVec Ideal Cert.Reference7Ideal.S1024 .f32)
    (x3 : FVec Ideal Cert.Reference7Ideal.S1024x7096 .f32) : FVec Ideal Cert.Reference7Ideal.S1024x3200 .f32 :=
  Cert.Reference7Ideal.Read.val_main_v38 (F := Ideal) x0 x1 x2 x3

/-- The packed weights at the launch: the columns of the argument side by side, with zero columns as padding. -/
theorem packed (c : Dev nD) : V m c main_v14 = truncf (F := Ideal) .bf16 (concatenate S1024x3200 1
    [⟨S1024x256, (extractStridedSlice S1024x256 ![0, 256] (m ((c : Thread nD τ).loc main_arg3) : FVec Ideal S1024x7096 .f32) slices_S1024x7096_S1024x256_0_256 : FVec Ideal S1024x256 .f32)⟩,
      ⟨S1024x256, (extractStridedSlice S1024x256 ![0, 528] (m ((c : Thread nD τ).loc main_arg3) : FVec Ideal S1024x7096 .f32) slices_S1024x7096_S1024x256_0_528 : FVec Ideal S1024x256 .f32)⟩,
      ⟨S1024x256, (extractStridedSlice S1024x256 ![0, 0] (m ((c : Thread nD τ).loc main_arg3) : FVec Ideal S1024x7096 .f32) slices_S1024x7096_S1024x256_0_0 : FVec Ideal S1024x256 .f32)⟩,
      ⟨S1024x1024, (extractStridedSlice S1024x1024 ![0, 784] (m ((c : Thread nD τ).loc main_arg3) : FVec Ideal S1024x7096 .f32) slices_S1024x7096_S1024x1024_0_784 : FVec Ideal S1024x1024 .f32)⟩,
      ⟨S1024x256, (extractStridedSlice S1024x256 ![0, 1848] (m ((c : Thread nD τ).loc main_arg3) : FVec Ideal S1024x7096 .f32) slices_S1024x7096_S1024x256_0_1848 : FVec Ideal S1024x256 .f32)⟩,
      ⟨S1024x896, (extractStridedSlice S1024x896 ![0, 2104] (m ((c : Thread nD τ).loc main_arg3) : FVec Ideal S1024x7096 .f32) slices_S1024x7096_S1024x896_0_2104 : FVec Ideal S1024x896 .f32)⟩,
      ⟨S1024x16, (extractStridedSlice S1024x16 ![0, 512] (m ((c : Thread nD τ).loc main_arg3) : FVec Ideal S1024x7096 .f32) slices_S1024x7096_S1024x16_0_512 : FVec Ideal S1024x16 .f32)⟩,
      ⟨S1024x112, (broadcastInDim S1024x112 ![] bcast_S_S1024x112 (constant (F := Ideal) S_ .f32 0x00000000#32) : FVec Ideal S1024x112 .f32)⟩,
      ⟨S1024x40, (extractStridedSlice S1024x40 ![0, 1808] (m ((c : Thread nD τ).loc main_arg3) : FVec Ideal S1024x7096 .f32) slices_S1024x7096_S1024x40_0_1808 : FVec Ideal S1024x40 .f32)⟩,
      ⟨S1024x88, (broadcastInDim S1024x88 ![] bcast_S_S1024x88 (constant (F := Ideal) S_ .f32 0x00000000#32) : FVec Ideal S1024x88 .f32)⟩]
    concatenates_S1024x256_S1024x256_S1024x256_S1024x1024_S1024x256_S1024x896_S1024x16_S1024x112_S1024x40_S1024x88_S1024x3200_d1) bitsLt_bf16_f32 := by
  show StableHlo.after hostOps0 (fun b => m (c, b)) main_v14 = _
  simp only [StableHlo.after_cons, StableHlo.after_nil]
  after_results_simp
  dsimp only [Matrix.cons_val]
  refine congrArg (fun z => truncf (F := Ideal) .bf16 z bitsLt_bf16_f32) (Cert.Inproj.concat_congr ?_ _ _)
  after_results_simp
/-- The staged weights are the packed columns of the argument's. -/
theorem weights_at (c : Dev nD) (t : Fin cfg0.N) (k : Fin 1024) (q : Fin 3200) :
    (iblk m c 4 t) (ix2 k q : S1024x3200.Idx) = Row.pack (fun j => m ((c : Thread nD τ).loc main_arg3) (ix2 k j)) q := by
  have h0 : (iblk m c 4 t) (ix2 k q : S1024x3200.Idx) = V m c main_v14 (ix2 k q : S1024x3200.Idx) := by
    blk_point [iblk, idx_val t]
  rw [h0, packed]
  generalize m ((c : Thread nD τ).loc main_arg3) = w
  pointwise [Row.pack]

theorem point (c : Dev nD) (t : Fin cfg0.N) (y : S128x3200.Idx) :
    k0_pay1 (F := Ideal) (iblk m c 0 t) (iblk m c 3 t) (iblk m c 1 t) (iblk m c 2 t) (iblk m c 4 t) y
      = REF (m ((c : Thread nD τ).loc main_arg0)) (m ((c : Thread nD τ).loc main_arg1)) (m ((c : Thread nD τ).loc main_arg2)) (m ((c : Thread nD τ).loc main_arg3)) (((cfg0.win 5).blk t).view.emb y) := by
  have ht : t.val < 8 := t.isLt
  have hemb : ((cfg0.win 5).blk t).view.emb y = (ix2 (⟨t.val * 128 + (y 0).val, by have := (y 0).isLt; change (y 0).val < 128 at this; omega⟩ : Fin 1024) (⟨(y 1).val, (y 1).isLt⟩ : Fin 3200) : S1024x3200.Idx) := by
    blk_ext [idx_val t]
  rw [hemb]
  idx_vars y
  refine (pay1_at (iblk m c 0 t) (iblk m c 3 t) (iblk m c 1 t) (iblk m c 2 t) (iblk m c 4 t) _ _).trans ?_
  refine Eq.trans ?_ (ref_at _ _ _ _ _ _).symm
  refine Finset.sum_congr rfl fun k _ => congrArg₂ (· * ·) (Cert.Inproj.nrm_congr (fun j => ?_) (fun j => ?_) (fun j => ?_) (fun j => ?_) k)
    (weights_at m c t k _)
  all_goals blk_point [iblk, V, idx_val t]

/-- The result array after the run. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point m c t y

end

end Cert.InprojS

end
-- ==== Proof.InprojSClaim.lean ====
/- The sample group's input projection call's claims: the three frames, and that kernel and reference leave the same array. -/
module

public import proofs.«01_k».proof.Proof.InprojSValue
public import proofs.«01_k».proof.Proof.Gen.Kernel7.Frame

@[expose] public section

set_option maxRecDepth 16384

noncomputable section

open Idealize.ShloMosaic Idealize.ShloMosaic.TcCoe Idealize.SL.Sem

namespace Cert.InprojS

theorem frame_kernel : Cert.quiescent_Kernel7 := fun m ρ _ => Cert.Kernel7.Gen.frame m ρ

theorem frame_ideal : Cert.quiescent_Kernel7Ideal := fun m ρ _ => Cert.Kernel7Ideal.Gen.frame m ρ

/-- The reference is host operations alone and declares no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  pair_intro
  · run_from Cert.Kernel7Ideal.Gen.run_main m g
  · run_from Cert.Reference7Ideal.Value.run m' g'
    refine (Cert.Reference7Ideal.Read.val_main_v38_eq _ _).trans ?_
    obtain ⟨h0, h1, h2, h3⟩ := hagree c
    simp only [h0, h1, h2, h3]
    exact (final m c).symm

end Cert.InprojS

end
-- ==== Proof.ScoresOk.lean ====
/- A page table whose entries name pages of the cache keeps every window of the score call inside the cache. -/
module

public import proofs.«01_k».proof.Proof.Gen.Kernel8.Frame
public import proofs.«01_k».proof.Proof.Gen.Kernel8Ideal.Frame
public import proofs.«01_k».proof.Proof.Gen.Pre_pages_in_cache
public import proofs.«01_k».proof.Defs

@[expose] public section

noncomputable section

open Idealize.ShloMosaic Idealize.ShloMosaic.TcCoe

namespace Cert.Scores

private theorem andi_bool (p q : Bool) : IntOp.andi (BitVec.ofBool p) (BitVec.ofBool q) = BitVec.ofBool (p && q) := by
  cases p <;> cases q <;> decide
private theorem bool_one (p : Bool) : (BitVec.ofBool p = 1#1) ↔ p = true := by cases p <;> decide

/-- The precondition read at one entry: the entry names one of the 2560 pages. -/
theorem page_lt {F : FTy → Type} [FloatOps F] (a0 : IVec Cert.Pre_pages_in_cache.S128x16 32) (a1 : FVec F Cert.Pre_pages_in_cache.S128x1x8x32 .f32)
    (a2 : FVec F Cert.Pre_pages_in_cache.S128x1x8 .f32) (a3 : FVec F Cert.Pre_pages_in_cache.S128x1x32 .f32) (a4 : FVec F Cert.Pre_pages_in_cache.S4x2560x128x32 .f32)
    (h : Cert.Pre_pages_in_cache.fn (F := F) a0 a1 a2 a3 a4 = fun _ => 1#1) (y : Cert.Pre_pages_in_cache.S128x16.Idx) : (a0 y).toNat < 2560 := by
  have e := congrFun h y
  simp only [Cert.Pre_pages_in_cache.fn, andi, cmpi, broadcastInDim, constantI, IntOp.cmpi, andi_bool, bool_one, Bool.and_eq_true] at e
  obtain ⟨hge, hlt⟩ := e
  simp only [BitVec.sle, BitVec.slt, decide_eq_true_eq, BitVec.toInt, BitVec.toNat_ofNat] at hge hlt
  omega

section
open Cert.Kernel8Ideal Cert.Kernel8Ideal.Gen

variable (m : (ℓ : Loc nD τ sig) → Buf (Elt Ideal) ℓ)

/-- A page of the cache as a block of the array of pages. -/
private theorem block_in_ideal (v : BitVec 32) (hv : v.toNat < 2560) :
    ∀ a : Fin 4, ((![(0#32).toNat, v.toNat, (0#32).toNat, (0#32).toNat] : Fin 4 → Nat) a + 1) * S1x1x32x128.size a ≤ S4x2560x32x128.size a := by
  intro a
  fin_cases a
  · show (0 + 1) * 1 ≤ 4
    omega
  · show (v.toNat + 1) * 1 ≤ 2560
    omega
  · show (0 + 1) * 32 ≤ 32
    omega
  · show (0 + 1) * 128 ≤ 128
    omega

/-- Every entry of the launched table names a page. -/
theorem pages_ideal (h : Cert.Pre_Kernel8Ideal m) (y : S128x16.Idx) : (tbl m 0 y : BitVec 32).toNat < 2560 := by
  have e : tbl m 0 = m ((0 : Dev nD).tc.loc main_arg0) := V_main_arg0 m 0
  rw [e]
  exact page_lt _ _ _ _ _ (h 0) y

theorem ok_ideal (h : Cert.Pre_Kernel8Ideal m) : Ok m := by
  have hp := pages_ideal m h
  unfold Ok ok0
  refine ⟨?_, ?_, ?_, ?_, ?_, ?_, ?_, ?_, ?_, ?_, ?_, ?_, ?_, ?_, ?_, ?_⟩
  all_goals exact fun i => ⟨block_in_ideal _ (hp _), .inl rfl⟩
end

section
open Cert.Kernel8 Cert.Kernel8.Gen

variable (m : (ℓ : Loc nD τ sig) → Buf (Elt Bits) ℓ)

/-- A page of the cache as a block of the array of pages. -/
private theorem block_in_kernel (v : BitVec 32) (hv : v.toNat < 2560) :
    ∀ a : Fin 4, ((![(0#32).toNat, v.toNat, (0#32).toNat, (0#32).toNat] : Fin 4 → Nat) a + 1) * S1x1x32x128.size a ≤ S4x2560x32x128.size a := by
  intro a
  fin_cases a
  · show (0 + 1) * 1 ≤ 4
    omega
  · show (v.toNat + 1) * 1 ≤ 2560
    omega
  · show (0 + 1) * 32 ≤ 32
    omega
  · show (0 + 1) * 128 ≤ 128
    omega

/-- Every entry of the launched table names a page. -/
theorem pages_kernel (h : Cert.Pre_Kernel8 m) (y : S128x16.Idx) : (tbl m 0 y : BitVec 32).toNat < 2560 := by
  have e : tbl m 0 = m ((0 : Dev nD).tc.loc main_arg0) := V_main_arg0 m 0
  rw [e]
  exact page_lt _ _ _ _ _ (h 0) y

theorem ok_kernel (h : Cert.Pre_Kernel8 m) : Ok m := by
  have hp := pages_kernel m h
  unfold Ok ok0
  refine ⟨?_, ?_, ?_, ?_, ?_, ?_, ?_, ?_, ?_, ?_, ?_, ?_, ?_, ?_, ?_, ?_⟩
  all_goals exact fun i => ⟨block_in_kernel _ (hp _), .inl rfl⟩
end

end Cert.Scores

end
-- ==== Proof.ScoresBlocks.lean ====
/- What the score call's windows hold: the rows of the argument arrays, and the pages that the table names. -/
module

public import proofs.«01_k».proof.Proof.ScoresOk
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.Kernel8Ideal Cert.Kernel8Ideal.Gen

namespace Cert.Scores

variable (m : (ℓ : Loc nD τ sig) → Buf (Elt Ideal) ℓ) (hO : Ok m) (c : Dev nD)

/-- The row windows move with the point. -/
theorem map_val : ∀ t : Fin grid0.N, cc0_transform_0 (grid0.coords t) = ![t.val, 0, 0] ∧ cc0_transform_1 (grid0.coords t) = ![t.val, 0, 0]
    ∧ cc0_transform_2 (grid0.coords t) = ![t.val, 0, 0] ∧ cc0_transform_19 (grid0.coords t) = ![t.val, 0, 0] ∧ ((grid0.coords t) 0).val = t.val := by
  decide +kernel

theorem idx_val (t : Fin (cfgM m hO).N) : ((cfgM m hO).win 0).index t = ![t.val, 0, 0] ∧ ((cfgM m hO).win 1).index t = ![t.val, 0, 0]
    ∧ ((cfgM m hO).win 2).index t = ![t.val, 0, 0] ∧ ((cfgM m hO).win 19).index t = ![t.val, 0, 0] :=
  ⟨(map_val t).1, (map_val t).2.1, (map_val t).2.2.1, (map_val t).2.2.2.1⟩

/-- The output's blocks cover it. -/
theorem covers : ((cfgM m hO).win 19).Covers := by
  refine ⟨fun a => ?_, fun β => ⟨⟨(β (0 : Fin 3)).val, lt_of_lt_of_eq (β (0 : Fin 3)).isLt (show (128 + 1 - 1) / 1 = 128 by decide)⟩, flush0_19 _ _, fun a => ⟨?_, .inl rfl⟩⟩⟩
  · match a with
    | ⟨0, _⟩ => show 0 < 1; decide
    | ⟨1, _⟩ => show 0 < 24; decide
    | ⟨2, _⟩ => show 0 < 128; decide
  · rw [(idx_val m hO _).2.2.2]
    match a with
    | ⟨0, _⟩ => rfl
    | ⟨1, h⟩ => exact (Nat.lt_one_iff.mp (lt_of_lt_of_eq (β ⟨1, h⟩).isLt (show (24 + 24 - 1) / 24 = 1 by decide))).symm
    | ⟨2, h⟩ => exact (Nat.lt_one_iff.mp (lt_of_lt_of_eq (β ⟨2, h⟩).isLt (show (128 + 128 - 1) / 128 = 1 by decide))).symm

theorem q_at (z : FVec Ideal S128x1x8x32 .f32) (b : Fin 128) (h : Fin 8) (d : Fin 32) :
    shapeCast S128x8x32 z shapeCasts_S128x1x8x32_S128x8x32 (ix3 b h d : S128x8x32.Idx) = z (ix4 b (0 : Fin 1) h d : S128x1x8x32.Idx) := by
  pointwise []
theorem w_at (z : FVec Ideal S128x1x8 .f32) (b : Fin 128) (h : Fin 8) :
    shapeCast S128x8x1 z shapeCasts_S128x1x8_S128x8x1 (ix3 b h (0 : Fin 1) : S128x8x1.Idx) = z (ix3 b (0 : Fin 1) h : S128x1x8.Idx) := by
  pointwise []
theorem pages_at (z : FVec Ideal S4x2560x128x32 .f32) (n : Fin 2560) (d : Fin 32) (l : Fin 128) :
    transpose S4x2560x32x128 [0, 1, 3, 2] z transposes_S4x2560x128x32_S4x2560x32x128_0_1_3_2 (ix4 (0 : Fin 4) n d l : S4x2560x32x128.Idx)
      = z (ix4 (0 : Fin 4) n l d : S4x2560x128x32.Idx) := by
  pointwise []

/-- The host's layouts of the arguments. -/
theorem V_q (b : Fin 128) (h : Fin 8) (d : Fin 32) :
    (V m c main_v1 : FVec Ideal S128x8x32 .f32) (ix3 b h d : S128x8x32.Idx) = m ((c : Thread nD τ).loc main_arg1) (ix4 b (0 : Fin 1) h d : S128x1x8x32.Idx) := by
  have e : V m c main_v1 = shapeCast S128x8x32 (m ((c : Thread nD τ).loc main_arg1) : FVec Ideal S128x1x8x32 .f32) shapeCasts_S128x1x8x32_S128x8x32 := by
    show StableHlo.after hostOps0 (fun b => m (c, b)) main_v1 = _
    simp only [StableHlo.after_cons, StableHlo.after_nil]
    after_results_simp
    rfl
  rw [e]
  exact q_at _ b h d
theorem V_w (b : Fin 128) (h : Fin 8) :
    (V m c main_v2 : FVec Ideal S128x8x1 .f32) (ix3 b h (0 : Fin 1) : S128x8x1.Idx) = m ((c : Thread nD τ).loc main_arg2) (ix3 b (0 : Fin 1) h : S128x1x8.Idx) := by
  have e : V m c main_v2 = shapeCast S128x8x1 (m ((c : Thread nD τ).loc main_arg2) : FVec Ideal S128x1x8 .f32) shapeCasts_S128x1x8_S128x8x1 := by
    show StableHlo.after hostOps0 (fun b => m (c, b)) main_v2 = _
    simp only [StableHlo.after_cons, StableHlo.after_nil]
    after_results_simp
    rfl
  rw [e]
  exact w_at _ b h
theorem V_pages (n : Fin 2560) (d : Fin 32) (l : Fin 128) :
    (V m c main_v0 : FVec Ideal S4x2560x32x128 .f32) (ix4 (0 : Fin 4) n d l : S4x2560x32x128.Idx) = m ((c : Thread nD τ).loc main_arg4) (ix4 (0 : Fin 4) n l d : S4x2560x128x32.Idx) := by
  have e : V m c main_v0 = transpose S4x2560x32x128 [0, 1, 3, 2] (m ((c : Thread nD τ).loc main_arg4) : FVec Ideal S4x2560x128x32 .f32) transposes_S4x2560x128x32_S4x2560x32x128_0_1_3_2 := by
    show StableHlo.after hostOps0 (fun b => m (c, b)) main_v0 = _
    simp only [StableHlo.after_cons, StableHlo.after_nil]
    after_results_simp
  rw [e]
  exact pages_at _ n d l

theorem b0_at (t : Fin (cfgM m hO).N) (h : Fin 8) (d : Fin 32) :
    (iblk m hO c 0 t : FVec Ideal S1x8x32 .f32) (ix3 (0 : Fin 1) h d : S1x8x32.Idx) = (V m c main_v1 : FVec Ideal S128x8x32 .f32) (ix3 (⟨t.val, t.isLt⟩ : Fin 128) h d : S128x8x32.Idx) := by
  blk_point [iblk, idx_val m hO t]
theorem b1_at (t : Fin (cfgM m hO).N) (h : Fin 8) :
    (iblk m hO c 1 t : FVec Ideal S1x8x1 .f32) (ix3 (0 : Fin 1) h (0 : Fin 1) : S1x8x1.Idx) = (V m c main_v2 : FVec Ideal S128x8x1 .f32) (ix3 (⟨t.val, t.isLt⟩ : Fin 128) h (0 : Fin 1) : S128x8x1.Idx) := by
  blk_point [iblk, idx_val m hO t]
theorem b2_at (t : Fin (cfgM m hO).N) (d : Fin 32) :
    (iblk m hO c 2 t : FVec Ideal S1x1x32 .f32) (ix3 (0 : Fin 1) (0 : Fin 1) d : S1x1x32.Idx) = (V m c main_arg3 : FVec Ideal S128x1x32 .f32) (ix3 (⟨t.val, t.isLt⟩ : Fin 128) (0 : Fin 1) d : S128x1x32.Idx) := by
  blk_point [iblk, idx_val m hO t]

/-- The page that entry `(b, p)` of the table names. -/
abbrev pageOf (b : Fin 128) (p : Fin 16) : ℕ := (tbl m 0 (ix2 b p : S128x16.Idx) : BitVec 32).toNat

theorem word_val (t : Fin grid0.N) : (Scalar.indexCast (BitVec.ofNat 32 ((grid0.coords t) 0).val) : BitVec 32).toNat = t.val := by
  revert t
  decide +kernel

/-- The block each page window is at, and what it holds. -/
theorem page3 (t : Fin (cfgM m hO).N) : ((cfgM m hO).win 3).index t = ![0, pageOf m ⟨t.val, t.isLt⟩ 0, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b3_at (t : Fin (cfgM m hO).N) (hp : pageOf m ⟨t.val, t.isLt⟩ 0 < 2560) (d : Fin 32) (l : Fin 128) :
    (iblk m hO c 3 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 0, hp⟩ : Fin 2560) d l : S4x2560x32x128.Idx) := by
  blk_point [iblk, page3 m hO t]

theorem page4 (t : Fin (cfgM m hO).N) : ((cfgM m hO).win 4).index t = ![0, pageOf m ⟨t.val, t.isLt⟩ 1, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b4_at (t : Fin (cfgM m hO).N) (hp : pageOf m ⟨t.val, t.isLt⟩ 1 < 2560) (d : Fin 32) (l : Fin 128) :
    (iblk m hO c 4 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 1, hp⟩ : Fin 2560) d l : S4x2560x32x128.Idx) := by
  blk_point [iblk, page4 m hO t]

theorem page5 (t : Fin (cfgM m hO).N) : ((cfgM m hO).win 5).index t = ![0, pageOf m ⟨t.val, t.isLt⟩ 2, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b5_at (t : Fin (cfgM m hO).N) (hp : pageOf m ⟨t.val, t.isLt⟩ 2 < 2560) (d : Fin 32) (l : Fin 128) :
    (iblk m hO c 5 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 2, hp⟩ : Fin 2560) d l : S4x2560x32x128.Idx) := by
  blk_point [iblk, page5 m hO t]

theorem page6 (t : Fin (cfgM m hO).N) : ((cfgM m hO).win 6).index t = ![0, pageOf m ⟨t.val, t.isLt⟩ 3, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b6_at (t : Fin (cfgM m hO).N) (hp : pageOf m ⟨t.val, t.isLt⟩ 3 < 2560) (d : Fin 32) (l : Fin 128) :
    (iblk m hO c 6 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 3, hp⟩ : Fin 2560) d l : S4x2560x32x128.Idx) := by
  blk_point [iblk, page6 m hO t]

theorem page7 (t : Fin (cfgM m hO).N) : ((cfgM m hO).win 7).index t = ![0, pageOf m ⟨t.val, t.isLt⟩ 4, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b7_at (t : Fin (cfgM m hO).N) (hp : pageOf m ⟨t.val, t.isLt⟩ 4 < 2560) (d : Fin 32) (l : Fin 128) :
    (iblk m hO c 7 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 4, hp⟩ : Fin 2560) d l : S4x2560x32x128.Idx) := by
  blk_point [iblk, page7 m hO t]

theorem page8 (t : Fin (cfgM m hO).N) : ((cfgM m hO).win 8).index t = ![0, pageOf m ⟨t.val, t.isLt⟩ 5, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b8_at (t : Fin (cfgM m hO).N) (hp : pageOf m ⟨t.val, t.isLt⟩ 5 < 2560) (d : Fin 32) (l : Fin 128) :
    (iblk m hO c 8 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 5, hp⟩ : Fin 2560) d l : S4x2560x32x128.Idx) := by
  blk_point [iblk, page8 m hO t]

theorem page9 (t : Fin (cfgM m hO).N) : ((cfgM m hO).win 9).index t = ![0, pageOf m ⟨t.val, t.isLt⟩ 6, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b9_at (t : Fin (cfgM m hO).N) (hp : pageOf m ⟨t.val, t.isLt⟩ 6 < 2560) (d : Fin 32) (l : Fin 128) :
    (iblk m hO c 9 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 6, hp⟩ : Fin 2560) d l : S4x2560x32x128.Idx) := by
  blk_point [iblk, page9 m hO t]

theorem page10 (t : Fin (cfgM m hO).N) : ((cfgM m hO).win 10).index t = ![0, pageOf m ⟨t.val, t.isLt⟩ 7, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b10_at (t : Fin (cfgM m hO).N) (hp : pageOf m ⟨t.val, t.isLt⟩ 7 < 2560) (d : Fin 32) (l : Fin 128) :
    (iblk m hO c 10 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 7, hp⟩ : Fin 2560) d l : S4x2560x32x128.Idx) := by
  blk_point [iblk, page10 m hO t]

theorem page11 (t : Fin (cfgM m hO).N) : ((cfgM m hO).win 11).index t = ![0, pageOf m ⟨t.val, t.isLt⟩ 8, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b11_at (t : Fin (cfgM m hO).N) (hp : pageOf m ⟨t.val, t.isLt⟩ 8 < 2560) (d : Fin 32) (l : Fin 128) :
    (iblk m hO c 11 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 8, hp⟩ : Fin 2560) d l : S4x2560x32x128.Idx) := by
  blk_point [iblk, page11 m hO t]

theorem page12 (t : Fin (cfgM m hO).N) : ((cfgM m hO).win 12).index t = ![0, pageOf m ⟨t.val, t.isLt⟩ 9, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b12_at (t : Fin (cfgM m hO).N) (hp : pageOf m ⟨t.val, t.isLt⟩ 9 < 2560) (d : Fin 32) (l : Fin 128) :
    (iblk m hO c 12 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 9, hp⟩ : Fin 2560) d l : S4x2560x32x128.Idx) := by
  blk_point [iblk, page12 m hO t]

theorem page13 (t : Fin (cfgM m hO).N) : ((cfgM m hO).win 13).index t = ![0, pageOf m ⟨t.val, t.isLt⟩ 10, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b13_at (t : Fin (cfgM m hO).N) (hp : pageOf m ⟨t.val, t.isLt⟩ 10 < 2560) (d : Fin 32) (l : Fin 128) :
    (iblk m hO c 13 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 10, hp⟩ : Fin 2560) d l : S4x2560x32x128.Idx) := by
  blk_point [iblk, page13 m hO t]

theorem page14 (t : Fin (cfgM m hO).N) : ((cfgM m hO).win 14).index t = ![0, pageOf m ⟨t.val, t.isLt⟩ 11, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b14_at (t : Fin (cfgM m hO).N) (hp : pageOf m ⟨t.val, t.isLt⟩ 11 < 2560) (d : Fin 32) (l : Fin 128) :
    (iblk m hO c 14 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 11, hp⟩ : Fin 2560) d l : S4x2560x32x128.Idx) := by
  blk_point [iblk, page14 m hO t]

theorem page15 (t : Fin (cfgM m hO).N) : ((cfgM m hO).win 15).index t = ![0, pageOf m ⟨t.val, t.isLt⟩ 12, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b15_at (t : Fin (cfgM m hO).N) (hp : pageOf m ⟨t.val, t.isLt⟩ 12 < 2560) (d : Fin 32) (l : Fin 128) :
    (iblk m hO c 15 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 12, hp⟩ : Fin 2560) d l : S4x2560x32x128.Idx) := by
  blk_point [iblk, page15 m hO t]

theorem page16 (t : Fin (cfgM m hO).N) : ((cfgM m hO).win 16).index t = ![0, pageOf m ⟨t.val, t.isLt⟩ 13, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b16_at (t : Fin (cfgM m hO).N) (hp : pageOf m ⟨t.val, t.isLt⟩ 13 < 2560) (d : Fin 32) (l : Fin 128) :
    (iblk m hO c 16 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 13, hp⟩ : Fin 2560) d l : S4x2560x32x128.Idx) := by
  blk_point [iblk, page16 m hO t]

theorem page17 (t : Fin (cfgM m hO).N) : ((cfgM m hO).win 17).index t = ![0, pageOf m ⟨t.val, t.isLt⟩ 14, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b17_at (t : Fin (cfgM m hO).N) (hp : pageOf m ⟨t.val, t.isLt⟩ 14 < 2560) (d : Fin 32) (l : Fin 128) :
    (iblk m hO c 17 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 14, hp⟩ : Fin 2560) d l : S4x2560x32x128.Idx) := by
  blk_point [iblk, page17 m hO t]

theorem page18 (t : Fin (cfgM m hO).N) : ((cfgM m hO).win 18).index t = ![0, pageOf m ⟨t.val, t.isLt⟩ 15, 0, 0] := by
  refine congrArg (fun y : S128x16.Idx => ![0, (tbl m 0 y : BitVec 32).toNat, 0, 0]) (funext fun a => Fin.ext ?_)
  match a with
  | ⟨0, _⟩ => exact word_val t
  | ⟨1, _⟩ => rfl
theorem b18_at (t : Fin (cfgM m hO).N) (hp : pageOf m ⟨t.val, t.isLt⟩ 15 < 2560) (d : Fin 32) (l : Fin 128) :
    (iblk m hO c 18 t : FVec Ideal S1x1x32x128 .f32) (ix4 (0 : Fin 1) (0 : Fin 1) d l : S1x1x32x128.Idx)
      = (V m c main_v0 : FVec Ideal S4x2560x32x128 .f32) (ix4 (0 : Fin 4) (⟨pageOf m ⟨t.val, t.isLt⟩ 15, hp⟩ : Fin 2560) d l : S4x2560x32x128.Idx) := by
  blk_point [iblk, page18 m hO t]

end Cert.Scores

end
-- ==== Proof.ScoresPure.lean ====
/- What the score call's block computes of its pages, entry by entry, over the extended reals. -/
module

public import proofs.«01_k».proof.Proof.Gen.Kernel8Ideal.Skeleton
public import Idealize.ShloMosaic.Lib.Pointwise

@[expose] public section

set_option maxRecDepth 16384

noncomputable section

open Idealize.ShloMosaic Idealize.ShloMosaic.TcCoe

namespace Cert.Scores

/-- The scale of the scores, `32 ^ (-1/2)` as both programs round it. -/
abbrev scale : EReal := Ideal.ofBits .f32 0x3E3504F3#32

theorem scale_nonneg : (0 : EReal) ≤ scale := by
  simp [scale, Ideal.ofBits, Ideal.ieee, -EReal.coe_mul]

/-- The score of one key under one sequence's index queries and head weights. -/
def score (q : Fin 8 → Fin 32 → EReal) (w : Fin 8 → EReal) (k : Fin 32 → EReal) : EReal :=
  ∑ h, max ((∑ d, q h d * k d) * scale) 0 * w h

/-- The same with the scale in the weights. -/
theorem score_eq (q : Fin 8 → Fin 32 → EReal) (w : Fin 8 → EReal) (k : Fin 32 → EReal) :
    ∑ h, w h * scale * max (∑ d, q h d * k d) 0 = score q w k := by
  unfold score
  refine Finset.sum_congr rfl fun h _ => ?_
  have e : ∀ s : EReal, max (s * scale) 0 = max s 0 * scale := fun s => by
    have := (Monotone.map_max (f := fun a : EReal => a * scale) (a := s) (b := 0) fun a b hab => mul_le_mul_of_nonneg_right hab scale_nonneg)
    simpa using this.symm
  rw [e, mul_assoc, mul_comm (w h), mul_comm scale]

section
open Cert.Kernel8Ideal Cert.Kernel8Ideal.Gen

theorem pay3_at (v0 : Vec Ideal S1x8x32 .f32) (h : Fin 8) (d : Fin 32) :
    k0_pay3 (F := Ideal) v0 (ix2 h d : S8x32.Idx) = v0 (ix3 (0 : Fin 1) h d : S1x8x32.Idx) := by
  pointwise [k0_pay3, k0_pay2]
theorem pay2_at (v0 : Vec Ideal S1x8x32 .f32) (h : Fin 8) (d : Fin 32) :
    k0_pay2 (F := Ideal) v0 (ix2 h d : S8x32.Idx) = v0 (ix3 (0 : Fin 1) h d : S1x8x32.Idx) := by
  pointwise [k0_pay2]
theorem pay4_at (v3 : Vec Ideal S1x8x1 .f32) (h : Fin 8) :
    k0_pay4 (F := Ideal) v3 (ix2 h (0 : Fin 1) : S8x1.Idx) = v3 (ix3 (0 : Fin 1) h (0 : Fin 1) : S1x8x1.Idx) * scale := by
  pointwise [k0_pay4]

theorem row_at (v2 : FVec Ideal S8x32 .bf16) (v6 : FVec Ideal S8x1 .f32) (pg : Vec Ideal S1x1x32x128 .f32) (l : Fin 128) :
    k0_pay8 (F := Ideal) v2 v6 pg (ix3 (0 : Fin 1) (0 : Fin 1) l : S1x1x128.Idx)
      = ∑ h : Fin 8, v6 (ix2 h (0 : Fin 1) : S8x1.Idx) * max (∑ d : Fin 32, v2 (ix2 h d : S8x32.Idx) * pg (ix4 (0 : Fin 1) (0 : Fin 1) d l : S1x1x32x128.Idx)) 0 := by
  pointwise [k0_pay8]

theorem cur_at (v1 : FVec Ideal S8x32 .f32) (v6 : FVec Ideal S8x1 .f32) (kc : Vec Ideal S1x1x32 .f32) :
    k0_pay27 (F := Ideal) v1 v6 kc (ix2 (0 : Fin 1) (0 : Fin 1) : S1x1.Idx)
      = ∑ h : Fin 8, v6 (ix2 h (0 : Fin 1) : S8x1.Idx) * max (∑ d : Fin 32, v1 (ix2 h d : S8x32.Idx) * kc (ix3 (0 : Fin 1) (0 : Fin 1) d : S1x1x32.Idx)) 0 := by
  pointwise [k0_pay27]

theorem tail_at (v : FVec Ideal S1x1 .f32) (i : Fin 8) (l : Fin 128) :
    k0_pay1 (F := Ideal) v (iota .tc S8x128 32 [1] iota_S8x128_d1_w32) (iota .tc S8x128 32 [0] iota_S8x128_d0_w32) k0_pay28 (ix3 (0 : Fin 1) i l : S1x8x128.Idx)
      = if l.val = 0 ∧ i.val = 0 then v (ix2 (0 : Fin 1) (0 : Fin 1) : S1x1.Idx) else Ideal.ofBits .f32 0xFF800000#32 := by
  have hl : ∀ l : Fin 128, IntOp.cmpi .eq (BitVec.ofNat 32 l.val) 0#32 = if l.val = 0 then 1#1 else 0#1 := by decide +kernel
  have hi : ∀ i : Fin 8, IntOp.cmpi .eq (BitVec.ofNat 32 i.val) 0#32 = if i.val = 0 then 1#1 else 0#1 := by decide +kernel
  pointwise [k0_pay1, k0_pay28]
  rw [hl, hi]
  by_cases h0 : l.val = 0 <;> by_cases h1 : i.val = 0 <;> simp only [h0, h1, if_true, if_false, and_true, and_false, and_self] <;> rfl
end

end Cert.Scores

end
-- ==== Proof.ScoresRef.lean ====
/- The reference's scores at an index: a page's entries below 2048, the current token's at 2048, and the padding past it. -/
module

public import proofs.«01_k».proof.Proof.Gen.Reference8Ideal.Read
public import proofs.«01_k».proof.Proof.ScoresPure
public import Idealize.ShloMosaic.Lib.Pointwise

@[expose] public section

set_option maxRecDepth 16384

noncomputable section

open Idealize.ShloMosaic Idealize.ShloMosaic.TcCoe

namespace Cert.Scores

section
open Cert.Reference8Ideal Cert.Reference8Ideal.Gen Cert.Reference8Ideal.Read

abbrev gd := gather_S2560x128x32_S128x16x1_S128x16x128x32_23_0_n_n_0_2_112832

/-- The gather of pages at an entry, when the entry of the table names a page. -/
theorem gather_at (x : FVec Ideal S2560x128x32 .f32) (idx : IVec S128x16x1 32) (b : Fin 128) (p : Fin 16) (l : Fin 128) (d : Fin 32)
    (h : (idx (ix3 b p (0 : Fin 1) : S128x16x1.Idx)).toNat < 2560) :
    Host.gather gd x idx (ix4 b p l d : S128x16x128x32.Idx) = x (ix3 (⟨(idx (ix3 b p (0 : Fin 1) : S128x16x1.Idx)).toNat, h⟩ : Fin 2560) l d : S2560x128x32.Idx) := by
  unfold Host.gather
  congr 1
  funext a
  refine Fin.ext ?_
  show gd.start (ix4 b p l d : S128x16x128x32.Idx) idx a + gd.batchCoord (ix4 b p l d : S128x16x128x32.Idx) a + gd.offCoord (ix4 b p l d : S128x16x128x32.Idx) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S2560x128x32.rank) ∈ gd.startIndexMap from List.mem_singleton.mpr rfl)]
    have hsi : gd.siIdx (ix4 b p l d : S128x16x128x32.Idx) ⟨List.idxOf (⟨0, by decide⟩ : Fin S2560x128x32.rank) gd.startIndexMap,
        List.idxOf_lt_length_iff.2 (List.mem_singleton.mpr rfl)⟩ = (ix3 b p (0 : Fin 1) : S128x16x1.Idx) := by
      funext c; refine Fin.ext ?_
      match c with
      | ⟨0, _⟩ => rfl
      | ⟨1, _⟩ => rfl
      | ⟨2, _⟩ => rfl
    rw [hsi]
    show min (idx (ix3 b p (0 : Fin 1) : S128x16x1.Idx)).toInt.toNat 2559 = (idx (ix3 b p (0 : Fin 1) : S128x16x1.Idx)).toNat
    rw [BitVec.toInt_eq_toNat_of_lt (by omega), Int.toNat_natCast]
    omega
  | ⟨1, _⟩ =>
    unfold GatherDims.start
    rw [dif_neg (show (⟨1, by decide⟩ : Fin S2560x128x32.rank) ∉ gd.startIndexMap from fun hm => absurd (Fin.val_eq_of_eq (List.mem_singleton.mp hm)) (by decide))]
    simp only [Nat.zero_add]
    rfl
  | ⟨2, _⟩ =>
    unfold GatherDims.start
    rw [dif_neg (show (⟨2, by decide⟩ : Fin S2560x128x32.rank) ∉ gd.startIndexMap from fun hm => absurd (Fin.val_eq_of_eq (List.mem_singleton.mp hm)) (by decide))]
    simp only [Nat.zero_add]
    rfl

variable (x0 : IVec S128x16 32) (x1 : FVec Ideal S128x1x8x32 .f32) (x2 : FVec Ideal S128x1x8 .f32) (x3 : FVec Ideal S128x1x32 .f32) (x4 : FVec Ideal S4x2560x128x32 .f32)

/-- An entry that is not negative is read as it stands. -/
theorem start_at (b : Fin 128) (p : Fin 16) (h : (x0 (ix2 b p : S128x16.Idx)).toNat < 2560) :
    val_main_v7 (F := Ideal) x0 (ix3 b p (0 : Fin 1) : S128x16x1.Idx) = x0 (ix2 b p : S128x16.Idx) := by
  have e : val_main_v7 (F := Ideal) x0 (ix3 b p (0 : Fin 1) : S128x16x1.Idx) = val_main_v6 (F := Ideal) x0 (ix2 b p : S128x16.Idx) := by
    pointwise [val_main_v7]
  rw [e, val_main_v6_apply]
  have e2 : val_main_v3 (F := Ideal) x0 (ix2 b p : S128x16.Idx) = 0#1 := by
    rw [val_main_v3_apply]
    show BitVec.ofBool ((x0 (ix2 b p : S128x16.Idx)).slt 0#32) = 0#1
    have : (x0 (ix2 b p : S128x16.Idx)).slt 0#32 = false := by
      simp only [BitVec.slt, decide_eq_false_iff_not, BitVec.toInt, BitVec.toNat_ofNat]
      omega
    rw [this]
    rfl
  rw [e2]
  rfl

/-- The gathered pages at an entry. -/
theorem page_at (b : Fin 128) (p : Fin 16) (l : Fin 128) (d : Fin 32) (h : (x0 (ix2 b p : S128x16.Idx)).toNat < 2560) :
    val_main_v8 (F := Ideal) x0 x4 (ix4 b p l d : S128x16x128x32.Idx)
      = x4 (ix4 (0 : Fin 4) (⟨(x0 (ix2 b p : S128x16.Idx)).toNat, h⟩ : Fin 2560) l d : S4x2560x128x32.Idx) := by
  have hs := start_at x0 b p h
  unfold val_main_v8
  refine (gather_at _ _ b p l d (by rw [hs]; exact h)).trans ?_
  have e : ∀ (n : Fin 2560), val_main_v1 (F := Ideal) x4 (ix3 n l d : S2560x128x32.Idx) = x4 (ix4 (0 : Fin 4) n l d : S4x2560x128x32.Idx) := fun n => by
    pointwise [val_main_v1, val_main_v0]
  rw [e]
  congr 2
  exact Fin.ext (congrArg BitVec.toNat hs)

/-- The keys the scores are taken against. -/
theorem key_page (b : Fin 128) (p : Fin 16) (l : Fin 128) (d : Fin 32) (h : (x0 (ix2 b p : S128x16.Idx)).toNat < 2560) :
    val_main_v10 (F := Ideal) x0 x3 x4 (ix3 b (⟨p.val * 128 + l.val, by omega⟩ : Fin 2049) d : S128x2049x32.Idx)
      = x4 (ix4 (0 : Fin 4) (⟨(x0 (ix2 b p : S128x16.Idx)).toNat, h⟩ : Fin 2560) l d : S4x2560x128x32.Idx) := by
  rw [← page_at x0 x4 b p l d h]
  unfold val_main_v10 val_main_v9
  generalize val_main_v8 (F := Ideal) x0 x4 = z
  pointwise []
  exact dif_pos (by omega)
theorem key_cur (b : Fin 128) (d : Fin 32) :
    val_main_v10 (F := Ideal) x0 x3 x4 (ix3 b (⟨2048, by omega⟩ : Fin 2049) d : S128x2049x32.Idx) = x3 (ix3 b (0 : Fin 1) d : S128x1x32.Idx) := by
  unfold val_main_v10
  generalize val_main_v9 (F := Ideal) x0 x4 = z
  pointwise []

/-- The score of a key. -/
theorem score_at (b : Fin 128) (s : Fin 2049) :
    val_main_v16 (F := Ideal) x0 x1 x2 x3 x4 (ix2 b s : S128x2049.Idx)
      = score (fun h d => x1 (ix4 b (0 : Fin 1) h d : S128x1x8x32.Idx)) (fun h => x2 (ix3 b (0 : Fin 1) h : S128x1x8.Idx))
          (fun d => val_main_v10 (F := Ideal) x0 x3 x4 (ix3 b s d : S128x2049x32.Idx)) := by
  unfold val_main_v16 val_main_v15 val_main_v14 val_main_v13 val_main_v12 val_main_v11 val_main_call0_v0 val_main_call0_cst val_main_cst
  generalize val_main_v10 (F := Ideal) x0 x3 x4 = z
  pointwise [score]

/-- The result at an index, by its place in the row of 3072. -/
theorem out_lo (b : Fin 128) (r : Fin 24) (l : Fin 128) (h : r.val * 128 + l.val < 2049) :
    val_main_v19 (F := Ideal) x0 x1 x2 x3 x4 (ix3 b r l : S128x24x128.Idx)
      = val_main_v16 (F := Ideal) x0 x1 x2 x3 x4 (ix2 b (⟨r.val * 128 + l.val, h⟩ : Fin 2049) : S128x2049.Idx) := by
  unfold val_main_v19 val_main_v18
  generalize val_main_v16 (F := Ideal) x0 x1 x2 x3 x4 = z
  pointwise []
  exact dif_pos h
theorem out_hi (b : Fin 128) (r : Fin 24) (l : Fin 128) (h : ¬ r.val * 128 + l.val < 2049) :
    val_main_v19 (F := Ideal) x0 x1 x2 x3 x4 (ix3 b r l : S128x24x128.Idx) = Ideal.ofBits .f32 0xFF800000#32 := by
  unfold val_main_v19 val_main_v18 val_main_v17 val_main_cst_1
  generalize val_main_v16 (F := Ideal) x0 x1 x2 x3 x4 = z
  pointwise []
  exact dif_neg h
end

end Cert.Scores

end
-- ==== Proof.ScoresValue.lean ====
/- The score call's result: each block holds the reference's scores, laid out 128 to a row. -/
module

public import proofs.«01_k».proof.Proof.ScoresBlocks
public import proofs.«01_k».proof.Proof.ScoresPure
public import proofs.«01_k».proof.Proof.ScoresRef

@[expose] public section

set_option maxRecDepth 16384

noncomputable section

open Idealize.ShloMosaic Idealize.ShloMosaic.TcCoe Idealize.SL.Sem
open Cert.Kernel8Ideal Cert.Kernel8Ideal.Gen

namespace Cert.Scores

variable (m : (ℓ : Loc nD τ sig) → Buf (Elt Ideal) ℓ) (hO : Ok m) (c : Dev nD)

/-- The reference's array at the kernel's arguments. -/
def outS : FVec Ideal S128x24x128 .f32 :=
  Cert.Reference8Ideal.Read.val_main_v19 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem tbl_eq : (tbl m 0 : IVec S128x16 32) = m ((c : Thread nD τ).loc main_arg0) := by
  have e : c = 0 := Subsingleton.elim _ _
  subst e
  exact V_main_arg0 m 0

/-- A row of scores against a page. -/
theorem row_ref (t : Fin (cfgM m hO).N) (p : Fin 16) (hp : pageOf m ⟨t.val, t.isLt⟩ p < 2560) (q : Vec Ideal S1x8x32 .f32) (w : Vec Ideal S1x8x1 .f32)
    (hq : q = (iblk m hO c 0 t : FVec Ideal S1x8x32 .f32)) (hw : w = (iblk m hO c 1 t : FVec Ideal S1x8x1 .f32)) (pg : Vec Ideal S1x1x32x128 .f32)
    (hpg : ∀ (d : Fin 32) (l : Fin 128), pg (ix4 (0 : Fin 1) (0 : Fin 1) d l : S1x1x32x128.Idx)
      = (V m c main_v0 : FVec Ideal S4x2560x32x128 .f32) (ix4 (0 : Fin 4) (⟨pageOf m ⟨t.val, t.isLt⟩ p, hp⟩ : Fin 2560) d l : S4x2560x32x128.Idx)) (l : Fin 128) :
    k0_pay8 (F := Ideal) (k0_pay3 q) (k0_pay4 w) pg (ix3 (0 : Fin 1) (0 : Fin 1) l : S1x1x128.Idx)
      = outS m c (ix3 (⟨t.val, t.isLt⟩ : Fin 128) (⟨p.val, by omega⟩ : Fin 24) l : S128x24x128.Idx) := by
  have hq' : ∀ (h : Fin 8) (d : Fin 32), q (ix3 (0 : Fin 1) h d : S1x8x32.Idx) = m ((c : Thread nD τ).loc main_arg1) (ix4 (⟨t.val, t.isLt⟩ : Fin 128) (0 : Fin 1) h d : S128x1x8x32.Idx) :=
    fun h d => (congrFun hq _).trans ((b0_at m hO c t h d).trans (V_q m c _ h d))
  have hw' : ∀ h : Fin 8, w (ix3 (0 : Fin 1) h (0 : Fin 1) : S1x8x1.Idx) = m ((c : Thread nD τ).loc main_arg2) (ix3 (⟨t.val, t.isLt⟩ : Fin 128) (0 : Fin 1) h : S128x1x8.Idx) :=
    fun h => (congrFun hw _).trans ((b1_at m hO c t h).trans (V_w m c _ h))
  rw [row_at]
  unfold outS
  rw [out_lo _ _ _ _ _ _ _ _ (by show p.val * 128 + l.val < 2049; omega), score_at, ← score_eq]
  have hp' := hp
  unfold pageOf at hp'
  rw [tbl_eq m c] at hp'
  refine Finset.sum_congr rfl fun h _ => ?_
  rw [pay4_at, hw']
  refine congrArg (fun z => _ * max z 0) (Finset.sum_congr rfl fun d _ => ?_)
  rw [pay3_at, hq', hpg, V_pages]
  refine congrArg (fun z : EReal => (show EReal from m ((c : Thread nD τ).loc main_arg1) (ix4 (⟨t.val, t.isLt⟩ : Fin 128) (0 : Fin 1) h d : S128x1x8x32.Idx)) * z) (Eq.trans ?_ (key_page _ _ _ _ p l d hp').symm)
  refine congrArg (fun n : Fin 2560 => m ((c : Thread nD τ).loc main_arg4) (ix4 (0 : Fin 4) n l d : S4x2560x128x32.Idx)) (Fin.ext ?_)
  show (tbl m 0 _ : BitVec 32).toNat = _
  rw [tbl_eq m c]

/-- The rows after the pages. -/
theorem tail_ref (t : Fin (cfgM m hO).N) (q : Vec Ideal S1x8x32 .f32) (w : Vec Ideal S1x8x1 .f32) (kc : Vec Ideal S1x1x32 .f32)
    (hq : q = (iblk m hO c 0 t : FVec Ideal S1x8x32 .f32)) (hw : w = (iblk m hO c 1 t : FVec Ideal S1x8x1 .f32)) (hk : kc = (iblk m hO c 2 t : FVec Ideal S1x1x32 .f32)) (i : Fin 8) (l : Fin 128) :
    k0_pay1 (F := Ideal) (k0_pay27 (k0_pay2 q) (k0_pay4 w) kc) (iota .tc S8x128 32 [1] iota_S8x128_d1_w32) (iota .tc S8x128 32 [0] iota_S8x128_d0_w32) k0_pay28
      (ix3 (0 : Fin 1) i l : S1x8x128.Idx) = outS m c (ix3 (⟨t.val, t.isLt⟩ : Fin 128) (⟨16 + i.val, by omega⟩ : Fin 24) l : S128x24x128.Idx) := by
  have hq' : ∀ (h : Fin 8) (d : Fin 32), q (ix3 (0 : Fin 1) h d : S1x8x32.Idx) = m ((c : Thread nD τ).loc main_arg1) (ix4 (⟨t.val, t.isLt⟩ : Fin 128) (0 : Fin 1) h d : S128x1x8x32.Idx) :=
    fun h d => (congrFun hq _).trans ((b0_at m hO c t h d).trans (V_q m c _ h d))
  have hw' : ∀ h : Fin 8, w (ix3 (0 : Fin 1) h (0 : Fin 1) : S1x8x1.Idx) = m ((c : Thread nD τ).loc main_arg2) (ix3 (⟨t.val, t.isLt⟩ : Fin 128) (0 : Fin 1) h : S128x1x8.Idx) :=
    fun h => (congrFun hw _).trans ((b1_at m hO c t h).trans (V_w m c _ h))
  have hk' : ∀ d : Fin 32, kc (ix3 (0 : Fin 1) (0 : Fin 1) d : S1x1x32.Idx) = m ((c : Thread nD τ).loc main_arg3) (ix3 (⟨t.val, t.isLt⟩ : Fin 128) (0 : Fin 1) d : S128x1x32.Idx) :=
    fun d => (congrFun hk _).trans ((b2_at m hO c t d).trans (congrFun (V_main_arg3 m c) _))
  rw [tail_at]
  unfold outS
  split
  · rename_i h
    have hl : l = 0 := Fin.ext h.1
    have hi : i = 0 := Fin.ext h.2
    subst hl hi
    rw [out_lo _ _ _ _ _ _ _ _ (by decide), score_at, cur_at, ← score_eq]
    refine Finset.sum_congr rfl fun h _ => ?_
    rw [pay4_at, hw']
    refine congrArg (fun z => _ * max z 0) (Finset.sum_congr rfl fun d _ => ?_)
    rw [pay2_at, hq', hk']
    exact congrArg (fun z : EReal => (show EReal from m ((c : Thread nD τ).loc main_arg1) (ix4 (⟨t.val, t.isLt⟩ : Fin 128) (0 : Fin 1) h d : S128x1x8x32.Idx)) * z) (key_cur _ _ _ _ d).symm
  · rename_i h
    refine (out_hi _ _ _ _ _ _ _ _ ?_).symm
    show ¬ (16 + i.val) * 128 + l.val < 2049
    omega

/-- The sixteen rows are written alike. -/
theorem row0_eq (v0 : Vec Ideal S1x8x32 .f32) (v3 : Vec Ideal S1x8x1 .f32) (pg : Vec Ideal S1x1x32x128 .f32) :
    k0_pay5 v0 v3 pg = k0_pay8 (F := Ideal) (k0_pay3 v0) (k0_pay4 v3) pg := rfl
theorem row1_eq (v0 : Vec Ideal S1x8x32 .f32) (v3 : Vec Ideal S1x8x1 .f32) (pg : Vec Ideal S1x1x32x128 .f32) :
    k0_pay7 (k0_pay6 v0 v3 pg) = k0_pay8 (F := Ideal) (k0_pay3 v0) (k0_pay4 v3) pg := rfl
theorem row2_eq (v0 : Vec Ideal S1x8x32 .f32) (v3 : Vec Ideal S1x8x1 .f32) (pg : Vec Ideal S1x1x32x128 .f32) :
    k0_pay8 (k0_pay3 v0) (k0_pay4 v3) pg = k0_pay8 (F := Ideal) (k0_pay3 v0) (k0_pay4 v3) pg := rfl
theorem row3_eq (v0 : Vec Ideal S1x8x32 .f32) (v3 : Vec Ideal S1x8x1 .f32) (pg : Vec Ideal S1x1x32x128 .f32) :
    k0_pay9 (k0_pay3 v0) (k0_pay4 v3) pg = k0_pay8 (F := Ideal) (k0_pay3 v0) (k0_pay4 v3) pg := rfl
theorem row4_eq (v0 : Vec Ideal S1x8x32 .f32) (v3 : Vec Ideal S1x8x1 .f32) (pg : Vec Ideal S1x1x32x128 .f32) :
    k0_pay11 (k0_pay4 v3) (k0_pay10 (k0_pay3 v0) pg) = k0_pay8 (F := Ideal) (k0_pay3 v0) (k0_pay4 v3) pg := rfl
theorem row5_eq (v0 : Vec Ideal S1x8x32 .f32) (v3 : Vec Ideal S1x8x1 .f32) (pg : Vec Ideal S1x1x32x128 .f32) :
    k0_pay12 (k0_pay3 v0) (k0_pay4 v3) pg = k0_pay8 (F := Ideal) (k0_pay3 v0) (k0_pay4 v3) pg := rfl
theorem row6_eq (v0 : Vec Ideal S1x8x32 .f32) (v3 : Vec Ideal S1x8x1 .f32) (pg : Vec Ideal S1x1x32x128 .f32) :
    k0_pay14 (k0_pay13 (k0_pay3 v0) (k0_pay4 v3) pg) = k0_pay8 (F := Ideal) (k0_pay3 v0) (k0_pay4 v3) pg := rfl
theorem row7_eq (v0 : Vec Ideal S1x8x32 .f32) (v3 : Vec Ideal S1x8x1 .f32) (pg : Vec Ideal S1x1x32x128 .f32) :
    k0_pay15 (k0_pay3 v0) (k0_pay4 v3) pg = k0_pay8 (F := Ideal) (k0_pay3 v0) (k0_pay4 v3) pg := rfl
theorem row8_eq (v0 : Vec Ideal S1x8x32 .f32) (v3 : Vec Ideal S1x8x1 .f32) (pg : Vec Ideal S1x1x32x128 .f32) :
    k0_pay16 (k0_pay3 v0) (k0_pay4 v3) pg = k0_pay8 (F := Ideal) (k0_pay3 v0) (k0_pay4 v3) pg := rfl
theorem row9_eq (v0 : Vec Ideal S1x8x32 .f32) (v3 : Vec Ideal S1x8x1 .f32) (pg : Vec Ideal S1x1x32x128 .f32) :
    k0_pay18 (k0_pay4 v3) (k0_pay17 (k0_pay3 v0) pg) = k0_pay8 (F := Ideal) (k0_pay3 v0) (k0_pay4 v3) pg := rfl
theorem row10_eq (v0 : Vec Ideal S1x8x32 .f32) (v3 : Vec Ideal S1x8x1 .f32) (pg : Vec Ideal S1x1x32x128 .f32) :
    k0_pay19 (k0_pay3 v0) (k0_pay4 v3) pg = k0_pay8 (F := Ideal) (k0_pay3 v0) (k0_pay4 v3) pg := rfl
theorem row11_eq (v0 : Vec Ideal S1x8x32 .f32) (v3 : Vec Ideal S1x8x1 .f32) (pg : Vec Ideal S1x1x32x128 .f32) :
    k0_pay21 (k0_pay20 (k0_pay3 v0) (k0_pay4 v3) pg) = k0_pay8 (F := Ideal) (k0_pay3 v0) (k0_pay4 v3) pg := rfl
theorem row12_eq (v0 : Vec Ideal S1x8x32 .f32) (v3 : Vec Ideal S1x8x1 .f32) (pg : Vec Ideal S1x1x32x128 .f32) :
    k0_pay22 (k0_pay3 v0) (k0_pay4 v3) pg = k0_pay8 (F := Ideal) (k0_pay3 v0) (k0_pay4 v3) pg := rfl
theorem row13_eq (v0 : Vec Ideal S1x8x32 .f32) (v3 : Vec Ideal S1x8x1 .f32) (pg : Vec Ideal S1x1x32x128 .f32) :
    k0_pay23 (k0_pay3 v0) (k0_pay4 v3) pg = k0_pay8 (F := Ideal) (k0_pay3 v0) (k0_pay4 v3) pg := rfl
theorem row14_eq (v0 : Vec Ideal S1x8x32 .f32) (v3 : Vec Ideal S1x8x1 .f32) (pg : Vec Ideal S1x1x32x128 .f32) :
    k0_pay25 (k0_pay4 v3) (k0_pay24 (k0_pay3 v0) pg) = k0_pay8 (F := Ideal) (k0_pay3 v0) (k0_pay4 v3) pg := rfl
theorem row15_eq (v0 : Vec Ideal S1x8x32 .f32) (v3 : Vec Ideal S1x8x1 .f32) (pg : Vec Ideal S1x1x32x128 .f32) :
    k0_pay26 (k0_pay3 v0) (k0_pay4 v3) pg = k0_pay8 (F := Ideal) (k0_pay3 v0) (k0_pay4 v3) pg := rfl

/-- The rows the body stores: one of 128 scores a page, and the eight after them. -/
abbrev rS0 : Rect S1x24x128 := Rect.unit ![0, 0, 0] ![1, 1, 128] inb_S1x24x128_S1x1x128_0_0_0
abbrev rS1 : Rect S1x24x128 := Rect.unit ![0, 1, 0] ![1, 1, 128] inb_S1x24x128_S1x1x128_0_1_0
abbrev rS2 : Rect S1x24x128 := Rect.unit ![0, 2, 0] ![1, 1, 128] inb_S1x24x128_S1x1x128_0_2_0
abbrev rS3 : Rect S1x24x128 := Rect.unit ![0, 3, 0] ![1, 1, 128] inb_S1x24x128_S1x1x128_0_3_0
abbrev rS4 : Rect S1x24x128 := Rect.unit ![0, 4, 0] ![1, 1, 128] inb_S1x24x128_S1x1x128_0_4_0
abbrev rS5 : Rect S1x24x128 := Rect.unit ![0, 5, 0] ![1, 1, 128] inb_S1x24x128_S1x1x128_0_5_0
abbrev rS6 : Rect S1x24x128 := Rect.unit ![0, 6, 0] ![1, 1, 128] inb_S1x24x128_S1x1x128_0_6_0
abbrev rS7 : Rect S1x24x128 := Rect.unit ![0, 7, 0] ![1, 1, 128] inb_S1x24x128_S1x1x128_0_7_0
abbrev rS8 : Rect S1x24x128 := Rect.unit ![0, 8, 0] ![1, 1, 128] inb_S1x24x128_S1x1x128_0_8_0
abbrev rS9 : Rect S1x24x128 := Rect.unit ![0, 9, 0] ![1, 1, 128] inb_S1x24x128_S1x1x128_0_9_0
abbrev rS10 : Rect S1x24x128 := Rect.unit ![0, 10, 0] ![1, 1, 128] inb_S1x24x128_S1x1x128_0_10_0
abbrev rS11 : Rect S1x24x128 := Rect.unit ![0, 11, 0] ![1, 1, 128] inb_S1x24x128_S1x1x128_0_11_0
abbrev rS12 : Rect S1x24x128 := Rect.unit ![0, 12, 0] ![1, 1, 128] inb_S1x24x128_S1x1x128_0_12_0
abbrev rS13 : Rect S1x24x128 := Rect.unit ![0, 13, 0] ![1, 1, 128] inb_S1x24x128_S1x1x128_0_13_0
abbrev rS14 : Rect S1x24x128 := Rect.unit ![0, 14, 0] ![1, 1, 128] inb_S1x24x128_S1x1x128_0_14_0
abbrev rS15 : Rect S1x24x128 := Rect.unit ![0, 15, 0] ![1, 1, 128] inb_S1x24x128_S1x1x128_0_15_0
abbrev rS16 : Rect S1x24x128 := Rect.unit ![0, 16, 0] ![1, 8, 128] inb_S1x24x128_S1x8x128_0_16_0

/-- A block of stored rows that agree with `G` is `G`. -/
theorem put (G : Fin 24 → Fin 128 → EReal) (u0 u1 u2 u3 u4 u5 u6 u7 u8 u9 u10 u11 u12 u13 u14 u15 : Vec Ideal S1x1x128 .f32) (v : Vec Ideal S1x8x128 .f32)
    (h0 : ∀ l : Fin 128, u0 (ix3 (0 : Fin 1) (0 : Fin 1) l : S1x1x128.Idx) = G (⟨0, by omega⟩ : Fin 24) l)
    (h1 : ∀ l : Fin 128, u1 (ix3 (0 : Fin 1) (0 : Fin 1) l : S1x1x128.Idx) = G (⟨1, by omega⟩ : Fin 24) l)
    (h2 : ∀ l : Fin 128, u2 (ix3 (0 : Fin 1) (0 : Fin 1) l : S1x1x128.Idx) = G (⟨2, by omega⟩ : Fin 24) l)
    (h3 : ∀ l : Fin 128, u3 (ix3 (0 : Fin 1) (0 : Fin 1) l : S1x1x128.Idx) = G (⟨3, by omega⟩ : Fin 24) l)
    (h4 : ∀ l : Fin 128, u4 (ix3 (0 : Fin 1) (0 : Fin 1) l : S1x1x128.Idx) = G (⟨4, by omega⟩ : Fin 24) l)
    (h5 : ∀ l : Fin 128, u5 (ix3 (0 : Fin 1) (0 : Fin 1) l : S1x1x128.Idx) = G (⟨5, by omega⟩ : Fin 24) l)
    (h6 : ∀ l : Fin 128, u6 (ix3 (0 : Fin 1) (0 : Fin 1) l : S1x1x128.Idx) = G (⟨6, by omega⟩ : Fin 24) l)
    (h7 : ∀ l : Fin 128, u7 (ix3 (0 : Fin 1) (0 : Fin 1) l : S1x1x128.Idx) = G (⟨7, by omega⟩ : Fin 24) l)
    (h8 : ∀ l : Fin 128, u8 (ix3 (0 : Fin 1) (0 : Fin 1) l : S1x1x128.Idx) = G (⟨8, by omega⟩ : Fin 24) l)
    (h9 : ∀ l : Fin 128, u9 (ix3 (0 : Fin 1) (0 : Fin 1) l : S1x1x128.Idx) = G (⟨9, by omega⟩ : Fin 24) l)
    (h10 : ∀ l : Fin 128, u10 (ix3 (0 : Fin 1) (0 : Fin 1) l : S1x1x128.Idx) = G (⟨10, by omega⟩ : Fin 24) l)
    (h11 : ∀ l : Fin 128, u11 (ix3 (0 : Fin 1) (0 : Fin 1) l : S1x1x128.Idx) = G (⟨11, by omega⟩ : Fin 24) l)
    (h12 : ∀ l : Fin 128, u12 (ix3 (0 : Fin 1) (0 : Fin 1) l : S1x1x128.Idx) = G (⟨12, by omega⟩ : Fin 24) l)
    (h13 : ∀ l : Fin 128, u13 (ix3 (0 : Fin 1) (0 : Fin 1) l : S1x1x128.Idx) = G (⟨13, by omega⟩ : Fin 24) l)
    (h14 : ∀ l : Fin 128, u14 (ix3 (0 : Fin 1) (0 : Fin 1) l : S1x1x128.Idx) = G (⟨14, by omega⟩ : Fin 24) l)
    (h15 : ∀ l : Fin 128, u15 (ix3 (0 : Fin 1) (0 : Fin 1) l : S1x1x128.Idx) = G (⟨15, by omega⟩ : Fin 24) l)
    (hv : ∀ (i : Fin 8) (l : Fin 128), v (ix3 (0 : Fin 1) i l : S1x8x128.Idx) = G (⟨16 + i.val, by omega⟩ : Fin 24) l) (z : Fin 1) (r : Fin 24) (l : Fin 128) :
    View.canon (Val := Elt Ideal) (s := S1x24x128) (e := .f32) [⟨rS16, v⟩, ⟨rS15, u15⟩, ⟨rS14, u14⟩, ⟨rS13, u13⟩, ⟨rS12, u12⟩, ⟨rS11, u11⟩, ⟨rS10, u10⟩, ⟨rS9, u9⟩, ⟨rS8, u8⟩, ⟨rS7, u7⟩, ⟨rS6, u6⟩, ⟨rS5, u5⟩, ⟨rS4, u4⟩, ⟨rS3, u3⟩, ⟨rS2, u2⟩, ⟨rS1, u1⟩, ⟨rS0, u0⟩]
      (ix3 z r l : S1x24x128.Idx) = G r l := by
  canon_tiles x k using (View.cover_of_tiledBy _ ![1, 1, 128] (by sl_kernel_rfl) _)
  case piece0 =>
    idx_vars x
    have e0 : x0 = 0 := Subsingleton.elim _ _
    have el : l = x2 := Fin.ext k2
    have er : r = ⟨16 + x1.val, by omega⟩ := Fin.ext k1
    subst e0
    rw [er, el]
    exact hv x1 x2
  case piece1 =>
    idx_vars x
    have e0 : x0 = 0 := Subsingleton.elim _ _
    have e1 : x1 = 0 := Subsingleton.elim _ _
    subst e0 e1
    have el : l = x2 := Fin.ext k2
    have er : r = ⟨15, by omega⟩ := Fin.ext k1
    rw [er, el]
    exact h15 x2
  case piece2 =>
    idx_vars x
    have e0 : x0 = 0 := Subsingleton.elim _ _
    have e1 : x1 = 0 := Subsingleton.elim _ _
    subst e0 e1
    have el : l = x2 := Fin.ext k2
    have er : r = ⟨14, by omega⟩ := Fin.ext k1
    rw [er, el]
    exact h14 x2
  case piece3 =>
    idx_vars x
    have e0 : x0 = 0 := Subsingleton.elim _ _
    have e1 : x1 = 0 := Subsingleton.elim _ _
    subst e0 e1
    have el : l = x2 := Fin.ext k2
    have er : r = ⟨13, by omega⟩ := Fin.ext k1
    rw [er, el]
    exact h13 x2
  case piece4 =>
    idx_vars x
    have e0 : x0 = 0 := Subsingleton.elim _ _
    have e1 : x1 = 0 := Subsingleton.elim _ _
    subst e0 e1
    have el : l = x2 := Fin.ext k2
    have er : r = ⟨12, by omega⟩ := Fin.ext k1
    rw [er, el]
    exact h12 x2
  case piece5 =>
    idx_vars x
    have e0 : x0 = 0 := Subsingleton.elim _ _
    have e1 : x1 = 0 := Subsingleton.elim _ _
    subst e0 e1
    have el : l = x2 := Fin.ext k2
    have er : r = ⟨11, by omega⟩ := Fin.ext k1
    rw [er, el]
    exact h11 x2
  case piece6 =>
    idx_vars x
    have e0 : x0 = 0 := Subsingleton.elim _ _
    have e1 : x1 = 0 := Subsingleton.elim _ _
    subst e0 e1
    have el : l = x2 := Fin.ext k2
    have er : r = ⟨10, by omega⟩ := Fin.ext k1
    rw [er, el]
    exact h10 x2
  case piece7 =>
    idx_vars x
    have e0 : x0 = 0 := Subsingleton.elim _ _
    have e1 : x1 = 0 := Subsingleton.elim _ _
    subst e0 e1
    have el : l = x2 := Fin.ext k2
    have er : r = ⟨9, by omega⟩ := Fin.ext k1
    rw [er, el]
    exact h9 x2
  case piece8 =>
    idx_vars x
    have e0 : x0 = 0 := Subsingleton.elim _ _
    have e1 : x1 = 0 := Subsingleton.elim _ _
    subst e0 e1
    have el : l = x2 := Fin.ext k2
    have er : r = ⟨8, by omega⟩ := Fin.ext k1
    rw [er, el]
    exact h8 x2
  case piece9 =>
    idx_vars x
    have e0 : x0 = 0 := Subsingleton.elim _ _
    have e1 : x1 = 0 := Subsingleton.elim _ _
    subst e0 e1
    have el : l = x2 := Fin.ext k2
    have er : r = ⟨7, by omega⟩ := Fin.ext k1
    rw [er, el]
    exact h7 x2
  case piece10 =>
    idx_vars x
    have e0 : x0 = 0 := Subsingleton.elim _ _
    have e1 : x1 = 0 := Subsingleton.elim _ _
    subst e0 e1
    have el : l = x2 := Fin.ext k2
    have er : r = ⟨6, by omega⟩ := Fin.ext k1
    rw [er, el]
    exact h6 x2
  case piece11 =>
    idx_vars x
    have e0 : x0 = 0 := Subsingleton.elim _ _
    have e1 : x1 = 0 := Subsingleton.elim _ _
    subst e0 e1
    have el : l = x2 := Fin.ext k2
    have er : r = ⟨5, by omega⟩ := Fin.ext k1
    rw [er, el]
    exact h5 x2
  case piece12 =>
    idx_vars x
    have e0 : x0 = 0 := Subsingleton.elim _ _
    have e1 : x1 = 0 := Subsingleton.elim _ _
    subst e0 e1
    have el : l = x2 := Fin.ext k2
    have er : r = ⟨4, by omega⟩ := Fin.ext k1
    rw [er, el]
    exact h4 x2
  case piece13 =>
    idx_vars x
    have e0 : x0 = 0 := Subsingleton.elim _ _
    have e1 : x1 = 0 := Subsingleton.elim _ _
    subst e0 e1
    have el : l = x2 := Fin.ext k2
    have er : r = ⟨3, by omega⟩ := Fin.ext k1
    rw [er, el]
    exact h3 x2
  case piece14 =>
    idx_vars x
    have e0 : x0 = 0 := Subsingleton.elim _ _
    have e1 : x1 = 0 := Subsingleton.elim _ _
    subst e0 e1
    have el : l = x2 := Fin.ext k2
    have er : r = ⟨2, by omega⟩ := Fin.ext k1
    rw [er, el]
    exact h2 x2
  case piece15 =>
    idx_vars x
    have e0 : x0 = 0 := Subsingleton.elim _ _
    have e1 : x1 = 0 := Subsingleton.elim _ _
    subst e0 e1
    have el : l = x2 := Fin.ext k2
    have er : r = ⟨1, by omega⟩ := Fin.ext k1
    rw [er, el]
    exact h1 x2
  case piece16 =>
    idx_vars x
    have e0 : x0 = 0 := Subsingleton.elim _ _
    have e1 : x1 = 0 := Subsingleton.elim _ _
    subst e0 e1
    have el : l = x2 := Fin.ext k2
    have er : r = ⟨0, by omega⟩ := Fin.ext k1
    rw [er, el]
    exact h0 x2

/-- The result array after the run. -/
theorem final (hp : ∀ y : S128x16.Idx, (tbl m 0 y : BitVec 32).toNat < 2560) : (dats m hO 0 c).arrAt 19 (cfgM m hO).N = outS m c := by
  refine (dats m hO 0 c).arrAt_eq_of_covers 19 _ (covers m hO) fun t hf (y : S1x24x128.Idx) => ?_
  have hemb : (((cfgM m hO).win 19).blk t).view.emb y = (ix3 (⟨t.val, t.isLt⟩ : Fin 128) (⟨(y 1).val, (y 1).isLt⟩ : Fin 24) (⟨(y 2).val, (y 2).isLt⟩ : Fin 128) : S128x24x128.Idx) := by
    blk_ext [idx_val m hO t]
  blk_simp
  rw [after0_19]; unfold outsAt0
  refine Eq.trans ?_ (congrArg (outS m c) hemb).symm
  idx_vars y
  frame_out
  refine put (fun r l => outS m c (ix3 (⟨t.val, t.isLt⟩ : Fin 128) r l : S128x24x128.Idx)) _ _ _ _ _ _ _ _ _ _ _ _ _ _ _ _ _ ?_ ?_ ?_ ?_ ?_ ?_ ?_ ?_ ?_ ?_ ?_ ?_ ?_ ?_ ?_ ?_ ?_ _ _ _
  · exact fun l => (congrFun (row0_eq _ _ _) _).trans (row_ref m hO c t 0 (hp _) _ _ (Memref.IsWhole.read_unread _ _) (Memref.IsWhole.read_unread _ _) _ (fun d l => (congrFun (Memref.IsWhole.read_unread _ _) _).trans (b3_at m hO c t (hp _) d l)) l)
  · exact fun l => (congrFun (row1_eq _ _ _) _).trans (row_ref m hO c t 1 (hp _) _ _ (Memref.IsWhole.read_unread _ _) (Memref.IsWhole.read_unread _ _) _ (fun d l => (congrFun (Memref.IsWhole.read_unread _ _) _).trans (b4_at m hO c t (hp _) d l)) l)
  · exact fun l => (congrFun (row2_eq _ _ _) _).trans (row_ref m hO c t 2 (hp _) _ _ (Memref.IsWhole.read_unread _ _) (Memref.IsWhole.read_unread _ _) _ (fun d l => (congrFun (Memref.IsWhole.read_unread _ _) _).trans (b5_at m hO c t (hp _) d l)) l)
  · exact fun l => (congrFun (row3_eq _ _ _) _).trans (row_ref m hO c t 3 (hp _) _ _ (Memref.IsWhole.read_unread _ _) (Memref.IsWhole.read_unread _ _) _ (fun d l => (congrFun (Memref.IsWhole.read_unread _ _) _).trans (b6_at m hO c t (hp _) d l)) l)
  · exact fun l => (congrFun (row4_eq _ _ _) _).trans (row_ref m hO c t 4 (hp _) _ _ (Memref.IsWhole.read_unread _ _) (Memref.IsWhole.read_unread _ _) _ (fun d l => (congrFun (Memref.IsWhole.read_unread _ _) _).trans (b7_at m hO c t (hp _) d l)) l)
  · exact fun l => (congrFun (row5_eq _ _ _) _).trans (row_ref m hO c t 5 (hp _) _ _ (Memref.IsWhole.read_unread _ _) (Memref.IsWhole.read_unread _ _) _ (fun d l => (congrFun (Memref.IsWhole.read_unread _ _) _).trans (b8_at m hO c t (hp _) d l)) l)
  · exact fun l => (congrFun (row6_eq _ _ _) _).trans (row_ref m hO c t 6 (hp _) _ _ (Memref.IsWhole.read_unread _ _) (Memref.IsWhole.read_unread _ _) _ (fun d l => (congrFun (Memref.IsWhole.read_unread _ _) _).trans (b9_at m hO c t (hp _) d l)) l)
  · exact fun l => (congrFun (row7_eq _ _ _) _).trans (row_ref m hO c t 7 (hp _) _ _ (Memref.IsWhole.read_unread _ _) (Memref.IsWhole.read_unread _ _) _ (fun d l => (congrFun (Memref.IsWhole.read_unread _ _) _).trans (b10_at m hO c t (hp _) d l)) l)
  · exact fun l => (congrFun (row8_eq _ _ _) _).trans (row_ref m hO c t 8 (hp _) _ _ (Memref.IsWhole.read_unread _ _) (Memref.IsWhole.read_unread _ _) _ (fun d l => (congrFun (Memref.IsWhole.read_unread _ _) _).trans (b11_at m hO c t (hp _) d l)) l)
  · exact fun l => (congrFun (row9_eq _ _ _) _).trans (row_ref m hO c t 9 (hp _) _ _ (Memref.IsWhole.read_unread _ _) (Memref.IsWhole.read_unread _ _) _ (fun d l => (congrFun (Memref.IsWhole.read_unread _ _) _).trans (b12_at m hO c t (hp _) d l)) l)
  · exact fun l => (congrFun (row10_eq _ _ _) _).trans (row_ref m hO c t 10 (hp _) _ _ (Memref.IsWhole.read_unread _ _) (Memref.IsWhole.read_unread _ _) _ (fun d l => (congrFun (Memref.IsWhole.read_unread _ _) _).trans (b13_at m hO c t (hp _) d l)) l)
  · exact fun l => (congrFun (row11_eq _ _ _) _).trans (row_ref m hO c t 11 (hp _) _ _ (Memref.IsWhole.read_unread _ _) (Memref.IsWhole.read_unread _ _) _ (fun d l => (congrFun (Memref.IsWhole.read_unread _ _) _).trans (b14_at m hO c t (hp _) d l)) l)
  · exact fun l => (congrFun (row12_eq _ _ _) _).trans (row_ref m hO c t 12 (hp _) _ _ (Memref.IsWhole.read_unread _ _) (Memref.IsWhole.read_unread _ _) _ (fun d l => (congrFun (Memref.IsWhole.read_unread _ _) _).trans (b15_at m hO c t (hp _) d l)) l)
  · exact fun l => (congrFun (row13_eq _ _ _) _).trans (row_ref m hO c t 13 (hp _) _ _ (Memref.IsWhole.read_unread _ _) (Memref.IsWhole.read_unread _ _) _ (fun d l => (congrFun (Memref.IsWhole.read_unread _ _) _).trans (b16_at m hO c t (hp _) d l)) l)
  · exact fun l => (congrFun (row14_eq _ _ _) _).trans (row_ref m hO c t 14 (hp _) _ _ (Memref.IsWhole.read_unread _ _) (Memref.IsWhole.read_unread _ _) _ (fun d l => (congrFun (Memref.IsWhole.read_unread _ _) _).trans (b17_at m hO c t (hp _) d l)) l)
  · exact fun l => (congrFun (row15_eq _ _ _) _).trans (row_ref m hO c t 15 (hp _) _ _ (Memref.IsWhole.read_unread _ _) (Memref.IsWhole.read_unread _ _) _ (fun d l => (congrFun (Memref.IsWhole.read_unread _ _) _).trans (b18_at m hO c t (hp _) d l)) l)
  · exact tail_ref m hO c t _ _ _ (Memref.IsWhole.read_unread _ _) (Memref.IsWhole.read_unread _ _) (Memref.IsWhole.read_unread _ _)

end Cert.Scores

end
-- ==== Proof.ScoresClaim.lean ====
/- The score call's claims: the three frames, and that kernel and reference leave the same array, when the table names pages of the cache. -/
module

public import proofs.«01_k».proof.Proof.ScoresValue
public import proofs.«01_k».proof.Proof.Gen.Kernel8.Frame
public import proofs.«01_k».proof.Proof.Gen.Reference8Ideal.Run
public import proofs.«01_k».proof.Defs

@[expose] public section

set_option maxRecDepth 16384

noncomputable section

open Idealize.ShloMosaic Idealize.ShloMosaic.TcCoe Idealize.SL.Sem

namespace Cert.Scores

theorem frame_kernel : Cert.quiescent_Kernel8 := fun m ρ h => Cert.Kernel8.Gen.frame m ρ (ok_kernel m h)

theorem frame_ideal : Cert.quiescent_Kernel8Ideal := fun m ρ h => Cert.Kernel8Ideal.Gen.frame m ρ (ok_ideal m h)

/-- The reference is host operations alone and declares no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

section
open Cert.Kernel8Ideal Cert.Kernel8Ideal.Gen
variable (m : (ℓ : Loc nD τ sig) → Buf (Elt Ideal) ℓ) (ρ : Dev nD → PrngReg)

/-- The kernel's result array after the run. -/
theorem run_out (h : Cert.Pre_Kernel8Ideal m) : θ_run defs (onTc (τ := τ) (main (F := Ideal))) (s₀ m ρ) (fun r => ∀ c : Dev nD,
    r.2.mem ((c.tc : Thread nD τ).loc main_v3) = outS m c) :=
  (θ_run defs _ _).mono (fun r hr c => ((hr c).1 19).trans (final m (ok_ideal m h) c (pages_ideal m h))) (run_main m ρ (ok_ideal m h))
end

open Cert.Reference8Ideal.Read in
/-- The reference's result depends on its arguments alone. -/
theorem out_congr {a0 b0 : IVec Kernel8Ideal.S128x16 32} {a1 b1 : FVec Ideal Kernel8Ideal.S128x1x8x32 .f32} {a2 b2 : FVec Ideal Kernel8Ideal.S128x1x8 .f32}
    {a3 b3 : FVec Ideal Kernel8Ideal.S128x1x32 .f32} {a4 b4 : FVec Ideal Kernel8Ideal.S4x2560x128x32 .f32}
    (h : a0 = b0 ∧ a1 = b1 ∧ a2 = b2 ∧ a3 = b3 ∧ a4 = b4) :
    val_main_v19 (F := Ideal) a0 a1 a2 a3 a4 = val_main_v19 (F := Ideal) b0 b1 b2 b3 b4 := by
  obtain ⟨rfl, rfl, rfl, rfl, rfl⟩ := h
  rfl

open Cert.Kernel8Ideal.Gen (frame_of) in
theorem algebraic : Cert.algebraic_Kernel8Ideal_Reference8Ideal := fun m g m' g' hpre hagree =>
  ⟨fun c => outS m c,
    (θ_run _ _ _).mono (fun r h c => ⟨h.1 c, h.2 c⟩)
      (θ_run_and (run_out m g hpre) (frame_of (F := Ideal) m g (ok_ideal m hpre) (Cert.Kernel8Ideal.Gen.dats m (ok_ideal m hpre)) (Cert.Kernel8Ideal.Gen.A_eq m (ok_ideal m hpre)) (Cert.Kernel8Ideal.Gen.run_main m g (ok_ideal m hpre)))),
    (θ_run _ _ _).mono (fun r h c => ⟨((h c).1.trans (Cert.Reference8Ideal.Read.val_main_v19_eq
        (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)))).trans (out_congr (hagree c)), (h c).2⟩)
      (Cert.Reference8Ideal.Value.run (F := Ideal) m' g')⟩

end Cert.Scores

end
-- ==== Proof.PrepSPure.lean ====
/- What the attention's preparation computes of one block: each row's heads normalised by an average of their squares, and the leading columns of every head turned by an angle. -/
module

public import proofs.«01_k».proof.Proof.Gen.Kernel9Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Kernel9Ideal Cert.Kernel9Ideal.Gen

namespace Cert.PrepS

/-- The small number added under the square root. -/
abbrev eps : EReal := Ideal.ofBits .f32 0x358637BD#32

/-- One row normalised by the average that `w` takes of its squares, in the three summands of the split product. -/
def hn (x : Fin 256 → EReal) (w : Fin 256 → Fin 256 → EReal) (g : Fin 256 → EReal) (j : Fin 256) : EReal :=
  x j * Ideal.rsqrt (((∑ k, x k * x k * w k j) + (∑ k, (x k * x k - x k * x k) * w k j) + ∑ k, (x k * x k - x k * x k - (x k * x k - x k * x k)) * w k j) + eps) * g j

/-- One row turned: each column by its cosine, and its partner `p` columns away by its sine. -/
def turn (n p : ℕ) (y c s l : Fin n → EReal) (j : Fin n) : EReal :=
  y j * c j + (if 0 < l j then y ⟨(j.val + n - (n - p)) % n, Nat.mod_lt _ (Nat.zero_lt_of_lt j.isLt)⟩ else y ⟨(j.val + n - p) % n, Nat.mod_lt _ (Nat.zero_lt_of_lt j.isLt)⟩) * s j

theorem pay5_at (v0 : Vec Ideal S256x256 .bf16) (v2 v4 : Vec Ideal S128x256 .f32) (v6 : Vec Ideal S1x256 .f32) (v8 : Vec Ideal S128x256 .f32) (v9 : Vec Ideal S1x256 .f32) (r : Fin 128) (j : Fin 256) :
    k0_pay5 (F := Ideal) v0 v2 v4 v6 v8 v9 (ix2 r j : S128x256.Idx)
      = turn 256 8 (hn (fun k => v8 (ix2 r k : S128x256.Idx)) (fun k j => v0 (ix2 k j : S256x256.Idx)) (fun j => v9 (ix2 (0 : Fin 1) j : S1x256.Idx)))
          (fun j => v2 (ix2 r j : S128x256.Idx)) (fun j => v4 (ix2 r j : S128x256.Idx)) (fun j => v6 (ix2 (0 : Fin 1) j : S1x256.Idx)) j := by
  pointwise [k0_pay5, k0_pay1, k0_pay2, k0_pay3, k0_pay4]
  all_goals rfl

theorem pay6_at (v1 : FVec Ideal S256x256 .bf16) (v3 v5 : FVec Ideal S128x256 .f32) (v7 : FVec Ideal S1x256 .f32) (v40 : Vec Ideal S128x256 .f32) (v41 : Vec Ideal S1x256 .f32) (r : Fin 128) (j : Fin 256) :
    k0_pay6 (F := Ideal) v1 v3 v5 v7 v40 v41 (ix2 r j : S128x256.Idx)
      = turn 256 8 (hn (fun k => v40 (ix2 r k : S128x256.Idx)) (fun k j => v1 (ix2 k j : S256x256.Idx)) (fun j => v41 (ix2 (0 : Fin 1) j : S1x256.Idx)))
          (fun j => v3 (ix2 r j : S128x256.Idx)) (fun j => v5 (ix2 r j : S128x256.Idx)) (fun j => v7 (ix2 (0 : Fin 1) j : S1x256.Idx)) j := by
  pointwise [k0_pay6]
  all_goals rfl

theorem pay11_at (v72 : FVec Ideal S128x256 .f32) (v74 v76 : FVec Ideal S128x256 .f32) (v78 : FVec Ideal S1x256 .f32) (r : Fin 128) (j : Fin 256) :
    k0_pay11 (F := Ideal) v72 v74 v76 v78 (k0_pay10 (F := Ideal)) (ix2 r j : S128x256.Idx)
      = turn 256 4 (fun j => v72 (ix2 r j : S128x256.Idx))
          (fun j => v74 (ix2 r j : S128x256.Idx)) (fun j => v76 (ix2 r j : S128x256.Idx)) (fun j => v78 (ix2 (0 : Fin 1) j : S1x256.Idx)) j := by
  pointwise [k0_pay11, k0_pay10]
  all_goals rfl

theorem pay12_at (v89 : Vec Ideal S128x128 .f32) (v90 : Vec Ideal S128x128 .f32) (v92 : Vec Ideal S128x128 .f32) (v94 : Vec Ideal S1x128 .f32) (r : Fin 128) (j : Fin 128) :
    k0_pay12 (F := Ideal) v89 v90 v92 v94 (ix2 r j : S128x128.Idx)
      = turn 128 4 (fun j => v89 (ix2 r j : S128x128.Idx))
          (fun j => v90 (ix2 r j : S128x128.Idx)) (fun j => v92 (ix2 r j : S128x128.Idx)) (fun j => v94 (ix2 (0 : Fin 1) j : S1x128.Idx)) j := by
  pointwise [k0_pay12]
  all_goals rfl

/-- The lower half of a turned stretch: its partner lies `p` columns up, its sine is negated. -/
theorem turn_low {n p : ℕ} (y c s l : Fin n → EReal) (J J' : Fin n) (C S : EReal) (hJ : J'.val = J.val + p) (hl : l J = 1) (hc : c J = C) (hs : s J = -S) :
    turn n p y c s l J = y J * C - y J' * S := by
  unfold turn
  rw [if_pos (by rw [hl]; exact zero_lt_one), hc, hs]
  have e : (⟨(J.val + n - (n - p)) % n, Nat.mod_lt _ (Nat.zero_lt_of_lt J.isLt)⟩ : Fin n) = J' := by
    apply Fin.ext
    show (J.val + n - (n - p)) % n = J'.val
    have h1 := J'.isLt
    rw [show J.val + n - (n - p) = J.val + p by omega, ← hJ, Nat.mod_eq_of_lt h1]
  rw [e, mul_neg, sub_eq_add_neg]

/-- The upper half: its partner lies `p` columns down. -/
theorem turn_high {n p : ℕ} (y c s l : Fin n → EReal) (J J' : Fin n) (C S : EReal) (hJ : J.val = J'.val + p) (hl : l J = 0) (hc : c J = C) (hs : s J = S) :
    turn n p y c s l J = y J * C + y J' * S := by
  unfold turn
  rw [if_neg (by rw [hl]; exact lt_irrefl _), hc, hs]
  have e : (⟨(J.val + n - p) % n, Nat.mod_lt _ (Nat.zero_lt_of_lt J.isLt)⟩ : Fin n) = J' := by
    apply Fin.ext
    show (J.val + n - p) % n = J'.val
    have h1 := J'.isLt
    rw [show J.val + n - p = J'.val + n by omega, Nat.add_mod_right, Nat.mod_eq_of_lt h1]
  rw [e]

/-- Where the sine is zero the column is only scaled. -/
theorem turn_rest {n p : ℕ} (y c s l : Fin n → EReal) (J : Fin n) (C : EReal) (hc : c J = C) (hs : s J = 0) : turn n p y c s l J = y J * C := by
  unfold turn
  rw [hs, hc, mul_zero, add_zero]

end Cert.PrepS

end
-- ==== Proof.PrepSRef.lean ====
/- The reference of the attention's preparation at an index. -/
module

public import proofs.«01_k».proof.Proof.Gen.Reference9Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Reference9Ideal Cert.Reference9Ideal.Read

namespace Cert.PrepS

/-- One head's row normalised by the mean of its squares. -/
def nr (x : Fin 256 → EReal) (g : Fin 64 → EReal) (h : Fin 4) (d : Fin 64) : EReal :=
  x ⟨h.val * 64 + d.val, by omega⟩ * Ideal.rsqrt (Ideal.div (∑ e : Fin 64, x ⟨h.val * 64 + e.val, by omega⟩ * x ⟨h.val * 64 + e.val, by omega⟩) (Ideal.ofBits .f32 0x42800000#32) + Ideal.ofBits .f32 0x358637BD#32) * g d

/-- The angle of a pair of columns, of eight and of four pairs. -/
def th8 (k : Fin 8) : EReal := FloatOps.sitofp (F := Ideal) .f32 2048#32 * Ideal.pow (Ideal.ofBits .f32 0x48F42400#32) (-FloatOps.sitofp (F := Ideal) .f32 (BitVec.ofNat 32 k.val) * Ideal.ofBits .f32 0x3E000000#32)
def th4 (k : Fin 4) : EReal := FloatOps.sitofp (F := Ideal) .f32 2048#32 * Ideal.pow (Ideal.ofBits .f32 0x48F42400#32) (-FloatOps.sitofp (F := Ideal) .f32 (BitVec.ofNat 32 k.val) * Ideal.ofBits .f32 0x3E800000#32)

/-- A stretch of one row of the packed projection. -/
def seg (p : FVec Ideal S1024x3200 .f32) (R : Fin 1024) (o n : ℕ) (ho : o + n ≤ 3200) (k : Fin n) : EReal := p (ix2 R (⟨o + k.val, by omega⟩ : Fin 3200) : S1024x3200.Idx)

theorem qn_at (p : FVec Ideal S1024x3200 .f32) (g : FVec Ideal S64 .f32) (b : Fin 128) (s : Fin 8) (h : Fin 4) (d : Fin 64) :
    val_main_v16 (F := Ideal) p g (ix4 b s h d : S128x8x4x64.Idx) = nr (seg p (⟨b.val * 8 + s.val, by omega⟩ : Fin 1024) 768 256 (by omega)) (fun e => g (ix1 e : S64.Idx)) h d := by
  pointwise [val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_v1]
  all_goals rfl

theorem kn_at (p : FVec Ideal S1024x3200 .f32) (g : FVec Ideal S64 .f32) (b : Fin 128) (s : Fin 8) (h : Fin 4) (d : Fin 64) :
    val_main_v65 (F := Ideal) p g (ix4 b s h d : S128x8x4x64.Idx) = nr (seg p (⟨b.val * 8 + s.val, by omega⟩ : Fin 1024) 1024 256 (by omega)) (fun e => g (ix1 e : S64.Idx)) h d := by
  pointwise [val_main_v65, val_main_v64, val_main_v63, val_main_v62, val_main_v61, val_main_v60, val_main_v59, val_main_v58, val_main_v57, val_main_v56, val_main_v55, val_main_v54, val_main_v53, val_main_v52, val_main_v51, val_main_cst_4, val_main_cst_5, val_main_cst_6, val_main_v1]
  all_goals rfl

theorem qa_at (s : Fin 8) (d : Fin 8) : val_main_v28 (F := Ideal) (ix2 s d : S8x8.Idx) = th8 d := by
  pointwise [val_main_v28, val_main_v27, val_main_v26, val_main_v25, val_main_v24, val_main_v23, val_main_v22, val_main_v21, val_main_v20, val_main_v19, val_main_v18, val_main_v17, val_main_cst_2, val_main_cst_3, val_main_v0, val_main_c]
  all_goals rfl

theorem ka_at (s : Fin 8) (d : Fin 8) : val_main_v77 (F := Ideal) (ix2 s d : S8x8.Idx) = th8 d := by
  pointwise [val_main_v77, val_main_v76, val_main_v75, val_main_v74, val_main_v73, val_main_v72, val_main_v71, val_main_v70, val_main_v69, val_main_v68, val_main_v67, val_main_v66, val_main_cst_7, val_main_cst_8, val_main_v0, val_main_c]
  all_goals rfl

theorem ia_at (s : Fin 8) (d : Fin 4) : val_main_v113 (F := Ideal) (ix2 s d : S8x4.Idx) = th4 d := by
  pointwise [val_main_v113, val_main_v112, val_main_v111, val_main_v110, val_main_v109, val_main_v108, val_main_v107, val_main_v106, val_main_v105, val_main_v104, val_main_v103, val_main_v102, val_main_cst_9, val_main_cst_10, val_main_v0, val_main_c]
  all_goals rfl

theorem wa_at (s : Fin 8) (d : Fin 4) : val_main_v149 (F := Ideal) (ix2 s d : S8x4.Idx) = th4 d := by
  pointwise [val_main_v149, val_main_v148, val_main_v147, val_main_v146, val_main_v145, val_main_v144, val_main_v143, val_main_v142, val_main_v141, val_main_v140, val_main_v139, val_main_v138, val_main_cst_11, val_main_cst_12, val_main_v0, val_main_c]
  all_goals rfl

theorem iv_at (p : FVec Ideal S1024x3200 .f32) (b : Fin 128) (s : Fin 8) (h : Fin 8) (d : Fin 32) :
    val_main_v101 (F := Ideal) p (ix4 b s h d : S128x8x8x32.Idx) = seg p (⟨b.val * 8 + s.val, by omega⟩ : Fin 1024) 1536 256 (by omega) ⟨h.val * 32 + d.val, by omega⟩ := by
  pointwise [val_main_v101, val_main_v100, val_main_v1]
  all_goals rfl

theorem wv_at (p : FVec Ideal S1024x3200 .f32) (b : Fin 128) (s : Fin 8) (d : Fin 32) :
    val_main_v137 (F := Ideal) p (ix4 b s (0 : Fin 1) d : S128x8x1x32.Idx) = seg p (⟨b.val * 8 + s.val, by omega⟩ : Fin 1024) 3072 128 (by omega) ⟨d.val, by omega⟩ := by
  pointwise [val_main_v137, val_main_v136, val_main_v1]
  all_goals rfl

theorem q_low (p : FVec Ideal S1024x3200 .f32) (g : FVec Ideal S64 .f32) (b : Fin 128) (s : Fin 8) (h : Fin 4) (d : Fin 8) :
    val_main_v178 (F := Ideal) p g (ix2 (⟨b.val * 8 + s.val, by omega⟩ : Fin 1024) (⟨h.val * 64 + d.val, by omega⟩ : Fin 256) : S1024x256.Idx) = nr (seg p (⟨b.val * 8 + s.val, by omega⟩ : Fin 1024) 768 256 (by omega)) (fun e => g (ix1 e : S64.Idx)) h ⟨d.val, by omega⟩ * Ideal.cos (th8 d) - nr (seg p (⟨b.val * 8 + s.val, by omega⟩ : Fin 1024) 768 256 (by omega)) (fun e => g (ix1 e : S64.Idx)) h ⟨8 + d.val, by omega⟩ * Ideal.sin (th8 d) := by
  have y0 := qn_at p g b s h
  have t0 := qa_at s
  unfold val_main_v178 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29
  revert y0 t0
  generalize val_main_v16 (F := Ideal) p g = y
  generalize val_main_v28 (F := Ideal) = th
  intro y0 t0
  pointwise []
  have e : (h.val * 64 + d.val) % 64 = d.val := by omega
  simp only [e]
  rw [dif_pos d.isLt]
  simp only [y0, t0, Fin.eta]

theorem q_high (p : FVec Ideal S1024x3200 .f32) (g : FVec Ideal S64 .f32) (b : Fin 128) (s : Fin 8) (h : Fin 4) (d : Fin 8) :
    val_main_v178 (F := Ideal) p g (ix2 (⟨b.val * 8 + s.val, by omega⟩ : Fin 1024) (⟨h.val * 64 + (8 + d.val), by omega⟩ : Fin 256) : S1024x256.Idx) = nr (seg p (⟨b.val * 8 + s.val, by omega⟩ : Fin 1024) 768 256 (by omega)) (fun e => g (ix1 e : S64.Idx)) h ⟨8 + d.val, by omega⟩ * Ideal.cos (th8 d) + nr (seg p (⟨b.val * 8 + s.val, by omega⟩ : Fin 1024) 768 256 (by omega)) (fun e => g (ix1 e : S64.Idx)) h ⟨d.val, by omega⟩ * Ideal.sin (th8 d) := by
  have y0 := qn_at p g b s h
  have t0 := qa_at s
  unfold val_main_v178 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29
  revert y0 t0
  generalize val_main_v16 (F := Ideal) p g = y
  generalize val_main_v28 (F := Ideal) = th
  intro y0 t0
  pointwise []
  have e : (h.val * 64 + (8 + d.val)) % 64 = 8 + d.val := by omega
  simp only [e]
  rw [dif_neg (by omega)]
  have e2 : 8 + d.val - 8 = d.val := by omega
  simp only [e2]
  rw [dif_pos d.isLt]
  simp only [y0, t0, Fin.eta]

theorem q_rest (p : FVec Ideal S1024x3200 .f32) (g : FVec Ideal S64 .f32) (b : Fin 128) (s : Fin 8) (h : Fin 4) (d : Fin 48) :
    val_main_v178 (F := Ideal) p g (ix2 (⟨b.val * 8 + s.val, by omega⟩ : Fin 1024) (⟨h.val * 64 + (16 + d.val), by omega⟩ : Fin 256) : S1024x256.Idx) = nr (seg p (⟨b.val * 8 + s.val, by omega⟩ : Fin 1024) 768 256 (by omega)) (fun e => g (ix1 e : S64.Idx)) h ⟨16 + d.val, by omega⟩ := by
  have y0 := qn_at p g b s h
  have t0 := qa_at s
  unfold val_main_v178 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29
  revert y0 t0
  generalize val_main_v16 (F := Ideal) p g = y
  generalize val_main_v28 (F := Ideal) = th
  intro y0 t0
  pointwise []
  have e : (h.val * 64 + (16 + d.val)) % 64 = 16 + d.val := by omega
  simp only [e]
  rw [dif_neg (by omega), dif_neg (by omega)]
  have e2 : 16 + (16 + d.val - 8 - 8) = 16 + d.val := by omega
  simp only [e2, y0]

theorem k_low (p : FVec Ideal S1024x3200 .f32) (g : FVec Ideal S64 .f32) (b : Fin 128) (s : Fin 8) (h : Fin 4) (d : Fin 8) :
    val_main_v179 (F := Ideal) p g (ix2 (⟨b.val * 8 + s.val, by omega⟩ : Fin 1024) (⟨h.val * 64 + d.val, by omega⟩ : Fin 256) : S1024x256.Idx) = nr (seg p (⟨b.val * 8 + s.val, by omega⟩ : Fin 1024) 1024 256 (by omega)) (fun e => g (ix1 e : S64.Idx)) h ⟨d.val, by omega⟩ * Ideal.cos (th8 d) - nr (seg p (⟨b.val * 8 + s.val, by omega⟩ : Fin 1024) 1024 256 (by omega)) (fun e => g (ix1 e : S64.Idx)) h ⟨8 + d.val, by omega⟩ * Ideal.sin (th8 d) := by
  have y0 := kn_at p g b s h
  have t0 := ka_at s
  unfold val_main_v179 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78
  revert y0 t0
  generalize val_main_v65 (F := Ideal) p g = y
  generalize val_main_v77 (F := Ideal) = th
  intro y0 t0
  pointwise []
  have e : (h.val * 64 + d.val) % 64 = d.val := by omega
  simp only [e]
  rw [dif_pos d.isLt]
  simp only [y0, t0, Fin.eta]

theorem k_high (p : FVec Ideal S1024x3200 .f32) (g : FVec Ideal S64 .f32) (b : Fin 128) (s : Fin 8) (h : Fin 4) (d : Fin 8) :
    val_main_v179 (F := Ideal) p g (ix2 (⟨b.val * 8 + s.val, by omega⟩ : Fin 1024) (⟨h.val * 64 + (8 + d.val), by omega⟩ : Fin 256) : S1024x256.Idx) = nr (seg p (⟨b.val * 8 + s.val, by omega⟩ : Fin 1024) 1024 256 (by omega)) (fun e => g (ix1 e : S64.Idx)) h ⟨8 + d.val, by omega⟩ * Ideal.cos (th8 d) + nr (seg p (⟨b.val * 8 + s.val, by omega⟩ : Fin 1024) 1024 256 (by omega)) (fun e => g (ix1 e : S64.Idx)) h ⟨d.val, by omega⟩ * Ideal.sin (th8 d) := by
  have y0 := kn_at p g b s h
  have t0 := ka_at s
  unfold val_main_v179 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78
  revert y0 t0
  generalize val_main_v65 (F := Ideal) p g = y
  generalize val_main_v77 (F := Ideal) = th
  intro y0 t0
  pointwise []
  have e : (h.val * 64 + (8 + d.val)) % 64 = 8 + d.val := by omega
  simp only [e]
  rw [dif_neg (by omega)]
  have e2 : 8 + d.val - 8 = d.val := by omega
  simp only [e2]
  rw [dif_pos d.isLt]
  simp only [y0, t0, Fin.eta]

theorem k_rest (p : FVec Ideal S1024x3200 .f32) (g : FVec Ideal S64 .f32) (b : Fin 128) (s : Fin 8) (h : Fin 4) (d : Fin 48) :
    val_main_v179 (F := Ideal) p g (ix2 (⟨b.val * 8 + s.val, by omega⟩ : Fin 1024) (⟨h.val * 64 + (16 + d.val), by omega⟩ : Fin 256) : S1024x256.Idx) = nr (seg p (⟨b.val * 8 + s.val, by omega⟩ : Fin 1024) 1024 256 (by omega)) (fun e => g (ix1 e : S64.Idx)) h ⟨16 + d.val, by omega⟩ := by
  have y0 := kn_at p g b s h
  have t0 := ka_at s
  unfold val_main_v179 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78
  revert y0 t0
  generalize val_main_v65 (F := Ideal) p g = y
  generalize val_main_v77 (F := Ideal) = th
  intro y0 t0
  pointwise []
  have e : (h.val * 64 + (16 + d.val)) % 64 = 16 + d.val := by omega
  simp only [e]
  rw [dif_neg (by omega), dif_neg (by omega)]
  have e2 : 16 + (16 + d.val - 8 - 8) = 16 + d.val := by omega
  simp only [e2, y0]

theorem i_low (p : FVec Ideal S1024x3200 .f32) (b : Fin 128) (s : Fin 8) (h : Fin 8) (d : Fin 4) :
    val_main_v180 (F := Ideal) p (ix2 (⟨b.val * 8 + s.val, by omega⟩ : Fin 1024) (⟨h.val * 32 + d.val, by omega⟩ : Fin 256) : S1024x256.Idx) = (fun d : Fin 32 => seg p (⟨b.val * 8 + s.val, by omega⟩ : Fin 1024) 1536 256 (by omega) ⟨h.val * 32 + d.val, by omega⟩) ⟨d.val, by omega⟩ * Ideal.cos (th4 d) - (fun d : Fin 32 => seg p (⟨b.val * 8 + s.val, by omega⟩ : Fin 1024) 1536 256 (by omega) ⟨h.val * 32 + d.val, by omega⟩) ⟨4 + d.val, by omega⟩ * Ideal.sin (th4 d) := by
  have y0 := iv_at p b s h
  have t0 := ia_at s
  unfold val_main_v180 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114
  revert y0 t0
  generalize val_main_v101 (F := Ideal) p = y
  generalize val_main_v113 (F := Ideal) = th
  intro y0 t0
  pointwise []
  have e : (h.val * 32 + d.val) % 32 = d.val := by omega
  simp only [e]
  rw [dif_pos d.isLt]
  simp only [y0, t0, Fin.eta]

theorem i_high (p : FVec Ideal S1024x3200 .f32) (b : Fin 128) (s : Fin 8) (h : Fin 8) (d : Fin 4) :
    val_main_v180 (F := Ideal) p (ix2 (⟨b.val * 8 + s.val, by omega⟩ : Fin 1024) (⟨h.val * 32 + (4 + d.val), by omega⟩ : Fin 256) : S1024x256.Idx) = (fun d : Fin 32 => seg p (⟨b.val * 8 + s.val, by omega⟩ : Fin 1024) 1536 256 (by omega) ⟨h.val * 32 + d.val, by omega⟩) ⟨4 + d.val, by omega⟩ * Ideal.cos (th4 d) + (fun d : Fin 32 => seg p (⟨b.val * 8 + s.val, by omega⟩ : Fin 1024) 1536 256 (by omega) ⟨h.val * 32 + d.val, by omega⟩) ⟨d.val, by omega⟩ * Ideal.sin (th4 d) := by
  have y0 := iv_at p b s h
  have t0 := ia_at s
  unfold val_main_v180 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114
  revert y0 t0
  generalize val_main_v101 (F := Ideal) p = y
  generalize val_main_v113 (F := Ideal) = th
  intro y0 t0
  pointwise []
  have e : (h.val * 32 + (4 + d.val)) % 32 = 4 + d.val := by omega
  simp only [e]
  rw [dif_neg (by omega)]
  have e2 : 4 + d.val - 4 = d.val := by omega
  simp only [e2]
  rw [dif_pos d.isLt]
  simp only [y0, t0, Fin.eta]

theorem i_rest (p : FVec Ideal S1024x3200 .f32) (b : Fin 128) (s : Fin 8) (h : Fin 8) (d : Fin 24) :
    val_main_v180 (F := Ideal) p (ix2 (⟨b.val * 8 + s.val, by omega⟩ : Fin 1024) (⟨h.val * 32 + (8 + d.val), by omega⟩ : Fin 256) : S1024x256.Idx) = (fun d : Fin 32 => seg p (⟨b.val * 8 + s.val, by omega⟩ : Fin 1024) 1536 256 (by omega) ⟨h.val * 32 + d.val, by omega⟩) ⟨8 + d.val, by omega⟩ := by
  have y0 := iv_at p b s h
  have t0 := ia_at s
  unfold val_main_v180 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114
  revert y0 t0
  generalize val_main_v101 (F := Ideal) p = y
  generalize val_main_v113 (F := Ideal) = th
  intro y0 t0
  pointwise []
  have e : (h.val * 32 + (8 + d.val)) % 32 = 8 + d.val := by omega
  simp only [e]
  rw [dif_neg (by omega), dif_neg (by omega)]
  have e2 : 8 + (8 + d.val - 4 - 4) = 8 + d.val := by omega
  simp only [e2, y0]

theorem w_low (p : FVec Ideal S1024x3200 .f32) (b : Fin 128) (s : Fin 8) (d : Fin 4) :
    val_main_v181 (F := Ideal) p (ix2 (⟨b.val * 8 + s.val, by omega⟩ : Fin 1024) (⟨d.val, by omega⟩ : Fin 128) : S1024x128.Idx) = seg p (⟨b.val * 8 + s.val, by omega⟩ : Fin 1024) 3072 128 (by omega) ⟨d.val, by omega⟩ * Ideal.cos (th4 d) - seg p (⟨b.val * 8 + s.val, by omega⟩ : Fin 1024) 3072 128 (by omega) ⟨4 + d.val, by omega⟩ * Ideal.sin (th4 d) := by
  have y0 := wv_at p b s
  have t0 := wa_at s
  unfold val_main_v181 val_main_v177 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150
  revert y0 t0
  generalize val_main_v137 (F := Ideal) p = y
  generalize val_main_v149 (F := Ideal) = th
  intro y0 t0
  pointwise []
  refine (dif_pos (by omega)).trans ?_
  simp only [y0, t0, Fin.eta]

theorem w_high (p : FVec Ideal S1024x3200 .f32) (b : Fin 128) (s : Fin 8) (d : Fin 4) :
    val_main_v181 (F := Ideal) p (ix2 (⟨b.val * 8 + s.val, by omega⟩ : Fin 1024) (⟨4 + d.val, by omega⟩ : Fin 128) : S1024x128.Idx) = seg p (⟨b.val * 8 + s.val, by omega⟩ : Fin 1024) 3072 128 (by omega) ⟨4 + d.val, by omega⟩ * Ideal.cos (th4 d) + seg p (⟨b.val * 8 + s.val, by omega⟩ : Fin 1024) 3072 128 (by omega) ⟨d.val, by omega⟩ * Ideal.sin (th4 d) := by
  have y0 := wv_at p b s
  have t0 := wa_at s
  unfold val_main_v181 val_main_v177 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150
  revert y0 t0
  generalize val_main_v137 (F := Ideal) p = y
  generalize val_main_v149 (F := Ideal) = th
  intro y0 t0
  pointwise []
  refine (dif_pos (by omega)).trans ?_
  simp only [y0, t0, Fin.eta]

theorem w_rest (p : FVec Ideal S1024x3200 .f32) (b : Fin 128) (s : Fin 8) (d : Fin 24) :
    val_main_v181 (F := Ideal) p (ix2 (⟨b.val * 8 + s.val, by omega⟩ : Fin 1024) (⟨8 + d.val, by omega⟩ : Fin 128) : S1024x128.Idx) = seg p (⟨b.val * 8 + s.val, by omega⟩ : Fin 1024) 3072 128 (by omega) ⟨8 + d.val, by omega⟩ := by
  have y0 := wv_at p b s
  have t0 := wa_at s
  unfold val_main_v181 val_main_v177 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150
  revert y0 t0
  generalize val_main_v137 (F := Ideal) p = y
  generalize val_main_v149 (F := Ideal) = th
  intro y0 t0
  pointwise []
  refine (dif_pos (by omega)).trans ?_
  refine (dif_neg (by omega)).trans ?_
  refine (dif_neg (by omega)).trans ?_
  rw [y0]
  exact congrArg _ (Fin.ext (by show 8 + (8 + d.val - 4 - 4) = 8 + d.val; omega))

theorem w_scaled (p : FVec Ideal S1024x3200 .f32) (b : Fin 128) (s : Fin 8) (d : Fin 8) :
    val_main_v181 (F := Ideal) p (ix2 (⟨b.val * 8 + s.val, by omega⟩ : Fin 1024) (⟨32 + d.val, by omega⟩ : Fin 128) : S1024x128.Idx) = seg p (⟨b.val * 8 + s.val, by omega⟩ : Fin 1024) 3072 128 (by omega) ⟨32 + d.val, by omega⟩ * Ideal.ofBits .f32 0x3EB504F3#32 := by
  unfold val_main_v181 val_main_v177 val_main_v176 val_main_v175 val_main_v174 val_main_v173 val_main_v1 val_main_cst_13
  generalize val_main_v172 (F := Ideal) p = y
  pointwise []
  exact congrArg (fun z => p z * Ideal.ofBits .f32 0x3EB504F3#32) (by idx_ext)

theorem w_pad (p : FVec Ideal S1024x3200 .f32) (b : Fin 128) (s : Fin 8) (d : Fin 88) :
    val_main_v181 (F := Ideal) p (ix2 (⟨b.val * 8 + s.val, by omega⟩ : Fin 1024) (⟨40 + d.val, by omega⟩ : Fin 128) : S1024x128.Idx) = seg p (⟨b.val * 8 + s.val, by omega⟩ : Fin 1024) 3072 128 (by omega) ⟨40 + d.val, by omega⟩ := by
  unfold val_main_v181 val_main_v177 val_main_v176 val_main_v175 val_main_v174 val_main_v173 val_main_v1 val_main_cst_13
  generalize val_main_v172 (F := Ideal) p = y
  pointwise []
  refine (dif_neg (by omega)).trans ?_
  refine (dif_neg (by omega)).trans ?_
  exact congrArg p (by idx_ext)

end Cert.PrepS

end
-- ==== Proof.PrepSMath.lean ====
/- The average by the block-diagonal weights, in three summands, is the mean of a head's squares. -/
module

public import proofs.«01_k».proof.Proof.PrepSPure
public import proofs.«01_k».proof.Proof.PrepSRef
public import Mathlib.Algebra.BigOperators.Fin
public import Mathlib.Logic.Equiv.Fin.Basic

@[expose] public section

noncomputable section

open Idealize.ShloMosaic
open scoped BigOperators

namespace Cert.PrepS

theorem w64 : Ideal.ofBits .f32 0x3C800000#32 = ((1 / 64 : ℝ) : EReal) := by
  simp [Ideal.ofBits, Ideal.ieee, -EReal.coe_mul]; norm_num
theorem n64 : Ideal.ofBits .f32 0x42800000#32 = ((64 : ℝ) : EReal) := by
  simp [Ideal.ofBits, Ideal.ieee, -EReal.coe_mul]; norm_num

/-- A sum over four heads' columns, head by head. -/
theorem sum_heads (f : Fin 256 → EReal) : ∑ k, f k = ∑ a : Fin 4, ∑ e : Fin 64, f ⟨a.val * 64 + e.val, by omega⟩ := by
  rw [← Fintype.sum_prod_type' (fun (a : Fin 4) (e : Fin 64) => f ⟨a.val * 64 + e.val, by omega⟩)]
  refine (Fintype.sum_equiv (finProdFinEquiv (m := 4) (n := 64)) _ _ fun q => ?_).symm
  refine congrArg f (Fin.ext ?_)
  show q.1.val * 64 + q.2.val = q.2.val + 64 * q.1.val
  omega

theorem coe_sum (s : Finset (Fin 64)) (f : Fin 64 → ℝ) : ∑ e ∈ s, (f e : EReal) = ((∑ e ∈ s, f e : ℝ) : EReal) := by
  induction s using Finset.cons_induction with
  | empty => rfl
  | cons a s ha ih => rw [Finset.sum_cons, Finset.sum_cons, ih, EReal.coe_add]

theorem hn_eq (x : Fin 256 → EReal) (w : Fin 256 → Fin 256 → EReal) (g : Fin 256 → EReal) (g' : Fin 64 → EReal) (X : Fin 256 → ℝ) (hx : ∀ k, x k = (X k : EReal))
    (hw : ∀ (a b : Fin 4) (e d : Fin 64), w ⟨a.val * 64 + e.val, by omega⟩ ⟨b.val * 64 + d.val, by omega⟩ = if a = b then Ideal.ofBits .f32 0x3C800000#32 else 0)
    (hg : ∀ (a : Fin 4) (d : Fin 64), g ⟨a.val * 64 + d.val, by omega⟩ = g' d) (h : Fin 4) (d : Fin 64) :
    hn x w g ⟨h.val * 64 + d.val, by omega⟩ = nr x g' h d := by
  have z : ∀ k, x k * x k - x k * x k = 0 := fun k => by rw [hx, ← EReal.coe_mul, ← EReal.coe_sub, sub_self]; rfl
  unfold hn nr
  simp only [z, sub_zero, zero_mul, Finset.sum_const_zero, add_zero]
  rw [sum_heads]
  have s : (∑ a : Fin 4, ∑ e : Fin 64, x ⟨a.val * 64 + e.val, by omega⟩ * x ⟨a.val * 64 + e.val, by omega⟩ * w ⟨a.val * 64 + e.val, by omega⟩ ⟨h.val * 64 + d.val, by omega⟩)
      = Ideal.div (∑ e : Fin 64, x ⟨h.val * 64 + e.val, by omega⟩ * x ⟨h.val * 64 + e.val, by omega⟩) (Ideal.ofBits .f32 0x42800000#32) := by
    rw [n64, Ideal.div_coe (by norm_num), Finset.sum_eq_single h]
    · simp only [hw, if_pos, w64, hx, ← EReal.coe_mul, coe_sum]
      rw [← Finset.sum_mul]
    · intro a _ ha
      exact Finset.sum_eq_zero fun e _ => by rw [hw, if_neg ha, mul_zero]
    · intro hh
      exact absurd (Finset.mem_univ h) hh
  rw [s, hg]

end Cert.PrepS

end
-- ==== Proof.PrepSHost.lean ====
/- The tables the attention's preparation is given by its host code, at an index: cosines and sines, the average's weights, the marks of the lower halves and the gains. -/
module

public import proofs.«01_k».proof.Proof.PrepSRef
public import proofs.«01_k».proof.Proof.Gen.Kernel9Ideal.Frame

@[expose] public section

set_option maxRecDepth 16384

noncomputable section

open Idealize.ShloMosaic Idealize.ShloMosaic.TcCoe Idealize.SL.Sem
open Cert.Kernel9Ideal Cert.Kernel9Ideal.Gen

namespace Cert.PrepS

variable (m : (ℓ : Loc nD τ sig) → Buf (Elt Ideal) ℓ) (c : Dev nD)

/-- The angles of every row, of eight and of four pairs. -/
def ang8 : FVec Ideal S1024x8 .f32 :=
  mulf (broadcastInDim S1024x8 ![0, 1] bcast_S1024x1_S1024x8_0_1 (broadcastInDim S1024x1 ![0] bcast_S1024_S1024x1_0 (sitofp .f32 (broadcastInDim S1024 ![] bcast_S_S1024 (constantI S_ 32 2048#32)))))
    (broadcastInDim S1024x8 ![0, 1] bcast_S1x8_S1024x8_0_1 (broadcastInDim S1x8 ![1] bcast_S8_S1x8_1 (Host.powf (broadcastInDim S8 ![] bcast_S_S8 (constant S_ .f32 0x48F42400#32))
      (mulf (Host.negf (sitofp .f32 (iotaInDim S8 32 0))) (broadcastInDim S8 ![] bcast_S_S8 (constant S_ .f32 0x3E000000#32))))))
def ang4 : FVec Ideal S1024x4 .f32 :=
  mulf (broadcastInDim S1024x4 ![0, 1] bcast_S1024x1_S1024x4_0_1 (broadcastInDim S1024x1 ![0] bcast_S1024_S1024x1_0 (sitofp .f32 (broadcastInDim S1024 ![] bcast_S_S1024 (constantI S_ 32 2048#32)))))
    (broadcastInDim S1024x4 ![0, 1] bcast_S1x4_S1024x4_0_1 (broadcastInDim S1x4 ![1] bcast_S4_S1x4_1 (Host.powf (broadcastInDim S4 ![] bcast_S_S4 (constant S_ .f32 0x48F42400#32))
      (mulf (Host.negf (sitofp .f32 (iotaInDim S4 32 0))) (broadcastInDim S4 ![] bcast_S_S4 (constant S_ .f32 0x3E800000#32))))))

/-- Two stretches and a constant tail side by side, repeated for every head. -/
def heads8 (a b : FVec Ideal S1024x8 .f32) (z : BitVec 32) : FVec Ideal S1024x256 .f32 :=
  shapeCast S1024x256 (broadcastInDim S1x1024x4x64 ![0, 1, 2, 3] bcast_S1x1024x1x64_S1x1024x4x64_0_1_2_3 (shapeCast S1x1024x1x64
    (concatenate S1024x64 1 [⟨S1024x8, a⟩, ⟨S1024x8, b⟩, ⟨S1024x48, (broadcastInDim S1024x48 ![] bcast_S_S1024x48 (constant S_ .f32 z) : FVec Ideal S1024x48 .f32)⟩] concatenates_S1024x8_S1024x8_S1024x48_S1024x64_d1 : FVec Ideal S1024x64 .f32)
    shapeCasts_S1024x64_S1x1024x1x64)) shapeCasts_S1x1024x4x64_S1024x256
def row4 (a b : FVec Ideal S1024x4 .f32) (z : BitVec 32) : FVec Ideal S1024x32 .f32 :=
  concatenate S1024x32 1 [⟨S1024x4, a⟩, ⟨S1024x4, b⟩, ⟨S1024x24, (broadcastInDim S1024x24 ![] bcast_S_S1024x24 (constant S_ .f32 z) : FVec Ideal S1024x24 .f32)⟩] concatenates_S1024x4_S1024x4_S1024x24_S1024x32_d1
def heads4 (a b : FVec Ideal S1024x4 .f32) (z : BitVec 32) : FVec Ideal S1024x256 .f32 :=
  shapeCast S1024x256 (broadcastInDim S1x1024x8x32 ![0, 1, 2, 3] bcast_S1x1024x1x32_S1x1024x8x32_0_1_2_3 (shapeCast S1x1024x1x32 (row4 a b z) shapeCasts_S1024x32_S1x1024x1x32)) shapeCasts_S1x1024x8x32_S1024x256
def four4 (a b : FVec Ideal S1024x4 .f32) (z : BitVec 32) : FVec Ideal S1024x128 .f32 :=
  shapeCast S1024x128 (broadcastInDim S1x1024x4x32 ![0, 1, 2, 3] bcast_S1x1024x1x32_S1x1024x4x32_0_1_2_3 (shapeCast S1x1024x1x32 (row4 a b z) shapeCasts_S1024x32_S1x1024x1x32)) shapeCasts_S1x1024x4x32_S1024x128
def below (k : BitVec 32) : IVec S128 1 := cmpi .slt (iotaInDim S128 32 0) (broadcastInDim S128 ![] bcast_S_S128 (constantI S_ 32 k))
def scaleW : FVec Ideal S128 .f32 :=
  select (andi (cmpi .sge (iotaInDim S128 32 0) (broadcastInDim S128 ![] bcast_S_S128 (constantI S_ 32 32#32))) (below 40#32))
    (broadcastInDim S128 ![] bcast_S_S128 (constant S_ .f32 0x3EB504F3#32)) (broadcastInDim S128 ![] bcast_S_S128 (constant S_ .f32 0x3F800000#32))

theorem v22_eq : V m c main_v22 = (heads8 (Host.cos ang8) (Host.cos ang8) 0x3F800000#32 : FVec Ideal S1024x256 .f32) := by
  show StableHlo.after (List.flatten [hostOps0, hostOps0_1, hostOps0_2, hostOps0_3, hostOps0_4, hostOps0_5, hostOps0_6]) (fun b => m (c, b)) main_v22 = _
  simp only [List.flatten_cons, List.flatten_nil, List.cons_append, List.nil_append, List.append_nil, StableHlo.after_cons, StableHlo.after_nil]
  after_results_simp
  all_goals rfl

theorem v25_eq : V m c main_v25 = (heads8 (Host.negf (Host.sin ang8)) (Host.sin ang8) 0x00000000#32 : FVec Ideal S1024x256 .f32) := by
  show StableHlo.after (List.flatten [hostOps0, hostOps0_1, hostOps0_2, hostOps0_3, hostOps0_4, hostOps0_5, hostOps0_6]) (fun b => m (c, b)) main_v25 = _
  simp only [List.flatten_cons, List.flatten_nil, List.cons_append, List.nil_append, List.append_nil, StableHlo.after_cons, StableHlo.after_nil]
  after_results_simp
  all_goals rfl

theorem v45_eq : V m c main_v45 = (heads4 (Host.cos ang4) (Host.cos ang4) 0x3F800000#32 : FVec Ideal S1024x256 .f32) := by
  show StableHlo.after (List.flatten [hostOps0, hostOps0_1, hostOps0_2, hostOps0_3, hostOps0_4, hostOps0_5, hostOps0_6]) (fun b => m (c, b)) main_v45 = _
  simp only [List.flatten_cons, List.flatten_nil, List.cons_append, List.nil_append, List.append_nil, StableHlo.after_cons, StableHlo.after_nil]
  after_results_simp
  all_goals rfl

theorem v48_eq : V m c main_v48 = (heads4 (Host.negf (Host.sin ang4)) (Host.sin ang4) 0x00000000#32 : FVec Ideal S1024x256 .f32) := by
  show StableHlo.after (List.flatten [hostOps0, hostOps0_1, hostOps0_2, hostOps0_3, hostOps0_4, hostOps0_5, hostOps0_6]) (fun b => m (c, b)) main_v48 = _
  simp only [List.flatten_cons, List.flatten_nil, List.cons_append, List.nil_append, List.append_nil, StableHlo.after_cons, StableHlo.after_nil]
  after_results_simp
  all_goals rfl

theorem v82_eq : V m c main_v82 = (select (broadcastInDim S1024x128 ![1] bcast_S128_S1024x128_1 (below 32#32)) (four4 (Host.cos ang4) (Host.cos ang4) 0x3F800000#32) (broadcastInDim S1024x128 ![0, 1] bcast_S1x128_S1024x128_0_1 (broadcastInDim S1x128 ![1] bcast_S128_S1x128_1 scaleW)) : FVec Ideal S1024x128 .f32) := by
  show StableHlo.after (List.flatten [hostOps0, hostOps0_1, hostOps0_2, hostOps0_3, hostOps0_4, hostOps0_5, hostOps0_6]) (fun b => m (c, b)) main_v82 = _
  simp only [List.flatten_cons, List.flatten_nil, List.cons_append, List.nil_append, List.append_nil, StableHlo.after_cons, StableHlo.after_nil]
  after_results_simp
  all_goals rfl

theorem v83_eq : V m c main_v83 = (select (broadcastInDim S1024x128 ![1] bcast_S128_S1024x128_1 (below 32#32)) (four4 (Host.negf (Host.sin ang4)) (Host.sin ang4) 0x00000000#32) (broadcastInDim S1024x128 ![] bcast_S_S1024x128 (constant S_ .f32 0x00000000#32)) : FVec Ideal S1024x128 .f32) := by
  show StableHlo.after (List.flatten [hostOps0, hostOps0_1, hostOps0_2, hostOps0_3, hostOps0_4, hostOps0_5, hostOps0_6]) (fun b => m (c, b)) main_v83 = _
  simp only [List.flatten_cons, List.flatten_nil, List.cons_append, List.nil_append, List.append_nil, StableHlo.after_cons, StableHlo.after_nil]
  after_results_simp
  all_goals rfl

theorem v95_eq : V m c main_v95 = (truncf (F := Ideal) .bf16 (mulf (shapeCast S256x256 (broadcastInDim S4x64x4x64 ![0, 1, 2, 3] bcast_S4x1x4x1_S4x64x4x64_0_1_2_3 (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1)) : FVec Ideal S4x4 .f32))) shapeCasts_S4x64x4x64_S256x256) (broadcastInDim S256x256 ![] bcast_S_S256x256 (constant S_ .f32 0x3C800000#32))) bitsLt_bf16_f32 : FVec Ideal S256x256 .bf16) := by
  show StableHlo.after (List.flatten [hostOps0, hostOps0_1, hostOps0_2, hostOps0_3, hostOps0_4, hostOps0_5, hostOps0_6]) (fun b => m (c, b)) main_v95 = _
  simp only [List.flatten_cons, List.flatten_nil, List.cons_append, List.nil_append, List.append_nil, StableHlo.after_cons, StableHlo.after_nil]
  after_results_simp
  all_goals rfl

theorem v102_eq : V m c main_v102 = (shapeCast S1x256 (broadcastInDim S4x64 ![0, 1] bcast_S1x64_S4x64_0_1 (broadcastInDim S1x64 ![1] bcast_S64_S1x64_1 (uitofp .f32 (cmpi .slt (iotaInDim S64 32 0) (broadcastInDim S64 ![] bcast_S_S64 (constantI S_ 32 8#32))) : FVec Ideal S64 .f32))) shapeCasts_S4x64_S1x256 : FVec Ideal S1x256 .f32) := by
  show StableHlo.after (List.flatten [hostOps0, hostOps0_1, hostOps0_2, hostOps0_3, hostOps0_4, hostOps0_5, hostOps0_6]) (fun b => m (c, b)) main_v102 = _
  simp only [List.flatten_cons, List.flatten_nil, List.cons_append, List.nil_append, List.append_nil, StableHlo.after_cons, StableHlo.after_nil]
  after_results_simp
  all_goals rfl

theorem v109_eq : V m c main_v109 = (shapeCast S1x256 (broadcastInDim S8x32 ![0, 1] bcast_S1x32_S8x32_0_1 (broadcastInDim S1x32 ![1] bcast_S32_S1x32_1 (uitofp .f32 (cmpi .slt (iotaInDim S32 32 0) (broadcastInDim S32 ![] bcast_S_S32 (constantI S_ 32 4#32))) : FVec Ideal S32 .f32))) shapeCasts_S8x32_S1x256 : FVec Ideal S1x256 .f32) := by
  show StableHlo.after (List.flatten [hostOps0, hostOps0_1, hostOps0_2, hostOps0_3, hostOps0_4, hostOps0_5, hostOps0_6]) (fun b => m (c, b)) main_v109 = _
  simp only [List.flatten_cons, List.flatten_nil, List.cons_append, List.nil_append, List.append_nil, StableHlo.after_cons, StableHlo.after_nil]
  after_results_simp
  all_goals rfl

theorem v114_eq : V m c main_v114 = (broadcastInDim S1x128 ![1] bcast_S128_S1x128_1 (uitofp .f32 (below 4#32) : FVec Ideal S128 .f32) : FVec Ideal S1x128 .f32) := by
  show StableHlo.after (List.flatten [hostOps0, hostOps0_1, hostOps0_2, hostOps0_3, hostOps0_4, hostOps0_5, hostOps0_6]) (fun b => m (c, b)) main_v114 = _
  simp only [List.flatten_cons, List.flatten_nil, List.cons_append, List.nil_append, List.append_nil, StableHlo.after_cons, StableHlo.after_nil]
  after_results_simp
  all_goals rfl

theorem v118_eq : V m c main_v118 = (broadcastInDim S1x256 ![1] bcast_S256_S1x256_1 (shapeCast S256 (broadcastInDim S4x64 ![0, 1] bcast_S1x64_S4x64_0_1 (shapeCast S1x64 (m ((c : Thread nD τ).loc main_arg1) : FVec Ideal S64 .f32) shapeCasts_S64_S1x64)) shapeCasts_S4x64_S256) : FVec Ideal S1x256 .f32) := by
  show StableHlo.after (List.flatten [hostOps0, hostOps0_1, hostOps0_2, hostOps0_3, hostOps0_4, hostOps0_5, hostOps0_6]) (fun b => m (c, b)) main_v118 = _
  simp only [List.flatten_cons, List.flatten_nil, List.cons_append, List.nil_append, List.append_nil, StableHlo.after_cons, StableHlo.after_nil]
  after_results_simp
  all_goals rfl

theorem v122_eq : V m c main_v122 = (broadcastInDim S1x256 ![1] bcast_S256_S1x256_1 (shapeCast S256 (broadcastInDim S4x64 ![0, 1] bcast_S1x64_S4x64_0_1 (shapeCast S1x64 (m ((c : Thread nD τ).loc main_arg2) : FVec Ideal S64 .f32) shapeCasts_S64_S1x64)) shapeCasts_S4x64_S256) : FVec Ideal S1x256 .f32) := by
  show StableHlo.after (List.flatten [hostOps0, hostOps0_1, hostOps0_2, hostOps0_3, hostOps0_4, hostOps0_5, hostOps0_6]) (fun b => m (c, b)) main_v122 = _
  simp only [List.flatten_cons, List.flatten_nil, List.cons_append, List.nil_append, List.append_nil, StableHlo.after_cons, StableHlo.after_nil]
  after_results_simp
  all_goals rfl

theorem heads8_low (a b : FVec Ideal S1024x8 .f32) (z : BitVec 32) (R : Fin 1024) (h : Fin 4) (d : Fin 8) :
    heads8 a b z (ix2 R (⟨h.val * 64 + d.val, by omega⟩ : Fin 256) : S1024x256.Idx) = a (ix2 R d : S1024x8.Idx) := by
  pointwise [heads8]
  have e : (h.val * 64 + d.val) % 64 = d.val := by omega
  simp only [e]
  exact dif_pos d.isLt

theorem heads8_high (a b : FVec Ideal S1024x8 .f32) (z : BitVec 32) (R : Fin 1024) (h : Fin 4) (d : Fin 8) :
    heads8 a b z (ix2 R (⟨h.val * 64 + (8 + d.val), by omega⟩ : Fin 256) : S1024x256.Idx) = b (ix2 R d : S1024x8.Idx) := by
  pointwise [heads8]
  have e : (h.val * 64 + (8 + d.val)) % 64 = 8 + d.val := by omega
  simp only [e]
  refine (dif_neg (by omega)).trans ?_
  have e2 : 8 + d.val - 8 = d.val := by omega
  simp only [e2]
  exact dif_pos d.isLt

theorem heads8_rest (a b : FVec Ideal S1024x8 .f32) (z : BitVec 32) (R : Fin 1024) (h : Fin 4) (d : Fin 48) :
    heads8 a b z (ix2 R (⟨h.val * 64 + (16 + d.val), by omega⟩ : Fin 256) : S1024x256.Idx) = Ideal.ofBits .f32 z := by
  pointwise [heads8]
  have e : (h.val * 64 + (16 + d.val)) % 64 = 16 + d.val := by omega
  simp only [e]
  exact (dif_neg (by omega)).trans (dif_neg (by omega))

theorem heads4_low (a b : FVec Ideal S1024x4 .f32) (z : BitVec 32) (R : Fin 1024) (h : Fin 8) (d : Fin 4) :
    heads4 a b z (ix2 R (⟨h.val * 32 + d.val, by omega⟩ : Fin 256) : S1024x256.Idx) = a (ix2 R d : S1024x4.Idx) := by
  pointwise [heads4, row4]
  have e : (h.val * 32 + d.val) % 32 = d.val := by omega
  simp only [e]
  exact dif_pos d.isLt

theorem heads4_high (a b : FVec Ideal S1024x4 .f32) (z : BitVec 32) (R : Fin 1024) (h : Fin 8) (d : Fin 4) :
    heads4 a b z (ix2 R (⟨h.val * 32 + (4 + d.val), by omega⟩ : Fin 256) : S1024x256.Idx) = b (ix2 R d : S1024x4.Idx) := by
  pointwise [heads4, row4]
  have e : (h.val * 32 + (4 + d.val)) % 32 = 4 + d.val := by omega
  simp only [e]
  refine (dif_neg (by omega)).trans ?_
  have e2 : 4 + d.val - 4 = d.val := by omega
  simp only [e2]
  exact dif_pos d.isLt

theorem heads4_rest (a b : FVec Ideal S1024x4 .f32) (z : BitVec 32) (R : Fin 1024) (h : Fin 8) (d : Fin 24) :
    heads4 a b z (ix2 R (⟨h.val * 32 + (8 + d.val), by omega⟩ : Fin 256) : S1024x256.Idx) = Ideal.ofBits .f32 z := by
  pointwise [heads4, row4]
  have e : (h.val * 32 + (8 + d.val)) % 32 = 8 + d.val := by omega
  simp only [e]
  exact (dif_neg (by omega)).trans (dif_neg (by omega))

theorem row4_low (a b : FVec Ideal S1024x4 .f32) (z : BitVec 32) (R : Fin 1024) (d : Fin 4) :
    row4 a b z (ix2 R (⟨d.val, by omega⟩ : Fin 32) : S1024x32.Idx) = a (ix2 R d : S1024x4.Idx) := by
  pointwise [row4]

theorem row4_high (a b : FVec Ideal S1024x4 .f32) (z : BitVec 32) (R : Fin 1024) (d : Fin 4) :
    row4 a b z (ix2 R (⟨4 + d.val, by omega⟩ : Fin 32) : S1024x32.Idx) = b (ix2 R d : S1024x4.Idx) := by
  pointwise [row4]

theorem row4_rest (a b : FVec Ideal S1024x4 .f32) (z : BitVec 32) (R : Fin 1024) (d : Fin 24) :
    row4 a b z (ix2 R (⟨8 + d.val, by omega⟩ : Fin 32) : S1024x32.Idx) = Ideal.ofBits .f32 z := by
  pointwise [row4]
  exact (dif_neg (by omega)).trans (dif_neg (by omega))

theorem ang8_at (R : Fin 1024) (d : Fin 8) : ang8 (ix2 R d : S1024x8.Idx) = th8 d := by
  pointwise [ang8]
  all_goals rfl
theorem ang4_at (R : Fin 1024) (d : Fin 4) : ang4 (ix2 R d : S1024x4.Idx) = th4 d := by
  pointwise [ang4]
  all_goals rfl

/-- A bit as a number. -/
theorem bit_one : FloatOps.uitofp (F := Ideal) .f32 1#1 = 1 := by
  show (((1#1 : BitVec 1).toNat : ℝ) : EReal) = 1
  norm_num
theorem bit_zero : FloatOps.uitofp (F := Ideal) .f32 0#1 = 0 := by
  show (((0#1 : BitVec 1).toNat : ℝ) : EReal) = 0
  norm_num

theorem avg_at (h h' : Fin 4) (d d' : Fin 64) : V m c main_v95 (ix2 (⟨h.val * 64 + d.val, by omega⟩ : Fin 256) (⟨h'.val * 64 + d'.val, by omega⟩ : Fin 256) : S256x256.Idx) = if h = h' then Ideal.ofBits .f32 0x3C800000#32 else 0 := by
  rw [v95_eq]
  pointwise []
  have e : ∀ a b : Fin 4, IntOp.cmpi .eq (IntOp.addi (BitVec.ofNat 32 a.val) 0#32) (BitVec.ofNat 32 b.val) = if a = b then 1#1 else 0#1 := by decide
  rw [e]
  split
  · rw [bit_one, one_mul]
  · rw [bit_zero, zero_mul]

theorem lq_low (h : Fin 4) (d : Fin 8) : V m c main_v102 (ix2 (0 : Fin 1) (⟨h.val * 64 + d.val, by omega⟩ : Fin 256) : S1x256.Idx) = (1 : EReal) := by
  rw [v102_eq]
  pointwise []
  have e : (h.val * 64 + d.val) % 64 = d.val := by omega
  have e2 : ∀ a : Fin 8, IntOp.cmpi .slt (BitVec.ofNat 32 a.val) 8#32 = 1#1 := by decide
  first | rw [e2, bit_one] | (simp only [e]; rw [e2, bit_one])
theorem lq_high (h : Fin 4) (d : Fin 8) : V m c main_v102 (ix2 (0 : Fin 1) (⟨h.val * 64 + (8 + d.val), by omega⟩ : Fin 256) : S1x256.Idx) = (0 : EReal) := by
  rw [v102_eq]
  pointwise []
  have e : (h.val * 64 + (8 + d.val)) % 64 = 8 + d.val := by omega
  have e2 : ∀ a : Fin 8, IntOp.cmpi .slt (BitVec.ofNat 32 (8 + a.val)) 8#32 = 0#1 := by decide
  first | rw [e2, bit_zero] | (simp only [e]; rw [e2, bit_zero])
theorem li_low (h : Fin 8) (d : Fin 4) : V m c main_v109 (ix2 (0 : Fin 1) (⟨h.val * 32 + d.val, by omega⟩ : Fin 256) : S1x256.Idx) = (1 : EReal) := by
  rw [v109_eq]
  pointwise []
  have e : (h.val * 32 + d.val) % 32 = d.val := by omega
  have e2 : ∀ a : Fin 4, IntOp.cmpi .slt (BitVec.ofNat 32 a.val) 4#32 = 1#1 := by decide
  first | rw [e2, bit_one] | (simp only [e]; rw [e2, bit_one])
theorem li_high (h : Fin 8) (d : Fin 4) : V m c main_v109 (ix2 (0 : Fin 1) (⟨h.val * 32 + (4 + d.val), by omega⟩ : Fin 256) : S1x256.Idx) = (0 : EReal) := by
  rw [v109_eq]
  pointwise []
  have e : (h.val * 32 + (4 + d.val)) % 32 = 4 + d.val := by omega
  have e2 : ∀ a : Fin 4, IntOp.cmpi .slt (BitVec.ofNat 32 (4 + a.val)) 4#32 = 0#1 := by decide
  first | rw [e2, bit_zero] | (simp only [e]; rw [e2, bit_zero])
theorem lw_low (d : Fin 4) : V m c main_v114 (ix2 (0 : Fin 1) (⟨d.val, by omega⟩ : Fin 128) : S1x128.Idx) = (1 : EReal) := by
  rw [v114_eq]
  pointwise [below]
  have e2 : ∀ a : Fin 4, IntOp.cmpi .slt (BitVec.ofNat 32 a.val) 4#32 = 1#1 := by decide
  rw [e2, bit_one]
theorem lw_high (d : Fin 4) : V m c main_v114 (ix2 (0 : Fin 1) (⟨(4 + d.val), by omega⟩ : Fin 128) : S1x128.Idx) = (0 : EReal) := by
  rw [v114_eq]
  pointwise [below]
  have e2 : ∀ a : Fin 4, IntOp.cmpi .slt (BitVec.ofNat 32 (4 + a.val)) 4#32 = 0#1 := by decide
  rw [e2, bit_zero]
theorem qg_at (h : Fin 4) (d : Fin 64) : V m c main_v118 (ix2 (0 : Fin 1) (⟨h.val * 64 + d.val, by omega⟩ : Fin 256) : S1x256.Idx) = m ((c : Thread nD τ).loc main_arg1) (ix1 d : S64.Idx) := by
  rw [v118_eq]
  generalize m ((c : Thread nD τ).loc main_arg1) = y
  pointwise []
theorem kg_at (h : Fin 4) (d : Fin 64) : V m c main_v122 (ix2 (0 : Fin 1) (⟨h.val * 64 + d.val, by omega⟩ : Fin 256) : S1x256.Idx) = m ((c : Thread nD τ).loc main_arg2) (ix1 d : S64.Idx) := by
  rw [v122_eq]
  generalize m ((c : Thread nD τ).loc main_arg2) = y
  pointwise []

/-- Four heads' stretch cut off behind its first head. -/
theorem four4_at (a b : FVec Ideal S1024x4 .f32) (z : BitVec 32) (R : Fin 1024) (d : Fin 32) :
    four4 a b z (ix2 R (⟨d.val, by omega⟩ : Fin 128) : S1024x128.Idx) = row4 a b z (ix2 R d : S1024x32.Idx) := by
  unfold four4
  generalize row4 a b z = y
  pointwise []
  have e : d.val % 32 = d.val := by omega
  simp only [e]
theorem cw_row (R : Fin 1024) (d : Fin 32) : V m c main_v82 (ix2 R (⟨d.val, by omega⟩ : Fin 128) : S1024x128.Idx) = row4 (Host.cos ang4) (Host.cos ang4) 0x3F800000#32 (ix2 R d : S1024x32.Idx) := by
  rw [v82_eq, ← four4_at]
  generalize four4 (Host.cos ang4) (Host.cos ang4) 0x3F800000#32 = y
  have e : ∀ a : Fin 32, IntOp.cmpi .slt (BitVec.ofNat 32 a.val) 32#32 = 1#1 := by decide
  pointwise [below, scaleW]
  rw [e]
  rfl
theorem sw_row (R : Fin 1024) (d : Fin 32) : V m c main_v83 (ix2 R (⟨d.val, by omega⟩ : Fin 128) : S1024x128.Idx) = row4 (Host.negf (Host.sin ang4)) (Host.sin ang4) 0x00000000#32 (ix2 R d : S1024x32.Idx) := by
  rw [v83_eq, ← four4_at]
  generalize four4 (Host.negf (Host.sin ang4)) (Host.sin ang4) 0x00000000#32 = y
  have e : ∀ a : Fin 32, IntOp.cmpi .slt (BitVec.ofNat 32 a.val) 32#32 = 1#1 := by decide
  pointwise [below]
  rw [e]
  rfl
theorem cw_scaled (R : Fin 1024) (d : Fin 8) : V m c main_v82 (ix2 R (⟨32 + d.val, by omega⟩ : Fin 128) : S1024x128.Idx) = Ideal.ofBits .f32 0x3EB504F3#32 := by
  rw [v82_eq]
  generalize four4 (Host.cos ang4) (Host.cos ang4) 0x3F800000#32 = y
  have e : ∀ a : Fin 8, IntOp.cmpi .slt (BitVec.ofNat 32 (32 + a.val)) 32#32 = 0#1 := by decide
  have e2 : ∀ a : Fin 8, IntOp.andi (IntOp.cmpi .sge (BitVec.ofNat 32 (32 + a.val)) 32#32) (IntOp.cmpi .slt (BitVec.ofNat 32 (32 + a.val)) 40#32) = 1#1 := by decide
  pointwise [below, scaleW]
  rw [e, e2]
  rfl
theorem cw_pad (R : Fin 1024) (d : Fin 88) : V m c main_v82 (ix2 R (⟨40 + d.val, by omega⟩ : Fin 128) : S1024x128.Idx) = (1 : EReal) := by
  rw [v82_eq]
  generalize four4 (Host.cos ang4) (Host.cos ang4) 0x3F800000#32 = y
  have e : ∀ a : Fin 88, IntOp.cmpi .slt (BitVec.ofNat 32 (40 + a.val)) 32#32 = 0#1 := by decide
  have e2 : ∀ a : Fin 88, IntOp.andi (IntOp.cmpi .sge (BitVec.ofNat 32 (40 + a.val)) 32#32) (IntOp.cmpi .slt (BitVec.ofNat 32 (40 + a.val)) 40#32) = 0#1 := by decide
  pointwise [below, scaleW]
  rw [e, e2]
  rfl
theorem sw_tail (R : Fin 1024) (d : Fin 96) : V m c main_v83 (ix2 R (⟨32 + d.val, by omega⟩ : Fin 128) : S1024x128.Idx) = (0 : EReal) := by
  rw [v83_eq]
  generalize four4 (Host.negf (Host.sin ang4)) (Host.sin ang4) 0x00000000#32 = y
  have e : ∀ a : Fin 96, IntOp.cmpi .slt (BitVec.ofNat 32 (32 + a.val)) 32#32 = 0#1 := by decide
  pointwise [below]
  rw [e]
  rfl

end Cert.PrepS

end
-- ==== Proof.PrepSEq.lean ====
/- The two programs' arrays agree at an index: what the block computes of the tables is what the reference's lines compute. -/
module

public import proofs.«01_k».proof.Proof.PrepSMath
public import proofs.«01_k».proof.Proof.PrepSHost

@[expose] public section

set_option maxRecDepth 16384

noncomputable section

open Idealize.ShloMosaic Idealize.ShloMosaic.TcCoe Idealize.SL.Sem
open Cert.Kernel9Ideal Cert.Kernel9Ideal.Gen

namespace Cert.PrepS

variable (m : (ℓ : Loc nD τ sig) → Buf (Elt Ideal) ℓ) (c : Dev nD)

/-- The packed projection and the two gains. -/
def pA : FVec Ideal S1024x3200 .f32 := m ((c : Thread nD τ).loc main_arg0)
def gQ : FVec Ideal S64 .f32 := m ((c : Thread nD τ).loc main_arg1)
def gK : FVec Ideal S64 .f32 := m ((c : Thread nD τ).loc main_arg2)

/-- The reference's four results from this memory's arguments. -/
def outQ : FVec Ideal S1024x256 .f32 := Cert.Reference9Ideal.Read.val_main_v178 (F := Ideal) (pA m c) (gQ m c)
def outK : FVec Ideal S1024x256 .f32 := Cert.Reference9Ideal.Read.val_main_v179 (F := Ideal) (pA m c) (gK m c)
def outI : FVec Ideal S1024x256 .f32 := Cert.Reference9Ideal.Read.val_main_v180 (F := Ideal) (pA m c)
def outW : FVec Ideal S1024x128 .f32 := Cert.Reference9Ideal.Read.val_main_v181 (F := Ideal) (pA m c)

/-- The tables' rows, as functions of the column. -/
def tab (v : FVec Ideal S1024x256 .f32) (R : Fin 1024) (j : Fin 256) : EReal := v (ix2 R j : S1024x256.Idx)
def tabW (v : FVec Ideal S1024x128 .f32) (R : Fin 1024) (j : Fin 128) : EReal := v (ix2 R j : S1024x128.Idx)
def lane (v : FVec Ideal S1x256 .f32) (j : Fin 256) : EReal := v (ix2 (0 : Fin 1) j : S1x256.Idx)
def laneW (v : FVec Ideal S1x128 .f32) (j : Fin 128) : EReal := v (ix2 (0 : Fin 1) j : S1x128.Idx)
def sq (v : FVec Ideal S256x256 .bf16) (k j : Fin 256) : EReal := v (ix2 k j : S256x256.Idx)

theorem split_row (R : Fin 1024) : ∃ (b : Fin 128) (s : Fin 8), R = (⟨b.val * 8 + s.val, by omega⟩ : Fin 1024) :=
  ⟨⟨R.val / 8, by omega⟩, ⟨R.val % 8, by omega⟩, Fin.ext (by show R.val = R.val / 8 * 8 + R.val % 8; omega)⟩

/-- A column of a head of 64: of the lower half of its turned part, of the upper half, or behind. -/
theorem split64 (J : Fin 256) : ∃ h : Fin 4, (∃ d : Fin 8, J = (⟨h.val * 64 + d.val, by omega⟩ : Fin 256)) ∨ (∃ d : Fin 8, J = (⟨h.val * 64 + (8 + d.val), by omega⟩ : Fin 256)) ∨ (∃ d : Fin 48, J = (⟨h.val * 64 + (16 + d.val), by omega⟩ : Fin 256)) := by
  refine ⟨⟨J.val / 64, by omega⟩, ?_⟩
  by_cases h0 : J.val % 64 < 8
  · exact Or.inl ⟨⟨J.val % 64, h0⟩, Fin.ext (by show J.val = J.val / 64 * 64 + J.val % 64; omega)⟩
  by_cases h1 : J.val % 64 < 16
  · exact Or.inr (Or.inl ⟨⟨J.val % 64 - 8, by omega⟩, Fin.ext (by show J.val = J.val / 64 * 64 + (8 + (J.val % 64 - 8)); omega)⟩)
  · exact Or.inr (Or.inr ⟨⟨J.val % 64 - 16, by omega⟩, Fin.ext (by show J.val = J.val / 64 * 64 + (16 + (J.val % 64 - 16)); omega)⟩)
/-- The same of a head of 32. -/
theorem split32 (J : Fin 256) : ∃ h : Fin 8, (∃ d : Fin 4, J = (⟨h.val * 32 + d.val, by omega⟩ : Fin 256)) ∨ (∃ d : Fin 4, J = (⟨h.val * 32 + (4 + d.val), by omega⟩ : Fin 256)) ∨ (∃ d : Fin 24, J = (⟨h.val * 32 + (8 + d.val), by omega⟩ : Fin 256)) := by
  refine ⟨⟨J.val / 32, by omega⟩, ?_⟩
  by_cases h0 : J.val % 32 < 4
  · exact Or.inl ⟨⟨J.val % 32, h0⟩, Fin.ext (by show J.val = J.val / 32 * 32 + J.val % 32; omega)⟩
  by_cases h1 : J.val % 32 < 8
  · exact Or.inr (Or.inl ⟨⟨J.val % 32 - 4, by omega⟩, Fin.ext (by show J.val = J.val / 32 * 32 + (4 + (J.val % 32 - 4)); omega)⟩)
  · exact Or.inr (Or.inr ⟨⟨J.val % 32 - 8, by omega⟩, Fin.ext (by show J.val = J.val / 32 * 32 + (8 + (J.val % 32 - 8)); omega)⟩)

theorem cos8 (R : Fin 1024) (d : Fin 8) : (Host.cos ang8 : FVec Ideal S1024x8 .f32) (ix2 R d : S1024x8.Idx) = Ideal.cos (th8 d) := congrArg Ideal.cos (ang8_at R d)
theorem sin8 (R : Fin 1024) (d : Fin 8) : (Host.sin ang8 : FVec Ideal S1024x8 .f32) (ix2 R d : S1024x8.Idx) = Ideal.sin (th8 d) := congrArg Ideal.sin (ang8_at R d)
theorem nsin8 (R : Fin 1024) (d : Fin 8) : (Host.negf (Host.sin ang8) : FVec Ideal S1024x8 .f32) (ix2 R d : S1024x8.Idx) = -Ideal.sin (th8 d) := congrArg (fun z => -z) (sin8 R d)
theorem cos4 (R : Fin 1024) (d : Fin 4) : (Host.cos ang4 : FVec Ideal S1024x4 .f32) (ix2 R d : S1024x4.Idx) = Ideal.cos (th4 d) := congrArg Ideal.cos (ang4_at R d)
theorem sin4 (R : Fin 1024) (d : Fin 4) : (Host.sin ang4 : FVec Ideal S1024x4 .f32) (ix2 R d : S1024x4.Idx) = Ideal.sin (th4 d) := congrArg Ideal.sin (ang4_at R d)
theorem nsin4 (R : Fin 1024) (d : Fin 4) : (Host.negf (Host.sin ang4) : FVec Ideal S1024x4 .f32) (ix2 R d : S1024x4.Idx) = -Ideal.sin (th4 d) := congrArg (fun z => -z) (sin4 R d)

/-- A column of the packed keys and weights: the turned part's halves, the rest of the key, the weights, the padding. -/
theorem split128 (J : Fin 128) : (∃ d : Fin 4, J = (⟨d.val, by omega⟩ : Fin 128)) ∨ (∃ d : Fin 4, J = (⟨4 + d.val, by omega⟩ : Fin 128)) ∨ (∃ d : Fin 24, J = (⟨8 + d.val, by omega⟩ : Fin 128))
    ∨ (∃ d : Fin 8, J = (⟨32 + d.val, by omega⟩ : Fin 128)) ∨ (∃ d : Fin 88, J = (⟨40 + d.val, by omega⟩ : Fin 128)) := by
  by_cases h0 : J.val < 4
  · exact Or.inl ⟨⟨J.val, h0⟩, rfl⟩
  by_cases h1 : J.val < 8
  · exact Or.inr (Or.inl ⟨⟨J.val - 4, by omega⟩, Fin.ext (by show J.val = 4 + (J.val - 4); omega)⟩)
  by_cases h2 : J.val < 32
  · exact Or.inr (Or.inr (Or.inl ⟨⟨J.val - 8, by omega⟩, Fin.ext (by show J.val = 8 + (J.val - 8); omega)⟩))
  by_cases h3 : J.val < 40
  · exact Or.inr (Or.inr (Or.inr (Or.inl ⟨⟨J.val - 32, by omega⟩, Fin.ext (by show J.val = 32 + (J.val - 32); omega)⟩)))
  · exact Or.inr (Or.inr (Or.inr (Or.inr ⟨⟨J.val - 40, by omega⟩, Fin.ext (by show J.val = 40 + (J.val - 40); omega)⟩)))

theorem q_core (R : Fin 1024) (J : Fin 256) (p : FVec Ideal S1024x3200 .f32) (ct st : FVec Ideal S1024x256 .f32) (l : FVec Ideal S1x256 .f32)
    (hc : ct = heads8 (Host.cos ang8) (Host.cos ang8) 0x3F800000#32) (hs : st = heads8 (Host.negf (Host.sin ang8)) (Host.sin ang8) 0x00000000#32)
    (hl : ∀ (h : Fin 4) (d : Fin 8), lane l ⟨h.val * 64 + d.val, by omega⟩ = 1) (hh : ∀ (h : Fin 4) (d : Fin 8), lane l ⟨h.val * 64 + (8 + d.val), by omega⟩ = 0) (g : FVec Ideal S64 .f32) (w : FVec Ideal S256x256 .bf16) (gl : FVec Ideal S1x256 .f32)
    (hw : ∀ (a b : Fin 4) (e d : Fin 64), sq w ⟨a.val * 64 + e.val, by omega⟩ ⟨b.val * 64 + d.val, by omega⟩ = if a = b then Ideal.ofBits .f32 0x3C800000#32 else 0)
    (hg : ∀ (a : Fin 4) (d : Fin 64), lane gl ⟨a.val * 64 + d.val, by omega⟩ = g (ix1 d : S64.Idx))
    (X : Fin 256 → ℝ) (hX : ∀ k, seg p R 768 256 (by omega) k = (X k : EReal)) :
    turn 256 8 (hn (seg p R 768 256 (by omega)) (sq w) (lane gl)) (tab ct R) (tab st R) (lane l) J = Cert.Reference9Ideal.Read.val_main_v178 (F := Ideal) p g (ix2 R J : S1024x256.Idx) := by
  obtain ⟨b, s, rfl⟩ := split_row R
  obtain ⟨h, hJ⟩ := split64 J
  have Y := hn_eq _ (sq w) (lane gl) (fun e => g (ix1 e : S64.Idx)) X hX hw hg h
  have tc := fun (R : Fin 1024) (j : Fin 256) => congrFun hc (ix2 R j : S1024x256.Idx)
  have ts := fun (R : Fin 1024) (j : Fin 256) => congrFun hs (ix2 R j : S1024x256.Idx)
  obtain ⟨d, rfl⟩ | ⟨d, rfl⟩ | ⟨d, rfl⟩ := hJ
  · refine (turn_low _ _ _ _ _ (⟨h.val * 64 + (8 + d.val), by omega⟩ : Fin 256) (Ideal.cos (th8 d)) (Ideal.sin (th8 d)) (by show h.val * 64 + (8 + d.val) = h.val * 64 + d.val + 8; omega) (hl h d)
      ((tc _ _).trans ((heads8_low _ _ _ _ h d).trans (cos8 _ d))) ((ts _ _).trans ((heads8_low _ _ _ _ h d).trans (nsin8 _ d)))).trans ?_
    exact (congrArg₂ (fun u v : EReal => u * Ideal.cos (th8 d) - v * Ideal.sin (th8 d)) (Y ⟨d.val, by omega⟩) (Y ⟨8 + d.val, by omega⟩)).trans (q_low p g b s h d).symm
  · refine (turn_high _ _ _ _ _ (⟨h.val * 64 + d.val, by omega⟩ : Fin 256) (Ideal.cos (th8 d)) (Ideal.sin (th8 d)) (by show h.val * 64 + (8 + d.val) = h.val * 64 + d.val + 8; omega) (hh h d)
      ((tc _ _).trans ((heads8_high _ _ _ _ h d).trans (cos8 _ d))) ((ts _ _).trans ((heads8_high _ _ _ _ h d).trans (sin8 _ d)))).trans ?_
    exact (congrArg₂ (fun u v : EReal => u * Ideal.cos (th8 d) + v * Ideal.sin (th8 d)) (Y ⟨8 + d.val, by omega⟩) (Y ⟨d.val, by omega⟩)).trans (q_high p g b s h d).symm
  · refine (turn_rest _ _ _ _ _ 1 ((tc _ _).trans ((heads8_rest _ _ _ _ h d).trans Ideal.ofBits_one_f32)) ((ts _ _).trans ((heads8_rest _ _ _ _ h d).trans Ideal.ofBits_zero_f32))).trans ?_
    rw [mul_one]
    exact (Y ⟨16 + d.val, by omega⟩).trans (q_rest p g b s h d).symm

theorem k_core (R : Fin 1024) (J : Fin 256) (p : FVec Ideal S1024x3200 .f32) (ct st : FVec Ideal S1024x256 .f32) (l : FVec Ideal S1x256 .f32)
    (hc : ct = heads8 (Host.cos ang8) (Host.cos ang8) 0x3F800000#32) (hs : st = heads8 (Host.negf (Host.sin ang8)) (Host.sin ang8) 0x00000000#32)
    (hl : ∀ (h : Fin 4) (d : Fin 8), lane l ⟨h.val * 64 + d.val, by omega⟩ = 1) (hh : ∀ (h : Fin 4) (d : Fin 8), lane l ⟨h.val * 64 + (8 + d.val), by omega⟩ = 0) (g : FVec Ideal S64 .f32) (w : FVec Ideal S256x256 .bf16) (gl : FVec Ideal S1x256 .f32)
    (hw : ∀ (a b : Fin 4) (e d : Fin 64), sq w ⟨a.val * 64 + e.val, by omega⟩ ⟨b.val * 64 + d.val, by omega⟩ = if a = b then Ideal.ofBits .f32 0x3C800000#32 else 0)
    (hg : ∀ (a : Fin 4) (d : Fin 64), lane gl ⟨a.val * 64 + d.val, by omega⟩ = g (ix1 d : S64.Idx))
    (X : Fin 256 → ℝ) (hX : ∀ k, seg p R 1024 256 (by omega) k = (X k : EReal)) :
    turn 256 8 (hn (seg p R 1024 256 (by omega)) (sq w) (lane gl)) (tab ct R) (tab st R) (lane l) J = Cert.Reference9Ideal.Read.val_main_v179 (F := Ideal) p g (ix2 R J : S1024x256.Idx) := by
  obtain ⟨b, s, rfl⟩ := split_row R
  obtain ⟨h, hJ⟩ := split64 J
  have Y := hn_eq _ (sq w) (lane gl) (fun e => g (ix1 e : S64.Idx)) X hX hw hg h
  have tc := fun (R : Fin 1024) (j : Fin 256) => congrFun hc (ix2 R j : S1024x256.Idx)
  have ts := fun (R : Fin 1024) (j : Fin 256) => congrFun hs (ix2 R j : S1024x256.Idx)
  obtain ⟨d, rfl⟩ | ⟨d, rfl⟩ | ⟨d, rfl⟩ := hJ
  · refine (turn_low _ _ _ _ _ (⟨h.val * 64 + (8 + d.val), by omega⟩ : Fin 256) (Ideal.cos (th8 d)) (Ideal.sin (th8 d)) (by show h.val * 64 + (8 + d.val) = h.val * 64 + d.val + 8; omega) (hl h d)
      ((tc _ _).trans ((heads8_low _ _ _ _ h d).trans (cos8 _ d))) ((ts _ _).trans ((heads8_low _ _ _ _ h d).trans (nsin8 _ d)))).trans ?_
    exact (congrArg₂ (fun u v : EReal => u * Ideal.cos (th8 d) - v * Ideal.sin (th8 d)) (Y ⟨d.val, by omega⟩) (Y ⟨8 + d.val, by omega⟩)).trans (k_low p g b s h d).symm
  · refine (turn_high _ _ _ _ _ (⟨h.val * 64 + d.val, by omega⟩ : Fin 256) (Ideal.cos (th8 d)) (Ideal.sin (th8 d)) (by show h.val * 64 + (8 + d.val) = h.val * 64 + d.val + 8; omega) (hh h d)
      ((tc _ _).trans ((heads8_high _ _ _ _ h d).trans (cos8 _ d))) ((ts _ _).trans ((heads8_high _ _ _ _ h d).trans (sin8 _ d)))).trans ?_
    exact (congrArg₂ (fun u v : EReal => u * Ideal.cos (th8 d) + v * Ideal.sin (th8 d)) (Y ⟨8 + d.val, by omega⟩) (Y ⟨d.val, by omega⟩)).trans (k_high p g b s h d).symm
  · refine (turn_rest _ _ _ _ _ 1 ((tc _ _).trans ((heads8_rest _ _ _ _ h d).trans Ideal.ofBits_one_f32)) ((ts _ _).trans ((heads8_rest _ _ _ _ h d).trans Ideal.ofBits_zero_f32))).trans ?_
    rw [mul_one]
    exact (Y ⟨16 + d.val, by omega⟩).trans (k_rest p g b s h d).symm

theorem i_core (R : Fin 1024) (J : Fin 256) (p : FVec Ideal S1024x3200 .f32) (ct st : FVec Ideal S1024x256 .f32) (l : FVec Ideal S1x256 .f32)
    (hc : ct = heads4 (Host.cos ang4) (Host.cos ang4) 0x3F800000#32) (hs : st = heads4 (Host.negf (Host.sin ang4)) (Host.sin ang4) 0x00000000#32)
    (hl : ∀ (h : Fin 8) (d : Fin 4), lane l ⟨h.val * 32 + d.val, by omega⟩ = 1) (hh : ∀ (h : Fin 8) (d : Fin 4), lane l ⟨h.val * 32 + (4 + d.val), by omega⟩ = 0) :
    turn 256 4 (seg p R 1536 256 (by omega)) (tab ct R) (tab st R) (lane l) J = Cert.Reference9Ideal.Read.val_main_v180 (F := Ideal) p (ix2 R J : S1024x256.Idx) := by
  obtain ⟨b, s, rfl⟩ := split_row R
  obtain ⟨h, hJ⟩ := split32 J
  have tc := fun (R : Fin 1024) (j : Fin 256) => congrFun hc (ix2 R j : S1024x256.Idx)
  have ts := fun (R : Fin 1024) (j : Fin 256) => congrFun hs (ix2 R j : S1024x256.Idx)
  obtain ⟨d, rfl⟩ | ⟨d, rfl⟩ | ⟨d, rfl⟩ := hJ
  · refine (turn_low _ _ _ _ _ (⟨h.val * 32 + (4 + d.val), by omega⟩ : Fin 256) (Ideal.cos (th4 d)) (Ideal.sin (th4 d)) (by show h.val * 32 + (4 + d.val) = h.val * 32 + d.val + 4; omega) (hl h d)
      ((tc _ _).trans ((heads4_low _ _ _ _ h d).trans (cos4 _ d))) ((ts _ _).trans ((heads4_low _ _ _ _ h d).trans (nsin4 _ d)))).trans ?_
    exact (congrArg₂ (fun u v : EReal => u * Ideal.cos (th4 d) - v * Ideal.sin (th4 d)) rfl rfl).trans (i_low p b s h d).symm
  · refine (turn_high _ _ _ _ _ (⟨h.val * 32 + d.val, by omega⟩ : Fin 256) (Ideal.cos (th4 d)) (Ideal.sin (th4 d)) (by show h.val * 32 + (4 + d.val) = h.val * 32 + d.val + 4; omega) (hh h d)
      ((tc _ _).trans ((heads4_high _ _ _ _ h d).trans (cos4 _ d))) ((ts _ _).trans ((heads4_high _ _ _ _ h d).trans (sin4 _ d)))).trans ?_
    exact (congrArg₂ (fun u v : EReal => u * Ideal.cos (th4 d) + v * Ideal.sin (th4 d)) rfl rfl).trans (i_high p b s h d).symm
  · refine (turn_rest _ _ _ _ _ 1 ((tc _ _).trans ((heads4_rest _ _ _ _ h d).trans Ideal.ofBits_one_f32)) ((ts _ _).trans ((heads4_rest _ _ _ _ h d).trans Ideal.ofBits_zero_f32))).trans ?_
    rw [mul_one]
    exact (i_rest p b s h d).symm

theorem w_core (R : Fin 1024) (J : Fin 128) (p : FVec Ideal S1024x3200 .f32) (ct st : FVec Ideal S1024x128 .f32) (l : FVec Ideal S1x128 .f32)
    (hc : ∀ (R : Fin 1024) (d : Fin 32), tabW ct R ⟨d.val, by omega⟩ = row4 (Host.cos ang4) (Host.cos ang4) 0x3F800000#32 (ix2 R d : S1024x32.Idx))
    (hs : ∀ (R : Fin 1024) (d : Fin 32), tabW st R ⟨d.val, by omega⟩ = row4 (Host.negf (Host.sin ang4)) (Host.sin ang4) 0x00000000#32 (ix2 R d : S1024x32.Idx))
    (hcs : ∀ (R : Fin 1024) (d : Fin 8), tabW ct R ⟨32 + d.val, by omega⟩ = Ideal.ofBits .f32 0x3EB504F3#32) (hcp : ∀ (R : Fin 1024) (d : Fin 88), tabW ct R ⟨40 + d.val, by omega⟩ = 1)
    (hst : ∀ (R : Fin 1024) (d : Fin 96), tabW st R ⟨32 + d.val, by omega⟩ = 0) (hl : ∀ d : Fin 4, laneW l ⟨d.val, by omega⟩ = 1) (hh : ∀ d : Fin 4, laneW l ⟨4 + d.val, by omega⟩ = 0) :
    turn 128 4 (seg p R 3072 128 (by omega)) (tabW ct R) (tabW st R) (laneW l) J = Cert.Reference9Ideal.Read.val_main_v181 (F := Ideal) p (ix2 R J : S1024x128.Idx) := by
  obtain ⟨b, s, rfl⟩ := split_row R
  obtain ⟨d, rfl⟩ | ⟨d, rfl⟩ | ⟨d, rfl⟩ | ⟨d, rfl⟩ | ⟨d, rfl⟩ := split128 J
  · refine (turn_low _ _ _ _ _ (⟨4 + d.val, by omega⟩ : Fin 128) (Ideal.cos (th4 d)) (Ideal.sin (th4 d)) (by show 4 + d.val = d.val + 4; omega) (hl d)
      ((hc _ ⟨d.val, by omega⟩).trans ((row4_low _ _ _ _ d).trans (cos4 _ d))) ((hs _ ⟨d.val, by omega⟩).trans ((row4_low _ _ _ _ d).trans (nsin4 _ d)))).trans ?_
    exact (w_low p b s d).symm
  · refine (turn_high _ _ _ _ _ (⟨d.val, by omega⟩ : Fin 128) (Ideal.cos (th4 d)) (Ideal.sin (th4 d)) (by show 4 + d.val = d.val + 4; omega) (hh d)
      ((hc _ ⟨4 + d.val, by omega⟩).trans ((row4_high _ _ _ _ d).trans (cos4 _ d))) ((hs _ ⟨4 + d.val, by omega⟩).trans ((row4_high _ _ _ _ d).trans (sin4 _ d)))).trans ?_
    exact (w_high p b s d).symm
  · refine (turn_rest _ _ _ _ _ 1 ((hc _ ⟨8 + d.val, by omega⟩).trans ((row4_rest _ _ _ _ d).trans Ideal.ofBits_one_f32)) ((hs _ ⟨8 + d.val, by omega⟩).trans ((row4_rest _ _ _ _ d).trans Ideal.ofBits_zero_f32))).trans ?_
    rw [mul_one]
    exact (w_rest p b s d).symm
  · exact (turn_rest _ _ _ _ _ _ (hcs _ d) (hst _ ⟨d.val, by omega⟩)).trans (w_scaled p b s d).symm
  · refine (turn_rest _ _ _ _ _ 1 (hcp _ d) ?_).trans ?_
    · have e : (⟨40 + d.val, by omega⟩ : Fin 128) = ⟨32 + (8 + d.val), by omega⟩ := Fin.ext (by show 40 + d.val = 32 + (8 + d.val); omega)
      rw [e]
      exact hst _ ⟨8 + d.val, by omega⟩
    rw [mul_one]
    exact (w_pad p b s d).symm

theorem q_eq (R : Fin 1024) (J : Fin 256) (X : Fin 256 → ℝ) (hX : ∀ k, seg (pA m c) R 768 256 (by omega) k = (X k : EReal)) :
    turn 256 8 (hn (seg (pA m c) R 768 256 (by omega)) (sq (V m c main_v95)) (lane (V m c main_v118))) (tab (V m c main_v22) R) (tab (V m c main_v25) R) (lane (V m c main_v102)) J = outQ m c (ix2 R J : S1024x256.Idx) :=
  q_core R J (pA m c) (V m c main_v22) (V m c main_v25) (V m c main_v102) (v22_eq m c) (v25_eq m c) (lq_low m c) (lq_high m c) (gQ m c) (V m c main_v95) (V m c main_v118) (avg_at m c) (qg_at m c) X hX
theorem k_eq (R : Fin 1024) (J : Fin 256) (X : Fin 256 → ℝ) (hX : ∀ k, seg (pA m c) R 1024 256 (by omega) k = (X k : EReal)) :
    turn 256 8 (hn (seg (pA m c) R 1024 256 (by omega)) (sq (V m c main_v95)) (lane (V m c main_v122))) (tab (V m c main_v22) R) (tab (V m c main_v25) R) (lane (V m c main_v102)) J = outK m c (ix2 R J : S1024x256.Idx) :=
  k_core R J (pA m c) (V m c main_v22) (V m c main_v25) (V m c main_v102) (v22_eq m c) (v25_eq m c) (lq_low m c) (lq_high m c) (gK m c) (V m c main_v95) (V m c main_v122) (avg_at m c) (kg_at m c) X hX
theorem i_eq (R : Fin 1024) (J : Fin 256) :
    turn 256 4 (seg (pA m c) R 1536 256 (by omega)) (tab (V m c main_v45) R) (tab (V m c main_v48) R) (lane (V m c main_v109)) J = outI m c (ix2 R J : S1024x256.Idx) :=
  i_core R J (pA m c) (V m c main_v45) (V m c main_v48) (V m c main_v109) (v45_eq m c) (v48_eq m c) (li_low m c) (li_high m c)
theorem w_eq (R : Fin 1024) (J : Fin 128) :
    turn 128 4 (seg (pA m c) R 3072 128 (by omega)) (tabW (V m c main_v82) R) (tabW (V m c main_v83) R) (laneW (V m c main_v114)) J = outW m c (ix2 R J : S1024x128.Idx) :=
  w_core R J (pA m c) (V m c main_v82) (V m c main_v83) (V m c main_v114) (cw_row m c) (sw_row m c) (cw_scaled m c) (cw_pad m c) (sw_tail m c) (lw_low m c) (lw_high m c)

end Cert.PrepS

end
-- ==== Proof.PrepSValue.lean ====
/- What the four result arrays hold after the run: each block's rows are the reference's, and the eight blocks cover the arrays. -/
module

public import proofs.«01_k».proof.Proof.PrepSEq
public import proofs.«01_k».proof.Proof.Gen.Kernel9Ideal.Value

@[expose] public section

set_option maxRecDepth 16384

noncomputable section

open Idealize.ShloMosaic Idealize.ShloMosaic.TcCoe Idealize.SL.Sem
open Cert.Kernel9Ideal Cert.Kernel9Ideal.Gen

namespace Cert.PrepS

variable (m : (ℓ : Loc nD τ sig) → Buf (Elt Ideal) ℓ) (c : Dev nD)

/-- The windows' block indices: the tiles of the rows, at the packed columns' blocks. -/
theorem idx_val : ∀ t : Fin cfg0.N, win0_0.index t = ![t.val, 3] ∧ win0_1.index t = ![t.val, 4]
    ∧ win0_3.index t = ![t.val, 6] ∧ win0_4.index t = ![t.val, 24] ∧ win0_5.index t = ![t.val, 0]
    ∧ win0_6.index t = ![t.val, 0] ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] ∧ win0_14.index t = ![0, 0] ∧ win0_15.index t = ![0, 0] ∧ win0_16.index t = ![0, 0]
    ∧ win0_17.index t = ![t.val, 0] ∧ win0_18.index t = ![t.val, 0] ∧ win0_19.index t = ![t.val, 0] ∧ win0_20.index t = ![t.val, 0] :=
  (by decide +kernel : ∀ t : Fin grid0.N, _)

/-- The row of the arrays that row `r` of tile `t` is. -/
abbrev at_ (t : Fin cfg0.N) (r : Fin 128) : Fin 1024 := ⟨t.val * 128 + r.val, by have h : t.val < 8 := t.isLt; omega⟩

/-- The packed projection reaches the region as it was given. -/
theorem arg_eq : V m c main_arg0 = pA m c := by
  show StableHlo.after (List.flatten [hostOps0, hostOps0_1, hostOps0_2, hostOps0_3, hostOps0_4, hostOps0_5, hostOps0_6]) (fun b => m (c, b)) main_arg0 = _
  simp only [List.flatten_cons, List.flatten_nil, List.cons_append, List.nil_append, List.append_nil, StableHlo.after_cons, StableHlo.after_nil]
  after_results_simp
  all_goals rfl

theorem b0_at (t : Fin cfg0.N) (r : Fin 128) (j : Fin 256) :
    (X0_0 m c t : FVec Ideal S128x256 .f32) (ix2 r j : S128x256.Idx) = seg (pA m c) (at_ t r) 768 256 (by omega) j := by
  unfold seg
  rw [← arg_eq]
  unfold X0_0 Pipeline.Window.fill
  refine (dif_pos (moved0_0 t _)).trans ?_
  blk_point [iblk, idx_val t]
theorem b1_at (t : Fin cfg0.N) (r : Fin 128) (j : Fin 256) :
    (X0_1 m c t : FVec Ideal S128x256 .f32) (ix2 r j : S128x256.Idx) = seg (pA m c) (at_ t r) 1024 256 (by omega) j := by
  unfold seg
  rw [← arg_eq]
  unfold X0_1 Pipeline.Window.fill
  refine (dif_pos (moved0_1 t _)).trans ?_
  blk_point [iblk, idx_val t]
theorem b3_at (t : Fin cfg0.N) (r : Fin 128) (j : Fin 256) :
    (X0_3 m c t : FVec Ideal S128x256 .f32) (ix2 r j : S128x256.Idx) = seg (pA m c) (at_ t r) 1536 256 (by omega) j := by
  unfold seg
  rw [← arg_eq]
  unfold X0_3 Pipeline.Window.fill
  refine (dif_pos (moved0_3 t _)).trans ?_
  blk_point [iblk, idx_val t]
theorem b4_at (t : Fin cfg0.N) (r j : Fin 128) :
    (iblk m c 4 t : FVec Ideal S128x128 .f32) (ix2 r j : S128x128.Idx) = seg (pA m c) (at_ t r) 3072 128 (by omega) j := by
  unfold seg
  rw [← arg_eq]
  blk_point [iblk, idx_val t]
theorem b5_at (t : Fin cfg0.N) (r : Fin 128) (j : Fin 256) :
    (iblk m c 5 t : FVec Ideal S128x256 .f32) (ix2 r j : S128x256.Idx) = tab (V m c main_v22) (at_ t r) j := by
  unfold tab
  blk_point [iblk, idx_val t]
theorem b6_at (t : Fin cfg0.N) (r : Fin 128) (j : Fin 256) :
    (iblk m c 6 t : FVec Ideal S128x256 .f32) (ix2 r j : S128x256.Idx) = tab (V m c main_v25) (at_ t r) j := by
  unfold tab
  blk_point [iblk, idx_val t]
theorem b7_at (t : Fin cfg0.N) (r : Fin 128) (j : Fin 256) :
    (iblk m c 7 t : FVec Ideal S128x256 .f32) (ix2 r j : S128x256.Idx) = tab (V m c main_v45) (at_ t r) j := by
  unfold tab
  blk_point [iblk, idx_val t]
theorem b8_at (t : Fin cfg0.N) (r : Fin 128) (j : Fin 256) :
    (iblk m c 8 t : FVec Ideal S128x256 .f32) (ix2 r j : S128x256.Idx) = tab (V m c main_v48) (at_ t r) j := by
  unfold tab
  blk_point [iblk, idx_val t]
theorem b9_at (t : Fin cfg0.N) (r j : Fin 128) :
    (iblk m c 9 t : FVec Ideal S128x128 .f32) (ix2 r j : S128x128.Idx) = tabW (V m c main_v82) (at_ t r) j := by
  unfold tabW
  blk_point [iblk, idx_val t]
theorem b10_at (t : Fin cfg0.N) (r j : Fin 128) :
    (iblk m c 10 t : FVec Ideal S128x128 .f32) (ix2 r j : S128x128.Idx) = tabW (V m c main_v83) (at_ t r) j := by
  unfold tabW
  blk_point [iblk, idx_val t]
theorem b11_at (t : Fin cfg0.N) (j : Fin 256) :
    (iblk m c 11 t : FVec Ideal S1x256 .f32) (ix2 (0 : Fin 1) j : S1x256.Idx) = lane (V m c main_v102) j := by
  unfold lane
  blk_point [iblk, idx_val t]
theorem b12_at (t : Fin cfg0.N) (j : Fin 256) :
    (iblk m c 12 t : FVec Ideal S1x256 .f32) (ix2 (0 : Fin 1) j : S1x256.Idx) = lane (V m c main_v109) j := by
  unfold lane
  blk_point [iblk, idx_val t]
theorem b13_at (t : Fin cfg0.N) (j : Fin 128) :
    (iblk m c 13 t : FVec Ideal S1x128 .f32) (ix2 (0 : Fin 1) j : S1x128.Idx) = laneW (V m c main_v114) j := by
  unfold laneW
  blk_point [iblk, idx_val t]
theorem b14_at (t : Fin cfg0.N) (j : Fin 256) :
    (iblk m c 14 t : FVec Ideal S1x256 .f32) (ix2 (0 : Fin 1) j : S1x256.Idx) = lane (V m c main_v118) j := by
  unfold lane
  blk_point [iblk, idx_val t]
theorem b15_at (t : Fin cfg0.N) (j : Fin 256) :
    (iblk m c 15 t : FVec Ideal S1x256 .f32) (ix2 (0 : Fin 1) j : S1x256.Idx) = lane (V m c main_v122) j := by
  unfold lane
  blk_point [iblk, idx_val t]
theorem b16_at (t : Fin cfg0.N) (k j : Fin 256) :
    (iblk m c 16 t : FVec Ideal S256x256 .bf16) (ix2 k j : S256x256.Idx) = sq (V m c main_v95) k j := by
  unfold sq
  blk_point [iblk, idx_val t]

/-- The queries and the keys of this memory are real numbers. -/
def Real : Prop := ∀ R : Fin 1024, (∃ X : Fin 256 → ℝ, ∀ k, seg (pA m c) R 768 256 (by omega) k = (X k : EReal)) ∧ (∃ X : Fin 256 → ℝ, ∀ k, seg (pA m c) R 1024 256 (by omega) k = (X k : EReal))

theorem point17 (hR : Real m c) (t : Fin cfg0.N) (r : Fin 128) (j : Fin 256) :
    k0_pay5 (F := Ideal) (iblk m c 16 t) (iblk m c 5 t) (iblk m c 6 t) (iblk m c 11 t) (X0_0 m c t) (iblk m c 14 t) (ix2 r j : S128x256.Idx) = outQ m c (ix2 (at_ t r) j : S1024x256.Idx) := by
  obtain ⟨X, hX⟩ := (hR (at_ t r)).1
  refine (pay5_at _ _ _ _ _ _ r j).trans ((?_ : _ = _).trans (q_eq m c (at_ t r) j X hX))
  simp only [b0_at, b5_at, b6_at, b11_at, b14_at, b16_at]
theorem point18 (hR : Real m c) (t : Fin cfg0.N) (r : Fin 128) (j : Fin 256) :
    k0_pay6 (F := Ideal) (k0_pay1 (iblk m c 16 t)) (k0_pay2 (iblk m c 5 t)) (k0_pay3 (iblk m c 6 t)) (k0_pay4 (iblk m c 11 t)) (X0_1 m c t) (iblk m c 15 t) (ix2 r j : S128x256.Idx) = outK m c (ix2 (at_ t r) j : S1024x256.Idx) := by
  obtain ⟨X, hX⟩ := (hR (at_ t r)).2
  refine (pay6_at _ _ _ _ _ _ r j).trans ((?_ : _ = _).trans (k_eq m c (at_ t r) j X hX))
  pointwise [k0_pay1, k0_pay2, k0_pay3, k0_pay4]
  simp only [b1_at, b5_at, b6_at, b11_at, b15_at, b16_at]
theorem point19 (t : Fin cfg0.N) (r : Fin 128) (j : Fin 256) :
    k0_pay11 (F := Ideal) (X0_3 m c t) (k0_pay7 (iblk m c 7 t)) (k0_pay8 (iblk m c 8 t)) (k0_pay9 (iblk m c 12 t)) (k0_pay10 (F := Ideal)) (ix2 r j : S128x256.Idx) = outI m c (ix2 (at_ t r) j : S1024x256.Idx) := by
  refine (pay11_at _ _ _ _ r j).trans ((?_ : _ = _).trans (i_eq m c (at_ t r) j))
  pointwise [k0_pay7, k0_pay8, k0_pay9]
  simp only [b3_at, b7_at, b8_at, b12_at]
theorem point20 (t : Fin cfg0.N) (r j : Fin 128) :
    k0_pay12 (F := Ideal) (iblk m c 4 t) (iblk m c 9 t) (iblk m c 10 t) (iblk m c 13 t) (ix2 r j : S128x128.Idx) = outW m c (ix2 (at_ t r) j : S1024x128.Idx) := by
  refine (pay12_at _ _ _ _ r j).trans ((?_ : _ = _).trans (w_eq m c (at_ t r) j))
  simp only [b4_at, b9_at, b10_at, b13_at]

theorem final17 (hR : Real m c) : (dats m 0 c).arrAt 17 (cfgs 0).N = outQ m c := by
  refine (dats m 0 c).arrAt_eq_of_covers 17 _ (by decide +kernel) fun t hf y => ?_
  have hemb : ((cfg0.win 17).blk t).view.emb y = (ix2 (at_ t ⟨(y 0).val, (y 0).isLt⟩) (⟨(y 1).val, (y 1).isLt⟩ : Fin 256) : S1024x256.Idx) := by
    blk_ext [idx_val t]
  blk_simp
  rw [after0_17]; unfold outsAt0; dsimp only
  refine Eq.trans ?_ (congrArg (outQ m c) hemb).symm
  idx_vars y
  frame_out
  exact point17 m c hR t _ _
theorem final18 (hR : Real m c) : (dats m 0 c).arrAt 18 (cfgs 0).N = outK m c := by
  refine (dats m 0 c).arrAt_eq_of_covers 18 _ (by decide +kernel) fun t hf y => ?_
  have hemb : ((cfg0.win 18).blk t).view.emb y = (ix2 (at_ t ⟨(y 0).val, (y 0).isLt⟩) (⟨(y 1).val, (y 1).isLt⟩ : Fin 256) : S1024x256.Idx) := by
    blk_ext [idx_val t]
  blk_simp
  rw [after0_18]; unfold outsAt0; dsimp only
  refine Eq.trans ?_ (congrArg (outK m c) hemb).symm
  idx_vars y
  frame_out
  exact point18 m c hR t _ _
theorem final19 : (dats m 0 c).arrAt 19 (cfgs 0).N = outI m c := by
  refine (dats m 0 c).arrAt_eq_of_covers 19 _ (by decide +kernel) fun t hf y => ?_
  have hemb : ((cfg0.win 19).blk t).view.emb y = (ix2 (at_ t ⟨(y 0).val, (y 0).isLt⟩) (⟨(y 1).val, (y 1).isLt⟩ : Fin 256) : S1024x256.Idx) := by
    blk_ext [idx_val t]
  blk_simp
  rw [after0_19]; unfold outsAt0; dsimp only
  refine Eq.trans ?_ (congrArg (outI m c) hemb).symm
  idx_vars y
  frame_out
  exact point19 m c t _ _
theorem final20 : (dats m 0 c).arrAt 20 (cfgs 0).N = outW m c := by
  refine (dats m 0 c).arrAt_eq_of_covers 20 _ (by decide +kernel) fun t hf y => ?_
  have hemb : ((cfg0.win 20).blk t).view.emb y = (ix2 (at_ t ⟨(y 0).val, (y 0).isLt⟩) (⟨(y 1).val, (y 1).isLt⟩ : Fin 128) : S1024x128.Idx) := by
    blk_ext [idx_val t]
  blk_simp
  rw [after0_20]; unfold outsAt0; dsimp only
  refine Eq.trans ?_ (congrArg (outW m c) hemb).symm
  idx_vars y
  frame_out
  exact point20 m c t _ _

end Cert.PrepS

end
-- ==== Proof.PrepSClaim.lean ====
/- The preparation's claims on the decoding rows: the frames, and that kernel and reference leave the same four arrays when the queries and the keys are finite. -/
module

public import proofs.«01_k».proof.Proof.PrepSValue
public import proofs.«01_k».proof.Proof.Gen.Kernel9.Frame
public import proofs.«01_k».proof.Proof.Gen.Pre_heads_finite_s
public import proofs.«01_k».proof.Proof.Gen.Reference9Ideal.Run
public import proofs.«01_k».proof.Defs

@[expose] public section

set_option maxRecDepth 16384

noncomputable section

open Idealize.ShloMosaic Idealize.ShloMosaic.TcCoe Idealize.SL.Sem

namespace Cert.PrepS

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_ideal_pre : Cert.quiescent_Kernel9Ideal_pre_heads_finite_s := fun m ρ _ => Cert.Kernel9Ideal.Gen.frame m ρ

/-- The reference is host operations alone and declares no semaphore. -/
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem frame_reference_pre : Cert.quiescent_Reference9Ideal_pre_heads_finite_s := fun m ρ _ => frame_reference m ρ trivial

/-- A value whose absolute value lies below another is a real number. -/
theorem real_of_lt (x y : EReal) (h : max x (-x) < y) : ∃ r : ℝ, x = (r : EReal) := by
  induction x using EReal.rec with
  | bot => exact absurd (lt_of_lt_of_le h le_top) (by simp)
  | top => exact absurd (lt_of_lt_of_le h le_top) (by simp)
  | coe r => exact ⟨r, rfl⟩

section
open Cert.Pre_heads_finite_s

/-- What the precondition says of an entry of the queries or the keys. -/
theorem entry_real (a0 : FVec Ideal S1024x3200 .f32) (a1 a2 : FVec Ideal S64 .f32) (h : Cert.Pre_heads_finite_s.fn (F := Ideal) a0 a1 a2 = fun _ => 1#1) (R : Fin 1024) (q : Fin 512) :
    ∃ r : ℝ, a0 (ix2 R (⟨768 + q.val, by omega⟩ : Fin 3200) : S1024x3200.Idx) = (r : EReal) := by
  have e := congrFun h (ix2 R q : S1024x512.Idx)
  have e2 : Cert.Pre_heads_finite_s.fn (F := Ideal) a0 a1 a2 (ix2 R q : S1024x512.Idx)
      = BitVec.ofBool (decide (max (a0 (ix2 R (⟨768 + q.val, by omega⟩ : Fin 3200) : S1024x3200.Idx)) (-(a0 (ix2 R (⟨768 + q.val, by omega⟩ : Fin 3200) : S1024x3200.Idx))) < Ideal.ofBits .f32 0x7F800000#32)) := by
    pointwise [Cert.Pre_heads_finite_s.fn]
    rfl
  have e3 := e2.symm.trans e
  refine real_of_lt _ (Ideal.ofBits .f32 0x7F800000#32) ?_
  by_contra hn
  rw [decide_eq_false hn] at e3
  exact absurd e3 (by decide)
end

section
open Cert.Kernel9Ideal Cert.Kernel9Ideal.Gen
variable (m : (ℓ : Loc nD τ sig) → Buf (Elt Ideal) ℓ) (ρ : Dev nD → PrngReg)

theorem real_of_pre (h : Cert.Pre_Kernel9Ideal_heads_finite_s m) (c : Dev nD) : Real m c := fun R =>
  ⟨⟨fun k => (entry_real _ _ _ (h c) R ⟨k.val, by omega⟩).choose, fun k => (entry_real _ _ _ (h c) R ⟨k.val, by omega⟩).choose_spec⟩,
   ⟨fun k => (entry_real _ _ _ (h c) R ⟨256 + k.val, by omega⟩).choose, fun k => by
      refine Eq.trans ?_ (entry_real _ _ _ (h c) R ⟨256 + k.val, by omega⟩).choose_spec
      exact congrArg (fun j : Fin 3200 => pA m c (ix2 R j : S1024x3200.Idx)) (Fin.ext (by show 1024 + k.val = 768 + (256 + k.val); omega))⟩⟩

/-- The kernel's four result arrays after the run. -/
theorem run_out (h : ∀ c, Real m c) : θ_run defs (onTc (τ := τ) (main (F := Ideal))) (s₀ m ρ) (fun r => ∀ c : Dev nD,
    r.2.mem ((c.tc : Thread nD τ).loc main_v123_0) = outQ m c ∧ r.2.mem ((c.tc : Thread nD τ).loc main_v123_1) = outK m c
    ∧ r.2.mem ((c.tc : Thread nD τ).loc main_v123_2) = outI m c ∧ r.2.mem ((c.tc : Thread nD τ).loc main_v123_3) = outW m c) :=
  (θ_run defs _ _).mono (fun r g c => ⟨((g c).1 17).trans (final17 m c (h c)), ((g c).1 18).trans (final18 m c (h c)),
    ((g c).1 19).trans (final19 m c), ((g c).1 20).trans (final20 m c)⟩) (run_main m ρ)
end

open Cert.Reference9Ideal.Read in
/-- The reference's results depend on its arguments alone. -/
theorem out_congr {a0 b0 : FVec Ideal Kernel9Ideal.S1024x3200 .f32} {a1 b1 a2 b2 : FVec Ideal Kernel9Ideal.S64 .f32} (h : a0 = b0 ∧ a1 = b1 ∧ a2 = b2) :
    val_main_v178 (F := Ideal) a0 a1 = val_main_v178 (F := Ideal) b0 b1 ∧ val_main_v179 (F := Ideal) a0 a2 = val_main_v179 (F := Ideal) b0 b2
    ∧ val_main_v180 (F := Ideal) a0 = val_main_v180 (F := Ideal) b0 ∧ val_main_v181 (F := Ideal) a0 = val_main_v181 (F := Ideal) b0 := by
  obtain ⟨rfl, rfl, rfl⟩ := h
  exact ⟨rfl, rfl, rfl, rfl⟩

open Cert.Kernel9Ideal.Gen (frame_of) in
theorem algebraic : Cert.algebraic_Kernel9Ideal_Reference9Ideal_pre_heads_finite_s := fun m g m' g' hp hagree =>
  ⟨fun c => outQ m c, fun c => outK m c, fun c => outI m c, fun c => outW m c,
    (θ_run _ _ _).mono (fun r h c => ⟨(h.1 c).1, (h.1 c).2.1, (h.1 c).2.2.1, (h.1 c).2.2.2, h.2 c⟩)
      (θ_run_and (run_out m g (real_of_pre m hp)) (frame_of (F := Ideal) m g (Cert.Kernel9Ideal.Gen.dats m) (Cert.Kernel9Ideal.Gen.A_eq m) (Cert.Kernel9Ideal.Gen.run_main m g))),
    (θ_run _ _ _).mono (fun r h c => ⟨((h c).1.trans (Cert.Reference9Ideal.Read.val_main_v178_eq _)).trans (out_congr (hagree c)).1,
        ((h c).2.1.trans (Cert.Reference9Ideal.Read.val_main_v179_eq _)).trans (out_congr (hagree c)).2.1,
        ((h c).2.2.1.trans (Cert.Reference9Ideal.Read.val_main_v180_eq _)).trans (out_congr (hagree c)).2.2.1,
        ((h c).2.2.2.1.trans (Cert.Reference9Ideal.Read.val_main_v181_eq _)).trans (out_congr (hagree c)).2.2.2, (h c).2.2.2.2⟩)
      (Cert.Reference9Ideal.Value.run (F := Ideal) m' g')⟩

end Cert.PrepS

end
-- ==== Proof.lean ====
/- The proof of the certificate: every call's frames, the agreement of each kernel with its ideal reading, and the equality
   of each call's arrays with its reference's, assembled from the modules of the calls. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_pages_in_cache
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_heads_finite_s
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.S5Claim
public import proofs.«01_k».proof.Proof.MergeClaim
public import proofs.«01_k».proof.Proof.FfnClaim
public import proofs.«01_k».proof.Proof.InprojClaim
public import proofs.«01_k».proof.Proof.S5StepClaim
public import proofs.«01_k».proof.Proof.FfnSClaim
public import proofs.«01_k».proof.Proof.InprojSClaim
public import proofs.«01_k».proof.Proof.ScoresClaim
public import proofs.«01_k».proof.Proof.PrepSClaim

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_pages_in_cache.Gen.facts, Cert.Pre_heads_finite_s.Gen.facts,
    Cert.S5.frame_kernel, Cert.S5.frame_ideal, Cert.S5.frame_reference,
    Cert.Merge.frame_kernel, Cert.Merge.frame_ideal, Cert.Merge.frame_reference,
    Cert.Ffn.frame_kernel, Cert.Ffn.frame_ideal, Cert.Ffn.frame_reference,
    Cert.Inproj.frame_kernel, Cert.Inproj.frame_ideal, Cert.Inproj.frame_reference,
    Cert.S5Step.frame_kernel, Cert.S5Step.frame_ideal, Cert.S5Step.frame_reference,
    Cert.FfnS.frame_kernel, Cert.FfnS.frame_ideal, Cert.FfnS.frame_reference,
    Cert.InprojS.frame_kernel, Cert.InprojS.frame_ideal, Cert.InprojS.frame_reference,
    Cert.Scores.frame_kernel, Cert.Scores.frame_ideal, Cert.Scores.frame_reference,
    Cert.PrepS.frame_kernel, Cert.PrepS.frame_ideal, Cert.PrepS.frame_ideal_pre, Cert.PrepS.frame_reference, Cert.PrepS.frame_reference_pre,
    trivial, Cert.S5.algebraic,
    trivial, Cert.Merge.algebraic,
    trivial, Cert.Ffn.algebraic,
    trivial, Cert.Inproj.algebraic,
    trivial, Cert.S5Step.algebraic,
    trivial, Cert.FfnS.algebraic,
    trivial, Cert.InprojS.algebraic,
    trivial, Cert.Scores.algebraic,
    trivial, Cert.PrepS.algebraic⟩

end Cert.Proof

end
